-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_MixShort (m : (ℓ : Loc Cert.MixShort.nD Cert.MixShort.τ Cert.MixShort.sig) → Buf (Elt Bits) ℓ) : Prop :=
  True

def Pre_MixShortIdeal (m : (ℓ : Loc Cert.MixShortIdeal.nD Cert.MixShortIdeal.τ Cert.MixShortIdeal.sig) → Buf (Elt Ideal) ℓ) : Prop :=
  True

def Pre_MixShortRefIdeal (m : (ℓ : Loc Cert.MixShortRefIdeal.nD Cert.MixShortRefIdeal.τ Cert.MixShortRefIdeal.sig) → Buf (Elt Ideal) ℓ) : Prop :=
  True

def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkIdeal_finite_short [hPre_finite_short : Cert.Pre_finite_short.Facts] (m : (ℓ : Loc Cert.ChunkIdeal.nD Cert.ChunkIdeal.τ Cert.ChunkIdeal.sig) → Buf (Elt Ideal) ℓ) : Prop :=
  ∀ c : Dev Cert.ChunkIdeal.nD,
    (Cert.Pre_finite_short.fn (F := Ideal) (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1)) (m ((c.tc : Thread Cert.ChunkIdeal.nD Cert.ChunkIdeal.τ).loc Cert.ChunkIdeal.main_arg2)) (m ((c.tc : Thread Cert.ChunkIdeal.nD Cert.ChunkIdeal.τ).loc Cert.ChunkIdeal.main_arg3)) (m ((c.tc : Thread Cert.ChunkIdeal.nD Cert.ChunkIdeal.τ).loc Cert.ChunkIdeal.main_arg4))) = (fun _ => 1#1)

def Pre_ChunkRefIdeal (m : (ℓ : Loc Cert.ChunkRefIdeal.nD Cert.ChunkRefIdeal.τ Cert.ChunkRefIdeal.sig) → Buf (Elt Ideal) ℓ) : Prop :=
  True

def Pre_ChunkRefIdeal_finite_short [hPre_finite_short : Cert.Pre_finite_short.Facts] (m : (ℓ : Loc Cert.ChunkRefIdeal.nD Cert.ChunkRefIdeal.τ Cert.ChunkRefIdeal.sig) → Buf (Elt Ideal) ℓ) : Prop :=
  ∀ c : Dev Cert.ChunkRefIdeal.nD,
    (Cert.Pre_finite_short.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1)) (m ((c.tc : Thread Cert.ChunkRefIdeal.nD Cert.ChunkRefIdeal.τ).loc Cert.ChunkRefIdeal.main_arg2)) (m ((c.tc : Thread Cert.ChunkRefIdeal.nD Cert.ChunkRefIdeal.τ).loc Cert.ChunkRefIdeal.main_arg3)) (m ((c.tc : Thread Cert.ChunkRefIdeal.nD Cert.ChunkRefIdeal.τ).loc Cert.ChunkRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_MixShort [hMixShort : Cert.MixShort.Facts] : Prop :=
  ∀ (m : (ℓ : Loc Cert.MixShort.nD Cert.MixShort.τ Cert.MixShort.sig) → Buf (Elt Bits) ℓ) (g : Dev Cert.MixShort.nD → PrngReg), Pre_MixShort m →
    θ_run (Cert.MixShort.defs (F := Bits)) (onTc (τ := Cert.MixShort.τ) (Cert.MixShort.main (F := Bits))) ⟨m, fun _ => 0, g⟩ (fun r => (∀ c : Dev Cert.MixShort.nD,
      r.2.mem ((c.tc : Thread Cert.MixShort.nD Cert.MixShort.τ).loc Cert.MixShort.main_arg0) = m ((c.tc : Thread Cert.MixShort.nD Cert.MixShort.τ).loc Cert.MixShort.main_arg0)
      ∧ r.2.mem ((c.tc : Thread Cert.MixShort.nD Cert.MixShort.τ).loc Cert.MixShort.main_arg1) = m ((c.tc : Thread Cert.MixShort.nD Cert.MixShort.τ).loc Cert.MixShort.main_arg1)
      ∧ r.2.mem ((c.tc : Thread Cert.MixShort.nD Cert.MixShort.τ).loc Cert.MixShort.main_arg2) = m ((c.tc : Thread Cert.MixShort.nD Cert.MixShort.τ).loc Cert.MixShort.main_arg2)
      ∧ r.2.mem ((c.tc : Thread Cert.MixShort.nD Cert.MixShort.τ).loc Cert.MixShort.main_arg3) = m ((c.tc : Thread Cert.MixShort.nD Cert.MixShort.τ).loc Cert.MixShort.main_arg3)
      ∧ r.2.mem ((c.tc : Thread Cert.MixShort.nD Cert.MixShort.τ).loc Cert.MixShort.main_arg4) = m ((c.tc : Thread Cert.MixShort.nD Cert.MixShort.τ).loc Cert.MixShort.main_arg4)
      ∧ r.2.mem ((c.tc : Thread Cert.MixShort.nD Cert.MixShort.τ).loc Cert.MixShort.main_arg5) = m ((c.tc : Thread Cert.MixShort.nD Cert.MixShort.τ).loc Cert.MixShort.main_arg5))
      ∧ r.2.sem = fun _ => 0)

def quiescent_MixShortIdeal [hMixShortIdeal : Cert.MixShortIdeal.Facts] : Prop :=
  ∀ (m : (ℓ : Loc Cert.MixShortIdeal.nD Cert.MixShortIdeal.τ Cert.MixShortIdeal.sig) → Buf (Elt Ideal) ℓ) (g : Dev Cert.MixShortIdeal.nD → PrngReg), Pre_MixShortIdeal m →
    θ_run (Cert.MixShortIdeal.defs (F := Ideal)) (onTc (τ := Cert.MixShortIdeal.τ) (Cert.MixShortIdeal.main (F := Ideal))) ⟨m, fun _ => 0, g⟩ (fun r => (∀ c : Dev Cert.MixShortIdeal.nD,
      r.2.mem ((c.tc : Thread Cert.MixShortIdeal.nD Cert.MixShortIdeal.τ).loc Cert.MixShortIdeal.main_arg0) = m ((c.tc : Thread Cert.MixShortIdeal.nD Cert.MixShortIdeal.τ).loc Cert.MixShortIdeal.main_arg0)
      ∧ r.2.mem ((c.tc : Thread Cert.MixShortIdeal.nD Cert.MixShortIdeal.τ).loc Cert.MixShortIdeal.main_arg1) = m ((c.tc : Thread Cert.MixShortIdeal.nD Cert.MixShortIdeal.τ).loc Cert.MixShortIdeal.main_arg1)
      ∧ r.2.mem ((c.tc : Thread Cert.MixShortIdeal.nD Cert.MixShortIdeal.τ).loc Cert.MixShortIdeal.main_arg2) = m ((c.tc : Thread Cert.MixShortIdeal.nD Cert.MixShortIdeal.τ).loc Cert.MixShortIdeal.main_arg2)
      ∧ r.2.mem ((c.tc : Thread Cert.MixShortIdeal.nD Cert.MixShortIdeal.τ).loc Cert.MixShortIdeal.main_arg3) = m ((c.tc : Thread Cert.MixShortIdeal.nD Cert.MixShortIdeal.τ).loc Cert.MixShortIdeal.main_arg3)
      ∧ r.2.mem ((c.tc : Thread Cert.MixShortIdeal.nD Cert.MixShortIdeal.τ).loc Cert.MixShortIdeal.main_arg4) = m ((c.tc : Thread Cert.MixShortIdeal.nD Cert.MixShortIdeal.τ).loc Cert.MixShortIdeal.main_arg4)
      ∧ r.2.mem ((c.tc : Thread Cert.MixShortIdeal.nD Cert.MixShortIdeal.τ).loc Cert.MixShortIdeal.main_arg5) = m ((c.tc : Thread Cert.MixShortIdeal.nD Cert.MixShortIdeal.τ).loc Cert.MixShortIdeal.main_arg5))
      ∧ r.2.sem = fun _ => 0)

def quiescent_MixShortRefIdeal [hMixShortRefIdeal : Cert.MixShortRefIdeal.Facts] : Prop :=
  ∀ (m : (ℓ : Loc Cert.MixShortRefIdeal.nD Cert.MixShortRefIdeal.τ Cert.MixShortRefIdeal.sig) → Buf (Elt Ideal) ℓ) (g : Dev Cert.MixShortRefIdeal.nD → PrngReg), Pre_MixShortRefIdeal m →
    θ_run (Cert.MixShortRefIdeal.defs (F := Ideal)) (onTc (τ := Cert.MixShortRefIdeal.τ) (Cert.MixShortRefIdeal.main (F := Ideal))) ⟨m, fun _ => 0, g⟩ (fun r => (∀ c : Dev Cert.MixShortRefIdeal.nD,
      r.2.mem ((c.tc : Thread Cert.MixShortRefIdeal.nD Cert.MixShortRefIdeal.τ).loc Cert.MixShortRefIdeal.main_arg0) = m ((c.tc : Thread Cert.MixShortRefIdeal.nD Cert.MixShortRefIdeal.τ).loc Cert.MixShortRefIdeal.main_arg0)
      ∧ r.2.mem ((c.tc : Thread Cert.MixShortRefIdeal.nD Cert.MixShortRefIdeal.τ).loc Cert.MixShortRefIdeal.main_arg1) = m ((c.tc : Thread Cert.MixShortRefIdeal.nD Cert.MixShortRefIdeal.τ).loc Cert.MixShortRefIdeal.main_arg1)
      ∧ r.2.mem ((c.tc : Thread Cert.MixShortRefIdeal.nD Cert.MixShortRefIdeal.τ).loc Cert.MixShortRefIdeal.main_arg2) = m ((c.tc : Thread Cert.MixShortRefIdeal.nD Cert.MixShortRefIdeal.τ).loc Cert.MixShortRefIdeal.main_arg2)
      ∧ r.2.mem ((c.tc : Thread Cert.MixShortRefIdeal.nD Cert.MixShortRefIdeal.τ).loc Cert.MixShortRefIdeal.main_arg3) = m ((c.tc : Thread Cert.MixShortRefIdeal.nD Cert.MixShortRefIdeal.τ).loc Cert.MixShortRefIdeal.main_arg3)
      ∧ r.2.mem ((c.tc : Thread Cert.MixShortRefIdeal.nD Cert.MixShortRefIdeal.τ).loc Cert.MixShortRefIdeal.main_arg4) = m ((c.tc : Thread Cert.MixShortRefIdeal.nD Cert.MixShortRefIdeal.τ).loc Cert.MixShortRefIdeal.main_arg4)
      ∧ r.2.mem ((c.tc : Thread Cert.MixShortRefIdeal.nD Cert.MixShortRefIdeal.τ).loc Cert.MixShortRefIdeal.main_arg5) = m ((c.tc : Thread Cert.MixShortRefIdeal.nD Cert.MixShortRefIdeal.τ).loc Cert.MixShortRefIdeal.main_arg5))
      ∧ r.2.sem = fun _ => 0)

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1)
      ∧ r.2.mem ((c.tc : Thread Cert.Chunk.nD Cert.Chunk.τ).loc Cert.Chunk.main_arg2) = m ((c.tc : Thread Cert.Chunk.nD Cert.Chunk.τ).loc Cert.Chunk.main_arg2)
      ∧ r.2.mem ((c.tc : Thread Cert.Chunk.nD Cert.Chunk.τ).loc Cert.Chunk.main_arg3) = m ((c.tc : Thread Cert.Chunk.nD Cert.Chunk.τ).loc Cert.Chunk.main_arg3)
      ∧ r.2.mem ((c.tc : Thread Cert.Chunk.nD Cert.Chunk.τ).loc Cert.Chunk.main_arg4) = m ((c.tc : Thread Cert.Chunk.nD Cert.Chunk.τ).loc Cert.Chunk.main_arg4))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
      ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2)
      ∧ r.2.mem ((c.tc : Thread Cert.ChunkIdeal.nD Cert.ChunkIdeal.τ).loc Cert.ChunkIdeal.main_arg3) = m ((c.tc : Thread Cert.ChunkIdeal.nD Cert.ChunkIdeal.τ).loc Cert.ChunkIdeal.main_arg3)
      ∧ r.2.mem ((c.tc : Thread Cert.ChunkIdeal.nD Cert.ChunkIdeal.τ).loc Cert.ChunkIdeal.main_arg4) = m ((c.tc : Thread Cert.ChunkIdeal.nD Cert.ChunkIdeal.τ).loc Cert.ChunkIdeal.main_arg4))
      ∧ r.2.sem = fun _ => 0)

def quiescent_ChunkIdeal_pre_finite_short [hChunkIdeal : Cert.ChunkIdeal.Facts] [hPre_finite_short : Cert.Pre_finite_short.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal_finite_short m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
      ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2)
      ∧ r.2.mem ((c.tc : Thread Cert.ChunkIdeal.nD Cert.ChunkIdeal.τ).loc Cert.ChunkIdeal.main_arg3) = m ((c.tc : Thread Cert.ChunkIdeal.nD Cert.ChunkIdeal.τ).loc Cert.ChunkIdeal.main_arg3)
      ∧ r.2.mem ((c.tc : Thread Cert.ChunkIdeal.nD Cert.ChunkIdeal.τ).loc Cert.ChunkIdeal.main_arg4) = m ((c.tc : Thread Cert.ChunkIdeal.nD Cert.ChunkIdeal.τ).loc Cert.ChunkIdeal.main_arg4))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1)
      ∧ r.2.mem ((c.tc : Thread Cert.ChunkRefIdeal.nD Cert.ChunkRefIdeal.τ).loc Cert.ChunkRefIdeal.main_arg2) = m ((c.tc : Thread Cert.ChunkRefIdeal.nD Cert.ChunkRefIdeal.τ).loc Cert.ChunkRefIdeal.main_arg2)
      ∧ r.2.mem ((c.tc : Thread Cert.ChunkRefIdeal.nD Cert.ChunkRefIdeal.τ).loc Cert.ChunkRefIdeal.main_arg3) = m ((c.tc : Thread Cert.ChunkRefIdeal.nD Cert.ChunkRefIdeal.τ).loc Cert.ChunkRefIdeal.main_arg3)
      ∧ r.2.mem ((c.tc : Thread Cert.ChunkRefIdeal.nD Cert.ChunkRefIdeal.τ).loc Cert.ChunkRefIdeal.main_arg4) = m ((c.tc : Thread Cert.ChunkRefIdeal.nD Cert.ChunkRefIdeal.τ).loc Cert.ChunkRefIdeal.main_arg4))
      ∧ r.2.sem = fun _ => 0)

def quiescent_ChunkRefIdeal_pre_finite_short [hChunkRefIdeal : Cert.ChunkRefIdeal.Facts] [hPre_finite_short : Cert.Pre_finite_short.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal_finite_short m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1)
      ∧ r.2.mem ((c.tc : Thread Cert.ChunkRefIdeal.nD Cert.ChunkRefIdeal.τ).loc Cert.ChunkRefIdeal.main_arg2) = m ((c.tc : Thread Cert.ChunkRefIdeal.nD Cert.ChunkRefIdeal.τ).loc Cert.ChunkRefIdeal.main_arg2)
      ∧ r.2.mem ((c.tc : Thread Cert.ChunkRefIdeal.nD Cert.ChunkRefIdeal.τ).loc Cert.ChunkRefIdeal.main_arg3) = m ((c.tc : Thread Cert.ChunkRefIdeal.nD Cert.ChunkRefIdeal.τ).loc Cert.ChunkRefIdeal.main_arg3)
      ∧ r.2.mem ((c.tc : Thread Cert.ChunkRefIdeal.nD Cert.ChunkRefIdeal.τ).loc Cert.ChunkRefIdeal.main_arg4) = m ((c.tc : Thread Cert.ChunkRefIdeal.nD Cert.ChunkRefIdeal.τ).loc Cert.ChunkRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  IdealRules.named_const.Statement Cert.ProjIdeal.κ "q_scale" .f32 0x3E38AA3B#32 (((8 * (Real.log 2))⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v6_2)) (v3 : (c : Dev Cert.ProjIdeal.nD) → Buf (Elt Ideal) ((c.tc : Thread Cert.ProjIdeal.nD Cert.ProjIdeal.τ).loc Cert.ProjIdeal.main_v6_3)) (v4 : (c : Dev Cert.ProjIdeal.nD) → Buf (Elt Ideal) ((c.tc : Thread Cert.ProjIdeal.nD Cert.ProjIdeal.τ).loc Cert.ProjIdeal.main_v6_4)) (v5 : (c : Dev Cert.ProjIdeal.nD) → Buf (Elt Ideal) ((c.tc : Thread Cert.ProjIdeal.nD Cert.ProjIdeal.τ).loc Cert.ProjIdeal.main_v6_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v6_2) = v2 c
          ∧ r.2.mem ((c.tc : Thread Cert.ProjIdeal.nD Cert.ProjIdeal.τ).loc Cert.ProjIdeal.main_v6_3) = v3 c
          ∧ r.2.mem ((c.tc : Thread Cert.ProjIdeal.nD Cert.ProjIdeal.τ).loc Cert.ProjIdeal.main_v6_4) = v4 c
          ∧ r.2.mem ((c.tc : Thread Cert.ProjIdeal.nD Cert.ProjIdeal.τ).loc Cert.ProjIdeal.main_v6_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v12) = v0 c
          ∧ r.2.mem ((c.tc : Thread Cert.ProjRefIdeal.nD Cert.ProjRefIdeal.τ).loc Cert.ProjRefIdeal.main_v14) = v1 c
          ∧ r.2.mem ((c.tc : Thread Cert.ProjRefIdeal.nD Cert.ProjRefIdeal.τ).loc Cert.ProjRefIdeal.main_v17) = v2 c
          ∧ r.2.mem ((c.tc : Thread Cert.ProjRefIdeal.nD Cert.ProjRefIdeal.τ).loc Cert.ProjRefIdeal.main_v18) = v3 c
          ∧ r.2.mem ((c.tc : Thread Cert.ProjRefIdeal.nD Cert.ProjRefIdeal.τ).loc Cert.ProjRefIdeal.main_v19) = v4 c
          ∧ r.2.mem ((c.tc : Thread Cert.ProjRefIdeal.nD Cert.ProjRefIdeal.τ).loc Cert.ProjRefIdeal.main_v21) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Short_ShortIdeal : Prop :=
  IdealRules.named_const.Statement Cert.ShortIdeal.κ "q_scale" .f32 0x3E38AA3B#32 (((8 * (Real.log 2))⁻¹ : ℝ) : EReal)

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)) →
    ∃ (v0 : (c : Dev Cert.ShortIdeal.nD) → Buf (Elt Ideal) ((c.tc : Thread Cert.ShortIdeal.nD Cert.ShortIdeal.τ).loc Cert.ShortIdeal.main_v3_0)) (v1 : (c : Dev Cert.ShortIdeal.nD) → Buf (Elt Ideal) ((c.tc : Thread Cert.ShortIdeal.nD Cert.ShortIdeal.τ).loc Cert.ShortIdeal.main_v3_1)) (v2 : (c : Dev Cert.ShortIdeal.nD) → Buf (Elt Ideal) ((c.tc : Thread Cert.ShortIdeal.nD Cert.ShortIdeal.τ).loc Cert.ShortIdeal.main_v3_2)) (v3 : (c : Dev Cert.ShortIdeal.nD) → Buf (Elt Ideal) ((c.tc : Thread Cert.ShortIdeal.nD Cert.ShortIdeal.τ).loc Cert.ShortIdeal.main_v3_3)) (v4 : (c : Dev Cert.ShortIdeal.nD) → Buf (Elt Ideal) ((c.tc : Thread Cert.ShortIdeal.nD Cert.ShortIdeal.τ).loc Cert.ShortIdeal.main_v3_4)) (v5 : (c : Dev Cert.ShortIdeal.nD) → Buf (Elt Ideal) ((c.tc : Thread Cert.ShortIdeal.nD Cert.ShortIdeal.τ).loc Cert.ShortIdeal.main_v3_5)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v3_0) = v0 c
          ∧ r.2.mem ((c.tc : Thread Cert.ShortIdeal.nD Cert.ShortIdeal.τ).loc Cert.ShortIdeal.main_v3_1) = v1 c
          ∧ r.2.mem ((c.tc : Thread Cert.ShortIdeal.nD Cert.ShortIdeal.τ).loc Cert.ShortIdeal.main_v3_2) = v2 c
          ∧ r.2.mem ((c.tc : Thread Cert.ShortIdeal.nD Cert.ShortIdeal.τ).loc Cert.ShortIdeal.main_v3_3) = v3 c
          ∧ r.2.mem ((c.tc : Thread Cert.ShortIdeal.nD Cert.ShortIdeal.τ).loc Cert.ShortIdeal.main_v3_4) = v4 c
          ∧ r.2.mem ((c.tc : Thread Cert.ShortIdeal.nD Cert.ShortIdeal.τ).loc Cert.ShortIdeal.main_v3_5) = v5 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v12) = v0 c
          ∧ r.2.mem ((c.tc : Thread Cert.ShortRefIdeal.nD Cert.ShortRefIdeal.τ).loc Cert.ShortRefIdeal.main_v14) = v1 c
          ∧ r.2.mem ((c.tc : Thread Cert.ShortRefIdeal.nD Cert.ShortRefIdeal.τ).loc Cert.ShortRefIdeal.main_v16) = v2 c
          ∧ r.2.mem ((c.tc : Thread Cert.ShortRefIdeal.nD Cert.ShortRefIdeal.τ).loc Cert.ShortRefIdeal.main_v17) = v3 c
          ∧ r.2.mem ((c.tc : Thread Cert.ShortRefIdeal.nD Cert.ShortRefIdeal.τ).loc Cert.ShortRefIdeal.main_v18) = v4 c
          ∧ r.2.mem ((c.tc : Thread Cert.ShortRefIdeal.nD Cert.ShortRefIdeal.τ).loc Cert.ShortRefIdeal.main_v20) = v5 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1))

def preserves_Mix_MixIdeal : Prop :=
  IdealRules.named_const.Statement Cert.MixIdeal.κ "alpha" .f32 0x3F9837F0#32 ((Real.sqrt (Real.sqrt 2) : ℝ) : EReal)

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)) (v2 : (c : Dev Cert.MixIdeal.nD) → Buf (Elt Ideal) ((c.tc : Thread Cert.MixIdeal.nD Cert.MixIdeal.τ).loc Cert.MixIdeal.main_v7_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_v7_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v39) = v0 c
          ∧ r.2.mem ((c.tc : Thread Cert.MixRefIdeal.nD Cert.MixRefIdeal.τ).loc Cert.MixRefIdeal.main_v40) = v1 c
          ∧ r.2.mem ((c.tc : Thread Cert.MixRefIdeal.nD Cert.MixRefIdeal.τ).loc Cert.MixRefIdeal.main_v42) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Norm_NormIdeal : Prop :=
  IdealRules.named_const.Statement Cert.NormIdeal.κ "alpha" .f32 0x3F9837F0#32 ((Real.sqrt (Real.sqrt 2) : ℝ) : EReal)

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v31) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Last_LastIdeal : Prop :=
  IdealRules.named_const.Statement Cert.LastIdeal.κ "alpha" .f32 0x3F9837F0#32 ((Real.sqrt (Real.sqrt 2) : ℝ) : EReal)

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v31) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v8_0)) (v1 : (c : Dev Cert.PrepIdeal.nD) → Buf (Elt Ideal) ((c.tc : Thread Cert.PrepIdeal.nD Cert.PrepIdeal.τ).loc Cert.PrepIdeal.main_v8_1)) (v2 : (c : Dev Cert.PrepIdeal.nD) → Buf (Elt Ideal) ((c.tc : Thread Cert.PrepIdeal.nD Cert.PrepIdeal.τ).loc Cert.PrepIdeal.main_v8_2)) (v3 : (c : Dev Cert.PrepIdeal.nD) → Buf (Elt Ideal) ((c.tc : Thread Cert.PrepIdeal.nD Cert.PrepIdeal.τ).loc Cert.PrepIdeal.main_v8_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v8_0) = v0 c
          ∧ r.2.mem ((c.tc : Thread Cert.PrepIdeal.nD Cert.PrepIdeal.τ).loc Cert.PrepIdeal.main_v8_1) = v1 c
          ∧ r.2.mem ((c.tc : Thread Cert.PrepIdeal.nD Cert.PrepIdeal.τ).loc Cert.PrepIdeal.main_v8_2) = v2 c
          ∧ r.2.mem ((c.tc : Thread Cert.PrepIdeal.nD Cert.PrepIdeal.τ).loc Cert.PrepIdeal.main_v8_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v11) = v0 c
          ∧ r.2.mem ((c.tc : Thread Cert.PrepRefIdeal.nD Cert.PrepRefIdeal.τ).loc Cert.PrepRefIdeal.main_v13) = v1 c
          ∧ r.2.mem ((c.tc : Thread Cert.PrepRefIdeal.nD Cert.PrepRefIdeal.τ).loc Cert.PrepRefIdeal.main_v51) = v2 c
          ∧ r.2.mem ((c.tc : Thread Cert.PrepRefIdeal.nD Cert.PrepRefIdeal.τ).loc Cert.PrepRefIdeal.main_v52) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_MixShort_MixShortIdeal : Prop :=
  IdealRules.named_const.Statement Cert.MixShortIdeal.κ "alpha" .f32 0x3F9837F0#32 ((Real.sqrt (Real.sqrt 2) : ℝ) : EReal)

def algebraic_MixShortIdeal_MixShortRefIdeal [hMixShortIdeal : Cert.MixShortIdeal.Facts] [hMixShortRefIdeal : Cert.MixShortRefIdeal.Facts] : Prop :=
  ∀ (m : (ℓ : Loc Cert.MixShortIdeal.nD Cert.MixShortIdeal.τ Cert.MixShortIdeal.sig) → Buf (Elt Ideal) ℓ) (g : Dev Cert.MixShortIdeal.nD → PrngReg)
    (m' : (ℓ : Loc Cert.MixShortRefIdeal.nD Cert.MixShortRefIdeal.τ Cert.MixShortRefIdeal.sig) → Buf (Elt Ideal) ℓ) (g' : Dev Cert.MixShortRefIdeal.nD → PrngReg), Pre_MixShortIdeal m →
    (∀ c : Dev Cert.MixShortIdeal.nD,
      m' ((c.tc : Thread Cert.MixShortRefIdeal.nD Cert.MixShortRefIdeal.τ).loc Cert.MixShortRefIdeal.main_arg0) = m ((c.tc : Thread Cert.MixShortIdeal.nD Cert.MixShortIdeal.τ).loc Cert.MixShortIdeal.main_arg0)
      ∧ m' ((c.tc : Thread Cert.MixShortRefIdeal.nD Cert.MixShortRefIdeal.τ).loc Cert.MixShortRefIdeal.main_arg1) = m ((c.tc : Thread Cert.MixShortIdeal.nD Cert.MixShortIdeal.τ).loc Cert.MixShortIdeal.main_arg1)
      ∧ m' ((c.tc : Thread Cert.MixShortRefIdeal.nD Cert.MixShortRefIdeal.τ).loc Cert.MixShortRefIdeal.main_arg2) = m ((c.tc : Thread Cert.MixShortIdeal.nD Cert.MixShortIdeal.τ).loc Cert.MixShortIdeal.main_arg2)
      ∧ m' ((c.tc : Thread Cert.MixShortRefIdeal.nD Cert.MixShortRefIdeal.τ).loc Cert.MixShortRefIdeal.main_arg3) = m ((c.tc : Thread Cert.MixShortIdeal.nD Cert.MixShortIdeal.τ).loc Cert.MixShortIdeal.main_arg3)
      ∧ m' ((c.tc : Thread Cert.MixShortRefIdeal.nD Cert.MixShortRefIdeal.τ).loc Cert.MixShortRefIdeal.main_arg4) = m ((c.tc : Thread Cert.MixShortIdeal.nD Cert.MixShortIdeal.τ).loc Cert.MixShortIdeal.main_arg4)
      ∧ m' ((c.tc : Thread Cert.MixShortRefIdeal.nD Cert.MixShortRefIdeal.τ).loc Cert.MixShortRefIdeal.main_arg5) = m ((c.tc : Thread Cert.MixShortIdeal.nD Cert.MixShortIdeal.τ).loc Cert.MixShortIdeal.main_arg5)) →
    ∃ (v0 : (c : Dev Cert.MixShortIdeal.nD) → Buf (Elt Ideal) ((c.tc : Thread Cert.MixShortIdeal.nD Cert.MixShortIdeal.τ).loc Cert.MixShortIdeal.main_v7_0)) (v1 : (c : Dev Cert.MixShortIdeal.nD) → Buf (Elt Ideal) ((c.tc : Thread Cert.MixShortIdeal.nD Cert.MixShortIdeal.τ).loc Cert.MixShortIdeal.main_v7_1)),
      θ_run (Cert.MixShortIdeal.defs (F := Ideal)) (onTc (τ := Cert.MixShortIdeal.τ) (Cert.MixShortIdeal.main (F := Ideal))) ⟨m, fun _ => 0, g⟩ (fun r => ∀ c : Dev Cert.MixShortIdeal.nD,
          r.2.mem ((c.tc : Thread Cert.MixShortIdeal.nD Cert.MixShortIdeal.τ).loc Cert.MixShortIdeal.main_v7_0) = v0 c
          ∧ r.2.mem ((c.tc : Thread Cert.MixShortIdeal.nD Cert.MixShortIdeal.τ).loc Cert.MixShortIdeal.main_v7_1) = v1 c
          ∧ r.2.mem ((c.tc : Thread Cert.MixShortIdeal.nD Cert.MixShortIdeal.τ).loc Cert.MixShortIdeal.main_arg0) = m ((c.tc : Thread Cert.MixShortIdeal.nD Cert.MixShortIdeal.τ).loc Cert.MixShortIdeal.main_arg0)
          ∧ r.2.mem ((c.tc : Thread Cert.MixShortIdeal.nD Cert.MixShortIdeal.τ).loc Cert.MixShortIdeal.main_arg1) = m ((c.tc : Thread Cert.MixShortIdeal.nD Cert.MixShortIdeal.τ).loc Cert.MixShortIdeal.main_arg1)
          ∧ r.2.mem ((c.tc : Thread Cert.MixShortIdeal.nD Cert.MixShortIdeal.τ).loc Cert.MixShortIdeal.main_arg2) = m ((c.tc : Thread Cert.MixShortIdeal.nD Cert.MixShortIdeal.τ).loc Cert.MixShortIdeal.main_arg2)
          ∧ r.2.mem ((c.tc : Thread Cert.MixShortIdeal.nD Cert.MixShortIdeal.τ).loc Cert.MixShortIdeal.main_arg3) = m ((c.tc : Thread Cert.MixShortIdeal.nD Cert.MixShortIdeal.τ).loc Cert.MixShortIdeal.main_arg3)
          ∧ r.2.mem ((c.tc : Thread Cert.MixShortIdeal.nD Cert.MixShortIdeal.τ).loc Cert.MixShortIdeal.main_arg4) = m ((c.tc : Thread Cert.MixShortIdeal.nD Cert.MixShortIdeal.τ).loc Cert.MixShortIdeal.main_arg4)
          ∧ r.2.mem ((c.tc : Thread Cert.MixShortIdeal.nD Cert.MixShortIdeal.τ).loc Cert.MixShortIdeal.main_arg5) = m ((c.tc : Thread Cert.MixShortIdeal.nD Cert.MixShortIdeal.τ).loc Cert.MixShortIdeal.main_arg5))
      ∧ θ_run (Cert.MixShortRefIdeal.defs (F := Ideal)) (onTc (τ := Cert.MixShortRefIdeal.τ) (Cert.MixShortRefIdeal.main (F := Ideal))) ⟨m', fun _ => 0, g'⟩ (fun r => ∀ c : Dev Cert.MixShortRefIdeal.nD,
          r.2.mem ((c.tc : Thread Cert.MixShortRefIdeal.nD Cert.MixShortRefIdeal.τ).loc Cert.MixShortRefIdeal.main_v39) = v0 c
          ∧ r.2.mem ((c.tc : Thread Cert.MixShortRefIdeal.nD Cert.MixShortRefIdeal.τ).loc Cert.MixShortRefIdeal.main_v40) = v1 c
          ∧ r.2.mem ((c.tc : Thread Cert.MixShortRefIdeal.nD Cert.MixShortRefIdeal.τ).loc Cert.MixShortRefIdeal.main_arg0) = m' ((c.tc : Thread Cert.MixShortRefIdeal.nD Cert.MixShortRefIdeal.τ).loc Cert.MixShortRefIdeal.main_arg0)
          ∧ r.2.mem ((c.tc : Thread Cert.MixShortRefIdeal.nD Cert.MixShortRefIdeal.τ).loc Cert.MixShortRefIdeal.main_arg1) = m' ((c.tc : Thread Cert.MixShortRefIdeal.nD Cert.MixShortRefIdeal.τ).loc Cert.MixShortRefIdeal.main_arg1)
          ∧ r.2.mem ((c.tc : Thread Cert.MixShortRefIdeal.nD Cert.MixShortRefIdeal.τ).loc Cert.MixShortRefIdeal.main_arg2) = m' ((c.tc : Thread Cert.MixShortRefIdeal.nD Cert.MixShortRefIdeal.τ).loc Cert.MixShortRefIdeal.main_arg2)
          ∧ r.2.mem ((c.tc : Thread Cert.MixShortRefIdeal.nD Cert.MixShortRefIdeal.τ).loc Cert.MixShortRefIdeal.main_arg3) = m' ((c.tc : Thread Cert.MixShortRefIdeal.nD Cert.MixShortRefIdeal.τ).loc Cert.MixShortRefIdeal.main_arg3)
          ∧ r.2.mem ((c.tc : Thread Cert.MixShortRefIdeal.nD Cert.MixShortRefIdeal.τ).loc Cert.MixShortRefIdeal.main_arg4) = m' ((c.tc : Thread Cert.MixShortRefIdeal.nD Cert.MixShortRefIdeal.τ).loc Cert.MixShortRefIdeal.main_arg4)
          ∧ r.2.mem ((c.tc : Thread Cert.MixShortRefIdeal.nD Cert.MixShortRefIdeal.τ).loc Cert.MixShortRefIdeal.main_arg5) = m' ((c.tc : Thread Cert.MixShortRefIdeal.nD Cert.MixShortRefIdeal.τ).loc Cert.MixShortRefIdeal.main_arg5))

def preserves_Chunk_ChunkIdeal : Prop :=
  True

def algebraic_ChunkIdeal_ChunkRefIdeal_pre_finite_short [hChunkIdeal : Cert.ChunkIdeal.Facts] [hChunkRefIdeal : Cert.ChunkRefIdeal.Facts] [hPre_finite_short : Cert.Pre_finite_short.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal_finite_short m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)
      ∧ m' ((c.tc : Thread Cert.ChunkRefIdeal.nD Cert.ChunkRefIdeal.τ).loc Cert.ChunkRefIdeal.main_arg2) = m ((c.tc : Thread Cert.ChunkIdeal.nD Cert.ChunkIdeal.τ).loc Cert.ChunkIdeal.main_arg2)
      ∧ m' ((c.tc : Thread Cert.ChunkRefIdeal.nD Cert.ChunkRefIdeal.τ).loc Cert.ChunkRefIdeal.main_arg3) = m ((c.tc : Thread Cert.ChunkIdeal.nD Cert.ChunkIdeal.τ).loc Cert.ChunkIdeal.main_arg3)
      ∧ m' ((c.tc : Thread Cert.ChunkRefIdeal.nD Cert.ChunkRefIdeal.τ).loc Cert.ChunkRefIdeal.main_arg4) = m ((c.tc : Thread Cert.ChunkIdeal.nD Cert.ChunkIdeal.τ).loc Cert.ChunkIdeal.main_arg4)) →
    ∃ (v0 : (c : Dev Cert.ChunkIdeal.nD) → Buf (Elt Ideal) ((c.tc : Thread Cert.ChunkIdeal.nD Cert.ChunkIdeal.τ).loc Cert.ChunkIdeal.main_v157)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v157) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
          ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2)
          ∧ r.2.mem ((c.tc : Thread Cert.ChunkIdeal.nD Cert.ChunkIdeal.τ).loc Cert.ChunkIdeal.main_arg3) = m ((c.tc : Thread Cert.ChunkIdeal.nD Cert.ChunkIdeal.τ).loc Cert.ChunkIdeal.main_arg3)
          ∧ r.2.mem ((c.tc : Thread Cert.ChunkIdeal.nD Cert.ChunkIdeal.τ).loc Cert.ChunkIdeal.main_arg4) = m ((c.tc : Thread Cert.ChunkIdeal.nD Cert.ChunkIdeal.τ).loc Cert.ChunkIdeal.main_arg4))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v63) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1)
          ∧ r.2.mem ((c.tc : Thread Cert.ChunkRefIdeal.nD Cert.ChunkRefIdeal.τ).loc Cert.ChunkRefIdeal.main_arg2) = m' ((c.tc : Thread Cert.ChunkRefIdeal.nD Cert.ChunkRefIdeal.τ).loc Cert.ChunkRefIdeal.main_arg2)
          ∧ r.2.mem ((c.tc : Thread Cert.ChunkRefIdeal.nD Cert.ChunkRefIdeal.τ).loc Cert.ChunkRefIdeal.main_arg3) = m' ((c.tc : Thread Cert.ChunkRefIdeal.nD Cert.ChunkRefIdeal.τ).loc Cert.ChunkRefIdeal.main_arg3)
          ∧ r.2.mem ((c.tc : Thread Cert.ChunkRefIdeal.nD Cert.ChunkRefIdeal.τ).loc Cert.ChunkRefIdeal.main_arg4) = m' ((c.tc : Thread Cert.ChunkRefIdeal.nD Cert.ChunkRefIdeal.τ).loc Cert.ChunkRefIdeal.main_arg4))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hShort : Cert.Short.Facts) (hShortIdeal : Cert.ShortIdeal.Facts) (hShortRefIdeal : Cert.ShortRefIdeal.Facts) (hMix : Cert.Mix.Facts) (hMixIdeal : Cert.MixIdeal.Facts) (hMixRefIdeal : Cert.MixRefIdeal.Facts) (hNorm : Cert.Norm.Facts) (hNormIdeal : Cert.NormIdeal.Facts) (hNormRefIdeal : Cert.NormRefIdeal.Facts) (hLast : Cert.Last.Facts) (hLastIdeal : Cert.LastIdeal.Facts) (hLastRefIdeal : Cert.LastRefIdeal.Facts) (hPrep : Cert.Prep.Facts) (hPrepIdeal : Cert.PrepIdeal.Facts) (hPrepRefIdeal : Cert.PrepRefIdeal.Facts) (hMixShort : Cert.MixShort.Facts) (hMixShortIdeal : Cert.MixShortIdeal.Facts) (hMixShortRefIdeal : Cert.MixShortRefIdeal.Facts) (hChunk : Cert.Chunk.Facts) (hChunkIdeal : Cert.ChunkIdeal.Facts) (hChunkRefIdeal : Cert.ChunkRefIdeal.Facts) (hPre_finite_scores : Cert.Pre_finite_scores.Facts) (hPre_finite_short : Cert.Pre_finite_short.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Short (hShort := hShort)
    ∧ quiescent_ShortIdeal (hShortIdeal := hShortIdeal)
    ∧ quiescent_ShortRefIdeal (hShortRefIdeal := hShortRefIdeal)
    ∧ quiescent_Mix (hMix := hMix)
    ∧ quiescent_MixIdeal (hMixIdeal := hMixIdeal)
    ∧ quiescent_MixRefIdeal (hMixRefIdeal := hMixRefIdeal)
    ∧ quiescent_Norm (hNorm := hNorm)
    ∧ quiescent_NormIdeal (hNormIdeal := hNormIdeal)
    ∧ quiescent_NormRefIdeal (hNormRefIdeal := hNormRefIdeal)
    ∧ quiescent_Last (hLast := hLast)
    ∧ quiescent_LastIdeal (hLastIdeal := hLastIdeal)
    ∧ quiescent_LastRefIdeal (hLastRefIdeal := hLastRefIdeal)
    ∧ quiescent_Prep (hPrep := hPrep)
    ∧ quiescent_PrepIdeal (hPrepIdeal := hPrepIdeal)
    ∧ quiescent_PrepRefIdeal (hPrepRefIdeal := hPrepRefIdeal)
    ∧ quiescent_MixShort (hMixShort := hMixShort)
    ∧ quiescent_MixShortIdeal (hMixShortIdeal := hMixShortIdeal)
    ∧ quiescent_MixShortRefIdeal (hMixShortRefIdeal := hMixShortRefIdeal)
    ∧ quiescent_Chunk (hChunk := hChunk)
    ∧ quiescent_ChunkIdeal (hChunkIdeal := hChunkIdeal)
    ∧ quiescent_ChunkIdeal_pre_finite_short (hChunkIdeal := hChunkIdeal) (hPre_finite_short := hPre_finite_short)
    ∧ quiescent_ChunkRefIdeal (hChunkRefIdeal := hChunkRefIdeal)
    ∧ quiescent_ChunkRefIdeal_pre_finite_short (hChunkRefIdeal := hChunkRefIdeal) (hPre_finite_short := hPre_finite_short)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Proj_ProjIdeal
    ∧ algebraic_ProjIdeal_ProjRefIdeal (hProjIdeal := hProjIdeal) (hProjRefIdeal := hProjRefIdeal)
    ∧ preserves_Short_ShortIdeal
    ∧ algebraic_ShortIdeal_ShortRefIdeal (hShortIdeal := hShortIdeal) (hShortRefIdeal := hShortRefIdeal)
    ∧ preserves_Mix_MixIdeal
    ∧ algebraic_MixIdeal_MixRefIdeal (hMixIdeal := hMixIdeal) (hMixRefIdeal := hMixRefIdeal)
    ∧ preserves_Norm_NormIdeal
    ∧ algebraic_NormIdeal_NormRefIdeal (hNormIdeal := hNormIdeal) (hNormRefIdeal := hNormRefIdeal)
    ∧ preserves_Last_LastIdeal
    ∧ algebraic_LastIdeal_LastRefIdeal (hLastIdeal := hLastIdeal) (hLastRefIdeal := hLastRefIdeal)
    ∧ preserves_Prep_PrepIdeal
    ∧ algebraic_PrepIdeal_PrepRefIdeal (hPrepIdeal := hPrepIdeal) (hPrepRefIdeal := hPrepRefIdeal)
    ∧ preserves_MixShort_MixShortIdeal
    ∧ algebraic_MixShortIdeal_MixShortRefIdeal (hMixShortIdeal := hMixShortIdeal) (hMixShortRefIdeal := hMixShortRefIdeal)
    ∧ preserves_Chunk_ChunkIdeal
    ∧ algebraic_ChunkIdeal_ChunkRefIdeal_pre_finite_short (hChunkIdeal := hChunkIdeal) (hChunkRefIdeal := hChunkRefIdeal) (hPre_finite_short := hPre_finite_short)
-- ==== Pre_finite_scores.lean ====
abbrev S32768x1024 : Shape := ⟨2, ![32768, 1024]⟩
abbrev S16x2560x1024 : Shape := ⟨3, ![16, 2560, 1024]⟩
abbrev S16x1024x2560 : Shape := ⟨3, ![16, 1024, 2560]⟩
abbrev S1x16x257 : Shape := ⟨3, ![1, 16, 257]⟩
abbrev S1x1024 : Shape := ⟨2, ![1, 1024]⟩
abbrev S_ : Shape := ⟨0, ![]⟩
abbrev S16x2048x1024 : Shape := ⟨3, ![16, 2048, 1024]⟩
abbrev S1x16x192 : Shape := ⟨3, ![1, 16, 192]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S16x2560x1024_S16x2048x1024_0_512_0 : S16x2560x1024.Slices ![0, 512, 0] S16x2048x1024
  bcast_S_S16x2048x1024 : S_.BroadcastsInDim S16x2048x1024 (![] : Fin 0 → Fin S16x2048x1024.rank)
  reducesTo_S16x2048x1024_S_d0_1_2 : S16x2048x1024.ReducesTo [0, 1, 2] S_
  slices_S1x16x257_S1x16x192_0_0_0 : S1x16x257.Slices ![0, 0, 0] S1x16x192
  bcast_S_S1x16x192 : S_.BroadcastsInDim S1x16x192 (![] : Fin 0 → Fin S1x16x192.rank)
  reducesTo_S1x16x192_S_d0_1_2 : S1x16x192.ReducesTo [0, 1, 2] S_

variable [Facts]

def fn {F : FTy → Type} [FloatOps F] (main_arg0 : FVec F S32768x1024 .bf16) (main_arg1 : FVec F S16x2560x1024 .bf16) (main_arg2 : FVec F S16x1024x2560 .bf16) (main_arg3 : FVec F S1x16x257 .f32) (main_arg4 : FVec F S1x1024 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S16x2048x1024 .bf16 := (extractStridedSlice S16x2048x1024 ![0, 512, 0] · slices_S16x2560x1024_S16x2048x1024_0_512_0) main_arg1
  let main_v6 : FVec F S16x2048x1024 .f32 := (extf .f32 · bitsLt_bf16_f32) main_v5
  let main_v7 : FVec F S16x2048x1024 .f32 := Host.absf main_v6
  let main_cst_0 : FVec F S_ .f32 := constant S_ .f32 0x7F800000#32
  let main_v8 : FVec F S16x2048x1024 .f32 := broadcastInDim S16x2048x1024 ![] bcast_S_S16x2048x1024 main_cst_0
  let main_v9 : IVec S16x2048x1024 1 := cmpf .olt main_v7 main_v8
  let main_c_1 : IVec S_ 1 := constantI S_ 1 1#1
  let main_v10 : IVec S_ 1 := (fun x v => Host.reduce IntOp.andi x v reducesTo_S16x2048x1024_S_d0_1_2 h_S_) main_v9 main_c_1
  let main_v11 : IVec S_ 1 := andi main_v4 main_v10
  let main_v12 : FVec F S1x16x192 .f32 := (extractStridedSlice S1x16x192 ![0, 0, 0] · slices_S1x16x257_S1x16x192_0_0_0) main_arg3
  let main_v13 : FVec F S1x16x192 .f32 := Host.absf main_v12
  let main_cst_2 : FVec F S_ .f32 := constant S_ .f32 0x7F800000#32
  let main_v14 : FVec F S1x16x192 .f32 := broadcastInDim S1x16x192 ![] bcast_S_S1x16x192 main_cst_2
  let main_v15 : IVec S1x16x192 1 := cmpf .olt main_v13 main_v14
  let main_c_3 : IVec S_ 1 := constantI S_ 1 1#1
  let main_v16 : IVec S_ 1 := (fun x v => Host.reduce IntOp.andi x v reducesTo_S1x16x192_S_d0_1_2 h_S_) main_v15 main_c_3
  let main_v17 : IVec S_ 1 := andi main_v11 main_v16
  main_v17
-- ==== Pre_finite_short.lean ====
abbrev S1024x1024 : Shape := ⟨2, ![1024, 1024]⟩
abbrev S16x576x1024 : Shape := ⟨3, ![16, 576, 1024]⟩
abbrev S16x1024x576 : Shape := ⟨3, ![16, 1024, 576]⟩
abbrev S1x16x257 : Shape := ⟨3, ![1, 16, 257]⟩
abbrev S1x1024 : Shape := ⟨2, ![1, 1024]⟩
abbrev S_ : Shape := ⟨0, ![]⟩
abbrev S1x16x192 : Shape := ⟨3, ![1, 16, 192]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S16x576x1024 : S_.BroadcastsInDim S16x576x1024 (![] : Fin 0 → Fin S16x576x1024.rank)
  reducesTo_S16x576x1024_S_d0_1_2 : S16x576x1024.ReducesTo [0, 1, 2] S_
  slices_S1x16x257_S1x16x192_0_0_0 : S1x16x257.Slices ![0, 0, 0] S1x16x192
  bcast_S_S1x16x192 : S_.BroadcastsInDim S1x16x192 (![] : Fin 0 → Fin S1x16x192.rank)
  reducesTo_S1x16x192_S_d0_1_2 : S1x16x192.ReducesTo [0, 1, 2] S_

variable [Facts]

def fn {F : FTy → Type} [FloatOps F] (main_arg0 : FVec F S1024x1024 .bf16) (main_arg1 : FVec F S16x576x1024 .bf16) (main_arg2 : FVec F S16x1024x576 .bf16) (main_arg3 : FVec F S1x16x257 .f32) (main_arg4 : FVec F S1x1024 .f32) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S16x576x1024 .f32 := (extf .f32 · bitsLt_bf16_f32) main_arg1
  let main_v6 : FVec F S16x576x1024 .f32 := Host.absf main_v5
  let main_cst_0 : FVec F S_ .f32 := constant S_ .f32 0x7F800000#32
  let main_v7 : FVec F S16x576x1024 .f32 := broadcastInDim S16x576x1024 ![] bcast_S_S16x576x1024 main_cst_0
  let main_v8 : IVec S16x576x1024 1 := cmpf .olt main_v6 main_v7
  let main_c_1 : IVec S_ 1 := constantI S_ 1 1#1
  let main_v9 : IVec S_ 1 := (fun x v => Host.reduce IntOp.andi x v reducesTo_S16x576x1024_S_d0_1_2 h_S_) main_v8 main_c_1
  let main_v10 : IVec S_ 1 := andi main_v4 main_v9
  let main_v11 : FVec F S1x16x192 .f32 := (extractStridedSlice S1x16x192 ![0, 0, 0] · slices_S1x16x257_S1x16x192_0_0_0) main_arg3
  let main_v12 : FVec F S1x16x192 .f32 := Host.absf main_v11
  let main_cst_2 : FVec F S_ .f32 := constant S_ .f32 0x7F800000#32
  let main_v13 : FVec F S1x16x192 .f32 := broadcastInDim S1x16x192 ![] bcast_S_S1x16x192 main_cst_2
  let main_v14 : IVec S1x16x192 1 := cmpf .olt main_v12 main_v13
  let main_c_3 : IVec S_ 1 := constantI S_ 1 1#1
  let main_v15 : IVec S_ 1 := (fun x v => Host.reduce IntOp.andi x v reducesTo_S1x16x192_S_d0_1_2 h_S_) main_v14 main_c_3
  let main_v16 : IVec S_ 1 := andi main_v10 main_v15
  main_v16
-- ==== Kernel.lean ====
abbrev S32768x1024 : Shape := ⟨2, ![32768, 1024]⟩
abbrev S16x2560x1024 : Shape := ⟨3, ![16, 2560, 1024]⟩
abbrev S16x1024x2560 : Shape := ⟨3, ![16, 1024, 2560]⟩
abbrev S1x16x257 : Shape := ⟨3, ![1, 16, 257]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S16x257 : Shape := ⟨2, ![16, 257]⟩
abbrev S16x1 : Shape := ⟨2, ![16, 1]⟩
abbrev S16x1x447 : Shape := ⟨3, ![16, 1, 447]⟩
abbrev S16x447 : Shape := ⟨2, ![16, 447]⟩
abbrev S16x1x0 : Shape := ⟨3, ![16, 1, 0]⟩
abbrev S16x0 : Shape := ⟨2, ![16, 0]⟩
abbrev S16x704 : Shape := ⟨2, ![16, 704]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S16x1x1 : Shape := ⟨3, ![16, 1, 1]⟩
abbrev S_ : Shape := ⟨0, ![]⟩
abbrev S16x576x64 : Shape := ⟨3, ![16, 576, 64]⟩
abbrev S16x640x64 : Shape := ⟨3, ![16, 640, 64]⟩
abbrev S16x640x1x64 : Shape := ⟨4, ![16, 640, 1, 64]⟩
abbrev S16x640x2x64 : Shape := ⟨4, ![16, 640, 2, 64]⟩
abbrev S8x2x640x128 : Shape := ⟨4, ![8, 2, 640, 128]⟩
abbrev S8x640x2x128 : Shape := ⟨4, ![8, 640, 2, 128]⟩
abbrev S8x640x256 : Shape := ⟨3, ![8, 640, 256]⟩
abbrev S16x1024x2048 : Shape := ⟨3, ![16, 1024, 2048]⟩
abbrev S2048x1024 : Shape := ⟨2, ![2048, 1024]⟩
abbrev S1x2560x1024 : Shape := ⟨3, ![1, 2560, 1024]⟩
abbrev S1x1024x2560 : Shape := ⟨3, ![1, 1024, 2560]⟩
abbrev S1x1024x2048 : Shape := ⟨3, ![1, 1024, 2048]⟩
abbrev S128x128 : Shape := ⟨2, ![128, 128]⟩
abbrev S1x128 : Shape := ⟨2, ![1, 128]⟩
abbrev S256x128 : Shape := ⟨2, ![256, 128]⟩
abbrev S1x384x128 : Shape := ⟨3, ![1, 384, 128]⟩
abbrev S384x128 : Shape := ⟨2, ![384, 128]⟩
abbrev S384x256 : Shape := ⟨2, ![384, 256]⟩
abbrev S1x256x128 : Shape := ⟨3, ![1, 256, 128]⟩
abbrev S256x256 : Shape := ⟨2, ![256, 256]⟩
abbrev S640x256 : Shape := ⟨2, ![640, 256]⟩
abbrev S640x2048 : Shape := ⟨2, ![640, 2048]⟩
abbrev S320x2048 : Shape := ⟨2, ![320, 2048]⟩
abbrev S256x2048 : Shape := ⟨2, ![256, 2048]⟩
abbrev S1x256x256 : Shape := ⟨3, ![1, 256, 256]⟩
abbrev S64x2048 : Shape := ⟨2, ![64, 2048]⟩
abbrev S1x64x256 : Shape := ⟨3, ![1, 64, 256]⟩
abbrev S64x256 : Shape := ⟨2, ![64, 256]⟩
abbrev S2048 : Shape := ⟨1, ![2048]⟩
abbrev S1x2048 : Shape := ⟨2, ![1, 2048]⟩
abbrev S1x128x384 : Shape := ⟨3, ![1, 128, 384]⟩
abbrev S128x384 : Shape := ⟨2, ![128, 384]⟩
abbrev S128x256 : Shape := ⟨2, ![128, 256]⟩
abbrev S1x128x256 : Shape := ⟨3, ![1, 128, 256]⟩
abbrev S1x256 : Shape := ⟨2, ![1, 256]⟩
abbrev S64x128 : Shape := ⟨2, ![64, 128]⟩
abbrev S128 : Shape := ⟨1, ![128]⟩
abbrev S1x128x128 : Shape := ⟨3, ![1, 128, 128]⟩

abbrev nBuf : Space → Nat
  | .hbm => 172
  | .vmem => 10
  | .smem => 0
  | _ => 0

abbrev hbmTy0_0 (i : Nat) : BufTy := match i % 128 with
  | 0 => ⟨S32768x1024, .bf16⟩
  | 1 => ⟨S16x2560x1024, .bf16⟩
  | 2 => ⟨S16x1024x2560, .bf16⟩
  | 3 => ⟨S1x16x257, .f32⟩
  | 4 => ⟨S1x1024, .f32⟩
  | 5 => ⟨S1024, .f32⟩
  | 6 => ⟨S1024x1, .f32⟩
  | 7 => ⟨S1024x128, .f32⟩
  | 8 => ⟨S16x257, .f32⟩
  | 9 => ⟨S16x1, .f32⟩
  | 10 => ⟨S16x1x447, .f32⟩
  | 11 => ⟨S16x447, .f32⟩
  | 12 => ⟨S16x1, .f32⟩
  | 13 => ⟨S16x1x0, .f32⟩
  | 14 => ⟨S16x0, .f32⟩
  | 15 => ⟨S16x704, .f32⟩
  | 16 => ⟨S16x576, .f32⟩
  | 17 => ⟨S16x576, .f32⟩
  | 18 => ⟨S16x576, .f32⟩
  | 19 => ⟨S16x576, .f32⟩
  | 20 => ⟨S16x576, .f32⟩
  | 21 => ⟨S16x576, .f32⟩
  | 22 => ⟨S16x576, .f32⟩
  | 23 => ⟨S16x576, .f32⟩
  | 24 => ⟨S16x576, .f32⟩
  | 25 => ⟨S16x576, .f32⟩
  | 26 => ⟨S16x576, .f32⟩
  | 27 => ⟨S16x576, .f32⟩
  | 28 => ⟨S16x576, .f32⟩
  | 29 => ⟨S16x576, .f32⟩
  | 30 => ⟨S16x576, .f32⟩
  | 31 => ⟨S16x576, .f32⟩
  | 32 => ⟨S16x576, .f32⟩
  | 33 => ⟨S16x576, .f32⟩
  | 34 => ⟨S16x576, .f32⟩
  | 35 => ⟨S16x576, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x1x576, .f32⟩
  | 81 => ⟨S16x1x576, .f32⟩
  | 82 => ⟨S16x1x576, .f32⟩
  | 83 => ⟨S16x1x576, .f32⟩
  | 84 => ⟨S16x1x576, .f32⟩
  | 85 => ⟨S16x1x576, .f32⟩
  | 86 => ⟨S16x1x576, .f32⟩
  | 87 => ⟨S16x1x576, .f32⟩
  | 88 => ⟨S16x1x576, .f32⟩
  | 89 => ⟨S16x1x576, .f32⟩
  | 90 => ⟨S16x1x576, .f32⟩
  | 91 => ⟨S16x1x576, .f32⟩
  | 92 => ⟨S16x1x576, .f32⟩
  | 93 => ⟨S16x1x576, .f32⟩
  | 94 => ⟨S16x1x576, .f32⟩
  | 95 => ⟨S16x1x576, .f32⟩
  | 96 => ⟨S16x1x576, .f32⟩
  | 97 => ⟨S16x1x576, .f32⟩
  | 98 => ⟨S16x1x576, .f32⟩
  | 99 => ⟨S16x1x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S32768x1024, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x16x576, .f32⟩
  | 17 => ⟨S16x16x576, .f32⟩
  | 18 => ⟨S16x16x576, .f32⟩
  | 19 => ⟨S16x16x576, .f32⟩
  | 20 => ⟨S16x64x576, .f32⟩
  | 21 => ⟨S16x1x1, .f32⟩
  | 22 => ⟨S16x64x576, .f32⟩
  | 23 => ⟨S16x64x576, .f32⟩
  | 24 => ⟨S_, .f32⟩
  | 25 => ⟨S_, .f32⟩
  | 26 => ⟨S_, .f32⟩
  | 27 => ⟨S_, .f32⟩
  | 28 => ⟨S16x64x576, .f32⟩
  | 29 => ⟨S16x64x576, .f32⟩
  | 30 => ⟨S16x576x64, .f32⟩
  | 31 => ⟨S_, .f32⟩
  | 32 => ⟨S_, .f32⟩
  | 33 => ⟨S16x640x64, .f32⟩
  | 34 => ⟨S_, .f32⟩
  | 35 => ⟨S_, .f32⟩
  | 36 => ⟨S16x640x64, .f32⟩
  | 37 => ⟨S16x640x1x64, .f32⟩
  | 38 => ⟨S16x640x1x64, .f32⟩
  | 39 => ⟨S16x640x2x64, .f32⟩
  | 40 => ⟨S8x2x640x128, .f32⟩
  | 41 => ⟨S8x640x2x128, .f32⟩
  | 42 => ⟨S8x640x256, .f32⟩
  | 43 => ⟨S16x1024x2048, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S2048x1024, .bf16⟩
  | .local _ .vmem, ⟨2, _⟩ => ⟨S1x2560x1024, .bf16⟩
  | .local _ .vmem, ⟨3, _⟩ => ⟨S1x2560x1024, .bf16⟩
  | .local _ .vmem, ⟨4, _⟩ => ⟨S1x1024x2560, .bf16⟩
  | .local _ .vmem, ⟨5, _⟩ => ⟨S1x1024x2560, .bf16⟩
  | .local _ .vmem, ⟨6, _⟩ => ⟨S8x640x256, .f32⟩
  | .local _ .vmem, ⟨7, _⟩ => ⟨S1024x128, .f32⟩
  | .local _ .vmem, ⟨8, _⟩ => ⟨S1x1024x2048, .bf16⟩
  | .local _ .vmem, ⟨9, _⟩ => ⟨S1x1024x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_cst : Ref sig .tc := ⟨.hbm, 152, rfl⟩
abbrev main_v147 : Ref sig .tc := ⟨.hbm, 153, rfl⟩
abbrev main_cst_0 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_cst_1 : Ref sig .tc := ⟨.hbm, 159, rfl⟩
abbrev main_call0_v0 : Ref sig .tc := ⟨.hbm, 160, rfl⟩
abbrev main_v152 : Ref sig .tc := ⟨.hbm, 161, rfl⟩
abbrev main_cst_2 : Ref sig .tc := ⟨.hbm, 162, rfl⟩
abbrev main_call1_v0 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  v5
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v8 : Index := Scalar.indexCast v6
  let c0 : Index := 0#32
  ![v8.toNat, 0]
def k0_off2 (k0_t1 : Fin k0_t1_loop.trips) : Fin 3 → Nat :=
  let c0_7 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_6 : BitVec 32 := 0#32
  let v17 : BitVec 32 := Scalar.addi v6 c0_i32_6
  let v18 : Index := Scalar.indexCast v17
  let c0_8 : Index := 0#32
  ![0, v18.toNat, 0]
def k0_off3 (k0_t1 : Fin k0_t1_loop.trips) : Fin 3 → Nat :=
  let c0_10 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32 : BitVec 32 := 384#32
  let v22 : BitVec 32 := Scalar.addi v6 c384_i32
  let v23 : Index := Scalar.indexCast v22
  let c0_11 : Index := 0#32
  ![0, v23.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v28 : Index := Scalar.indexCast v6
  let c128 : Index := 128#32
  ![v28.toNat, 128]
def k0_off5 (k0_t1 : Fin k0_t1_loop.trips) : Fin 3 → Nat :=
  let c0_16 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_15 : BitVec 32 := 0#32
  let v37 : BitVec 32 := Scalar.addi v6 c0_i32_15
  let v38 : Index := Scalar.indexCast v37
  let c128_17 : Index := 128#32
  ![0, v38.toNat, 128]
def k0_off6 (k0_t1 : Fin k0_t1_loop.trips) : Fin 3 → Nat :=
  let c0_20 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_19 : BitVec 32 := 384#32
  let v42 : BitVec 32 := Scalar.addi v6 c384_i32_19
  let v43 : Index := Scalar.indexCast v42
  let c128_21 : Index := 128#32
  ![0, v43.toNat, 128]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v48 : Index := Scalar.indexCast v6
  let c256 : Index := 256#32
  ![v48.toNat, 256]
def k0_off8 (k0_t1 : Fin k0_t1_loop.trips) : Fin 3 → Nat :=
  let c0_26 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_25 : BitVec 32 := 0#32
  let v57 : BitVec 32 := Scalar.addi v6 c0_i32_25
  let v58 : Index := Scalar.indexCast v57
  let c256_27 : Index := 256#32
  ![0, v58.toNat, 256]
def k0_off9 (k0_t1 : Fin k0_t1_loop.trips) : Fin 3 → Nat :=
  let c0_30 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_29 : BitVec 32 := 384#32
  let v62 : BitVec 32 := Scalar.addi v6 c384_i32_29
  let v63 : Index := Scalar.indexCast v62
  let c256_31 : Index := 256#32
  ![0, v63.toNat, 256]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v68 : Index := Scalar.indexCast v6
  let c384 : Index := 384#32
  ![v68.toNat, 384]
def k0_off11 (k0_t1 : Fin k0_t1_loop.trips) : Fin 3 → Nat :=
  let c0_36 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_35 : BitVec 32 := 0#32
  let v77 : BitVec 32 := Scalar.addi v6 c0_i32_35
  let v78 : Index := Scalar.indexCast v77
  let c384_37 : Index := 384#32
  ![0, v78.toNat, 384]
def k0_off12 (k0_t1 : Fin k0_t1_loop.trips) : Fin 3 → Nat :=
  let c0_40 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_39 : BitVec 32 := 384#32
  let v82 : BitVec 32 := Scalar.addi v6 c384_i32_39
  let v83 : Index := Scalar.indexCast v82
  let c384_41 : Index := 384#32
  ![0, v83.toNat, 384]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v88 : Index := Scalar.indexCast v6
  let c512 : Index := 512#32
  ![v88.toNat, 512]
def k0_off14 (k0_t1 : Fin k0_t1_loop.trips) : Fin 3 → Nat :=
  let c0_46 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_45 : BitVec 32 := 0#32
  let v97 : BitVec 32 := Scalar.addi v6 c0_i32_45
  let v98 : Index := Scalar.indexCast v97
  let c512_47 : Index := 512#32
  ![0, v98.toNat, 512]
def k0_off15 (k0_t1 : Fin k0_t1_loop.trips) : Fin 3 → Nat :=
  let c0_50 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_49 : BitVec 32 := 384#32
  let v102 : BitVec 32 := Scalar.addi v6 c384_i32_49
  let v103 : Index := Scalar.indexCast v102
  let c512_51 : Index := 512#32
  ![0, v103.toNat, 512]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v108 : Index := Scalar.indexCast v6
  let c640 : Index := 640#32
  ![v108.toNat, 640]
def k0_off17 (k0_t1 : Fin k0_t1_loop.trips) : Fin 3 → Nat :=
  let c0_56 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_55 : BitVec 32 := 0#32
  let v117 : BitVec 32 := Scalar.addi v6 c0_i32_55
  let v118 : Index := Scalar.indexCast v117
  let c640_57 : Index := 640#32
  ![0, v118.toNat, 640]
def k0_off18 (k0_t1 : Fin k0_t1_loop.trips) : Fin 3 → Nat :=
  let c0_60 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_59 : BitVec 32 := 384#32
  let v122 : BitVec 32 := Scalar.addi v6 c384_i32_59
  let v123 : Index := Scalar.indexCast v122
  let c640_61 : Index := 640#32
  ![0, v123.toNat, 640]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v128 : Index := Scalar.indexCast v6
  let c768 : Index := 768#32
  ![v128.toNat, 768]
def k0_off20 (k0_t1 : Fin k0_t1_loop.trips) : Fin 3 → Nat :=
  let c0_66 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_65 : BitVec 32 := 0#32
  let v137 : BitVec 32 := Scalar.addi v6 c0_i32_65
  let v138 : Index := Scalar.indexCast v137
  let c768_67 : Index := 768#32
  ![0, v138.toNat, 768]
def k0_off21 (k0_t1 : Fin k0_t1_loop.trips) : Fin 3 → Nat :=
  let c0_70 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_69 : BitVec 32 := 384#32
  let v142 : BitVec 32 := Scalar.addi v6 c384_i32_69
  let v143 : Index := Scalar.indexCast v142
  let c768_71 : Index := 768#32
  ![0, v143.toNat, 768]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v148 : Index := Scalar.indexCast v6
  let c896 : Index := 896#32
  ![v148.toNat, 896]
def k0_off23 (k0_t1 : Fin k0_t1_loop.trips) : Fin 3 → Nat :=
  let c0_76 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_75 : BitVec 32 := 0#32
  let v157 : BitVec 32 := Scalar.addi v6 c0_i32_75
  let v158 : Index := Scalar.indexCast v157
  let c896_77 : Index := 896#32
  ![0, v158.toNat, 896]
def k0_off24 (k0_t1 : Fin k0_t1_loop.trips) : Fin 3 → Nat :=
  let c0_80 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_79 : BitVec 32 := 384#32
  let v162 : BitVec 32 := Scalar.addi v6 c384_i32_79
  let v163 : Index := Scalar.indexCast v162
  let c896_81 : Index := 896#32
  ![0, v163.toNat, 896]
def k0_off25 (k0_t1 : Fin k0_t1_loop.trips) : Fin 3 → Nat :=
  let c0_129 : Index := 0#32
  let c0_130 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_128 : BitVec 32 := 0#32
  let v226 : BitVec 32 := Scalar.addi v6 c0_i32_128
  let v227 : Index := Scalar.indexCast v226
  ![0, 0, v227.toNat]
def k0_off26 (k0_t1 : Fin k0_t1_loop.trips) : Fin 3 → Nat :=
  let c0_134 : Index := 0#32
  let c0_135 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_133 : BitVec 32 := 384#32
  let v234 : BitVec 32 := Scalar.addi v6 c384_i32_133
  let v235 : Index := Scalar.indexCast v234
  ![0, 0, v235.toNat]
def k0_off27 (k0_t1 : Fin k0_t1_loop.trips) : Fin 3 → Nat :=
  let c0_139 : Index := 0#32
  let c128_140 : Index := 128#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_138 : BitVec 32 := 0#32
  let v251 : BitVec 32 := Scalar.addi v6 c0_i32_138
  let v252 : Index := Scalar.indexCast v251
  ![0, 128, v252.toNat]
def k0_off28 (k0_t1 : Fin k0_t1_loop.trips) : Fin 3 → Nat :=
  let c0_144 : Index := 0#32
  let c128_145 : Index := 128#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_143 : BitVec 32 := 384#32
  let v259 : BitVec 32 := Scalar.addi v6 c384_i32_143
  let v260 : Index := Scalar.indexCast v259
  ![0, 128, v260.toNat]
def k0_off29 (k0_t1 : Fin k0_t1_loop.trips) : Fin 3 → Nat :=
  let c0_149 : Index := 0#32
  let c256_150 : Index := 256#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_148 : BitVec 32 := 0#32
  let v276 : BitVec 32 := Scalar.addi v6 c0_i32_148
  let v277 : Index := Scalar.indexCast v276
  ![0, 256, v277.toNat]
def k0_off30 (k0_t1 : Fin k0_t1_loop.trips) : Fin 3 → Nat :=
  let c0_154 : Index := 0#32
  let c256_155 : Index := 256#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_153 : BitVec 32 := 384#32
  let v284 : BitVec 32 := Scalar.addi v6 c384_i32_153
  let v285 : Index := Scalar.indexCast v284
  ![0, 256, v285.toNat]
def k0_off31 (k0_t1 : Fin k0_t1_loop.trips) : Fin 3 → Nat :=
  let c0_159 : Index := 0#32
  let c384_160 : Index := 384#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_158 : BitVec 32 := 0#32
  let v301 : BitVec 32 := Scalar.addi v6 c0_i32_158
  let v302 : Index := Scalar.indexCast v301
  ![0, 384, v302.toNat]
def k0_off32 (k0_t1 : Fin k0_t1_loop.trips) : Fin 3 → Nat :=
  let c0_164 : Index := 0#32
  let c384_165 : Index := 384#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_163 : BitVec 32 := 384#32
  let v309 : BitVec 32 := Scalar.addi v6 c384_i32_163
  let v310 : Index := Scalar.indexCast v309
  ![0, 384, v310.toNat]
def k0_off33 (k0_t1 : Fin k0_t1_loop.trips) : Fin 3 → Nat :=
  let c0_169 : Index := 0#32
  let c512_170 : Index := 512#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_168 : BitVec 32 := 0#32
  let v326 : BitVec 32 := Scalar.addi v6 c0_i32_168
  let v327 : Index := Scalar.indexCast v326
  ![0, 512, v327.toNat]
def k0_off34 (k0_t1 : Fin k0_t1_loop.trips) : Fin 3 → Nat :=
  let c0_174 : Index := 0#32
  let c512_175 : Index := 512#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_173 : BitVec 32 := 384#32
  let v334 : BitVec 32 := Scalar.addi v6 c384_i32_173
  let v335 : Index := Scalar.indexCast v334
  ![0, 512, v335.toNat]
def k0_off35 (k0_t1 : Fin k0_t1_loop.trips) : Fin 3 → Nat :=
  let c0_179 : Index := 0#32
  let c640_180 : Index := 640#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_178 : BitVec 32 := 0#32
  let v351 : BitVec 32 := Scalar.addi v6 c0_i32_178
  let v352 : Index := Scalar.indexCast v351
  ![0, 640, v352.toNat]
def k0_off36 (k0_t1 : Fin k0_t1_loop.trips) : Fin 3 → Nat :=
  let c0_184 : Index := 0#32
  let c640_185 : Index := 640#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_183 : BitVec 32 := 384#32
  let v359 : BitVec 32 := Scalar.addi v6 c384_i32_183
  let v360 : Index := Scalar.indexCast v359
  ![0, 640, v360.toNat]
def k0_off37 (k0_t1 : Fin k0_t1_loop.trips) : Fin 3 → Nat :=
  let c0_189 : Index := 0#32
  let c768_190 : Index := 768#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_188 : BitVec 32 := 0#32
  let v376 : BitVec 32 := Scalar.addi v6 c0_i32_188
  let v377 : Index := Scalar.indexCast v376
  ![0, 768, v377.toNat]
def k0_off38 (k0_t1 : Fin k0_t1_loop.trips) : Fin 3 → Nat :=
  let c0_194 : Index := 0#32
  let c768_195 : Index := 768#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_193 : BitVec 32 := 384#32
  let v384 : BitVec 32 := Scalar.addi v6 c384_i32_193
  let v385 : Index := Scalar.indexCast v384
  ![0, 768, v385.toNat]
def k0_off39 (k0_t1 : Fin k0_t1_loop.trips) : Fin 3 → Nat :=
  let c0_199 : Index := 0#32
  let c896_200 : Index := 896#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c0_i32_198 : BitVec 32 := 0#32
  let v401 : BitVec 32 := Scalar.addi v6 c0_i32_198
  let v402 : Index := Scalar.indexCast v401
  ![0, 896, v402.toNat]
def k0_off40 (k0_t1 : Fin k0_t1_loop.trips) : Fin 3 → Nat :=
  let c0_204 : Index := 0#32
  let c896_205 : Index := 896#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c384_i32_203 : BitVec 32 := 384#32
  let v409 : BitVec 32 := Scalar.addi v6 c384_i32_203
  let v410 : Index := Scalar.indexCast v409
  ![0, 896, v410.toNat]
def k0_off41 (k0_t1 : Fin k0_t1_loop.trips) : Fin 3 → Nat :=
  let c0_212 : Index := 0#32
  let c0_213 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v437 : Index := Scalar.indexCast v6
  ![0, 0, v437.toNat]
def k0_off42 (k0_t1 : Fin k0_t1_loop.trips) : Fin 3 → Nat :=
  let c0_216 : Index := 0#32
  let c128_217 : Index := 128#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v447 : Index := Scalar.indexCast v6
  ![0, 128, v447.toNat]
def k0_off43 (k0_t1 : Fin k0_t1_loop.trips) : Fin 3 → Nat :=
  let c0_220 : Index := 0#32
  let c256_221 : Index := 256#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v457 : Index := Scalar.indexCast v6
  ![0, 256, v457.toNat]
def k0_off44 (k0_t1 : Fin k0_t1_loop.trips) : Fin 3 → Nat :=
  let c0_224 : Index := 0#32
  let c384_225 : Index := 384#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v467 : Index := Scalar.indexCast v6
  ![0, 384, v467.toNat]
def k0_off45 (k0_t1 : Fin k0_t1_loop.trips) : Fin 3 → Nat :=
  let c0_228 : Index := 0#32
  let c512_229 : Index := 512#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v477 : Index := Scalar.indexCast v6
  ![0, 512, v477.toNat]
def k0_off46 (k0_t1 : Fin k0_t1_loop.trips) : Fin 3 → Nat :=
  let c0_232 : Index := 0#32
  let c640_233 : Index := 640#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v487 : Index := Scalar.indexCast v6
  ![0, 640, v487.toNat]
def k0_off47 (k0_t1 : Fin k0_t1_loop.trips) : Fin 3 → Nat :=
  let c0_236 : Index := 0#32
  let c768_237 : Index := 768#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v497 : Index := Scalar.indexCast v6
  ![0, 768, v497.toNat]
def k0_off48 (k0_t1 : Fin k0_t1_loop.trips) : Fin 3 → Nat :=
  let c0_240 : Index := 0#32
  let c896_241 : Index := 896#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v507 : Index := Scalar.indexCast v6
  ![0, 896, v507.toNat]
@[reducible] def k0_t2_loop : Scf.Loop 32 :=
  let c4_i32_1 : BitVec 32 := 4#32
  let c12_i32 : BitVec 32 := 12#32
  let v4 : BitVec 32 := Scalar.addi c4_i32_1 c12_i32
  let c1_i32_2 : BitVec 32 := 1#32
  ⟨c4_i32_1, v4, c1_i32_2⟩
def k0_mult2 (k0_t2 : Fin k0_t2_loop.trips) : BitVec 32 :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  v5
def k0_off49 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v8 : Index := Scalar.indexCast v6
  let c0 : Index := 0#32
  ![v8.toNat, 0]
def k0_off50 (k0_t2 : Fin k0_t2_loop.trips) : Fin 3 → Nat :=
  let c0_7 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_6 : BitVec 32 := 0#32
  let v17 : BitVec 32 := Scalar.addi v6 c0_i32_6
  let v18 : Index := Scalar.indexCast v17
  let c0_8 : Index := 0#32
  ![0, v18.toNat, 0]
def k0_off51 (k0_t2 : Fin k0_t2_loop.trips) : Fin 3 → Nat :=
  let c0_10 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32 : BitVec 32 := 384#32
  let v22 : BitVec 32 := Scalar.addi v6 c384_i32
  let v23 : Index := Scalar.indexCast v22
  let c0_11 : Index := 0#32
  ![0, v23.toNat, 0]
def k0_off52 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v28 : Index := Scalar.indexCast v6
  let c128 : Index := 128#32
  ![v28.toNat, 128]
def k0_off53 (k0_t2 : Fin k0_t2_loop.trips) : Fin 3 → Nat :=
  let c0_16 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_15 : BitVec 32 := 0#32
  let v37 : BitVec 32 := Scalar.addi v6 c0_i32_15
  let v38 : Index := Scalar.indexCast v37
  let c128_17 : Index := 128#32
  ![0, v38.toNat, 128]
def k0_off54 (k0_t2 : Fin k0_t2_loop.trips) : Fin 3 → Nat :=
  let c0_20 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_19 : BitVec 32 := 384#32
  let v42 : BitVec 32 := Scalar.addi v6 c384_i32_19
  let v43 : Index := Scalar.indexCast v42
  let c128_21 : Index := 128#32
  ![0, v43.toNat, 128]
def k0_off55 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v48 : Index := Scalar.indexCast v6
  let c256 : Index := 256#32
  ![v48.toNat, 256]
def k0_off56 (k0_t2 : Fin k0_t2_loop.trips) : Fin 3 → Nat :=
  let c0_26 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_25 : BitVec 32 := 0#32
  let v57 : BitVec 32 := Scalar.addi v6 c0_i32_25
  let v58 : Index := Scalar.indexCast v57
  let c256_27 : Index := 256#32
  ![0, v58.toNat, 256]
def k0_off57 (k0_t2 : Fin k0_t2_loop.trips) : Fin 3 → Nat :=
  let c0_30 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_29 : BitVec 32 := 384#32
  let v62 : BitVec 32 := Scalar.addi v6 c384_i32_29
  let v63 : Index := Scalar.indexCast v62
  let c256_31 : Index := 256#32
  ![0, v63.toNat, 256]
def k0_off58 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v68 : Index := Scalar.indexCast v6
  let c384 : Index := 384#32
  ![v68.toNat, 384]
def k0_off59 (k0_t2 : Fin k0_t2_loop.trips) : Fin 3 → Nat :=
  let c0_36 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_35 : BitVec 32 := 0#32
  let v77 : BitVec 32 := Scalar.addi v6 c0_i32_35
  let v78 : Index := Scalar.indexCast v77
  let c384_37 : Index := 384#32
  ![0, v78.toNat, 384]
def k0_off60 (k0_t2 : Fin k0_t2_loop.trips) : Fin 3 → Nat :=
  let c0_40 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_39 : BitVec 32 := 384#32
  let v82 : BitVec 32 := Scalar.addi v6 c384_i32_39
  let v83 : Index := Scalar.indexCast v82
  let c384_41 : Index := 384#32
  ![0, v83.toNat, 384]
def k0_off61 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v88 : Index := Scalar.indexCast v6
  let c512 : Index := 512#32
  ![v88.toNat, 512]
def k0_off62 (k0_t2 : Fin k0_t2_loop.trips) : Fin 3 → Nat :=
  let c0_46 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_45 : BitVec 32 := 0#32
  let v97 : BitVec 32 := Scalar.addi v6 c0_i32_45
  let v98 : Index := Scalar.indexCast v97
  let c512_47 : Index := 512#32
  ![0, v98.toNat, 512]
def k0_off63 (k0_t2 : Fin k0_t2_loop.trips) : Fin 3 → Nat :=
  let c0_50 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_49 : BitVec 32 := 384#32
  let v102 : BitVec 32 := Scalar.addi v6 c384_i32_49
  let v103 : Index := Scalar.indexCast v102
  let c512_51 : Index := 512#32
  ![0, v103.toNat, 512]
def k0_off64 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v108 : Index := Scalar.indexCast v6
  let c640 : Index := 640#32
  ![v108.toNat, 640]
def k0_off65 (k0_t2 : Fin k0_t2_loop.trips) : Fin 3 → Nat :=
  let c0_56 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_55 : BitVec 32 := 0#32
  let v117 : BitVec 32 := Scalar.addi v6 c0_i32_55
  let v118 : Index := Scalar.indexCast v117
  let c640_57 : Index := 640#32
  ![0, v118.toNat, 640]
def k0_off66 (k0_t2 : Fin k0_t2_loop.trips) : Fin 3 → Nat :=
  let c0_60 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_59 : BitVec 32 := 384#32
  let v122 : BitVec 32 := Scalar.addi v6 c384_i32_59
  let v123 : Index := Scalar.indexCast v122
  let c640_61 : Index := 640#32
  ![0, v123.toNat, 640]
def k0_off67 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v128 : Index := Scalar.indexCast v6
  let c768 : Index := 768#32
  ![v128.toNat, 768]
def k0_off68 (k0_t2 : Fin k0_t2_loop.trips) : Fin 3 → Nat :=
  let c0_66 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_65 : BitVec 32 := 0#32
  let v137 : BitVec 32 := Scalar.addi v6 c0_i32_65
  let v138 : Index := Scalar.indexCast v137
  let c768_67 : Index := 768#32
  ![0, v138.toNat, 768]
def k0_off69 (k0_t2 : Fin k0_t2_loop.trips) : Fin 3 → Nat :=
  let c0_70 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_69 : BitVec 32 := 384#32
  let v142 : BitVec 32 := Scalar.addi v6 c384_i32_69
  let v143 : Index := Scalar.indexCast v142
  let c768_71 : Index := 768#32
  ![0, v143.toNat, 768]
def k0_off70 (k0_t2 : Fin k0_t2_loop.trips) : Fin 2 → Nat :=
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v148 : Index := Scalar.indexCast v6
  let c896 : Index := 896#32
  ![v148.toNat, 896]
def k0_off71 (k0_t2 : Fin k0_t2_loop.trips) : Fin 3 → Nat :=
  let c0_76 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_75 : BitVec 32 := 0#32
  let v157 : BitVec 32 := Scalar.addi v6 c0_i32_75
  let v158 : Index := Scalar.indexCast v157
  let c896_77 : Index := 896#32
  ![0, v158.toNat, 896]
def k0_off72 (k0_t2 : Fin k0_t2_loop.trips) : Fin 3 → Nat :=
  let c0_80 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_79 : BitVec 32 := 384#32
  let v162 : BitVec 32 := Scalar.addi v6 c384_i32_79
  let v163 : Index := Scalar.indexCast v162
  let c896_81 : Index := 896#32
  ![0, v163.toNat, 896]
def k0_off73 (k0_t2 : Fin k0_t2_loop.trips) : Fin 3 → Nat :=
  let c0_128 : Index := 0#32
  let c0_129 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_127 : BitVec 32 := 0#32
  let v219 : BitVec 32 := Scalar.addi v6 c0_i32_127
  let v220 : Index := Scalar.indexCast v219
  ![0, 0, v220.toNat]
def k0_off74 (k0_t2 : Fin k0_t2_loop.trips) : Fin 3 → Nat :=
  let c0_133 : Index := 0#32
  let c0_134 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_132 : BitVec 32 := 384#32
  let v227 : BitVec 32 := Scalar.addi v6 c384_i32_132
  let v228 : Index := Scalar.indexCast v227
  ![0, 0, v228.toNat]
def k0_off75 (k0_t2 : Fin k0_t2_loop.trips) : Fin 3 → Nat :=
  let c0_138 : Index := 0#32
  let c128_139 : Index := 128#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_137 : BitVec 32 := 0#32
  let v244 : BitVec 32 := Scalar.addi v6 c0_i32_137
  let v245 : Index := Scalar.indexCast v244
  ![0, 128, v245.toNat]
def k0_off76 (k0_t2 : Fin k0_t2_loop.trips) : Fin 3 → Nat :=
  let c0_143 : Index := 0#32
  let c128_144 : Index := 128#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_142 : BitVec 32 := 384#32
  let v252 : BitVec 32 := Scalar.addi v6 c384_i32_142
  let v253 : Index := Scalar.indexCast v252
  ![0, 128, v253.toNat]
def k0_off77 (k0_t2 : Fin k0_t2_loop.trips) : Fin 3 → Nat :=
  let c0_148 : Index := 0#32
  let c256_149 : Index := 256#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_147 : BitVec 32 := 0#32
  let v269 : BitVec 32 := Scalar.addi v6 c0_i32_147
  let v270 : Index := Scalar.indexCast v269
  ![0, 256, v270.toNat]
def k0_off78 (k0_t2 : Fin k0_t2_loop.trips) : Fin 3 → Nat :=
  let c0_153 : Index := 0#32
  let c256_154 : Index := 256#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_152 : BitVec 32 := 384#32
  let v277 : BitVec 32 := Scalar.addi v6 c384_i32_152
  let v278 : Index := Scalar.indexCast v277
  ![0, 256, v278.toNat]
def k0_off79 (k0_t2 : Fin k0_t2_loop.trips) : Fin 3 → Nat :=
  let c0_158 : Index := 0#32
  let c384_159 : Index := 384#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_157 : BitVec 32 := 0#32
  let v294 : BitVec 32 := Scalar.addi v6 c0_i32_157
  let v295 : Index := Scalar.indexCast v294
  ![0, 384, v295.toNat]
def k0_off80 (k0_t2 : Fin k0_t2_loop.trips) : Fin 3 → Nat :=
  let c0_163 : Index := 0#32
  let c384_164 : Index := 384#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_162 : BitVec 32 := 384#32
  let v302 : BitVec 32 := Scalar.addi v6 c384_i32_162
  let v303 : Index := Scalar.indexCast v302
  ![0, 384, v303.toNat]
def k0_off81 (k0_t2 : Fin k0_t2_loop.trips) : Fin 3 → Nat :=
  let c0_168 : Index := 0#32
  let c512_169 : Index := 512#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_167 : BitVec 32 := 0#32
  let v319 : BitVec 32 := Scalar.addi v6 c0_i32_167
  let v320 : Index := Scalar.indexCast v319
  ![0, 512, v320.toNat]
def k0_off82 (k0_t2 : Fin k0_t2_loop.trips) : Fin 3 → Nat :=
  let c0_173 : Index := 0#32
  let c512_174 : Index := 512#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_172 : BitVec 32 := 384#32
  let v327 : BitVec 32 := Scalar.addi v6 c384_i32_172
  let v328 : Index := Scalar.indexCast v327
  ![0, 512, v328.toNat]
def k0_off83 (k0_t2 : Fin k0_t2_loop.trips) : Fin 3 → Nat :=
  let c0_178 : Index := 0#32
  let c640_179 : Index := 640#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_177 : BitVec 32 := 0#32
  let v344 : BitVec 32 := Scalar.addi v6 c0_i32_177
  let v345 : Index := Scalar.indexCast v344
  ![0, 640, v345.toNat]
def k0_off84 (k0_t2 : Fin k0_t2_loop.trips) : Fin 3 → Nat :=
  let c0_183 : Index := 0#32
  let c640_184 : Index := 640#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_182 : BitVec 32 := 384#32
  let v352 : BitVec 32 := Scalar.addi v6 c384_i32_182
  let v353 : Index := Scalar.indexCast v352
  ![0, 640, v353.toNat]
def k0_off85 (k0_t2 : Fin k0_t2_loop.trips) : Fin 3 → Nat :=
  let c0_188 : Index := 0#32
  let c768_189 : Index := 768#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_187 : BitVec 32 := 0#32
  let v369 : BitVec 32 := Scalar.addi v6 c0_i32_187
  let v370 : Index := Scalar.indexCast v369
  ![0, 768, v370.toNat]
def k0_off86 (k0_t2 : Fin k0_t2_loop.trips) : Fin 3 → Nat :=
  let c0_193 : Index := 0#32
  let c768_194 : Index := 768#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_192 : BitVec 32 := 384#32
  let v377 : BitVec 32 := Scalar.addi v6 c384_i32_192
  let v378 : Index := Scalar.indexCast v377
  ![0, 768, v378.toNat]
def k0_off87 (k0_t2 : Fin k0_t2_loop.trips) : Fin 3 → Nat :=
  let c0_198 : Index := 0#32
  let c896_199 : Index := 896#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c0_i32_197 : BitVec 32 := 0#32
  let v394 : BitVec 32 := Scalar.addi v6 c0_i32_197
  let v395 : Index := Scalar.indexCast v394
  ![0, 896, v395.toNat]
def k0_off88 (k0_t2 : Fin k0_t2_loop.trips) : Fin 3 → Nat :=
  let c0_203 : Index := 0#32
  let c896_204 : Index := 896#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let c384_i32_202 : BitVec 32 := 384#32
  let v402 : BitVec 32 := Scalar.addi v6 c384_i32_202
  let v403 : Index := Scalar.indexCast v402
  ![0, 896, v403.toNat]
def k0_off89 (k0_t2 : Fin k0_t2_loop.trips) : Fin 3 → Nat :=
  let c0_211 : Index := 0#32
  let c0_212 : Index := 0#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v430 : Index := Scalar.indexCast v6
  ![0, 0, v430.toNat]
def k0_off90 (k0_t2 : Fin k0_t2_loop.trips) : Fin 3 → Nat :=
  let c0_215 : Index := 0#32
  let c128_216 : Index := 128#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v440 : Index := Scalar.indexCast v6
  ![0, 128, v440.toNat]
def k0_off91 (k0_t2 : Fin k0_t2_loop.trips) : Fin 3 → Nat :=
  let c0_219 : Index := 0#32
  let c256_220 : Index := 256#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v450 : Index := Scalar.indexCast v6
  ![0, 256, v450.toNat]
def k0_off92 (k0_t2 : Fin k0_t2_loop.trips) : Fin 3 → Nat :=
  let c0_223 : Index := 0#32
  let c384_224 : Index := 384#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v460 : Index := Scalar.indexCast v6
  ![0, 384, v460.toNat]
def k0_off93 (k0_t2 : Fin k0_t2_loop.trips) : Fin 3 → Nat :=
  let c0_227 : Index := 0#32
  let c512_228 : Index := 512#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v470 : Index := Scalar.indexCast v6
  ![0, 512, v470.toNat]
def k0_off94 (k0_t2 : Fin k0_t2_loop.trips) : Fin 3 → Nat :=
  let c0_231 : Index := 0#32
  let c640_232 : Index := 640#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v480 : Index := Scalar.indexCast v6
  ![0, 640, v480.toNat]
def k0_off95 (k0_t2 : Fin k0_t2_loop.trips) : Fin 3 → Nat :=
  let c0_235 : Index := 0#32
  let c768_236 : Index := 768#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v490 : Index := Scalar.indexCast v6
  ![0, 768, v490.toNat]
def k0_off96 (k0_t2 : Fin k0_t2_loop.trips) : Fin 3 → Nat :=
  let c0_239 : Index := 0#32
  let c896_240 : Index := 896#32
  let c4_i32_1 : BitVec 32 := 4#32
  let c1_i32_2 : BitVec 32 := 1#32
  let arg7 : BitVec 32 := Scf.iv c4_i32_1 c1_i32_2 k0_t2
  let c128_i32 : BitVec 32 := 128#32
  let v5 : BitVec 32 := Scalar.muli arg7 c128_i32
  let v6 : BitVec 32 := v5
  let v500 : Index := Scalar.indexCast v6
  ![0, 896, v500.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x640x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S16x2560x1024 : Shape := ⟨3, ![16, 2560, 1024]⟩
abbrev S16x1024x2560 : Shape := ⟨3, ![16, 1024, 2560]⟩
abbrev S1x16x257 : Shape := ⟨3, ![1, 16, 257]⟩
abbrev S1x1024 : Shape := ⟨2, ![1, 1024]⟩
abbrev S16x2048x16x64 : Shape := ⟨4, ![16, 2048, 16, 64]⟩
abbrev S16x2048x1024 : Shape := ⟨3, ![16, 2048, 1024]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x257 : Shape := ⟨2, ![16, 257]⟩
abbrev S2048x2048x1 : Shape := ⟨3, ![2048, 2048, 1]⟩
abbrev S16x2048x2048 : Shape := ⟨3, ![16, 2048, 2048]⟩
abbrev S16x16x2048x2048 : Shape := ⟨4, ![16, 16, 2048, 2048]⟩
abbrev S1x16x2048x2048 : Shape := ⟨4, ![1, 16, 2048, 2048]⟩
abbrev S1x1x2048x2048 : Shape := ⟨4, ![1, 1, 2048, 2048]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩
abbrev S16x1024x2048 : Shape := ⟨3, ![16, 1024, 2048]⟩

abbrev nBuf : Space → Nat
  | .hbm => 123
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S16x2560x1024, .bf16⟩
  | .hbm, ⟨2, _⟩ => ⟨S16x1024x2560, .bf16⟩
  | .hbm, ⟨3, _⟩ => ⟨S1x16x257, .f32⟩
  | .hbm, ⟨4, _⟩ => ⟨S1x1024, .f32⟩
  | .hbm, ⟨5, _⟩ => ⟨S32768x1024, .f32⟩
  | .hbm, ⟨6, _⟩ => ⟨S16x2048x16x64, .f32⟩
  | .hbm, ⟨7, _⟩ => ⟨S16x2560x1024, .f32⟩
  | .hbm, ⟨8, _⟩ => ⟨S16x2048x1024, .f32⟩
  | .hbm, ⟨9, _⟩ => ⟨S16x2048x16x64, .f32⟩
  | .hbm, ⟨10, _⟩ => ⟨S16x1024x2560, .f32⟩
  | .hbm, ⟨11, _⟩ => ⟨S16x2560x1024, .f32⟩
  | .hbm, ⟨12, _⟩ => ⟨S16x2048x1024, .f32⟩
  | .hbm, ⟨13, _⟩ => ⟨S16x2048x16x64, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S16x257, .f32⟩
  | .hbm, ⟨32, _⟩ => ⟨S_, .i32⟩
  | .hbm, ⟨33, _⟩ => ⟨S2048x2048, .i32⟩
  | .hbm, ⟨34, _⟩ => ⟨S2048x2048, .i1⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S2048x2048x1, .i32⟩
  | .hbm, ⟨40, _⟩ => ⟨S16x2048x2048, .f32⟩
  | .hbm, ⟨41, _⟩ => ⟨S_, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S1x2048, .i32⟩
  | .hbm, ⟨60, _⟩ => ⟨S2048x1, .i32⟩
  | .hbm, ⟨61, _⟩ => ⟨S2048x2048, .i32⟩
  | .hbm, ⟨62, _⟩ => ⟨S2048x2048, .i32⟩
  | .hbm, ⟨63, _⟩ => ⟨S2048x2048, .i1⟩
  | .hbm, ⟨64, _⟩ => ⟨S1x2048, .i32⟩
  | .hbm, ⟨65, _⟩ => ⟨S2048x1, .i32⟩
  | .hbm, ⟨66, _⟩ => ⟨S_, .i32⟩
  | .hbm, ⟨67, _⟩ => ⟨S2048x1, .i32⟩
  | .hbm, ⟨68, _⟩ => ⟨S2048x1, .i32⟩
  | .hbm, ⟨69, _⟩ => ⟨S2048x2048, .i32⟩
  | .hbm, ⟨70, _⟩ => ⟨S2048x2048, .i32⟩
  | .hbm, ⟨71, _⟩ => ⟨S2048x2048, .i1⟩
  | .hbm, ⟨72, _⟩ => ⟨S2048x2048, .i1⟩
  | .hbm, ⟨73, _⟩ => ⟨S16x16x2048x2048, .f32⟩
  | .hbm, ⟨74, _⟩ => ⟨S_, .f32⟩
  | .hbm, ⟨75, _⟩ => ⟨S_, .f32⟩
  | .hbm, ⟨76, _⟩ => ⟨S16x16x2048x2048, .f32⟩
  | .hbm, ⟨77, _⟩ => ⟨S16x16x2048x2048, .f32⟩
  | .hbm, ⟨78, _⟩ => ⟨S1x16x2048x2048, .f32⟩
  | .hbm, ⟨79, _⟩ => ⟨S16x16x2048x2048, .f32⟩
  | .hbm, ⟨80, _⟩ => ⟨S16x16x2048x2048, .f32⟩
  | .hbm, ⟨81, _⟩ => ⟨S1x1x2048x2048, .i1⟩
  | .hbm, ⟨82, _⟩ => ⟨S_, .f32⟩
  | .hbm, ⟨83, _⟩ => ⟨S_, .f32⟩
  | .hbm, ⟨84, _⟩ => ⟨S16x16x2048x2048, .i1⟩
  | .hbm, ⟨85, _⟩ => ⟨S16x16x2048x2048, .f32⟩
  | .hbm, ⟨86, _⟩ => ⟨S16x16x2048x2048, .f32⟩
  | .hbm, ⟨87, _⟩ => ⟨S_, .f32⟩
  | .hbm, ⟨88, _⟩ => ⟨S16x16x2048, .f32⟩
  | .hbm, ⟨89, _⟩ => ⟨S_, .f32⟩
  | .hbm, ⟨90, _⟩ => ⟨S16x16x2048, .f32⟩
  | .hbm, ⟨91, _⟩ => ⟨S16x16x2048, .f32⟩
  | .hbm, ⟨92, _⟩ => ⟨S16x16x2048x1, .f32⟩
  | .hbm, ⟨93, _⟩ => ⟨S16x16x2048x2048, .f32⟩
  | .hbm, ⟨94, _⟩ => ⟨S16x16x2048x2048, .f32⟩
  | .hbm, ⟨95, _⟩ => ⟨S16x16x2048x2048, .f32⟩
  | .hbm, ⟨96, _⟩ => ⟨S_, .f32⟩
  | .hbm, ⟨97, _⟩ => ⟨S16x16x2048, .f32⟩
  | .hbm, ⟨98, _⟩ => ⟨S16x16x2048x1, .f32⟩
  | .hbm, ⟨99, _⟩ => ⟨S16x16x2048x2048, .f32⟩
  | .hbm, ⟨100, _⟩ => ⟨S16x16x2048x2048, .f32⟩
  | .hbm, ⟨101, _⟩ => ⟨S16x16x64x2048, .f32⟩
  | .hbm, ⟨102, _⟩ => ⟨S16x2048x16x64, .f32⟩
  | .hbm, ⟨103, _⟩ => ⟨S16x2048x1024, .f32⟩
  | .hbm, ⟨104, _⟩ => ⟨S16x2048x1024, .f32⟩
  | .hbm, ⟨105, _⟩ => ⟨S_, .f32⟩
  | .hbm, ⟨106, _⟩ => ⟨S16x2048, .f32⟩
  | .hbm, ⟨107, _⟩ => ⟨S16x2048x1, .f32⟩
  | .hbm, ⟨108, _⟩ => ⟨S_, .f32⟩
  | .hbm, ⟨109, _⟩ => ⟨S16x2048x1, .f32⟩
  | .hbm, ⟨110, _⟩ => ⟨S16x2048x1, .f32⟩
  | .hbm, ⟨111, _⟩ => ⟨S_, .f32⟩
  | .hbm, ⟨112, _⟩ => ⟨S16x2048x1, .f32⟩
  | .hbm, ⟨113, _⟩ => ⟨S16x2048x1, .f32⟩
  | .hbm, ⟨114, _⟩ => ⟨S16x2048x1, .f32⟩
  | .hbm, ⟨115, _⟩ => ⟨S16x2048x1024, .f32⟩
  | .hbm, ⟨116, _⟩ => ⟨S16x2048x1024, .f32⟩
  | .hbm, ⟨117, _⟩ => ⟨S1024, .f32⟩
  | .hbm, ⟨118, _⟩ => ⟨S1x1x1024, .f32⟩
  | .hbm, ⟨119, _⟩ => ⟨S16x2048x1024, .f32⟩
  | .hbm, ⟨120, _⟩ => ⟨S16x2048x1024, .f32⟩
  | .hbm, ⟨121, _⟩ => ⟨S16x1024x2048, .f32⟩
  | .hbm, ⟨122, _⟩ => ⟨S16x1024x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_6 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v48 : Ref sig .tc := ⟨.hbm, 86, rfl⟩
abbrev main_cst_7 : Ref sig .tc := ⟨.hbm, 87, rfl⟩
abbrev main_v49 : Ref sig .tc := ⟨.hbm, 88, rfl⟩
abbrev main_cst_8 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_9 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_10 : Ref sig .tc := ⟨.hbm, 105, rfl⟩
abbrev main_v64 : Ref sig .tc := ⟨.hbm, 106, rfl⟩
abbrev main_v65 : Ref sig .tc := ⟨.hbm, 107, rfl⟩
abbrev main_cst_11 : Ref sig .tc := ⟨.hbm, 108, rfl⟩
abbrev main_v66 : Ref sig .tc := ⟨.hbm, 109, rfl⟩
abbrev main_v67 : Ref sig .tc := ⟨.hbm, 110, rfl⟩
abbrev main_cst_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]
-- ==== Proj.lean ====
abbrev S16x2048x2048 : Shape := ⟨3, ![16, 2048, 2048]⟩
abbrev S1x2048x4096 : Shape := ⟨3, ![1, 2048, 4096]⟩
abbrev S_ : Shape := ⟨0, ![]⟩
abbrev S16x2560x1024 : Shape := ⟨3, ![16, 2560, 1024]⟩
abbrev S16x1024x2560 : Shape := ⟨3, ![16, 1024, 2560]⟩
abbrev S32768x2048 : Shape := ⟨2, ![32768, 2048]⟩
abbrev S2048x4096 : Shape := ⟨2, ![2048, 4096]⟩
abbrev S32768x1024 : Shape := ⟨2, ![32768, 1024]⟩
abbrev S16x512x1024 : Shape := ⟨3, ![16, 512, 1024]⟩
abbrev S2048x16384 : Shape := ⟨2, ![2048, 16384]⟩
abbrev S256x2048 : Shape := ⟨2, ![256, 2048]⟩
abbrev S256x1024 : Shape := ⟨2, ![256, 1024]⟩
abbrev S1x256x1024 : Shape := ⟨3, ![1, 256, 1024]⟩
abbrev S1x1024x256 : Shape := ⟨3, ![1, 1024, 256]⟩
abbrev S2048x1024 : Shape := ⟨2, ![2048, 1024]⟩
abbrev S1024x256 : Shape := ⟨2, ![1024, 256]⟩

abbrev nBuf : Space → Nat
  | .hbm => 16
  | .vmem => 15
  | .smem => 0
  | _ => 0

abbrev bufTy : (tb : Table) → Fin (tcTables nBuf tb) → BufTy
  | .hbm, ⟨0, _⟩ => ⟨S16x2048x2048, .f32⟩
  | .hbm, ⟨1, _⟩ => ⟨S1x2048x4096, .f32⟩
  | .hbm, ⟨2, _⟩ => ⟨S_, .bf16⟩
  | .hbm, ⟨3, _⟩ => ⟨S16x2560x1024, .bf16⟩
  | .hbm, ⟨4, _⟩ => ⟨S_, .bf16⟩
  | .hbm, ⟨5, _⟩ => ⟨S16x2560x1024, .bf16⟩
  | .hbm, ⟨6, _⟩ => ⟨S16x1024x2560, .bf16⟩
  | .hbm, ⟨7, _⟩ => ⟨S32768x2048, .f32⟩
  | .hbm, ⟨8, _⟩ => ⟨S2048x4096, .f32⟩
  | .hbm, ⟨9, _⟩ => ⟨S2048x4096, .bf16⟩
  | .hbm, ⟨10, _⟩ => ⟨S32768x1024, .bf16⟩
  | .hbm, ⟨11, _⟩ => ⟨S16x2560x1024, .bf16⟩
  | .hbm, ⟨12, _⟩ => ⟨S16x1024x2560, .bf16⟩
  | .hbm, ⟨13, _⟩ => ⟨S16x512x1024, .f32⟩
  | .hbm, ⟨14, _⟩ => ⟨S16x512x1024, .f32⟩
  | .hbm, ⟨15, _⟩ => ⟨S2048x16384, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S256x1024, .bf16⟩
  | .local _ .vmem, ⟨4, _⟩ => ⟨S256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S256x1024, .f32⟩
  | .local _ .vmem, ⟨14, _⟩ => ⟨S256x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_10 : BitVec 32 := 0#32
  let c0_i32_11 : BitVec 32 := 0#32
  ![v16.toNat, v27.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_10 : BitVec 32 := 0#32
  let c0_i32_11 : BitVec 32 := 0#32
  ![v16.toNat, c0_i32_10.toNat, v27.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.subi v26 c6_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.subi v26 c6_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjIdeal.lean ====
variable {F : FTy → Type} [FloatOps F] [Named F]
def κ : String → Option EReal := fun
  | "q_scale" => some (((8 * (Real.log 2))⁻¹ : ℝ) : EReal)
  | _ => none
-- ==== ProjRefIdeal.lean ====
abbrev S16x2048x2048 : Shape := ⟨3, ![16, 2048, 2048]⟩
abbrev S1x2048x4096 : Shape := ⟨3, ![1, 2048, 4096]⟩
abbrev S2048x4096 : Shape := ⟨2, ![2048, 4096]⟩
abbrev S16x2048x4096 : Shape := ⟨3, ![16, 2048, 4096]⟩
abbrev S16x2048x1024 : Shape := ⟨3, ![16, 2048, 1024]⟩
abbrev S_ : Shape := ⟨0, ![]⟩
abbrev S32768x1024 : Shape := ⟨2, ![32768, 1024]⟩
abbrev S16x2560x1024 : Shape := ⟨3, ![16, 2560, 1024]⟩
abbrev S16x1024x2560 : Shape := ⟨3, ![16, 1024, 2560]⟩
abbrev S16x512x1024 : Shape := ⟨3, ![16, 512, 1024]⟩
abbrev S2048x16x1024 : Shape := ⟨3, ![2048, 16, 1024]⟩
abbrev S2048x16384 : Shape := ⟨2, ![2048, 16384]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048x4096, .f32⟩
  | .hbm, ⟨2, _⟩ => ⟨S2048x4096, .f32⟩
  | .hbm, ⟨3, _⟩ => ⟨S16x2048x4096, .f32⟩
  | .hbm, ⟨4, _⟩ => ⟨S16x2048x1024, .f32⟩
  | .hbm, ⟨5, _⟩ => ⟨S16x2048x1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048x1024, .f32⟩
  | .hbm, ⟨10, _⟩ => ⟨S16x2048x1024, .f32⟩
  | .hbm, ⟨11, _⟩ => ⟨S_, .f32⟩
  | .hbm, ⟨12, _⟩ => ⟨S_, .f32⟩
  | .hbm, ⟨13, _⟩ => ⟨S16x2048x1024, .f32⟩
  | .hbm, ⟨14, _⟩ => ⟨S16x2048x1024, .f32⟩
  | .hbm, ⟨15, _⟩ => ⟨S32768x1024, .f32⟩
  | .hbm, ⟨16, _⟩ => ⟨S32768x1024, .bf16⟩
  | .hbm, ⟨17, _⟩ => ⟨S_, .i32⟩
  | .hbm, ⟨18, _⟩ => ⟨S_, .f32⟩
  | .hbm, ⟨19, _⟩ => ⟨S16x2560x1024, .f32⟩
  | .hbm, ⟨20, _⟩ => ⟨S16x2560x1024, .bf16⟩
  | .hbm, ⟨21, _⟩ => ⟨S_, .i32⟩
  | .hbm, ⟨22, _⟩ => ⟨S_, .f32⟩
  | .hbm, ⟨23, _⟩ => ⟨S16x2560x1024, .f32⟩
  | .hbm, ⟨24, _⟩ => ⟨S16x1024x2560, .f32⟩
  | .hbm, ⟨25, _⟩ => ⟨S16x1024x2560, .bf16⟩
  | .hbm, ⟨26, _⟩ => ⟨S16x512x1024, .f32⟩
  | .hbm, ⟨27, _⟩ => ⟨S16x512x1024, .f32⟩
  | .hbm, ⟨28, _⟩ => ⟨S2048x16x1024, .f32⟩
  | .hbm, ⟨29, _⟩ => ⟨S2048x16384, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Short.lean ====
abbrev S16x64x2048 : Shape := ⟨3, ![16, 64, 2048]⟩
abbrev S1x2048x4096 : Shape := ⟨3, ![1, 2048, 4096]⟩
abbrev S1024x2048 : Shape := ⟨2, ![1024, 2048]⟩
abbrev S2048x4096 : Shape := ⟨2, ![2048, 4096]⟩
abbrev S1024x1024 : Shape := ⟨2, ![1024, 1024]⟩
abbrev S64x16384 : Shape := ⟨2, ![64, 16384]⟩
abbrev S64x2048 : Shape := ⟨2, ![64, 2048]⟩
abbrev S64x1024 : Shape := ⟨2, ![64, 1024]⟩
abbrev S2048x1024 : Shape := ⟨2, ![2048, 1024]⟩

abbrev nBuf : Space → Nat
  | .hbm => 11
  | .vmem => 15
  | .smem => 0
  | _ => 0

abbrev bufTy : (tb : Table) → Fin (tcTables nBuf tb) → BufTy
  | .hbm, ⟨0, _⟩ => ⟨S16x64x2048, .f32⟩
  | .hbm, ⟨1, _⟩ => ⟨S1x2048x4096, .f32⟩
  | .hbm, ⟨2, _⟩ => ⟨S1024x2048, .f32⟩
  | .hbm, ⟨3, _⟩ => ⟨S2048x4096, .f32⟩
  | .hbm, ⟨4, _⟩ => ⟨S2048x4096, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S64x16384, .f32⟩
  | .local _ .vmem, ⟨0, _⟩ => ⟨S64x2048, .f32⟩
  | .local _ .vmem, ⟨1, _⟩ => ⟨S64x2048, .f32⟩
  | .local _ .vmem, ⟨2, _⟩ => ⟨S2048x4096, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v3_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg0 c1_i32_4
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .slt arg0 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg0 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v9.toNat, v26.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ShortIdeal.lean ====
variable {F : FTy → Type} [FloatOps F] [Named F]
def κ : String → Option EReal := fun
  | "q_scale" => some (((8 * (Real.log 2))⁻¹ : ℝ) : EReal)
  | _ => none
-- ==== ShortRefIdeal.lean ====
abbrev S16x64x2048 : Shape := ⟨3, ![16, 64, 2048]⟩
abbrev S1x2048x4096 : Shape := ⟨3, ![1, 2048, 4096]⟩
abbrev S2048x4096 : Shape := ⟨2, ![2048, 4096]⟩
abbrev S16x64x4096 : Shape := ⟨3, ![16, 64, 4096]⟩
abbrev S16x64x1024 : Shape := ⟨3, ![16, 64, 1024]⟩
abbrev S_ : Shape := ⟨0, ![]⟩
abbrev S1024x1024 : Shape := ⟨2, ![1024, 1024]⟩
abbrev S64x16x1024 : Shape := ⟨3, ![64, 16, 1024]⟩
abbrev S64x16384 : Shape := ⟨2, ![64, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S1x2048x4096, .f32⟩
  | .hbm, ⟨2, _⟩ => ⟨S2048x4096, .f32⟩
  | .hbm, ⟨3, _⟩ => ⟨S16x64x4096, .f32⟩
  | .hbm, ⟨4, _⟩ => ⟨S16x64x1024, .f32⟩
  | .hbm, ⟨5, _⟩ => ⟨S16x64x1024, .f32⟩
  | .hbm, ⟨6, _⟩ => ⟨S16x64x1024, .f32⟩
  | .hbm, ⟨7, _⟩ => ⟨S16x64x1024, .f32⟩
  | .hbm, ⟨8, _⟩ => ⟨S_, .f32⟩
  | .hbm, ⟨9, _⟩ => ⟨S16x64x1024, .f32⟩
  | .hbm, ⟨10, _⟩ => ⟨S16x64x1024, .f32⟩
  | .hbm, ⟨11, _⟩ => ⟨S_, .f32⟩
  | .hbm, ⟨12, _⟩ => ⟨S_, .f32⟩
  | .hbm, ⟨13, _⟩ => ⟨S16x64x1024, .f32⟩
  | .hbm, ⟨14, _⟩ => ⟨S16x64x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .f32⟩
  | .hbm, ⟨23, _⟩ => ⟨S64x16x1024, .f32⟩
  | .hbm, ⟨24, _⟩ => ⟨S64x16384, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Mix.lean ====
abbrev S16x1024x2048 : Shape := ⟨3, ![16, 1024, 2048]⟩
abbrev S2048x16384 : Shape := ⟨2, ![2048, 16384]⟩
abbrev S16x2048x2048 : Shape := ⟨3, ![16, 2048, 2048]⟩
abbrev S1x2048x2048 : Shape := ⟨3, ![1, 2048, 2048]⟩
abbrev S1x2048 : Shape := ⟨2, ![1, 2048]⟩
abbrev S32768x2048 : Shape := ⟨2, ![32768, 2048]⟩
abbrev S2048x2048 : Shape := ⟨2, ![2048, 2048]⟩
abbrev S2048 : Shape := ⟨1, ![2048]⟩
abbrev S2048x32768 : Shape := ⟨2, ![2048, 32768]⟩
abbrev S1x1024x512 : Shape := ⟨3, ![1, 1024, 512]⟩
abbrev S512x1024 : Shape := ⟨2, ![512, 1024]⟩
abbrev S512x2048 : Shape := ⟨2, ![512, 2048]⟩
abbrev S2048x512 : Shape := ⟨2, ![2048, 512]⟩
abbrev S1x1024x256 : Shape := ⟨3, ![1, 1024, 256]⟩
abbrev S1024x256 : Shape := ⟨2, ![1024, 256]⟩
abbrev S1024x2048 : Shape := ⟨2, ![1024, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S2048x256 : Shape := ⟨2, ![2048, 256]⟩

abbrev nBuf : Space → Nat
  | .hbm => 16
  | .vmem => 15
  | .smem => 0
  | _ => 0

abbrev bufTy : (tb : Table) → Fin (tcTables nBuf tb) → BufTy
  | .hbm, ⟨0, _⟩ => ⟨S16x1024x2048, .bf16⟩
  | .hbm, ⟨1, _⟩ => ⟨S2048x16384, .bf16⟩
  | .hbm, ⟨2, _⟩ => ⟨S16x2048x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S32768x2048, .f32⟩
  | .hbm, ⟨7, _⟩ => ⟨S2048x2048, .f32⟩
  | .hbm, ⟨8, _⟩ => ⟨S2048x2048, .bf16⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S32768x2048, .f32⟩
  | .hbm, ⟨14, _⟩ => ⟨S32768x2048, .bf16⟩
  | .hbm, ⟨15, _⟩ => ⟨S2048x32768, .bf16⟩
  | .local _ .vmem, ⟨0, _⟩ => ⟨S1x1024x512, .bf16⟩
  | .local _ .vmem, ⟨1, _⟩ => ⟨S1x1024x512, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S2048x512, .bf16⟩
  | .local _ .vmem, ⟨14, _⟩ => ⟨S2048x512, .bf16⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixIdeal.lean ====
variable {F : FTy → Type} [FloatOps F] [Named F]
def κ : String → Option EReal := fun
  | "alpha" => some ((Real.sqrt (Real.sqrt 2) : ℝ) : EReal)
  | _ => none
-- ==== MixRefIdeal.lean ====
abbrev S16x1024x2048 : Shape := ⟨3, ![16, 1024, 2048]⟩
abbrev S2048x16384 : Shape := ⟨2, ![2048, 16384]⟩
abbrev S16x2048x2048 : Shape := ⟨3, ![16, 2048, 2048]⟩
abbrev S1x2048x2048 : Shape := ⟨3, ![1, 2048, 2048]⟩
abbrev S1x2048 : Shape := ⟨2, ![1, 2048]⟩
abbrev S16x2048x1024 : Shape := ⟨3, ![16, 2048, 1024]⟩
abbrev S2048x16x1024 : Shape := ⟨3, ![2048, 16, 1024]⟩
abbrev S2048x2048 : Shape := ⟨2, ![2048, 2048]⟩
abbrev S_ : Shape := ⟨0, ![]⟩
abbrev S16x2048 : Shape := ⟨2, ![16, 2048]⟩
abbrev S16x2048x1 : Shape := ⟨3, ![16, 2048, 1]⟩
abbrev S2048 : Shape := ⟨1, ![2048]⟩
abbrev S1x1x2048 : Shape := ⟨3, ![1, 1, 2048]⟩
abbrev S32768x2048 : Shape := ⟨2, ![32768, 2048]⟩
abbrev S2048x32768 : Shape := ⟨2, ![2048, 32768]⟩

abbrev nBuf : Space → Nat
  | .hbm => 55
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S2048x16384, .bf16⟩
  | .hbm, ⟨2, _⟩ => ⟨S16x2048x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S16x1024x2048, .f32⟩
  | .hbm, ⟨7, _⟩ => ⟨S16x2048x1024, .f32⟩
  | .hbm, ⟨8, _⟩ => ⟨S2048x16384, .f32⟩
  | .hbm, ⟨9, _⟩ => ⟨S2048x16x1024, .f32⟩
  | .hbm, ⟨10, _⟩ => ⟨S16x2048x1024, .f32⟩
  | .hbm, ⟨11, _⟩ => ⟨S16x2048x2048, .f32⟩
  | .hbm, ⟨12, _⟩ => ⟨S2048x2048, .f32⟩
  | .hbm, ⟨13, _⟩ => ⟨S16x2048x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S2048, .f32⟩
  | .hbm, ⟨44, _⟩ => ⟨S1x1x2048, .f32⟩
  | .hbm, ⟨45, _⟩ => ⟨S16x2048x2048, .f32⟩
  | .hbm, ⟨46, _⟩ => ⟨S16x2048x2048, .f32⟩
  | .hbm, ⟨47, _⟩ => ⟨S2048, .f32⟩
  | .hbm, ⟨48, _⟩ => ⟨S1x1x2048, .f32⟩
  | .hbm, ⟨49, _⟩ => ⟨S16x2048x2048, .f32⟩
  | .hbm, ⟨50, _⟩ => ⟨S16x2048x2048, .f32⟩
  | .hbm, ⟨51, _⟩ => ⟨S32768x2048, .f32⟩
  | .hbm, ⟨52, _⟩ => ⟨S32768x2048, .bf16⟩
  | .hbm, ⟨53, _⟩ => ⟨S2048x32768, .f32⟩
  | .hbm, ⟨54, _⟩ => ⟨S2048x32768, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Norm.lean ====
abbrev S32768x2048 : Shape := ⟨2, ![32768, 2048]⟩
abbrev S2048x32768 : Shape := ⟨2, ![2048, 32768]⟩
abbrev S1x2048 : Shape := ⟨2, ![1, 2048]⟩
abbrev S2048 : Shape := ⟨1, ![2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x32768, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormIdeal.lean ====
abbrev S32768x2048 : Shape := ⟨2, ![32768, 2048]⟩
abbrev S2048x32768 : Shape := ⟨2, ![2048, 32768]⟩
abbrev S1x2048 : Shape := ⟨2, ![1, 2048]⟩
abbrev S2048 : Shape := ⟨1, ![2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x32768, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F] [Named F]

def κ : String → Option EReal := fun
  | "alpha" => some ((Real.sqrt (Real.sqrt 2) : ℝ) : EReal)
  | _ => none

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S32768x2048 : Shape := ⟨2, ![32768, 2048]⟩
abbrev S2048x32768 : Shape := ⟨2, ![2048, 32768]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x32768, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S2048, .f32⟩
  | .hbm, ⟨39, _⟩ => ⟨S1x2048, .f32⟩
  | .hbm, ⟨40, _⟩ => ⟨S32768x2048, .f32⟩
  | .hbm, ⟨41, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Last.lean ====
abbrev S1024x2048 : Shape := ⟨2, ![1024, 2048]⟩
abbrev S2048x1024 : Shape := ⟨2, ![2048, 1024]⟩
abbrev S1x2048 : Shape := ⟨2, ![1, 2048]⟩
abbrev S2048 : Shape := ⟨1, ![2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048x1024, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastIdeal.lean ====
variable {F : FTy → Type} [FloatOps F] [Named F]
def κ : String → Option EReal := fun
  | "alpha" => some ((Real.sqrt (Real.sqrt 2) : ℝ) : EReal)
  | _ => none
-- ==== LastRefIdeal.lean ====
abbrev S1024x2048 : Shape := ⟨2, ![1024, 2048]⟩
abbrev S2048x1024 : Shape := ⟨2, ![2048, 1024]⟩
abbrev S1x2048 : Shape := ⟨2, ![1, 2048]⟩
abbrev S_ : Shape := ⟨0, ![]⟩
abbrev S1024 : Shape := ⟨1, ![1024]⟩
abbrev S1024x1 : Shape := ⟨2, ![1024, 1]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x1024, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x2048, .f32⟩
  | .hbm, ⟨33, _⟩ => ⟨S1024x2048, .f32⟩
  | .hbm, ⟨34, _⟩ => ⟨S2048, .f32⟩
  | .hbm, ⟨35, _⟩ => ⟨S1x2048, .f32⟩
  | .hbm, ⟨36, _⟩ => ⟨S1024x2048, .f32⟩
  | .hbm, ⟨37, _⟩ => ⟨S1024x2048, .f32⟩
  | .hbm, ⟨38, _⟩ => ⟨S2048, .f32⟩
  | .hbm, ⟨39, _⟩ => ⟨S1x2048, .f32⟩
  | .hbm, ⟨40, _⟩ => ⟨S1024x2048, .f32⟩
  | .hbm, ⟨41, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Prep.lean ====
abbrev S1x64x64 : Shape := ⟨3, ![1, 64, 64]⟩
abbrev S1x64 : Shape := ⟨2, ![1, 64]⟩
abbrev S1x64x64x16 : Shape := ⟨4, ![1, 64, 64, 16]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S64x1x64 : Shape := ⟨3, ![64, 1, 64]⟩

abbrev nBuf : Space → Nat
  | .hbm => 17
  | .vmem => 9
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64x16, .f32⟩
  | .hbm, ⟨9, _⟩ => ⟨S64x16x64, .f32⟩
  | .hbm, ⟨10, _⟩ => ⟨S64x64x16, .f32⟩
  | .hbm, ⟨11, _⟩ => ⟨S64x16x64, .f32⟩
  | .hbm, ⟨12, _⟩ => ⟨S64x1, .f32⟩
  | .hbm, ⟨13, _⟩ => ⟨S64x64, .f32⟩
  | .hbm, ⟨14, _⟩ => ⟨S64x64, .f32⟩
  | .hbm, ⟨15, _⟩ => ⟨S64x16x64, .f32⟩
  | .hbm, ⟨16, _⟩ => ⟨S64x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x64, .f32⟩
  | .local _ .vmem, ⟨6, _⟩ => ⟨S64x64, .f32⟩
  | .local _ .vmem, ⟨7, _⟩ => ⟨S64x16x64, .f32⟩
  | .local _ .vmem, ⟨8, _⟩ => ⟨S64x16x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrepRefIdeal.lean ====
abbrev S1x64x64 : Shape := ⟨3, ![1, 64, 64]⟩
abbrev S1x64 : Shape := ⟨2, ![1, 64]⟩
abbrev S1x64x64x16 : Shape := ⟨4, ![1, 64, 64, 16]⟩
abbrev S64 : Shape := ⟨1, ![64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S64x64x16 : Shape := ⟨3, ![64, 64, 16]⟩
abbrev S64x16x64 : Shape := ⟨3, ![64, 16, 64]⟩

abbrev nBuf : Space → Nat
  | .hbm => 60
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S64, .f32⟩
  | .hbm, ⟨6, _⟩ => ⟨S64, .f32⟩
  | .hbm, ⟨7, _⟩ => ⟨S64x1, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64x1, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64x1, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x16, .f32⟩
  | .hbm, ⟨54, _⟩ => ⟨S64x64x16, .f32⟩
  | .hbm, ⟨55, _⟩ => ⟨S64x64x16, .f32⟩
  | .hbm, ⟨56, _⟩ => ⟨S64x64x16, .f32⟩
  | .hbm, ⟨57, _⟩ => ⟨S64x64x16, .f32⟩
  | .hbm, ⟨58, _⟩ => ⟨S64x16x64, .f32⟩
  | .hbm, ⟨59, _⟩ => ⟨S64x16x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== MixShort.lean ====
abbrev S16x1024x64 : Shape := ⟨3, ![16, 1024, 64]⟩
abbrev S64x16384 : Shape := ⟨2, ![64, 16384]⟩
abbrev S16x64x2048 : Shape := ⟨3, ![16, 64, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S1x1024x64 : Shape := ⟨3, ![1, 1024, 64]⟩
abbrev S64x1024 : Shape := ⟨2, ![64, 1024]⟩
abbrev S64x2048 : Shape := ⟨2, ![64, 2048]⟩
abbrev S1024x64 : Shape := ⟨2, ![1024, 64]⟩
abbrev S64 : Shape := ⟨1, ![64]⟩
abbrev S64x1 : Shape := ⟨2, ![64, 1]⟩

abbrev nBuf : Space → Nat
  | .hbm => 15
  | .vmem => 13
  | .smem => 0
  | _ => 0

abbrev bufTy : (tb : Table) → Fin (tcTables nBuf tb) → BufTy
  | .hbm, ⟨0, _⟩ => ⟨S16x1024x64, .bf16⟩
  | .hbm, ⟨1, _⟩ => ⟨S64x16384, .bf16⟩
  | .hbm, ⟨2, _⟩ => ⟨S16x64x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1024x2048, .f32⟩
  | .hbm, ⟨7, _⟩ => ⟨S2048x2048, .f32⟩
  | .hbm, ⟨8, _⟩ => ⟨S2048x2048, .bf16⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S1024x2048, .f32⟩
  | .hbm, ⟨14, _⟩ => ⟨S1024x2048, .bf16⟩
  | .local _ .vmem, ⟨0, _⟩ => ⟨S1x1024x64, .bf16⟩
  | .local _ .vmem, ⟨1, _⟩ => ⟨S1x1024x64, .bf16⟩
  | .local _ .vmem, ⟨2, _⟩ => ⟨S64x1024, .bf16⟩
  | .local _ .vmem, ⟨3, _⟩ => ⟨S64x1024, .bf16⟩
  | .local _ .vmem, ⟨4, _⟩ => ⟨S64x2048, .f32⟩
  | .local _ .vmem, ⟨5, _⟩ => ⟨S64x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .bf16⟩
  | .local _ .vmem, ⟨12, _⟩ => ⟨S64x2048, .bf16⟩
  | _, _ => ⟨S16x1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg0 c1_i32_4
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .slt arg0 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg0 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v9.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixShortIdeal.lean ====
variable {F : FTy → Type} [FloatOps F] [Named F]
def κ : String → Option EReal := fun
  | "alpha" => some ((Real.sqrt (Real.sqrt 2) : ℝ) : EReal)
  | _ => none
-- ==== MixShortRefIdeal.lean ====
abbrev S16x1024x64 : Shape := ⟨3, ![16, 1024, 64]⟩
abbrev S64x16384 : Shape := ⟨2, ![64, 16384]⟩
abbrev S16x64x2048 : Shape := ⟨3, ![16, 64, 2048]⟩
abbrev S1x2048x2048 : Shape := ⟨3, ![1, 2048, 2048]⟩
abbrev S1x2048 : Shape := ⟨2, ![1, 2048]⟩
abbrev S16x64x1024 : Shape := ⟨3, ![16, 64, 1024]⟩
abbrev S64x16x1024 : Shape := ⟨3, ![64, 16, 1024]⟩
abbrev S2048x2048 : Shape := ⟨2, ![2048, 2048]⟩
abbrev S_ : Shape := ⟨0, ![]⟩
abbrev S16x64 : Shape := ⟨2, ![16, 64]⟩
abbrev S16x64x1 : Shape := ⟨3, ![16, 64, 1]⟩
abbrev S2048 : Shape := ⟨1, ![2048]⟩
abbrev S1x1x2048 : Shape := ⟨3, ![1, 1, 2048]⟩
abbrev S1024x2048 : Shape := ⟨2, ![1024, 2048]⟩
abbrev S2048x1024 : Shape := ⟨2, ![2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x1024x64, .bf16⟩
  | .hbm, ⟨1, _⟩ => ⟨S64x16384, .bf16⟩
  | .hbm, ⟨2, _⟩ => ⟨S16x64x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S16x1024x64, .f32⟩
  | .hbm, ⟨7, _⟩ => ⟨S16x64x1024, .f32⟩
  | .hbm, ⟨8, _⟩ => ⟨S64x16384, .f32⟩
  | .hbm, ⟨9, _⟩ => ⟨S64x16x1024, .f32⟩
  | .hbm, ⟨10, _⟩ => ⟨S16x64x1024, .f32⟩
  | .hbm, ⟨11, _⟩ => ⟨S16x64x2048, .f32⟩
  | .hbm, ⟨12, _⟩ => ⟨S2048x2048, .f32⟩
  | .hbm, ⟨13, _⟩ => ⟨S16x64x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x64x2048, .f32⟩
  | .hbm, ⟨18, _⟩ => ⟨S16x64x2048, .f32⟩
  | .hbm, ⟨19, _⟩ => ⟨S16x64x2048, .f32⟩
  | .hbm, ⟨20, _⟩ => ⟨S_, .f32⟩
  | .hbm, ⟨21, _⟩ => ⟨S16x64, .f32⟩
  | .hbm, ⟨22, _⟩ => ⟨S16x64x1, .f32⟩
  | .hbm, ⟨23, _⟩ => ⟨S_, .f32⟩
  | .hbm, ⟨24, _⟩ => ⟨S16x64x1, .f32⟩
  | .hbm, ⟨25, _⟩ => ⟨S16x64x1, .f32⟩
  | .hbm, ⟨26, _⟩ => ⟨S16x64x2048, .f32⟩
  | .hbm, ⟨27, _⟩ => ⟨S16x64x2048, .f32⟩
  | .hbm, ⟨28, _⟩ => ⟨S16x64x2048, .f32⟩
  | .hbm, ⟨29, _⟩ => ⟨S_, .f32⟩
  | .hbm, ⟨30, _⟩ => ⟨S16x64, .f32⟩
  | .hbm, ⟨31, _⟩ => ⟨S16x64x1, .f32⟩
  | .hbm, ⟨32, _⟩ => ⟨S_, .f32⟩
  | .hbm, ⟨33, _⟩ => ⟨S16x64x1, .f32⟩
  | .hbm, ⟨34, _⟩ => ⟨S16x64x1, .f32⟩
  | .hbm, ⟨35, _⟩ => ⟨S16x64x2048, .f32⟩
  | .hbm, ⟨36, _⟩ => ⟨S16x64x2048, .f32⟩
  | .hbm, ⟨37, _⟩ => ⟨S_, .f32⟩
  | .hbm, ⟨38, _⟩ => ⟨S16x64x1, .f32⟩
  | .hbm, ⟨39, _⟩ => ⟨S16x64x1, .f32⟩
  | .hbm, ⟨40, _⟩ => ⟨S16x64x1, .f32⟩
  | .hbm, ⟨41, _⟩ => ⟨S16x64x2048, .f32⟩
  | .hbm, ⟨42, _⟩ => ⟨S16x64x2048, .f32⟩
  | .hbm, ⟨43, _⟩ => ⟨S2048, .f32⟩
  | .hbm, ⟨44, _⟩ => ⟨S1x1x2048, .f32⟩
  | .hbm, ⟨45, _⟩ => ⟨S16x64x2048, .f32⟩
  | .hbm, ⟨46, _⟩ => ⟨S16x64x2048, .f32⟩
  | .hbm, ⟨47, _⟩ => ⟨S2048, .f32⟩
  | .hbm, ⟨48, _⟩ => ⟨S1x1x2048, .f32⟩
  | .hbm, ⟨49, _⟩ => ⟨S16x64x2048, .f32⟩
  | .hbm, ⟨50, _⟩ => ⟨S16x64x2048, .f32⟩
  | .hbm, ⟨51, _⟩ => ⟨S1024x2048, .f32⟩
  | .hbm, ⟨52, _⟩ => ⟨S1024x2048, .bf16⟩
  | .hbm, ⟨53, _⟩ => ⟨S2048x1024, .f32⟩
  | .hbm, ⟨54, _⟩ => ⟨S2048x1024, .bf16⟩
  | _, _ => ⟨S16x1024x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Chunk.lean ====
abbrev S1024x1024 : Shape := ⟨2, ![1024, 1024]⟩
abbrev S16x576x1024 : Shape := ⟨3, ![16, 576, 1024]⟩
abbrev S16x1024x576 : Shape := ⟨3, ![16, 1024, 576]⟩
abbrev S1x16x257 : Shape := ⟨3, ![1, 16, 257]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S16x257 : Shape := ⟨2, ![16, 257]⟩
abbrev S16x1 : Shape := ⟨2, ![16, 1]⟩
abbrev S16x1x447 : Shape := ⟨3, ![16, 1, 447]⟩
abbrev S16x447 : Shape := ⟨2, ![16, 447]⟩
abbrev S16x1x0 : Shape := ⟨3, ![16, 1, 0]⟩
abbrev S16x0 : Shape := ⟨2, ![16, 0]⟩
abbrev S16x704 : Shape := ⟨2, ![16, 704]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S16x1x1 : Shape := ⟨3, ![16, 1, 1]⟩
abbrev S_ : Shape := ⟨0, ![]⟩
abbrev S16x576x64 : Shape := ⟨3, ![16, 576, 64]⟩
abbrev S16x576x1x64 : Shape := ⟨4, ![16, 576, 1, 64]⟩
abbrev S8x2x576x64 : Shape := ⟨4, ![8, 2, 576, 64]⟩
abbrev S8x576x2x64 : Shape := ⟨4, ![8, 576, 2, 64]⟩
abbrev S8x576x128 : Shape := ⟨3, ![8, 576, 128]⟩
abbrev S16x1024x64 : Shape := ⟨3, ![16, 1024, 64]⟩
abbrev S64x1024 : Shape := ⟨2, ![64, 1024]⟩
abbrev S1x576x1024 : Shape := ⟨3, ![1, 576, 1024]⟩
abbrev S1x1024x576 : Shape := ⟨3, ![1, 1024, 576]⟩
abbrev S1x1024x64 : Shape := ⟨3, ![1, 1024, 64]⟩
abbrev S64x128 : Shape := ⟨2, ![64, 128]⟩
abbrev S1x64 : Shape := ⟨2, ![1, 64]⟩
abbrev S128x128 : Shape := ⟨2, ![128, 128]⟩
abbrev S1x384x128 : Shape := ⟨3, ![1, 384, 128]⟩
abbrev S384x128 : Shape := ⟨2, ![384, 128]⟩
abbrev S1x192x128 : Shape := ⟨3, ![1, 192, 128]⟩
abbrev S192x128 : Shape := ⟨2, ![192, 128]⟩
abbrev S576x128 : Shape := ⟨2, ![576, 128]⟩
abbrev S576x1024 : Shape := ⟨2, ![576, 1024]⟩
abbrev S384x1024 : Shape := ⟨2, ![384, 1024]⟩
abbrev S192x1024 : Shape := ⟨2, ![192, 1024]⟩
abbrev S1x128x384 : Shape := ⟨3, ![1, 128, 384]⟩
abbrev S128x384 : Shape := ⟨2, ![128, 384]⟩
abbrev S1x128x192 : Shape := ⟨3, ![1, 128, 192]⟩
abbrev S128x192 : Shape := ⟨2, ![128, 192]⟩
abbrev S1x128 : Shape := ⟨2, ![1, 128]⟩
abbrev S64x64 : Shape := ⟨2, ![64, 64]⟩
abbrev S128x64 : Shape := ⟨2, ![128, 64]⟩
abbrev S64 : Shape := ⟨1, ![64]⟩
abbrev S1x128x64 : Shape := ⟨3, ![1, 128, 64]⟩

abbrev nBuf : Space → Nat
  | .hbm => 167
  | .vmem => 10
  | .smem => 0
  | _ => 0

abbrev hbmTy0_0 (i : Nat) : BufTy := match i % 128 with
  | 0 => ⟨S1024x1024, .bf16⟩
  | 1 => ⟨S16x576x1024, .bf16⟩
  | 2 => ⟨S16x1024x576, .bf16⟩
  | 3 => ⟨S1x16x257, .f32⟩
  | 4 => ⟨S1x1024, .f32⟩
  | 5 => ⟨S1024, .f32⟩
  | 6 => ⟨S1024x1, .f32⟩
  | 7 => ⟨S1024x128, .f32⟩
  | 8 => ⟨S16x257, .f32⟩
  | 9 => ⟨S16x1, .f32⟩
  | 10 => ⟨S16x1x447, .f32⟩
  | 11 => ⟨S16x447, .f32⟩
  | 12 => ⟨S16x1, .f32⟩
  | 13 => ⟨S16x1x0, .f32⟩
  | 14 => ⟨S16x0, .f32⟩
  | 15 => ⟨S16x704, .f32⟩
  | 16 => ⟨S16x576, .f32⟩
  | 17 => ⟨S16x576, .f32⟩
  | 18 => ⟨S16x576, .f32⟩
  | 19 => ⟨S16x576, .f32⟩
  | 20 => ⟨S16x576, .f32⟩
  | 21 => ⟨S16x576, .f32⟩
  | 22 => ⟨S16x576, .f32⟩
  | 23 => ⟨S16x576, .f32⟩
  | 24 => ⟨S16x576, .f32⟩
  | 25 => ⟨S16x576, .f32⟩
  | 26 => ⟨S16x576, .f32⟩
  | 27 => ⟨S16x576, .f32⟩
  | 28 => ⟨S16x576, .f32⟩
  | 29 => ⟨S16x576, .f32⟩
  | 30 => ⟨S16x576, .f32⟩
  | 31 => ⟨S16x576, .f32⟩
  | 32 => ⟨S16x576, .f32⟩
  | 33 => ⟨S16x576, .f32⟩
  | 34 => ⟨S16x576, .f32⟩
  | 35 => ⟨S16x576, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x1x576, .f32⟩
  | 81 => ⟨S16x1x576, .f32⟩
  | 82 => ⟨S16x1x576, .f32⟩
  | 83 => ⟨S16x1x576, .f32⟩
  | 84 => ⟨S16x1x576, .f32⟩
  | 85 => ⟨S16x1x576, .f32⟩
  | 86 => ⟨S16x1x576, .f32⟩
  | 87 => ⟨S16x1x576, .f32⟩
  | 88 => ⟨S16x1x576, .f32⟩
  | 89 => ⟨S16x1x576, .f32⟩
  | 90 => ⟨S16x1x576, .f32⟩
  | 91 => ⟨S16x1x576, .f32⟩
  | 92 => ⟨S16x1x576, .f32⟩
  | 93 => ⟨S16x1x576, .f32⟩
  | 94 => ⟨S16x1x576, .f32⟩
  | 95 => ⟨S16x1x576, .f32⟩
  | 96 => ⟨S16x1x576, .f32⟩
  | 97 => ⟨S16x1x576, .f32⟩
  | 98 => ⟨S16x1x576, .f32⟩
  | 99 => ⟨S16x1x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S1024x1024, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x16x576, .f32⟩
  | 17 => ⟨S16x16x576, .f32⟩
  | 18 => ⟨S16x16x576, .f32⟩
  | 19 => ⟨S16x16x576, .f32⟩
  | 20 => ⟨S16x64x576, .f32⟩
  | 21 => ⟨S16x1x1, .f32⟩
  | 22 => ⟨S16x64x576, .f32⟩
  | 23 => ⟨S16x64x576, .f32⟩
  | 24 => ⟨S_, .f32⟩
  | 25 => ⟨S_, .f32⟩
  | 26 => ⟨S_, .f32⟩
  | 27 => ⟨S_, .f32⟩
  | 28 => ⟨S16x64x576, .f32⟩
  | 29 => ⟨S16x64x576, .f32⟩
  | 30 => ⟨S16x576x64, .f32⟩
  | 31 => ⟨S_, .f32⟩
  | 32 => ⟨S_, .f32⟩
  | 33 => ⟨S16x576x64, .f32⟩
  | 34 => ⟨S16x576x1x64, .f32⟩
  | 35 => ⟨S8x2x576x64, .f32⟩
  | 36 => ⟨S8x576x2x64, .f32⟩
  | 37 => ⟨S8x576x128, .f32⟩
  | 38 => ⟨S16x1024x64, .bf16⟩
  | _ => ⟨S1024x1024, .bf16⟩

abbrev hbmTy (i : Nat) : BufTy := match i / 128 with
  | 0 => hbmTy0_0 i
  | 1 => hbmTy0_1 i
  | _ => ⟨S1024x1024, .bf16⟩

abbrev bufTy : (tb : Table) → Fin (tcTables nBuf tb) → BufTy
  | .hbm, ⟨i, _⟩ => hbmTy i
  | .local _ .vmem, ⟨0, _⟩ => ⟨S64x1024, .bf16⟩
  | .local _ .vmem, ⟨1, _⟩ => ⟨S64x1024, .bf16⟩
  | .local _ .vmem, ⟨2, _⟩ => ⟨S1x576x1024, .bf16⟩
  | .local _ .vmem, ⟨3, _⟩ => ⟨S1x576x1024, .bf16⟩
  | .local _ .vmem, ⟨4, _⟩ => ⟨S1x1024x576, .bf16⟩
  | .local _ .vmem, ⟨5, _⟩ => ⟨S1x1024x576, .bf16⟩
  | .local _ .vmem, ⟨6, _⟩ => ⟨S8x576x128, .f32⟩
  | .local _ .vmem, ⟨7, _⟩ => ⟨S1024x128, .f32⟩
  | .local _ .vmem, ⟨8, _⟩ => ⟨S1x1024x64, .bf16⟩
  | .local _ .vmem, ⟨9, _⟩ => ⟨S1x1024x64, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_cst : Ref sig .tc := ⟨.hbm, 152, rfl⟩
abbrev main_v147 : Ref sig .tc := ⟨.hbm, 153, rfl⟩
abbrev main_cst_0 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_cst_1 : Ref sig .tc := ⟨.hbm, 159, rfl⟩
abbrev main_call0_v0 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x576x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x576x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ChunkRefIdeal.lean ====
abbrev S1024x1024 : Shape := ⟨2, ![1024, 1024]⟩
abbrev S16x576x1024 : Shape := ⟨3, ![16, 576, 1024]⟩
abbrev S16x1024x576 : Shape := ⟨3, ![16, 1024, 576]⟩
abbrev S1x16x257 : Shape := ⟨3, ![1, 16, 257]⟩
abbrev S1x1024 : Shape := ⟨2, ![1, 1024]⟩
abbrev S16x64x16x64 : Shape := ⟨4, ![16, 64, 16, 64]⟩
abbrev S16x576x16x64 : Shape := ⟨4, ![16, 576, 16, 64]⟩
abbrev S576 : Shape := ⟨1, ![576]⟩
abbrev S1x576 : Shape := ⟨2, ![1, 576]⟩
abbrev S_ : Shape := ⟨0, ![]⟩
abbrev S64 : Shape := ⟨1, ![64]⟩
abbrev S64x1 : Shape := ⟨2, ![64, 1]⟩
abbrev S64x576 : Shape := ⟨2, ![64, 576]⟩
abbrev S16x257 : Shape := ⟨2, ![16, 257]⟩
abbrev S64x576x1 : Shape := ⟨3, ![64, 576, 1]⟩
abbrev S16x64x576 : Shape := ⟨3, ![16, 64, 576]⟩
abbrev S16x16x64x576 : Shape := ⟨4, ![16, 16, 64, 576]⟩
abbrev S1x16x64x576 : Shape := ⟨4, ![1, 16, 64, 576]⟩
abbrev S16x16x64 : Shape := ⟨3, ![16, 16, 64]⟩
abbrev S16x16x64x1 : Shape := ⟨4, ![16, 16, 64, 1]⟩
abbrev S16x16x64x64 : Shape := ⟨4, ![16, 16, 64, 64]⟩
abbrev S16x64x1024 : Shape := ⟨3, ![16, 64, 1024]⟩
abbrev S16x64 : Shape := ⟨2, ![16, 64]⟩
abbrev S16x64x1 : Shape := ⟨3, ![16, 64, 1]⟩
abbrev S1024 : Shape := ⟨1, ![1024]⟩
abbrev S1x1x1024 : Shape := ⟨3, ![1, 1, 1024]⟩
abbrev S16x1024x64 : Shape := ⟨3, ![16, 1024, 64]⟩

abbrev nBuf : Space → Nat
  | .hbm => 87
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S16x576x1024, .bf16⟩
  | .hbm, ⟨2, _⟩ => ⟨S16x1024x576, .bf16⟩
  | .hbm, ⟨3, _⟩ => ⟨S1x16x257, .f32⟩
  | .hbm, ⟨4, _⟩ => ⟨S1x1024, .f32⟩
  | .hbm, ⟨5, _⟩ => ⟨S1024x1024, .f32⟩
  | .hbm, ⟨6, _⟩ => ⟨S16x64x16x64, .f32⟩
  | .hbm, ⟨7, _⟩ => ⟨S16x576x1024, .f32⟩
  | .hbm, ⟨8, _⟩ => ⟨S16x576x16x64, .f32⟩
  | .hbm, ⟨9, _⟩ => ⟨S16x1024x576, .f32⟩
  | .hbm, ⟨10, _⟩ => ⟨S16x576x1024, .f32⟩
  | .hbm, ⟨11, _⟩ => ⟨S16x576x16x64, .f32⟩
  | .hbm, ⟨12, _⟩ => ⟨S576, .i32⟩
  | .hbm, ⟨13, _⟩ => ⟨S1x576, .i32⟩
  | .hbm, ⟨14, _⟩ => ⟨S_, .i32⟩
  | .hbm, ⟨15, _⟩ => ⟨S1x576, .i32⟩
  | .hbm, ⟨16, _⟩ => ⟨S1x576, .i32⟩
  | .hbm, ⟨17, _⟩ => ⟨S64, .i32⟩
  | .hbm, ⟨18, _⟩ => ⟨S64x1, .i32⟩
  | .hbm, ⟨19, _⟩ => ⟨S64x576, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S16x257, .f32⟩
  | .hbm, ⟨34, _⟩ => ⟨S_, .i32⟩
  | .hbm, ⟨35, _⟩ => ⟨S64x576, .i32⟩
  | .hbm, ⟨36, _⟩ => ⟨S64x576, .i1⟩
  | .hbm, ⟨37, _⟩ => ⟨S_, .i32⟩
  | .hbm, ⟨38, _⟩ => ⟨S64x576, .i32⟩
  | .hbm, ⟨39, _⟩ => ⟨S64x576, .i32⟩
  | .hbm, ⟨40, _⟩ => ⟨S64x576, .i32⟩
  | .hbm, ⟨41, _⟩ => ⟨S64x576x1, .i32⟩
  | .hbm, ⟨42, _⟩ => ⟨S16x64x576, .f32⟩
  | .hbm, ⟨43, _⟩ => ⟨S16x16x64x576, .f32⟩
  | .hbm, ⟨44, _⟩ => ⟨S_, .f32⟩
  | .hbm, ⟨45, _⟩ => ⟨S_, .f32⟩
  | .hbm, ⟨46, _⟩ => ⟨S16x16x64x576, .f32⟩
  | .hbm, ⟨47, _⟩ => ⟨S16x16x64x576, .f32⟩
  | .hbm, ⟨48, _⟩ => ⟨S1x16x64x576, .f32⟩
  | .hbm, ⟨49, _⟩ => ⟨S16x16x64x576, .f32⟩
  | .hbm, ⟨50, _⟩ => ⟨S16x16x64x576, .f32⟩
  | .hbm, ⟨51, _⟩ => ⟨S_, .f32⟩
  | .hbm, ⟨52, _⟩ => ⟨S16x16x64, .f32⟩
  | .hbm, ⟨53, _⟩ => ⟨S_, .f32⟩
  | .hbm, ⟨54, _⟩ => ⟨S16x16x64, .f32⟩
  | .hbm, ⟨55, _⟩ => ⟨S16x16x64, .f32⟩
  | .hbm, ⟨56, _⟩ => ⟨S16x16x64x1, .f32⟩
  | .hbm, ⟨57, _⟩ => ⟨S16x16x64x576, .f32⟩
  | .hbm, ⟨58, _⟩ => ⟨S16x16x64x576, .f32⟩
  | .hbm, ⟨59, _⟩ => ⟨S16x16x64x576, .f32⟩
  | .hbm, ⟨60, _⟩ => ⟨S_, .f32⟩
  | .hbm, ⟨61, _⟩ => ⟨S16x16x64, .f32⟩
  | .hbm, ⟨62, _⟩ => ⟨S16x16x64x1, .f32⟩
  | .hbm, ⟨63, _⟩ => ⟨S16x16x64x576, .f32⟩
  | .hbm, ⟨64, _⟩ => ⟨S16x16x64x576, .f32⟩
  | .hbm, ⟨65, _⟩ => ⟨S16x16x64x64, .f32⟩
  | .hbm, ⟨66, _⟩ => ⟨S16x64x16x64, .f32⟩
  | .hbm, ⟨67, _⟩ => ⟨S16x64x1024, .f32⟩
  | .hbm, ⟨68, _⟩ => ⟨S16x64x1024, .f32⟩
  | .hbm, ⟨69, _⟩ => ⟨S_, .f32⟩
  | .hbm, ⟨70, _⟩ => ⟨S16x64, .f32⟩
  | .hbm, ⟨71, _⟩ => ⟨S16x64x1, .f32⟩
  | .hbm, ⟨72, _⟩ => ⟨S_, .f32⟩
  | .hbm, ⟨73, _⟩ => ⟨S16x64x1, .f32⟩
  | .hbm, ⟨74, _⟩ => ⟨S16x64x1, .f32⟩
  | .hbm, ⟨75, _⟩ => ⟨S_, .f32⟩
  | .hbm, ⟨76, _⟩ => ⟨S16x64x1, .f32⟩
  | .hbm, ⟨77, _⟩ => ⟨S16x64x1, .f32⟩
  | .hbm, ⟨78, _⟩ => ⟨S16x64x1, .f32⟩
  | .hbm, ⟨79, _⟩ => ⟨S16x64x1024, .f32⟩
  | .hbm, ⟨80, _⟩ => ⟨S16x64x1024, .f32⟩
  | .hbm, ⟨81, _⟩ => ⟨S1024, .f32⟩
  | .hbm, ⟨82, _⟩ => ⟨S1x1x1024, .f32⟩
  | .hbm, ⟨83, _⟩ => ⟨S16x64x1024, .f32⟩
  | .hbm, ⟨84, _⟩ => ⟨S16x64x1024, .f32⟩
  | .hbm, ⟨85, _⟩ => ⟨S16x1024x64, .f32⟩
  | .hbm, ⟨86, _⟩ => ⟨S16x1024x64, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Proof.Trip.lean ====
/- One trip of the attention kernel's loops, in words of its own.

A trip takes one tile of 128 query rows. Its head pairs `i < 8` are treated alike: this module names
what is computed of one pair, joins the eight pairs, and says that the pieces a trip stores, in
either loop, are these. -/
module

public import proofs.«01_k».proof.Proof.Gen.KernelIdeal.Value
public import Idealize.ShloMosaic.Lib.Pointwise

@[expose] public section

set_option maxRecDepth 16384

noncomputable section

namespace Cert.KernelIdeal.Trip

open Cert.KernelIdeal Cert.KernelIdeal.Gen Idealize.ShloMosaic Idealize.ShloMosaic.TcCoe Idealize.SL.Sem

variable {F : FTy → Type} [FloatOps F] [Named F]

/-- What one trip loads: per head pair, a query tile, the key rows in two parts, the last and first
    rows of the bias band, the value columns in two parts, and the gains. -/
structure Loads (F : FTy → Type) where
  q : Fin 8 → Vec F S128x128 .bf16
  ka : Fin 8 → Vec F S1x384x128 .bf16
  kb : Fin 8 → Vec F S1x256x128 .bf16
  bhi : Fin 8 → Vec F S1x256x256 .f32
  blo : Fin 8 → Vec F S1x64x256 .f32
  va : Fin 8 → Vec F S1x128x384 .bf16
  vb : Fin 8 → Vec F S1x128x256 .bf16
  g : Fin 8 → Vec F S128x128 .f32

/-- Eight blocks of columns side by side. -/
def beside {s : Shape} (t : Shape) (a : Fin t.rank) (x : Fin 8 → FVec F s .f32)
    (h : Shape.Concatenates [s, s, s, s, s, s, s, s] t a) : FVec F t .f32 :=
  concatenate t a [⟨s, x 0⟩, ⟨s, x 1⟩, ⟨s, x 2⟩, ⟨s, x 3⟩, ⟨s, x 4⟩, ⟨s, x 5⟩, ⟨s, x 6⟩, ⟨s, x 7⟩] h

/-- The scores of head pair `i`: 640 key rows against the queries of its two heads, side by side. -/
def pair (L : Loads F) (i : Fin 8) : FVec F S640x256 .f32 := k0_pay7 k0_pay1 (L.q i) (L.ka i) (L.kb i)

/-- The scores of all eight pairs. -/
def scores (L : Loads F) : FVec F S640x2048 .f32 := beside S640x2048 1 (pair L) (by decide)

/-- The scores with the bias band added: to the first 64 key rows and to the last 256. -/
def biased (L : Loads F) : FVec F S640x2048 .f32 :=
  concatenate S640x2048 0
    [⟨S64x2048, addf (extractStridedSlice S64x2048 ![0, 0] (scores L))
        (beside S64x2048 1 (fun i => shapeCast S64x256 (L.blo i) (by decide)) (by decide))⟩,
      ⟨S320x2048, extractStridedSlice S320x2048 ![64, 0] (scores L)⟩,
      ⟨S256x2048, addf (extractStridedSlice S256x2048 ![384, 0] (scores L))
        (beside S256x2048 1 (fun i => shapeCast S256x256 (L.bhi i) (by decide)) (by decide))⟩] concatenates_S64x2048_S320x2048_S256x2048_S640x2048_d0

/-- Scores whose key row, counted from `r`, falls into the padding give way to the mask. -/
def masked (r : BitVec 32) (x : FVec F S640x2048 .f32) : FVec F S640x2048 .f32 :=
  select (cmpi .sge (addi (iota .tc S640x2048 32 [0] (by decide)) (broadcast S640x2048 r)) (broadcast S640x2048 512#32))
    x (broadcast S640x2048 (Named.named Cert.KernelIdeal.κ "mask" 0xF149F2CA#32))

/-- The exponentials of the scores, each column less its maximum. -/
def weights (x : FVec F S640x2048 .f32) : FVec F S640x2048 .f32 :=
  exp2 (subf x (broadcastTo S640x2048
    (shapeCast S1x2048 (multiReduction .maximumf [0] S2048 x 0xFF800000#32 (by decide) (.inl rfl) rfl) (by decide)) (by decide)))

/-- The reciprocals of the columns' sums. -/
def recips (e : FVec F S640x2048 .f32) : FVec F S1x2048 .f32 :=
  divf (broadcast S1x2048 (Scalar.ofBits .f32 0x3F800000#32))
    (shapeCast S1x2048 (multiReduction .add [0] S2048 e 0x00000000#32 (by decide) (.inl rfl) rfl) (by decide))

/-- The attention of one head pair: values times weights, times the reciprocals, of the pair's
    columns from `o` on; the first head's channels are kept of its own columns, the second's of its own. -/
def tile (o : Nat) (ha : S640x2048.Slices ![0, o] S384x256) (hb : S640x2048.Slices ![384, o] S256x256)
    (hr : S1x2048.Slices ![0, o] S1x256) (e : FVec F S640x2048 .f32) (r : FVec F S1x2048 .f32)
    (va : Vec F S1x128x384 .bf16) (vb : Vec F S1x128x256 .bf16) : FVec F S128x128 .f32 :=
  let w := truncf .bf16 e bitsLt_bf16_f32
  let y := mulf (addf (addf (broadcast S128x256 (Scalar.ofBits .f32 0x00000000#32))
      (matmul dot_S128x384_S384x256_S128x256_1_0_0_1_n_n none (shapeCast S128x384 va shapeCasts_S1x128x384_S128x384) (extractStridedSlice S384x256 ![0, o] w ha)
        (constant S128x256 .f32 0x00000000#32)))
      (matmul dot_S128x256_S256x256_S128x256_1_0_0_1_n_n none (shapeCast S128x256 vb shapeCasts_S1x128x256_S128x256) (extractStridedSlice S256x256 ![384, o] w hb)
        (constant S128x256 .f32 0x00000000#32)))
    (broadcastTo S128x256 (extractStridedSlice S1x256 ![0, o] r hr) broadcasts_S1x256_S128x256)
  concatenate S128x128 0 [⟨S64x128, extractStridedSlice S64x128 ![0, 0] y slices_S128x256_o0_0_S64x128⟩,
    ⟨S64x128, extractStridedSlice S64x128 ![64, 128] y slices_S128x256_o64_128_S64x128⟩] concatenates_S64x128_S64x128_S128x128_d0

theorem slicesA (i : Fin 8) : S640x2048.Slices ![0, 256 * i.val] S384x256 := by revert i; decide
theorem slicesB (i : Fin 8) : S640x2048.Slices ![384, 256 * i.val] S256x256 := by revert i; decide
theorem slicesR (i : Fin 8) : S1x2048.Slices ![0, 256 * i.val] S1x256 := by revert i; decide

/-- The attention of head pair `i`, from the scores `x` as the softmax takes them. -/
def att (x : FVec F S640x2048 .f32) (L : Loads F) (i : Fin 8) : FVec F S128x128 .f32 :=
  tile (256 * i.val) (slicesA i) (slicesB i) (slicesR i) (weights x) (recips (weights x)) (L.va i) (L.vb i)

/-- The sum of a pair's squares, per query. -/
def sq (y : FVec F S128x128 .f32) : FVec F S1x128 .f32 :=
  shapeCast S1x128 (multiReduction .add [0] S128 (mulf y y) 0x00000000#32 reduces_S128x128_S128 (.inl rfl) rfl) shapeCasts_S128_S1x128

/-- The reciprocal root of the mean square over the eight pairs' channels. -/
def rinv (y : Fin 8 → FVec F S128x128 .f32) : FVec F S1x128 .f32 :=
  rsqrt (addf (divf
    (addf (addf (addf (addf (addf (addf (addf (addf (broadcast S1x128 (Scalar.ofBits .f32 0x00000000#32))
      (sq (y 0))) (sq (y 1))) (sq (y 2))) (sq (y 3))) (sq (y 4))) (sq (y 5))) (sq (y 6))) (sq (y 7)))
    (broadcast S1x128 (Scalar.ofBits .f32 0x44800000#32))) (broadcast S1x128 (Scalar.ofBits .f32 0x358637BD#32)))

/-- What is stored of pair `i`: its attention, normalised, times the gains. -/
def out (x : FVec F S640x2048 .f32) (L : Loads F) (i : Fin 8) : FVec F S1x128x128 .bf16 :=
  shapeCast S1x128x128 (truncf .bf16 (mulf (mulf (att x L i) (broadcastTo S128x128 (rinv (att x L)) broadcasts_S1x128_S128x128))
    (shapeCast S128x128 (L.g i) shapeCasts_S128x128_S128x128)) bitsLt_bf16_f32) shapeCasts_S128x128_S1x128x128

variable (arg1 : Memref sig .tc .vmem S2048x1024 .bf16) (arg2 : Memref sig .tc .vmem S1x2560x1024 .bf16)
  (arg3 : Memref sig .tc .vmem S1x1024x2560 .bf16) (arg4 : Memref sig .tc .vmem S8x640x256 .f32)
  (arg5 : Memref sig .tc .vmem S1024x128 .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty)

theorem inbHi (i : Fin 8) : ∀ a, (![i.val, 384, 0] : Fin 3 → Nat) a + S1x256x256.size a ≤ S8x640x256.size a := by revert i; decide
theorem inbLo (i : Fin 8) : ∀ a, (![i.val, 0, 0] : Fin 3 → Nat) a + S1x64x256.size a ≤ S8x640x256.size a := by revert i; decide
theorem inbGain (i : Fin 8) : ∀ a, (![128 * i.val, 0] : Fin 2 → Nat) a + S128x128.size a ≤ S1024x128.size a := by revert i; decide

/-- The last 256 rows of pair `i`'s bias band. -/
abbrev bandHi (i : Fin 8) : Vec F S1x256x256 .f32 :=
  View.readAt (Elt F) arg4.view (Rect.unit (s := S8x640x256) ![i.val, 384, 0] S1x256x256.size (inbHi i)).toLoadRect X4

/-- The first 64 rows of pair `i`'s bias band. -/
abbrev bandLo (i : Fin 8) : Vec F S1x64x256 .f32 :=
  View.readAt (Elt F) arg4.view (Rect.unit (s := S8x640x256) ![i.val, 0, 0] S1x64x256.size (inbLo i)).toLoadRect X4

/-- The gains of pair `i`'s channels. -/
abbrev gains (i : Fin 8) : Vec F S128x128 .f32 :=
  View.readAt (Elt F) arg5.view (Rect.unit (s := S1024x128) ![128 * i.val, 0] S128x128.size (inbGain i)).toLoadRect X5

end Cert.KernelIdeal.Trip

end
-- ==== Proof.BlockAtt.lean ====
/- What one trip computes, over the extended reals, of the arrays its loads come from.

The functions at the top say it in terms of the block of one batch: the queries `x0`, the keys `x1`, the
values `x2`, the bias band `x3`, the gains `x4`. A query row `r` belongs to the tile `r / 128` and meets the
640 keys from row `128 * (r / 128)` of the padded keys on. -/
module

public import proofs.«01_k».proof.Proof.Trip
public import Idealize.ShloMosaic.Lib.Tactic.WordOmega

@[expose] public section

set_option maxRecDepth 16384

noncomputable section

namespace Cert.KernelIdeal.Block

open Cert.KernelIdeal Cert.KernelIdeal.Gen Cert.KernelIdeal.Trip Idealize.ShloMosaic Idealize.ShloMosaic.TcCoe Idealize.SL.Sem

section Functions

variable (x0 : S2048x1024.Idx → EReal) (x1 : S1x2560x1024.Idx → EReal) (x2 : S1x1024x2560.Idx → EReal)
  (x3 : S8x640x256.Idx → EReal) (x4 : S1024x128.Idx → EReal)

/-- The product of query `r` with the key of window position `t`, in the head of channel `n`. -/
def dot (n : Fin 1024) (r : Fin 2048) (t : Fin 640) : EReal :=
  ∑ d : Fin 64, x1 (ix3 0 ⟨128 * (r.val / 128) + t.val, by omega⟩ ⟨64 * (n.val / 64) + d.val, by omega⟩)
    * x0 (ix2 r ⟨64 * (n.val / 64) + d.val, by omega⟩)

/-- The bias of window position `t`: none from 64 to 384. -/
def band (n : Fin 1024) (r : Fin 2048) (t : Fin 640) : EReal :=
  if t.val < 64 ∨ 384 ≤ t.val then
    x3 (ix3 ⟨n.val / 128, by omega⟩ t ⟨128 * (n.val / 64 % 2) + r.val % 128, by omega⟩)
  else 0

/-- The score of window position `t`, −∞ on the padding. -/
def score (n : Fin 1024) (r : Fin 2048) (t : Fin 640) : EReal :=
  if 512 ≤ 128 * (r.val / 128) + t.val then dot x0 x1 n r t + band x3 n r t else ⊥

/-- The unnormalised weight of window position `t`. -/
def weight (n : Fin 1024) (r : Fin 2048) (t : Fin 640) : EReal :=
  Ideal.exp2 (score x0 x1 x3 n r t - Finset.univ.sup (score x0 x1 x3 n r))

/-- The attention of channel `n` at query `r`. -/
def attn (n : Fin 1024) (r : Fin 2048) : EReal :=
  (∑ t : Fin 640, x2 (ix3 0 n ⟨128 * (r.val / 128) + t.val, by omega⟩) * weight x0 x1 x3 n r t)
    * Ideal.div 1 (∑ t : Fin 640, weight x0 x1 x3 n r t)

/-- What the block ends holding: the attention over its root mean square, times the gain. -/
def result (n : Fin 1024) (r : Fin 2048) : EReal :=
  attn x0 x1 x2 x3 n r
    * Ideal.rsqrt (Ideal.div (∑ n' : Fin 1024, attn x0 x1 x2 x3 n' r * attn x0 x1 x2 x3 n' r)
        (Ideal.ofBits .f32 0x44800000#32) + Ideal.ofBits .f32 0x358637BD#32)
    * x4 (ix2 n ⟨r.val % 128, by omega⟩)

/-- The loads of tile `T` are the tile's windows of the block's arrays. -/
structure Holds (L : Loads Ideal) (T : Fin 16) : Prop where
  q : ∀ i j l, L.q i (ix2 j l) = x0 (ix2 ⟨128 * T.val + j.val, by omega⟩ ⟨128 * i.val + l.val, by omega⟩)
  ka : ∀ i t l, L.ka i (ix3 0 t l) = x1 (ix3 0 ⟨128 * T.val + t.val, by omega⟩ ⟨128 * i.val + l.val, by omega⟩)
  kb : ∀ i t l, L.kb i (ix3 0 t l) = x1 (ix3 0 ⟨128 * T.val + 384 + t.val, by omega⟩ ⟨128 * i.val + l.val, by omega⟩)
  bhi : ∀ i t c, L.bhi i (ix3 0 t c) = x3 (ix3 i ⟨384 + t.val, by omega⟩ c)
  blo : ∀ i t c, L.blo i (ix3 0 t c) = x3 (ix3 i ⟨t.val, by omega⟩ c)
  va : ∀ i n t, L.va i (ix3 0 n t) = x2 (ix3 0 ⟨128 * i.val + n.val, by omega⟩ ⟨128 * T.val + t.val, by omega⟩)
  vb : ∀ i n t, L.vb i (ix3 0 n t) = x2 (ix3 0 ⟨128 * i.val + n.val, by omega⟩ ⟨128 * T.val + 384 + t.val, by omega⟩)
  g : ∀ i n j, L.g i (ix2 n j) = x4 (ix2 ⟨128 * i.val + n.val, by omega⟩ j)

end Functions

/-! ## The trip's steps read at an index -/

/-- The key entry of window position `t`, of either part. -/
def key (L : Loads Ideal) (i : Fin 8) (t : Fin 640) (l : Fin 128) : EReal :=
  if h : t.val < 384 then L.ka i (ix3 0 ⟨t.val, h⟩ l) else L.kb i (ix3 0 ⟨t.val - 384, by omega⟩ l)

/-- The value entry of window position `t`, of either part. -/
def val (L : Loads Ideal) (i : Fin 8) (n : Fin 128) (t : Fin 640) : EReal :=
  if h : t.val < 384 then L.va i (ix3 0 n ⟨t.val, h⟩) else L.vb i (ix3 0 n ⟨t.val - 384, by omega⟩)

/-- A sum over 128 lanes of which only the first half counts. -/
theorem sum_first (f g : Fin 128 → EReal) :
    (∑ l : Fin 128, f l * (if l.val < 64 then g l else 0)) = ∑ d : Fin 64, f ⟨d.val, by omega⟩ * g ⟨d.val, by omega⟩ := by
  rw [show (∑ l : Fin 128, f l * (if l.val < 64 then g l else 0)) = ∑ l : Fin (64 + 64), f l * (if l.val < 64 then g l else 0) from rfl,
    Fin.sum_univ_add]
  simp [Fin.castAdd, Fin.natAdd, Fin.castLE]

/-- A sum over 128 lanes of which only the second half counts. -/
theorem sum_second (f g : Fin 128 → EReal) :
    (∑ l : Fin 128, f l * (if l.val < 64 then 0 else g l)) = ∑ d : Fin 64, f ⟨64 + d.val, by omega⟩ * g ⟨64 + d.val, by omega⟩ := by
  rw [show (∑ l : Fin 128, f l * (if l.val < 64 then 0 else g l)) = ∑ l : Fin (64 + 64), f l * (if l.val < 64 then 0 else g l) from rfl,
    Fin.sum_univ_add]
  simp [Fin.castAdd, Fin.natAdd, Fin.castLE]

theorem pair_apply (L : Loads Ideal) (i : Fin 8) (t : Fin 640) (p : Fin 2) (j : Fin 128) :
    pair L i (ix2 t ⟨128 * p.val + j.val, by omega⟩)
      = ∑ d : Fin 64, key L i t ⟨64 * p.val + d.val, by omega⟩ * L.q i (ix2 j ⟨64 * p.val + d.val, by omega⟩) := by
  have h64 : ∀ x : Fin 128, ∀ a b : EReal,
      Scalar.select (IntOp.cmpi .slt (BitVec.ofNat 32 x.val) 64#32) a b = if x.val < 64 then a else b := fun x a b => by
    have hx : IntOp.cmpi .slt (BitVec.ofNat 32 x.val) 64#32 = if x.val < 64 then 1#1 else 0#1 := by revert x; decide
    rw [hx]; split <;> rfl
  have h0 : (((0#32).toInt : ℝ) : EReal) = 0 := by norm_num
  unfold pair k0_pay7 k0_pay1
  pointwise
  simp only [h64, h0]
  have hk : ∀ f : Fin 128 → EReal, (if h : t.val < 384 then ∑ x, L.ka i (ix3 0 ⟨t.val, h⟩ x) * f x
      else ∑ x, L.kb i (ix3 0 ⟨t.val - 384, by omega⟩ x) * f x) = ∑ x, key L i t x * f x := fun f => by
    unfold key
    split <;> rfl
  refine (hk fun x => if h : 128 * p.val + j.val < 128 then (if x.val < 64 then L.q i (ix2 ⟨128 * p.val + j.val, h⟩ x) else 0)
    else if x.val < 64 then 0 else L.q i (ix2 ⟨128 * p.val + j.val - 128, by omega⟩ x)).trans ?_
  fin_cases p
  · refine (Finset.sum_congr rfl fun x _ => ?_).trans ((sum_first (key L i t) (fun x => L.q i (ix2 j x))).trans ?_)
    · dsimp only
      rw [dif_pos (by simp)]
      simp
    · simp
  · refine (Finset.sum_congr rfl fun x _ => ?_).trans ((sum_second (key L i t) (fun x => L.q i (ix2 j x))).trans ?_)
    · dsimp only
      rw [dif_neg (by simp)]
      simp
    · simp

theorem beside_apply {n : Nat} (x : Fin 8 → FVec Ideal ⟨2, ![n, 256]⟩ .f32) (h) (t : Fin n) (i : Fin 8) (c : Fin 256) :
    beside ⟨2, ![n, 2048]⟩ 1 x h (ix2 t ⟨256 * i.val + c.val, by omega⟩) = x i (ix2 t c) := by
  unfold beside
  fin_cases i <;> pointwise
  all_goals
    repeat (first | rw [dif_pos (by omega)] | rw [dif_neg (by omega)])
    refine congrArg _ (funext fun a => Fin.ext ?_)
    fin_cases a <;> simp [Shape.Idx.norm]
  all_goals omega

theorem biased_apply (L : Loads Ideal) (t : Fin 640) (i : Fin 8) (c : Fin 256) :
    biased L (ix2 t ⟨256 * i.val + c.val, by omega⟩) = pair L i (ix2 t c)
      + (if h : t.val < 64 then L.blo i (ix3 0 ⟨t.val, h⟩ c)
          else if h' : 384 ≤ t.val then L.bhi i (ix3 0 ⟨t.val - 384, by omega⟩ c) else 0) := by
  have hs : ∀ t' : Fin 640, scores L (ix2 t' ⟨256 * i.val + c.val, by omega⟩) = pair L i (ix2 t' c) := fun t' => by
    unfold scores
    exact beside_apply _ _ t' i c
  unfold biased
  pointwise
  split
  · rw [hs, beside_apply]
    pointwise
  · split
    · rw [hs, dif_neg (by omega), add_zero]
      congr 2; apply Fin.ext; dsimp only; omega
    · rw [hs, beside_apply, dif_pos (by omega)]
      pointwise
      congr 3 <;> (apply Fin.ext; dsimp only; omega)

theorem masked_apply (r : BitVec 32) (x : FVec Ideal S640x2048 .f32) (t : Fin 640) (c : Fin 2048) (hr : r.toNat < 4096) :
    masked r x (ix2 t c) = if 512 ≤ r.toNat + t.val then x (ix2 t c) else ⊥ := by
  unfold masked
  pointwise
  rw [show (Named.named (F := Ideal) Cert.KernelIdeal.κ "mask" (φ := .f32) 4048155338#32) = (⊥ : EReal) from rfl]
  have : IntOp.cmpi CmpIPredicate.sge (IntOp.addi (BitVec.ofNat 32 ↑t) r) 512#32 = if 512 ≤ r.toNat + t.val then 1#1 else 0#1 := by
    word_omega
  rw [this]
  split <;> rfl

theorem weights_apply (x : FVec Ideal S640x2048 .f32) (t : Fin 640) (c : Fin 2048) :
    weights x (ix2 t c) = Ideal.exp2 (x (ix2 t c) - Finset.univ.sup (fun t' => x (ix2 t' c))) := by
  unfold weights
  pointwise
  rfl

theorem recips_apply (x : FVec Ideal S640x2048 .f32) (c : Fin 2048) :
    recips x (ix2 0 c) = Ideal.div 1 (∑ t, x (ix2 t c)) := by
  unfold recips
  pointwise

theorem att_apply (x : FVec Ideal S640x2048 .f32) (L : Loads Ideal) (i : Fin 8) (n j : Fin 128) :
    att x L i (ix2 n j)
      = (∑ t : Fin 640, val L i n t * weights x (ix2 t ⟨256 * i.val + (128 * (n.val / 64) + j.val), by omega⟩))
        * recips (weights x) (ix2 0 ⟨256 * i.val + (128 * (n.val / 64) + j.val), by omega⟩) := by
  rw [show (∑ t : Fin 640, val L i n t * weights x (ix2 t ⟨256 * i.val + (128 * (n.val / 64) + j.val), by omega⟩))
      = ∑ t : Fin (384 + 256), val L i n t * weights x (ix2 t ⟨256 * i.val + (128 * (n.val / 64) + j.val), by omega⟩) from rfl,
    Fin.sum_univ_add]
  unfold att tile
  pointwise
  have hv : ∀ (a : Fin 384), val L i n (Fin.castAdd 256 a) = L.va i (ix3 0 n a) := fun a => by
    simp [val]
  have hv' : ∀ (a : Fin 256), val L i n (Fin.natAdd 384 a) = L.vb i (ix3 0 n a) := fun a => by
    simp [val]
  split
  · rename_i h
    have ec : (⟨256 * i.val + (128 * (n.val / 64) + j.val), by omega⟩ : Fin 2048) = ⟨256 * i.val + j.val, by omega⟩ :=
      Fin.ext (by dsimp only; omega)
    simp only [hv, hv', ec]
    rfl
  · rename_i h
    have ec : (⟨256 * i.val + (128 * (n.val / 64) + j.val), by omega⟩ : Fin 2048) = ⟨256 * i.val + (128 + j.val), by omega⟩ :=
      Fin.ext (by dsimp only; omega)
    have en : (⟨64 + (n.val - 64), by omega⟩ : Fin 128) = n := Fin.ext (by dsimp only; omega)
    simp only [hv, hv', ec, en]
    rfl

theorem sq_apply (y : FVec Ideal S128x128 .f32) (j : Fin 128) : Trip.sq y (ix2 0 j) = ∑ n : Fin 128, y (ix2 n j) * y (ix2 n j) := by
  unfold Trip.sq
  pointwise

theorem rinv_apply (y : Fin 8 → FVec Ideal S128x128 .f32) (j : Fin 128) :
    rinv y (ix2 0 j) = Ideal.rsqrt (Ideal.div (∑ i : Fin 8, ∑ n : Fin 128, y i (ix2 n j) * y i (ix2 n j))
        (Ideal.ofBits .f32 0x44800000#32) + Ideal.ofBits .f32 0x358637BD#32) := by
  unfold rinv
  pointwise
  simp only [sq_apply, Fin.sum_univ_eight]

theorem out_apply (x : FVec Ideal S640x2048 .f32) (L : Loads Ideal) (i : Fin 8) (n j : Fin 128) :
    out x L i (ix3 0 n j) = att x L i (ix2 n j) * rinv (att x L) (ix2 0 j) * L.g i (ix2 n j) := by
  unfold out
  pointwise

/-! ## The trip in terms of the block -/

section Block

variable {x0 : S2048x1024.Idx → EReal} {x1 : S1x2560x1024.Idx → EReal} {x2 : S1x1024x2560.Idx → EReal}
  {x3 : S8x640x256.Idx → EReal} {x4 : S1024x128.Idx → EReal} {L : Loads Ideal} {T : Fin 16}

/-- The channel's column of the score matrix holds the channel's scores. -/
theorem biased_eq (H : Holds x0 x1 x2 x3 x4 L T) (i : Fin 8) (n j : Fin 128) (t : Fin 640) :
    biased L (ix2 t ⟨256 * i.val + (128 * (n.val / 64) + j.val), by omega⟩)
      = dot x0 x1 ⟨128 * i.val + n.val, by omega⟩ ⟨128 * T.val + j.val, by omega⟩ t
        + band x3 ⟨128 * i.val + n.val, by omega⟩ ⟨128 * T.val + j.val, by omega⟩ t := by
  have hb := biased_apply L t i ⟨128 * (n.val / 64) + j.val, by omega⟩
  have hp := pair_apply L i t ⟨n.val / 64, by omega⟩ j
  dsimp only at hb hp
  rw [hb, hp]
  have e1 : (128 * T.val + j.val) / 128 = T.val := by omega
  have e2 : (128 * i.val + n.val) / 128 = i.val := by omega
  have e3 : (128 * i.val + n.val) / 64 % 2 = n.val / 64 := by omega
  have e4 : (128 * T.val + j.val) % 128 = j.val := by omega
  congr 1
  · unfold dot
    refine Finset.sum_congr rfl fun d _ => ?_
    congr 1
    · unfold key
      split
      · rw [H.ka]
        congr 2 <;> (apply Fin.ext; dsimp only; omega)
      · rw [H.kb]
        congr 2 <;> (apply Fin.ext; dsimp only; omega)
    · rw [H.q]
      congr 2
      apply Fin.ext; dsimp only; omega
  · unfold band
    split
    · rw [if_pos (by omega), H.blo]
      congr 2 <;> (apply Fin.ext; dsimp only; omega)
    · split
      · rw [if_pos (by omega), H.bhi]
        congr 2 <;> (apply Fin.ext; dsimp only; omega)
      · rw [if_neg (by omega)]

/-- The value entries are the block's. -/
theorem val_eq (H : Holds x0 x1 x2 x3 x4 L T) (i : Fin 8) (n : Fin 128) (t : Fin 640) :
    val L i n t = x2 (ix3 0 ⟨128 * i.val + n.val, by omega⟩ ⟨128 * T.val + t.val, by omega⟩) := by
  unfold val
  split
  · rw [H.va]
  · rw [H.vb]
    congr 2; apply Fin.ext; dsimp only; omega

/-- The scores as the softmax takes them: masked in the first tiles, as they are in the others. -/
def Takes (L : Loads Ideal) (T : Fin 16) (x : FVec Ideal S640x2048 .f32) : Prop :=
  ∀ t c, x (ix2 t c) = if 512 ≤ 128 * T.val + t.val then biased L (ix2 t c) else ⊥

/-- A channel's attention is the block's. -/
theorem att_eq (H : Holds x0 x1 x2 x3 x4 L T) {x : FVec Ideal S640x2048 .f32} (hx : Takes L T x) (i : Fin 8) (n j : Fin 128) :
    att x L i (ix2 n j) = attn x0 x1 x2 x3 ⟨128 * i.val + n.val, by omega⟩ ⟨128 * T.val + j.val, by omega⟩ := by
  have e1 : (128 * T.val + j.val) / 128 = T.val := by omega
  have hs : (fun t => x (ix2 t ⟨256 * i.val + (128 * (n.val / 64) + j.val), by omega⟩))
      = score x0 x1 x3 ⟨128 * i.val + n.val, by omega⟩ ⟨128 * T.val + j.val, by omega⟩ := funext fun t => by
    rw [hx, biased_eq H]
    unfold score
    simp only [e1]
  have hw : ∀ t, weights x (ix2 t ⟨256 * i.val + (128 * (n.val / 64) + j.val), by omega⟩)
      = weight x0 x1 x3 ⟨128 * i.val + n.val, by omega⟩ ⟨128 * T.val + j.val, by omega⟩ t := fun t => by
    rw [weights_apply, hs]
    unfold weight
    rw [← hs]
  rw [att_apply, recips_apply]
  unfold attn
  simp only [hw, val_eq H, e1]

/-- The root mean square over the eight pairs' channels is the one over the block's. -/
theorem rinv_eq (H : Holds x0 x1 x2 x3 x4 L T) {x : FVec Ideal S640x2048 .f32} (hx : Takes L T x) (j : Fin 128) :
    rinv (att x L) (ix2 0 j) = Ideal.rsqrt (Ideal.div (∑ n' : Fin 1024, attn x0 x1 x2 x3 n' ⟨128 * T.val + j.val, by omega⟩
          * attn x0 x1 x2 x3 n' ⟨128 * T.val + j.val, by omega⟩)
        (Ideal.ofBits .f32 0x44800000#32) + Ideal.ofBits .f32 0x358637BD#32) := by
  rw [rinv_apply]
  simp only [att_eq H hx]
  congr 3
  rw [← Fintype.sum_prod_type' (f := fun (i : Fin 8) (n : Fin 128) => attn x0 x1 x2 x3 ⟨128 * i.val + n.val, by omega⟩ ⟨128 * T.val + j.val, by omega⟩
    * attn x0 x1 x2 x3 ⟨128 * i.val + n.val, by omega⟩ ⟨128 * T.val + j.val, by omega⟩)]
  refine Fintype.sum_equiv (finProdFinEquiv (m := 8) (n := 128)) _ _ fun p => ?_
  have : (⟨128 * p.1.val + p.2.val, by omega⟩ : Fin 1024) = finProdFinEquiv p := Fin.ext (by simp [finProdFinEquiv]; omega)
  simp only [this]

/-- What a trip stores is the block's result on the trip's tile. -/
theorem out_eq (H : Holds x0 x1 x2 x3 x4 L T) {x : FVec Ideal S640x2048 .f32} (hx : Takes L T x) (i : Fin 8) (n j : Fin 128) :
    out x L i (ix3 0 n j) = result x0 x1 x2 x3 x4 ⟨128 * i.val + n.val, by omega⟩ ⟨128 * T.val + j.val, by omega⟩ := by
  rw [out_apply, att_eq H hx, rinv_eq H hx, H.g]
  unfold result
  congr 3
  apply Fin.ext; dsimp only; omega

end Block

end Cert.KernelIdeal.Block

end
-- ==== Proof.TripMasked.lean ====
/- The trips of the first loop, over the first four query tiles, whose windows reach into the padding: their scores are masked. -/
module

public import proofs.«01_k».proof.Proof.Trip

@[expose] public section

set_option maxRecDepth 16384

noncomputable section

namespace Cert.KernelIdeal.TripMasked

open Cert.KernelIdeal Cert.KernelIdeal.Gen Cert.KernelIdeal.Trip Idealize.ShloMosaic Idealize.ShloMosaic.TcCoe Idealize.SL.Sem

variable {F : FTy → Type} [FloatOps F] [Named F]
variable (arg1 : Memref sig .tc .vmem S2048x1024 .bf16) (arg2 : Memref sig .tc .vmem S1x2560x1024 .bf16)
  (arg3 : Memref sig .tc .vmem S1x1024x2560 .bf16) (arg4 : Memref sig .tc .vmem S8x640x256 .f32)
  (arg5 : Memref sig .tc .vmem S1024x128 .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty)
  (k : Fin k0_t1_loop.trips)

/-- What the trip `k` of the first four query tiles loads. -/
abbrev loads1 : Loads F where
  q :=
      ![View.readAt (Elt F) arg1.view (Rect.unit (s := S2048x1024) (k0_off1 k) S128x128.size (k0_off1_inb k)).toLoadRect X1,
        View.readAt (Elt F) arg1.view (Rect.unit (s := S2048x1024) (k0_off4 k) S128x128.size (k0_off4_inb k)).toLoadRect X1,
        View.readAt (Elt F) arg1.view (Rect.unit (s := S2048x1024) (k0_off7 k) S128x128.size (k0_off7_inb k)).toLoadRect X1,
        View.readAt (Elt F) arg1.view (Rect.unit (s := S2048x1024) (k0_off10 k) S128x128.size (k0_off10_inb k)).toLoadRect X1,
        View.readAt (Elt F) arg1.view (Rect.unit (s := S2048x1024) (k0_off13 k) S128x128.size (k0_off13_inb k)).toLoadRect X1,
        View.readAt (Elt F) arg1.view (Rect.unit (s := S2048x1024) (k0_off16 k) S128x128.size (k0_off16_inb k)).toLoadRect X1,
        View.readAt (Elt F) arg1.view (Rect.unit (s := S2048x1024) (k0_off19 k) S128x128.size (k0_off19_inb k)).toLoadRect X1,
        View.readAt (Elt F) arg1.view (Rect.unit (s := S2048x1024) (k0_off22 k) S128x128.size (k0_off22_inb k)).toLoadRect X1]
  ka :=
      ![View.readAt (Elt F) arg2.view (Rect.unit (s := S1x2560x1024) (k0_off2 k) S1x384x128.size (k0_off2_inb k)).toLoadRect X2,
        View.readAt (Elt F) arg2.view (Rect.unit (s := S1x2560x1024) (k0_off5 k) S1x384x128.size (k0_off5_inb k)).toLoadRect X2,
        View.readAt (Elt F) arg2.view (Rect.unit (s := S1x2560x1024) (k0_off8 k) S1x384x128.size (k0_off8_inb k)).toLoadRect X2,
        View.readAt (Elt F) arg2.view (Rect.unit (s := S1x2560x1024) (k0_off11 k) S1x384x128.size (k0_off11_inb k)).toLoadRect X2,
        View.readAt (Elt F) arg2.view (Rect.unit (s := S1x2560x1024) (k0_off14 k) S1x384x128.size (k0_off14_inb k)).toLoadRect X2,
        View.readAt (Elt F) arg2.view (Rect.unit (s := S1x2560x1024) (k0_off17 k) S1x384x128.size (k0_off17_inb k)).toLoadRect X2,
        View.readAt (Elt F) arg2.view (Rect.unit (s := S1x2560x1024) (k0_off20 k) S1x384x128.size (k0_off20_inb k)).toLoadRect X2,
        View.readAt (Elt F) arg2.view (Rect.unit (s := S1x2560x1024) (k0_off23 k) S1x384x128.size (k0_off23_inb k)).toLoadRect X2]
  kb :=
      ![View.readAt (Elt F) arg2.view (Rect.unit (s := S1x2560x1024) (k0_off3 k) S1x256x128.size (k0_off3_inb k)).toLoadRect X2,
        View.readAt (Elt F) arg2.view (Rect.unit (s := S1x2560x1024) (k0_off6 k) S1x256x128.size (k0_off6_inb k)).toLoadRect X2,
        View.readAt (Elt F) arg2.view (Rect.unit (s := S1x2560x1024) (k0_off9 k) S1x256x128.size (k0_off9_inb k)).toLoadRect X2,
        View.readAt (Elt F) arg2.view (Rect.unit (s := S1x2560x1024) (k0_off12 k) S1x256x128.size (k0_off12_inb k)).toLoadRect X2,
        View.readAt (Elt F) arg2.view (Rect.unit (s := S1x2560x1024) (k0_off15 k) S1x256x128.size (k0_off15_inb k)).toLoadRect X2,
        View.readAt (Elt F) arg2.view (Rect.unit (s := S1x2560x1024) (k0_off18 k) S1x256x128.size (k0_off18_inb k)).toLoadRect X2,
        View.readAt (Elt F) arg2.view (Rect.unit (s := S1x2560x1024) (k0_off21 k) S1x256x128.size (k0_off21_inb k)).toLoadRect X2,
        View.readAt (Elt F) arg2.view (Rect.unit (s := S1x2560x1024) (k0_off24 k) S1x256x128.size (k0_off24_inb k)).toLoadRect X2]
  bhi := bandHi arg4 X4
  blo := bandLo arg4 X4
  va :=
      ![View.readAt (Elt F) arg3.view (Rect.unit (s := S1x1024x2560) (k0_off25 k) S1x128x384.size (k0_off25_inb k)).toLoadRect X3,
        View.readAt (Elt F) arg3.view (Rect.unit (s := S1x1024x2560) (k0_off27 k) S1x128x384.size (k0_off27_inb k)).toLoadRect X3,
        View.readAt (Elt F) arg3.view (Rect.unit (s := S1x1024x2560) (k0_off29 k) S1x128x384.size (k0_off29_inb k)).toLoadRect X3,
        View.readAt (Elt F) arg3.view (Rect.unit (s := S1x1024x2560) (k0_off31 k) S1x128x384.size (k0_off31_inb k)).toLoadRect X3,
        View.readAt (Elt F) arg3.view (Rect.unit (s := S1x1024x2560) (k0_off33 k) S1x128x384.size (k0_off33_inb k)).toLoadRect X3,
        View.readAt (Elt F) arg3.view (Rect.unit (s := S1x1024x2560) (k0_off35 k) S1x128x384.size (k0_off35_inb k)).toLoadRect X3,
        View.readAt (Elt F) arg3.view (Rect.unit (s := S1x1024x2560) (k0_off37 k) S1x128x384.size (k0_off37_inb k)).toLoadRect X3,
        View.readAt (Elt F) arg3.view (Rect.unit (s := S1x1024x2560) (k0_off39 k) S1x128x384.size (k0_off39_inb k)).toLoadRect X3]
  vb :=
      ![View.readAt (Elt F) arg3.view (Rect.unit (s := S1x1024x2560) (k0_off26 k) S1x128x256.size (k0_off26_inb k)).toLoadRect X3,
        View.readAt (Elt F) arg3.view (Rect.unit (s := S1x1024x2560) (k0_off28 k) S1x128x256.size (k0_off28_inb k)).toLoadRect X3,
        View.readAt (Elt F) arg3.view (Rect.unit (s := S1x1024x2560) (k0_off30 k) S1x128x256.size (k0_off30_inb k)).toLoadRect X3,
        View.readAt (Elt F) arg3.view (Rect.unit (s := S1x1024x2560) (k0_off32 k) S1x128x256.size (k0_off32_inb k)).toLoadRect X3,
        View.readAt (Elt F) arg3.view (Rect.unit (s := S1x1024x2560) (k0_off34 k) S1x128x256.size (k0_off34_inb k)).toLoadRect X3,
        View.readAt (Elt F) arg3.view (Rect.unit (s := S1x1024x2560) (k0_off36 k) S1x128x256.size (k0_off36_inb k)).toLoadRect X3,
        View.readAt (Elt F) arg3.view (Rect.unit (s := S1x1024x2560) (k0_off38 k) S1x128x256.size (k0_off38_inb k)).toLoadRect X3,
        View.readAt (Elt F) arg3.view (Rect.unit (s := S1x1024x2560) (k0_off40 k) S1x128x256.size (k0_off40_inb k)).toLoadRect X3]
  g := gains arg5 X5

/-- The scores as the trip's softmax takes them. -/
abbrev taken : FVec F S640x2048 .f32 := masked (k0_mult1 k) (biased (loads1 arg1 arg2 arg3 arg4 arg5 X1 X2 X3 X4 X5 k))

set_option maxHeartbeats 2000000 in
/-- The trip's eight products are the pairs' scores. -/
theorem pairs_eq : (fun i => ![trip_k0_t1.sl.v27 arg1 arg2 X1 X2 k, trip_k0_t1.sl.v47 arg1 arg2 X1 X2 k, trip_k0_t1.sl.v67 arg1 arg2 X1 X2 k, trip_k0_t1.sl.v87 arg1 arg2 X1 X2 k, trip_k0_t1.sl.v107 arg1 arg2 X1 X2 k, trip_k0_t1.sl.v127 arg1 arg2 X1 X2 k, trip_k0_t1.sl.v147 arg1 arg2 X1 X2 k, trip_k0_t1.sl.v167 arg1 arg2 X1 X2 k] i) = pair (loads1 arg1 arg2 arg3 arg4 arg5 X1 X2 X3 X4 X5 k) := by
  funext i; fin_cases i <;> rfl

/-- Side by side they are the scores. -/
theorem scores_eq : trip_k0_t1.sl.v168 arg1 arg2 X1 X2 k = scores (loads1 arg1 arg2 arg3 arg4 arg5 X1 X2 X3 X4 X5 k) := by
  unfold scores
  rw [← pairs_eq]
  rfl

/-- The exponentials the trip computes. -/
theorem weights_eq : trip_k0_t1.sl.r arg1 arg2 arg4 X1 X2 X4 k = weights (taken arg1 arg2 arg3 arg4 arg5 X1 X2 X3 X4 X5 k) := by
  unfold taken biased
  rw [← scores_eq]
  rfl

/-- The reciprocals the trip computes. -/
theorem recips_eq : trip_k0_t1.sl.v224 arg1 arg2 arg4 X1 X2 X4 k = recips (weights (taken arg1 arg2 arg3 arg4 arg5 X1 X2 X3 X4 X5 k)) := by
  rw [← weights_eq]
  rfl

set_option maxHeartbeats 2000000 in
/-- The attention of the eight pairs. -/
theorem att_eq : (fun i => ![trip_k0_t1.sl.v246 arg1 arg2 arg3 arg4 X1 X2 X3 X4 k, trip_k0_t1.sl.v271 arg1 arg2 arg3 arg4 X1 X2 X3 X4 k, trip_k0_t1.sl.v296 arg1 arg2 arg3 arg4 X1 X2 X3 X4 k, trip_k0_t1.sl.v321 arg1 arg2 arg3 arg4 X1 X2 X3 X4 k, trip_k0_t1.sl.v346 arg1 arg2 arg3 arg4 X1 X2 X3 X4 k, trip_k0_t1.sl.v371 arg1 arg2 arg3 arg4 X1 X2 X3 X4 k, trip_k0_t1.sl.v396 arg1 arg2 arg3 arg4 X1 X2 X3 X4 k, trip_k0_t1.sl.v421 arg1 arg2 arg3 arg4 X1 X2 X3 X4 k] i) = att (taken arg1 arg2 arg3 arg4 arg5 X1 X2 X3 X4 X5 k) (loads1 arg1 arg2 arg3 arg4 arg5 X1 X2 X3 X4 X5 k) := by
  funext i
  unfold att
  rw [← recips_eq, ← weights_eq]
  fin_cases i <;> rfl

/-- The reciprocal root of their mean square. -/
theorem rinv_eq : trip_k0_t1.sl.v430 arg1 arg2 arg3 arg4 X1 X2 X3 X4 k = rinv (att (taken arg1 arg2 arg3 arg4 arg5 X1 X2 X3 X4 X5 k) (loads1 arg1 arg2 arg3 arg4 arg5 X1 X2 X3 X4 X5 k)) := by
  rw [← att_eq]
  rfl

/-- The eight pieces a trip of the first loop stores. -/
theorem pieces (𝒱 : Variants) (c : Dev nD) (bd : Option 𝒱.V) (i : grid0.Coords) (harg1 : arg1.IsWhole) (harg2 : arg2.IsWhole)
    (harg3 : arg3.IsWhole) (harg4 : arg4.IsWhole) (harg5 : arg5.IsWhole)
    (arg6 : Memref sig .tc .vmem S1x1024x2048 .bf16) (harg6 : arg6.IsWhole) :
    tripL_k0_t1 (F := F) 𝒱 c bd i arg1 harg1 arg2 harg2 arg3 harg3 arg4 harg4 arg5 harg5 arg6 harg6 X1 X2 X3 X4 X5 k
      = [⟨Rect.unit (s := S1x1024x2048) (k0_off48 k) S1x128x128.size (k0_off48_inb k), out (taken arg1 arg2 arg3 arg4 arg5 X1 X2 X3 X4 X5 k) (loads1 arg1 arg2 arg3 arg4 arg5 X1 X2 X3 X4 X5 k) 7⟩,
         ⟨Rect.unit (s := S1x1024x2048) (k0_off47 k) S1x128x128.size (k0_off47_inb k), out (taken arg1 arg2 arg3 arg4 arg5 X1 X2 X3 X4 X5 k) (loads1 arg1 arg2 arg3 arg4 arg5 X1 X2 X3 X4 X5 k) 6⟩,
         ⟨Rect.unit (s := S1x1024x2048) (k0_off46 k) S1x128x128.size (k0_off46_inb k), out (taken arg1 arg2 arg3 arg4 arg5 X1 X2 X3 X4 X5 k) (loads1 arg1 arg2 arg3 arg4 arg5 X1 X2 X3 X4 X5 k) 5⟩,
         ⟨Rect.unit (s := S1x1024x2048) (k0_off45 k) S1x128x128.size (k0_off45_inb k), out (taken arg1 arg2 arg3 arg4 arg5 X1 X2 X3 X4 X5 k) (loads1 arg1 arg2 arg3 arg4 arg5 X1 X2 X3 X4 X5 k) 4⟩,
         ⟨Rect.unit (s := S1x1024x2048) (k0_off44 k) S1x128x128.size (k0_off44_inb k), out (taken arg1 arg2 arg3 arg4 arg5 X1 X2 X3 X4 X5 k) (loads1 arg1 arg2 arg3 arg4 arg5 X1 X2 X3 X4 X5 k) 3⟩,
         ⟨Rect.unit (s := S1x1024x2048) (k0_off43 k) S1x128x128.size (k0_off43_inb k), out (taken arg1 arg2 arg3 arg4 arg5 X1 X2 X3 X4 X5 k) (loads1 arg1 arg2 arg3 arg4 arg5 X1 X2 X3 X4 X5 k) 2⟩,
         ⟨Rect.unit (s := S1x1024x2048) (k0_off42 k) S1x128x128.size (k0_off42_inb k), out (taken arg1 arg2 arg3 arg4 arg5 X1 X2 X3 X4 X5 k) (loads1 arg1 arg2 arg3 arg4 arg5 X1 X2 X3 X4 X5 k) 1⟩,
         ⟨Rect.unit (s := S1x1024x2048) (k0_off41 k) S1x128x128.size (k0_off41_inb k), out (taken arg1 arg2 arg3 arg4 arg5 X1 X2 X3 X4 X5 k) (loads1 arg1 arg2 arg3 arg4 arg5 X1 X2 X3 X4 X5 k) 0⟩] := by
  unfold tripL_k0_t1 trip_k0_t1 out
  rw [← rinv_eq, ← att_eq]
  rfl

end Cert.KernelIdeal.TripMasked

end
-- ==== Proof.TripPlain.lean ====
/- The trips of the second loop, over the other query tiles, whose windows lie inside the keys: nothing is masked. -/
module

public import proofs.«01_k».proof.Proof.Trip

@[expose] public section

set_option maxRecDepth 16384

noncomputable section

namespace Cert.KernelIdeal.TripPlain

open Cert.KernelIdeal Cert.KernelIdeal.Gen Cert.KernelIdeal.Trip Idealize.ShloMosaic Idealize.ShloMosaic.TcCoe Idealize.SL.Sem

variable {F : FTy → Type} [FloatOps F] [Named F]
variable (arg1 : Memref sig .tc .vmem S2048x1024 .bf16) (arg2 : Memref sig .tc .vmem S1x2560x1024 .bf16)
  (arg3 : Memref sig .tc .vmem S1x1024x2560 .bf16) (arg4 : Memref sig .tc .vmem S8x640x256 .f32)
  (arg5 : Memref sig .tc .vmem S1024x128 .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty)
  (k : Fin k0_t2_loop.trips)
/-- What the trip `k` of the other query tiles loads. -/
abbrev loads2 : Loads F where
  q :=
      ![View.readAt (Elt F) arg1.view (Rect.unit (s := S2048x1024) (k0_off49 k) S128x128.size (k0_off49_inb k)).toLoadRect X1,
        View.readAt (Elt F) arg1.view (Rect.unit (s := S2048x1024) (k0_off52 k) S128x128.size (k0_off52_inb k)).toLoadRect X1,
        View.readAt (Elt F) arg1.view (Rect.unit (s := S2048x1024) (k0_off55 k) S128x128.size (k0_off55_inb k)).toLoadRect X1,
        View.readAt (Elt F) arg1.view (Rect.unit (s := S2048x1024) (k0_off58 k) S128x128.size (k0_off58_inb k)).toLoadRect X1,
        View.readAt (Elt F) arg1.view (Rect.unit (s := S2048x1024) (k0_off61 k) S128x128.size (k0_off61_inb k)).toLoadRect X1,
        View.readAt (Elt F) arg1.view (Rect.unit (s := S2048x1024) (k0_off64 k) S128x128.size (k0_off64_inb k)).toLoadRect X1,
        View.readAt (Elt F) arg1.view (Rect.unit (s := S2048x1024) (k0_off67 k) S128x128.size (k0_off67_inb k)).toLoadRect X1,
        View.readAt (Elt F) arg1.view (Rect.unit (s := S2048x1024) (k0_off70 k) S128x128.size (k0_off70_inb k)).toLoadRect X1]
  ka :=
      ![View.readAt (Elt F) arg2.view (Rect.unit (s := S1x2560x1024) (k0_off50 k) S1x384x128.size (k0_off50_inb k)).toLoadRect X2,
        View.readAt (Elt F) arg2.view (Rect.unit (s := S1x2560x1024) (k0_off53 k) S1x384x128.size (k0_off53_inb k)).toLoadRect X2,
        View.readAt (Elt F) arg2.view (Rect.unit (s := S1x2560x1024) (k0_off56 k) S1x384x128.size (k0_off56_inb k)).toLoadRect X2,
        View.readAt (Elt F) arg2.view (Rect.unit (s := S1x2560x1024) (k0_off59 k) S1x384x128.size (k0_off59_inb k)).toLoadRect X2,
        View.readAt (Elt F) arg2.view (Rect.unit (s := S1x2560x1024) (k0_off62 k) S1x384x128.size (k0_off62_inb k)).toLoadRect X2,
        View.readAt (Elt F) arg2.view (Rect.unit (s := S1x2560x1024) (k0_off65 k) S1x384x128.size (k0_off65_inb k)).toLoadRect X2,
        View.readAt (Elt F) arg2.view (Rect.unit (s := S1x2560x1024) (k0_off68 k) S1x384x128.size (k0_off68_inb k)).toLoadRect X2,
        View.readAt (Elt F) arg2.view (Rect.unit (s := S1x2560x1024) (k0_off71 k) S1x384x128.size (k0_off71_inb k)).toLoadRect X2]
  kb :=
      ![View.readAt (Elt F) arg2.view (Rect.unit (s := S1x2560x1024) (k0_off51 k) S1x256x128.size (k0_off51_inb k)).toLoadRect X2,
        View.readAt (Elt F) arg2.view (Rect.unit (s := S1x2560x1024) (k0_off54 k) S1x256x128.size (k0_off54_inb k)).toLoadRect X2,
        View.readAt (Elt F) arg2.view (Rect.unit (s := S1x2560x1024) (k0_off57 k) S1x256x128.size (k0_off57_inb k)).toLoadRect X2,
        View.readAt (Elt F) arg2.view (Rect.unit (s := S1x2560x1024) (k0_off60 k) S1x256x128.size (k0_off60_inb k)).toLoadRect X2,
        View.readAt (Elt F) arg2.view (Rect.unit (s := S1x2560x1024) (k0_off63 k) S1x256x128.size (k0_off63_inb k)).toLoadRect X2,
        View.readAt (Elt F) arg2.view (Rect.unit (s := S1x2560x1024) (k0_off66 k) S1x256x128.size (k0_off66_inb k)).toLoadRect X2,
        View.readAt (Elt F) arg2.view (Rect.unit (s := S1x2560x1024) (k0_off69 k) S1x256x128.size (k0_off69_inb k)).toLoadRect X2,
        View.readAt (Elt F) arg2.view (Rect.unit (s := S1x2560x1024) (k0_off72 k) S1x256x128.size (k0_off72_inb k)).toLoadRect X2]
  bhi := bandHi arg4 X4
  blo := bandLo arg4 X4
  va :=
      ![View.readAt (Elt F) arg3.view (Rect.unit (s := S1x1024x2560) (k0_off73 k) S1x128x384.size (k0_off73_inb k)).toLoadRect X3,
        View.readAt (Elt F) arg3.view (Rect.unit (s := S1x1024x2560) (k0_off75 k) S1x128x384.size (k0_off75_inb k)).toLoadRect X3,
        View.readAt (Elt F) arg3.view (Rect.unit (s := S1x1024x2560) (k0_off77 k) S1x128x384.size (k0_off77_inb k)).toLoadRect X3,
        View.readAt (Elt F) arg3.view (Rect.unit (s := S1x1024x2560) (k0_off79 k) S1x128x384.size (k0_off79_inb k)).toLoadRect X3,
        View.readAt (Elt F) arg3.view (Rect.unit (s := S1x1024x2560) (k0_off81 k) S1x128x384.size (k0_off81_inb k)).toLoadRect X3,
        View.readAt (Elt F) arg3.view (Rect.unit (s := S1x1024x2560) (k0_off83 k) S1x128x384.size (k0_off83_inb k)).toLoadRect X3,
        View.readAt (Elt F) arg3.view (Rect.unit (s := S1x1024x2560) (k0_off85 k) S1x128x384.size (k0_off85_inb k)).toLoadRect X3,
        View.readAt (Elt F) arg3.view (Rect.unit (s := S1x1024x2560) (k0_off87 k) S1x128x384.size (k0_off87_inb k)).toLoadRect X3]
  vb :=
      ![View.readAt (Elt F) arg3.view (Rect.unit (s := S1x1024x2560) (k0_off74 k) S1x128x256.size (k0_off74_inb k)).toLoadRect X3,
        View.readAt (Elt F) arg3.view (Rect.unit (s := S1x1024x2560) (k0_off76 k) S1x128x256.size (k0_off76_inb k)).toLoadRect X3,
        View.readAt (Elt F) arg3.view (Rect.unit (s := S1x1024x2560) (k0_off78 k) S1x128x256.size (k0_off78_inb k)).toLoadRect X3,
        View.readAt (Elt F) arg3.view (Rect.unit (s := S1x1024x2560) (k0_off80 k) S1x128x256.size (k0_off80_inb k)).toLoadRect X3,
        View.readAt (Elt F) arg3.view (Rect.unit (s := S1x1024x2560) (k0_off82 k) S1x128x256.size (k0_off82_inb k)).toLoadRect X3,
        View.readAt (Elt F) arg3.view (Rect.unit (s := S1x1024x2560) (k0_off84 k) S1x128x256.size (k0_off84_inb k)).toLoadRect X3,
        View.readAt (Elt F) arg3.view (Rect.unit (s := S1x1024x2560) (k0_off86 k) S1x128x256.size (k0_off86_inb k)).toLoadRect X3,
        View.readAt (Elt F) arg3.view (Rect.unit (s := S1x1024x2560) (k0_off88 k) S1x128x256.size (k0_off88_inb k)).toLoadRect X3]
  g := gains arg5 X5

/-- The scores as the trip's softmax takes them. -/
abbrev taken : FVec F S640x2048 .f32 := biased (loads2 arg1 arg2 arg3 arg4 arg5 X1 X2 X3 X4 X5 k)

set_option maxHeartbeats 2000000 in
/-- The trip's eight products are the pairs' scores. -/
theorem pairs_eq : (fun i => ![trip_k0_t2.sl.v27 arg1 arg2 X1 X2 k, trip_k0_t2.sl.v47 arg1 arg2 X1 X2 k, trip_k0_t2.sl.v67 arg1 arg2 X1 X2 k, trip_k0_t2.sl.v87 arg1 arg2 X1 X2 k, trip_k0_t2.sl.v107 arg1 arg2 X1 X2 k, trip_k0_t2.sl.v127 arg1 arg2 X1 X2 k, trip_k0_t2.sl.v147 arg1 arg2 X1 X2 k, trip_k0_t2.sl.v167 arg1 arg2 X1 X2 k] i) = pair (loads2 arg1 arg2 arg3 arg4 arg5 X1 X2 X3 X4 X5 k) := by
  funext i; fin_cases i <;> rfl

/-- Side by side they are the scores. -/
theorem scores_eq : trip_k0_t2.sl.v168 arg1 arg2 X1 X2 k = scores (loads2 arg1 arg2 arg3 arg4 arg5 X1 X2 X3 X4 X5 k) := by
  unfold scores
  rw [← pairs_eq]
  rfl

/-- The exponentials the trip computes. -/
theorem weights_eq : trip_k0_t2.sl.v213 arg1 arg2 arg4 X1 X2 X4 k = weights (taken arg1 arg2 arg3 arg4 arg5 X1 X2 X3 X4 X5 k) := by
  unfold taken biased
  rw [← scores_eq]
  rfl

/-- The reciprocals the trip computes. -/
theorem recips_eq : trip_k0_t2.sl.v217 arg1 arg2 arg4 X1 X2 X4 k = recips (weights (taken arg1 arg2 arg3 arg4 arg5 X1 X2 X3 X4 X5 k)) := by
  rw [← weights_eq]
  rfl

set_option maxHeartbeats 2000000 in
/-- The attention of the eight pairs. -/
theorem att_eq : (fun i => ![trip_k0_t2.sl.v239 arg1 arg2 arg3 arg4 X1 X2 X3 X4 k, trip_k0_t2.sl.v264 arg1 arg2 arg3 arg4 X1 X2 X3 X4 k, trip_k0_t2.sl.v289 arg1 arg2 arg3 arg4 X1 X2 X3 X4 k, trip_k0_t2.sl.v314 arg1 arg2 arg3 arg4 X1 X2 X3 X4 k, trip_k0_t2.sl.v339 arg1 arg2 arg3 arg4 X1 X2 X3 X4 k, trip_k0_t2.sl.v364 arg1 arg2 arg3 arg4 X1 X2 X3 X4 k, trip_k0_t2.sl.v389 arg1 arg2 arg3 arg4 X1 X2 X3 X4 k, trip_k0_t2.sl.v414 arg1 arg2 arg3 arg4 X1 X2 X3 X4 k] i) = att (taken arg1 arg2 arg3 arg4 arg5 X1 X2 X3 X4 X5 k) (loads2 arg1 arg2 arg3 arg4 arg5 X1 X2 X3 X4 X5 k) := by
  funext i
  unfold att
  rw [← recips_eq, ← weights_eq]
  fin_cases i <;> rfl

/-- The reciprocal root of their mean square. -/
theorem rinv_eq : trip_k0_t2.sl.v423 arg1 arg2 arg3 arg4 X1 X2 X3 X4 k = rinv (att (taken arg1 arg2 arg3 arg4 arg5 X1 X2 X3 X4 X5 k) (loads2 arg1 arg2 arg3 arg4 arg5 X1 X2 X3 X4 X5 k)) := by
  rw [← att_eq]
  rfl

/-- The eight pieces a trip of the second loop stores. -/
theorem pieces (𝒱 : Variants) (c : Dev nD) (bd : Option 𝒱.V) (i : grid0.Coords) (harg1 : arg1.IsWhole) (harg2 : arg2.IsWhole)
    (harg3 : arg3.IsWhole) (harg4 : arg4.IsWhole) (harg5 : arg5.IsWhole)
    (arg6 : Memref sig .tc .vmem S1x1024x2048 .bf16) (harg6 : arg6.IsWhole) :
    tripL_k0_t2 (F := F) 𝒱 c bd i arg1 harg1 arg2 harg2 arg3 harg3 arg4 harg4 arg5 harg5 arg6 harg6 X1 X2 X3 X4 X5 k
      = [⟨Rect.unit (s := S1x1024x2048) (k0_off96 k) S1x128x128.size (k0_off96_inb k), out (taken arg1 arg2 arg3 arg4 arg5 X1 X2 X3 X4 X5 k) (loads2 arg1 arg2 arg3 arg4 arg5 X1 X2 X3 X4 X5 k) 7⟩,
         ⟨Rect.unit (s := S1x1024x2048) (k0_off95 k) S1x128x128.size (k0_off95_inb k), out (taken arg1 arg2 arg3 arg4 arg5 X1 X2 X3 X4 X5 k) (loads2 arg1 arg2 arg3 arg4 arg5 X1 X2 X3 X4 X5 k) 6⟩,
         ⟨Rect.unit (s := S1x1024x2048) (k0_off94 k) S1x128x128.size (k0_off94_inb k), out (taken arg1 arg2 arg3 arg4 arg5 X1 X2 X3 X4 X5 k) (loads2 arg1 arg2 arg3 arg4 arg5 X1 X2 X3 X4 X5 k) 5⟩,
         ⟨Rect.unit (s := S1x1024x2048) (k0_off93 k) S1x128x128.size (k0_off93_inb k), out (taken arg1 arg2 arg3 arg4 arg5 X1 X2 X3 X4 X5 k) (loads2 arg1 arg2 arg3 arg4 arg5 X1 X2 X3 X4 X5 k) 4⟩,
         ⟨Rect.unit (s := S1x1024x2048) (k0_off92 k) S1x128x128.size (k0_off92_inb k), out (taken arg1 arg2 arg3 arg4 arg5 X1 X2 X3 X4 X5 k) (loads2 arg1 arg2 arg3 arg4 arg5 X1 X2 X3 X4 X5 k) 3⟩,
         ⟨Rect.unit (s := S1x1024x2048) (k0_off91 k) S1x128x128.size (k0_off91_inb k), out (taken arg1 arg2 arg3 arg4 arg5 X1 X2 X3 X4 X5 k) (loads2 arg1 arg2 arg3 arg4 arg5 X1 X2 X3 X4 X5 k) 2⟩,
         ⟨Rect.unit (s := S1x1024x2048) (k0_off90 k) S1x128x128.size (k0_off90_inb k), out (taken arg1 arg2 arg3 arg4 arg5 X1 X2 X3 X4 X5 k) (loads2 arg1 arg2 arg3 arg4 arg5 X1 X2 X3 X4 X5 k) 1⟩,
         ⟨Rect.unit (s := S1x1024x2048) (k0_off89 k) S1x128x128.size (k0_off89_inb k), out (taken arg1 arg2 arg3 arg4 arg5 X1 X2 X3 X4 X5 k) (loads2 arg1 arg2 arg3 arg4 arg5 X1 X2 X3 X4 X5 k) 0⟩] := by
  unfold tripL_k0_t2 trip_k0_t2 out
  rw [← rinv_eq, ← att_eq]
  rfl

end Cert.KernelIdeal.TripPlain

end
-- ==== Proof.Windows.lean ====
/- What a trip loads are windows of the block's arrays.

The kernel's buffers hold the block's arrays whole; a load reads a unit-stride rectangle of one. Both loops' loads
are, tile by tile, the windows that `Block.Holds` names: the first loop's trip `k` takes tile `k`, the second's
tile `k + 4`. -/
module

public import proofs.«01_k».proof.Proof.BlockAtt
public import proofs.«01_k».proof.Proof.TripMasked
public import proofs.«01_k».proof.Proof.TripPlain

@[expose] public section

set_option maxRecDepth 16384

noncomputable section

namespace Cert.KernelIdeal.Block

open Cert.KernelIdeal Cert.KernelIdeal.Gen Cert.KernelIdeal.Trip Idealize.ShloMosaic Idealize.ShloMosaic.TcCoe Idealize.SL.Sem
open Idealize.ShloMosaic.Tactic

/-- A load of a rectangle of a matrix that a buffer holds whole. -/
theorem load2 {A B a b : Nat} {e : EltTy} (m : Memref sig .tc .vmem ⟨2, ![A, B]⟩ e) (h : m.IsWhole) (X : Vec Ideal ⟨2, ![A, B]⟩ e)
    (off : Fin 2 → Nat) (inb) (i : Fin a) (j : Fin b) (r : Fin A) (c : Fin B) (hr : r.val = off 0 + i.val) (hc : c.val = off 1 + j.val) :
    View.readAt (Elt Ideal) m.view (Rect.unit (s := ⟨2, ![A, B]⟩) off ![a, b] inb).toLoadRect (h.unread X) (ix2 i j) = X (ix2 r c) := by
  rw [View.readAt_eq_ld, h.read_unread]
  refine congrArg X (funext fun k => Fin.ext ?_)
  fin_cases k
  · refine Eq.trans ?_ hr.symm
    show off 0 + 1 * i.val = _
    omega
  · refine Eq.trans ?_ hc.symm
    show off 1 + 1 * j.val = _
    omega

/-- A load of a rectangle of one layer of an array that a buffer holds whole. -/
theorem load3 {A B C b c : Nat} {e : EltTy} (m : Memref sig .tc .vmem ⟨3, ![A, B, C]⟩ e) (h : m.IsWhole) (X : Vec Ideal ⟨3, ![A, B, C]⟩ e)
    (off : Fin 3 → Nat) (inb) (i : Fin b) (j : Fin c) (l : Fin A) (r : Fin B) (s : Fin C)
    (hl : l.val = off 0) (hr : r.val = off 1 + i.val) (hs : s.val = off 2 + j.val) :
    View.readAt (Elt Ideal) m.view (Rect.unit (s := ⟨3, ![A, B, C]⟩) off ![1, b, c] inb).toLoadRect (h.unread X) (ix3 0 i j) = X (ix3 l r s) := by
  rw [View.readAt_eq_ld, h.read_unread]
  refine congrArg X (funext fun k => Fin.ext ?_)
  fin_cases k
  · refine Eq.trans ?_ hl.symm
    show off 0 + 1 * 0 = _
    omega
  · refine Eq.trans ?_ hr.symm
    show off 1 + 1 * i.val = _
    omega
  · refine Eq.trans ?_ hs.symm
    show off 2 + 1 * j.val = _
    omega

/-- The same at an offset with a closed form. -/
theorem load2c {A B a b : Nat} {e : EltTy} (m : Memref sig .tc .vmem ⟨2, ![A, B]⟩ e) (h : m.IsWhole) (X : Vec Ideal ⟨2, ![A, B]⟩ e)
    (off : Fin 2 → Nat) [f : ClosedOff off] (inb) (i : Fin a) (j : Fin b) (r : Fin A) (c : Fin B) (hr : r.val = f.form 0 + i.val) (hc : c.val = f.form 1 + j.val) :
    View.readAt (Elt Ideal) m.view (Rect.unit (s := ⟨2, ![A, B]⟩) off ![a, b] inb).toLoadRect (h.unread X) (ix2 i j) = X (ix2 r c) :=
  load2 m h X off inb i j r c (by rw [hr, ← f.eq]) (by rw [hc, ← f.eq])

/-- The same at an offset with a closed form. -/
theorem load3c {A B C b c : Nat} {e : EltTy} (m : Memref sig .tc .vmem ⟨3, ![A, B, C]⟩ e) (h : m.IsWhole) (X : Vec Ideal ⟨3, ![A, B, C]⟩ e)
    (off : Fin 3 → Nat) [f : ClosedOff off] (inb) (i : Fin b) (j : Fin c) (l : Fin A) (r : Fin B) (s : Fin C)
    (hl : l.val = f.form 0) (hr : r.val = f.form 1 + i.val) (hs : s.val = f.form 2 + j.val) :
    View.readAt (Elt Ideal) m.view (Rect.unit (s := ⟨3, ![A, B, C]⟩) off ![1, b, c] inb).toLoadRect (h.unread X) (ix3 0 i j) = X (ix3 l r s) :=
  load3 m h X off inb i j l r s (by rw [hl, ← f.eq]) (by rw [hr, ← f.eq]) (by rw [hs, ← f.eq])

variable (arg1 : Memref sig .tc .vmem S2048x1024 .bf16) (harg1 : arg1.IsWhole) (arg2 : Memref sig .tc .vmem S1x2560x1024 .bf16) (harg2 : arg2.IsWhole)
  (arg3 : Memref sig .tc .vmem S1x1024x2560 .bf16) (harg3 : arg3.IsWhole) (arg4 : Memref sig .tc .vmem S8x640x256 .f32) (harg4 : arg4.IsWhole)
  (arg5 : Memref sig .tc .vmem S1024x128 .f32) (harg5 : arg5.IsWhole)
  (x0 : Vec Ideal S2048x1024 .bf16) (x1 : Vec Ideal S1x2560x1024 .bf16) (x2 : Vec Ideal S1x1024x2560 .bf16)
  (x3 : Vec Ideal S8x640x256 .f32) (x4 : Vec Ideal S1024x128 .f32)

/-- The tile of trip `k` of the first loop. -/
def tile1 (k : Fin k0_t1_loop.trips) : Fin 16 := ⟨k.val, lt_of_lt_of_le k.isLt (by decide)⟩

/-- The tile of trip `k` of the second loop. -/
def tile2 (k : Fin k0_t2_loop.trips) : Fin 16 := ⟨k.val + 4, Nat.add_lt_of_lt_sub (lt_of_lt_of_le k.isLt (by decide))⟩

set_option maxHeartbeats 4000000 in
/-- What the loop's trip loads are the tile's windows. -/
theorem holds1 (k : Fin k0_t1_loop.trips) :
    Holds x0 x1 x2 x3 x4 (TripMasked.loads1 arg1 arg2 arg3 arg4 arg5 (harg1.unread x0) (harg2.unread x1) (harg3.unread x2) (harg4.unread x3)
      (harg5.unread x4) k) (tile1 k) where
  q i j l := by
    fin_cases i <;> (refine load2c arg1 harg1 x0 _ _ j l _ _ ?_ ?_ <;> (first | rfl | (simp [ClosedOff.form, tile1]; try omega)))
  ka i t l := by
    fin_cases i <;> (refine load3c arg2 harg2 x1 _ _ t l _ _ _ ?_ ?_ ?_ <;> (first | rfl | (simp [ClosedOff.form, tile1]; try omega)))
  kb i t l := by
    fin_cases i <;> (refine load3c arg2 harg2 x1 _ _ t l _ _ _ ?_ ?_ ?_ <;> (first | rfl | (simp [ClosedOff.form, tile1]; try omega)))
  bhi i t l := load3 arg4 harg4 x3 _ _ t l _ _ _ rfl rfl (Nat.zero_add _).symm
  blo i t l := load3 arg4 harg4 x3 _ _ t l _ _ _ rfl (Nat.zero_add _).symm (Nat.zero_add _).symm
  va i t l := by
    fin_cases i <;> (refine load3c arg3 harg3 x2 _ _ t l _ _ _ ?_ ?_ ?_ <;> (first | rfl | (simp [ClosedOff.form, tile1]; try omega)))
  vb i t l := by
    fin_cases i <;> (refine load3c arg3 harg3 x2 _ _ t l _ _ _ ?_ ?_ ?_ <;> (first | rfl | (simp [ClosedOff.form, tile1]; try omega)))
  g i n j := load2 arg5 harg5 x4 _ _ n j _ _ rfl (Nat.zero_add _).symm

set_option maxHeartbeats 4000000 in
/-- What the loop's trip loads are the tile's windows. -/
theorem holds2 (k : Fin k0_t2_loop.trips) :
    Holds x0 x1 x2 x3 x4 (TripPlain.loads2 arg1 arg2 arg3 arg4 arg5 (harg1.unread x0) (harg2.unread x1) (harg3.unread x2) (harg4.unread x3)
      (harg5.unread x4) k) (tile2 k) where
  q i j l := by
    fin_cases i <;> (refine load2c arg1 harg1 x0 _ _ j l _ _ ?_ ?_ <;> (first | rfl | (simp [ClosedOff.form, tile2]; try omega)))
  ka i t l := by
    fin_cases i <;> (refine load3c arg2 harg2 x1 _ _ t l _ _ _ ?_ ?_ ?_ <;> (first | rfl | (simp [ClosedOff.form, tile2]; try omega)))
  kb i t l := by
    fin_cases i <;> (refine load3c arg2 harg2 x1 _ _ t l _ _ _ ?_ ?_ ?_ <;> (first | rfl | (simp [ClosedOff.form, tile2]; try omega)))
  bhi i t l := load3 arg4 harg4 x3 _ _ t l _ _ _ rfl rfl (Nat.zero_add _).symm
  blo i t l := load3 arg4 harg4 x3 _ _ t l _ _ _ rfl (Nat.zero_add _).symm (Nat.zero_add _).symm
  va i t l := by
    fin_cases i <;> (refine load3c arg3 harg3 x2 _ _ t l _ _ _ ?_ ?_ ?_ <;> (first | rfl | (simp [ClosedOff.form, tile2]; try omega)))
  vb i t l := by
    fin_cases i <;> (refine load3c arg3 harg3 x2 _ _ t l _ _ _ ?_ ?_ ?_ <;> (first | rfl | (simp [ClosedOff.form, tile2]; try omega)))
  g i n j := load2 arg5 harg5 x4 _ _ n j _ _ rfl (Nat.zero_add _).symm

/-- The first loop's mask is the padding's. -/
theorem takes1 (k : Fin k0_t1_loop.trips) (L : Loads Ideal) : Takes L (tile1 k) (masked (k0_mult1 k) (biased L)) := by
  have hk : ∀ k : Fin k0_t1_loop.trips, (k0_mult1 k).toNat = 128 * (tile1 k).val := by decide +kernel
  intro t c
  rw [masked_apply _ _ _ _ (by rw [hk]; omega), hk]

/-- The later tiles' windows lie behind the padding. -/
theorem takes2 (k : Fin k0_t2_loop.trips) (L : Loads Ideal) : Takes L (tile2 k) (biased L) := by
  intro t c
  rw [if_pos (by show 512 ≤ 128 * (k.val + 4) + t.val; omega)]

end Cert.KernelIdeal.Block

end
-- ==== Proof.BlockValue.lean ====
/- What the kernel leaves in the block of a batch. -/
module

public import proofs.«01_k».proof.Proof.Windows

@[expose] public section

set_option maxRecDepth 16384

noncomputable section

namespace Cert.KernelIdeal.Block

open Cert.KernelIdeal Cert.KernelIdeal.Gen Cert.KernelIdeal.Trip Idealize.ShloMosaic Idealize.ShloMosaic.TcCoe Idealize.SL.Sem
open Idealize.ShloMosaic.Tactic

/-- A piece of one pair and one tile agrees with a function of the block once its entries do. -/
theorem piece_agrees (G : Fin 1024 → Fin 2048 → EReal) (off : Fin 3 → Nat) (inb) [f : ClosedOff off] (o : Vec Ideal S1x128x128 .bf16)
    (i : Fin 8) (T : Fin 16) (hf : f.form = ![0, 128 * i.val, 128 * T.val])
    (ho : ∀ n j : Fin 128, o (ix3 0 n j) = G ⟨128 * i.val + n.val, by omega⟩ ⟨128 * T.val + j.val, by omega⟩)
    (x : (Rect.unit (s := S1x1024x2048) off S1x128x128.size inb).shape.Idx) :
    o x = (fun y : S1x1024x2048.Idx => G (y 1) (y 2)) ((Rect.unit (s := S1x1024x2048) off S1x128x128.size inb).emb x) := by
  have e : off = ![0, 128 * i.val, 128 * T.val] := f.eq.trans hf
  subst e
  have hx : x = ix3 0 (x 1) (x 2) := by
    funext a
    fin_cases a
    · exact Subsingleton.elim (α := Fin 1) _ _
    · rfl
    · rfl
  rw [hx]
  refine (ho (x 1) (x 2)).trans ?_
  show G _ _ = G _ _
  congr 1
  · apply Fin.ext
    show 128 * i.val + (x 1).val = 128 * i.val + 1 * (x 1).val
    omega
  · apply Fin.ext
    show 128 * T.val + (x 2).val = 128 * T.val + 1 * (x 2).val
    omega

variable (c : Dev nD) (bd : Option Variants.none.V) (g : grid0.Coords)
variable (arg1 : Memref sig .tc .vmem S2048x1024 .bf16) (harg1 : arg1.IsWhole) (arg2 : Memref sig .tc .vmem S1x2560x1024 .bf16) (harg2 : arg2.IsWhole)
  (arg3 : Memref sig .tc .vmem S1x1024x2560 .bf16) (harg3 : arg3.IsWhole) (arg4 : Memref sig .tc .vmem S8x640x256 .f32) (harg4 : arg4.IsWhole)
  (arg5 : Memref sig .tc .vmem S1024x128 .f32) (harg5 : arg5.IsWhole) (arg6 : Memref sig .tc .vmem S1x1024x2048 .bf16) (harg6 : arg6.IsWhole)
  (x0 : Vec Ideal S2048x1024 .bf16) (x1 : Vec Ideal S1x2560x1024 .bf16) (x2 : Vec Ideal S1x1024x2560 .bf16)
  (x3 : Vec Ideal S8x640x256 .f32) (x4 : Vec Ideal S1024x128 .f32)

/-- The pieces of a trip of the first loop agree with the block's result. -/
theorem trip1 (k : Fin k0_t1_loop.trips) (p) (hp : p ∈ tripL_k0_t1 (F := Ideal) Variants.none c bd g arg1 harg1 arg2 harg2 arg3 harg3 arg4 harg4 arg5 harg5 arg6 harg6
      (harg1.unread x0) (harg2.unread x1) (harg3.unread x2) (harg4.unread x3) (harg5.unread x4) k) (x : p.1.shape.Idx) :
    p.2 x = (fun y : S1x1024x2048.Idx => result x0 x1 x2 x3 x4 (y 1) (y 2)) (p.1.emb x) := by
  have H := holds1 arg1 harg1 arg2 harg2 arg3 harg3 arg4 harg4 arg5 harg5 x0 x1 x2 x3 x4 k
  have ho := fun i n j => out_eq H (takes1 k _) i n j
  rw [TripMasked.pieces] at hp
  simp only [List.mem_cons, List.not_mem_nil, or_false] at hp
  rcases hp with rfl | rfl | rfl | rfl | rfl | rfl | rfl | rfl
  · exact piece_agrees (result x0 x1 x2 x3 x4) (k0_off48 k) (k0_off48_inb k) _ 7 (tile1 k) rfl (ho 7) x
  · exact piece_agrees (result x0 x1 x2 x3 x4) (k0_off47 k) (k0_off47_inb k) _ 6 (tile1 k) rfl (ho 6) x
  · exact piece_agrees (result x0 x1 x2 x3 x4) (k0_off46 k) (k0_off46_inb k) _ 5 (tile1 k) rfl (ho 5) x
  · exact piece_agrees (result x0 x1 x2 x3 x4) (k0_off45 k) (k0_off45_inb k) _ 4 (tile1 k) rfl (ho 4) x
  · exact piece_agrees (result x0 x1 x2 x3 x4) (k0_off44 k) (k0_off44_inb k) _ 3 (tile1 k) rfl (ho 3) x
  · exact piece_agrees (result x0 x1 x2 x3 x4) (k0_off43 k) (k0_off43_inb k) _ 2 (tile1 k) rfl (ho 2) x
  · exact piece_agrees (result x0 x1 x2 x3 x4) (k0_off42 k) (k0_off42_inb k) _ 1 (tile1 k) rfl (ho 1) x
  · exact piece_agrees (result x0 x1 x2 x3 x4) (k0_off41 k) (k0_off41_inb k) _ 0 (tile1 k) rfl (ho 0) x

/-- The pieces of a trip of the second loop agree with the block's result. -/
theorem trip2 (k : Fin k0_t2_loop.trips) (p) (hp : p ∈ tripL_k0_t2 (F := Ideal) Variants.none c bd g arg1 harg1 arg2 harg2 arg3 harg3 arg4 harg4 arg5 harg5 arg6 harg6
      (harg1.unread x0) (harg2.unread x1) (harg3.unread x2) (harg4.unread x3) (harg5.unread x4) k) (x : p.1.shape.Idx) :
    p.2 x = (fun y : S1x1024x2048.Idx => result x0 x1 x2 x3 x4 (y 1) (y 2)) (p.1.emb x) := by
  have H := holds2 arg1 harg1 arg2 harg2 arg3 harg3 arg4 harg4 arg5 harg5 x0 x1 x2 x3 x4 k
  have ho := fun i n j => out_eq H (takes2 k _) i n j
  have hf : ∀ i : Fin 8, (![0, 128 * i.val, 128 * k.val + 512] : Fin 3 → Nat) = ![0, 128 * i.val, 128 * (tile2 k).val] := fun i => by
    rw [show 128 * (tile2 k).val = 128 * k.val + 512 from Nat.mul_add 128 k.val 4]
  rw [TripPlain.pieces] at hp
  simp only [List.mem_cons, List.not_mem_nil, or_false] at hp
  rcases hp with rfl | rfl | rfl | rfl | rfl | rfl | rfl | rfl
  · exact piece_agrees (result x0 x1 x2 x3 x4) (k0_off96 k) (k0_off96_inb k) _ 7 (tile2 k) (hf 7) (ho 7) x
  · exact piece_agrees (result x0 x1 x2 x3 x4) (k0_off95 k) (k0_off95_inb k) _ 6 (tile2 k) (hf 6) (ho 6) x
  · exact piece_agrees (result x0 x1 x2 x3 x4) (k0_off94 k) (k0_off94_inb k) _ 5 (tile2 k) (hf 5) (ho 5) x
  · exact piece_agrees (result x0 x1 x2 x3 x4) (k0_off93 k) (k0_off93_inb k) _ 4 (tile2 k) (hf 4) (ho 4) x
  · exact piece_agrees (result x0 x1 x2 x3 x4) (k0_off92 k) (k0_off92_inb k) _ 3 (tile2 k) (hf 3) (ho 3) x
  · exact piece_agrees (result x0 x1 x2 x3 x4) (k0_off91 k) (k0_off91_inb k) _ 2 (tile2 k) (hf 2) (ho 2) x
  · exact piece_agrees (result x0 x1 x2 x3 x4) (k0_off90 k) (k0_off90_inb k) _ 1 (tile2 k) (hf 1) (ho 1) x
  · exact piece_agrees (result x0 x1 x2 x3 x4) (k0_off89 k) (k0_off89_inb k) _ 0 (tile2 k) (hf 0) (ho 0) x

/-- … and so do the pieces of all trips up to one. -/
theorem trips1 : ∀ k, k ≤ k0_t1_loop.trips → ∀ p ∈ pb_k0_t1 (F := Ideal) Variants.none c bd g arg1 harg1 arg2 harg2 arg3 harg3 arg4 harg4 arg5 harg5 arg6 harg6
      (harg1.unread x0) (harg2.unread x1) (harg3.unread x2) (harg4.unread x3) (harg5.unread x4) k, ∀ x : p.1.shape.Idx,
    p.2 x = (fun y : S1x1024x2048.Idx => result x0 x1 x2 x3 x4 (y 1) (y 2)) (p.1.emb x)
  | 0, _, p, hp => by cases hp
  | k + 1, hk, p, hp => by
    rw [pb_k0_t1_succ _ _ _ _ _ _ _ _ _ _ _ _ _ _ _ _ _ _ _ _ _ ⟨k, hk⟩, List.mem_append] at hp
    rcases hp with hp | hp
    · exact trip1 c bd g arg1 harg1 arg2 harg2 arg3 harg3 arg4 harg4 arg5 harg5 arg6 harg6 x0 x1 x2 x3 x4 ⟨k, hk⟩ p hp
    · exact trips1 k (Nat.le_of_succ_le hk) p hp

theorem trips2 : ∀ k, k ≤ k0_t2_loop.trips → ∀ p ∈ pb_k0_t2 (F := Ideal) Variants.none c bd g arg1 harg1 arg2 harg2 arg3 harg3 arg4 harg4 arg5 harg5 arg6 harg6
      (harg1.unread x0) (harg2.unread x1) (harg3.unread x2) (harg4.unread x3) (harg5.unread x4) k, ∀ x : p.1.shape.Idx,
    p.2 x = (fun y : S1x1024x2048.Idx => result x0 x1 x2 x3 x4 (y 1) (y 2)) (p.1.emb x)
  | 0, _, p, hp => by cases hp
  | k + 1, hk, p, hp => by
    rw [pb_k0_t2_succ _ _ _ _ _ _ _ _ _ _ _ _ _ _ _ _ _ _ _ _ _ ⟨k, hk⟩, List.mem_append] at hp
    rcases hp with hp | hp
    · exact trip2 c bd g arg1 harg1 arg2 harg2 arg3 harg3 arg4 harg4 arg5 harg5 arg6 harg6 x0 x1 x2 x3 x4 ⟨k, hk⟩ p hp
    · exact trips2 k (Nat.le_of_succ_le hk) p hp

/-- The run's pieces are the second loop's before the first's. -/
theorem run_pieces : (kernelRun0_A (F := Ideal) c g arg1 harg1 arg2 harg2 arg3 harg3 arg4 harg4 arg5 harg5 arg6 harg6 x0 x1 x2 x3 x4).1
    = pb_k0_t2 (F := Ideal) Variants.none c none g arg1 harg1 arg2 harg2 arg3 harg3 arg4 harg4 arg5 harg5 arg6 harg6
      (harg1.unread x0) (harg2.unread x1) (harg3.unread x2) (harg4.unread x3) (harg5.unread x4) k0_t2_loop.trips
    ++ pb_k0_t1 (F := Ideal) Variants.none c none g arg1 harg1 arg2 harg2 arg3 harg3 arg4 harg4 arg5 harg5 arg6 harg6
      (harg1.unread x0) (harg2.unread x1) (harg3.unread x2) (harg4.unread x3) (harg5.unread x4) k0_t1_loop.trips := rfl

/-- What a grid point leaves in the output's buffer. -/
theorem out_block : out0_A_5 (F := Ideal) c g arg1 harg1 arg2 harg2 arg3 harg3 arg4 harg4 arg5 harg5 arg6 harg6 x0 x1 x2 x3 x4
    = fun y => result x0 x1 x2 x3 x4 (y 1) (y 2) := by
  funext y
  unfold out0_A_5
  refine View.read_writes_apply_of_pieces _ _ (fun y : S1x1024x2048.Idx => result x0 x1 x2 x3 x4 (y 1) (y 2)) _ (fun p hp x => ?_) y (cover0_A_5 c g arg1 harg1 arg2 harg2 arg3 harg3 arg4 harg4 arg5 harg5 arg6 harg6 x0 x1 x2 x3 x4 y)
  rw [run_pieces, List.mem_append] at hp
  rcases hp with hp | hp
  · exact trips2 c none g arg1 harg1 arg2 harg2 arg3 harg3 arg4 harg4 arg5 harg5 arg6 harg6 x0 x1 x2 x3 x4 _ le_rfl p hp x
  · exact trips1 c none g arg1 harg1 arg2 harg2 arg3 harg3 arg4 harg4 arg5 harg5 arg6 harg6 x0 x1 x2 x3 x4 _ le_rfl p hp x

end Cert.KernelIdeal.Block

end
-- ==== Proof.BiasTable.lean ====
/- The bias band and the gains as the host code hands them to the kernel.

The host code repeats each head's first bias 447 times before the 257 entries, takes 64 rows of 576 entries from it,
each row one entry further left, subtracts the first entry, scales by `1 / log 2`, turns the rows into columns, pads
64 rows of −∞ after (for the first 64 queries of a tile) or before (for the last 64), and lays two heads side by side. -/
module

public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Table

open Cert.KernelIdeal Cert.KernelIdeal.Gen Idealize.ShloMosaic Idealize.ShloMosaic.TcCoe Idealize.SL.Sem

/-- Each head's first bias 447 times, then its 257 entries. -/
def ext (x : FVec Ideal S1x16x257 .f32) : FVec Ideal S16x704 .f32 :=
  let y := shapeCast S16x257 x shapeCasts_S1x16x257_S16x257
  concatenate S16x704 1
    [⟨S16x447, shapeCast S16x447 (broadcastInDim S16x1x447 ![0, 1] bcast_S16x1_S16x1x447_0_1
        (extractStridedSlice S16x1 ![0, 0] y slices_S16x257_S16x1_0_0)) shapeCasts_S16x1x447_S16x447⟩,
      ⟨S16x257, y⟩,
      ⟨S16x0, shapeCast S16x0 (broadcastInDim S16x1x0 ![0, 1] bcast_S16x1_S16x1x0_0_1
        (extractStridedSlice S16x1 ![0, 256] y slices_S16x257_S16x1_0_256)) shapeCasts_S16x1x0_S16x0⟩]
    concatenates_S16x447_S16x257_S16x0_S16x704_d1

theorem slicesRow (i : Fin 64) : S16x704.Slices ![0, 63 - i.val] S16x576 := by revert i; decide

/-- The bias row of query `i` of a chunk: 576 entries from `63 - i` on. -/
def row (y : FVec Ideal S16x704 .f32) (i : Fin 64) : FVec Ideal S16x1x576 .f32 :=
  broadcastInDim S16x1x576 ![0, 2] bcast_S16x576_S16x1x576_0_2 (extractStridedSlice S16x576 ![0, 63 - i.val] y (slicesRow i))

/-- Sixteen rows, one below the other. -/
def sixteen (f : Fin 16 → FVec Ideal S16x1x576 .f32) : FVec Ideal S16x16x576 .f32 :=
  concatenate S16x16x576 1
    [⟨S16x1x576, f 0⟩, ⟨S16x1x576, f 1⟩, ⟨S16x1x576, f 2⟩, ⟨S16x1x576, f 3⟩, ⟨S16x1x576, f 4⟩, ⟨S16x1x576, f 5⟩, ⟨S16x1x576, f 6⟩, ⟨S16x1x576, f 7⟩,
      ⟨S16x1x576, f 8⟩, ⟨S16x1x576, f 9⟩, ⟨S16x1x576, f 10⟩, ⟨S16x1x576, f 11⟩, ⟨S16x1x576, f 12⟩, ⟨S16x1x576, f 13⟩, ⟨S16x1x576, f 14⟩, ⟨S16x1x576, f 15⟩]
    concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1

/-- The 64 rows of a chunk's queries. -/
def rows (y : FVec Ideal S16x704 .f32) : FVec Ideal S16x64x576 .f32 :=
  let part (k : Fin 4) := sixteen fun i => row y ⟨16 * k.val + i.val, by omega⟩
  concatenate S16x64x576 1 [⟨S16x16x576, part 0⟩, ⟨S16x16x576, part 1⟩, ⟨S16x16x576, part 2⟩, ⟨S16x16x576, part 3⟩]
    concatenates_S16x16x576_S16x16x576_S16x16x576_S16x16x576_S16x64x576_d1

/-- The rows less the first entry, in units of log 2, turned into columns. -/
def scaled (z : FVec Ideal S16x64x576 .f32) : FVec Ideal S16x576x64 .f32 :=
  transpose S16x576x64 [0, 2, 1] (mulf
    (subf z (broadcastInDim S16x64x576 ![0, 1, 2] bcast_S16x1x1_S16x64x576_0_1_2
      (extractStridedSlice S16x1x1 ![0, 0, 0] z slices_S16x64x576_S16x1x1_0_0_0)))
    (broadcastInDim S16x64x576 ![] bcast_S_S16x64x576
      (Host.divf (constant S_ .f32 0x3F800000#32) (Host.log (constant S_ .f32 0x40000000#32))))) transposes_S16x64x576_S16x576x64_0_2_1

/-- The columns of both chunks of a tile, two heads side by side. -/
def both (w : FVec Ideal S16x576x64 .f32) : FVec Ideal S8x640x256 .f32 :=
  shapeCast S8x640x256 (transpose S8x640x2x128 [0, 2, 1, 3] (shapeCast S8x2x640x128
    (concatenate S16x640x2x64 2
      [⟨S16x640x1x64, broadcastInDim S16x640x1x64 ![0, 1, 3] bcast_S16x640x64_S16x640x1x64_0_1_3
          (pad S16x640x64 ![0, 0, 0] ![0, 64, 0] ![0, 0, 0] w (constant S_ .f32 0xFF800000#32) pads_S16x576x64_S16x640x64_000_0640_000 h_S_)⟩,
        ⟨S16x640x1x64, broadcastInDim S16x640x1x64 ![0, 1, 3] bcast_S16x640x64_S16x640x1x64_0_1_3
          (pad S16x640x64 ![0, 64, 0] ![0, 0, 0] ![0, 0, 0] w (constant S_ .f32 0xFF800000#32) pads_S16x576x64_S16x640x64_000_6400_000 h_S_)⟩]
      concatenates_S16x640x1x64_S16x640x1x64_S16x640x2x64_d2) shapeCasts_S16x640x2x64_S8x2x640x128) transposes_S8x2x640x128_S8x640x2x128_0_2_1_3)
    shapeCasts_S8x640x2x128_S8x640x256

/-- The bias band of the relative biases `x`. -/
def band (x : FVec Ideal S1x16x257 .f32) : FVec Ideal S8x640x256 .f32 := both (scaled (rows (ext x)))

/-- The gain of each channel, along 128 lanes. -/
def gain (x : FVec Ideal S1x1024 .f32) : FVec Ideal S1024x128 .f32 :=
  broadcastInDim S1024x128 ![0, 1] bcast_S1024x1_S1024x128_0_1 (broadcastInDim S1024x1 ![0] bcast_S1024_S1024x1_0
    (shapeCast S1024 x shapeCasts_S1x1024_S1024))

variable (m : (ℓ : Loc nD τ sig) → Buf (Elt Ideal) ℓ) (c : Dev nD)

/-- The gains the kernel finds. -/
theorem gain_read : V m c main_v2 = gain (m ((c : Thread nD τ).loc main_arg4)) := by
  entry_read
  rfl

open Idealize.ShloMosaic.StableHlo in
/-- The first host operations leave the extended biases. -/
theorem stageA (σ : Valuation τ sig (Elt Ideal)) :
    after ((hostOps0 (F := Ideal)).take 11) σ (Proc.devRef .tc main_v10) = ext (σ (Proc.devRef .tc main_arg3)) := by
  simp only [hostOps0, List.take_succ_cons, List.take_zero]
  after_results_simp
  rfl

set_option maxHeartbeats 2000000 in
open Idealize.ShloMosaic.StableHlo in
/-- The next ones leave the rows of the extended biases. -/
theorem stageB (σ : Valuation τ sig (Elt Ideal)) :
    after (((hostOps0 (F := Ideal)).drop 11).take 133) σ (Proc.devRef .tc main_v143) = rows (σ (Proc.devRef .tc main_v10)) := by
  simp only [hostOps0, List.take_succ_cons, List.take_zero, List.drop_succ_cons, List.drop_zero]
  after_results_simp
  rfl

open Idealize.ShloMosaic.StableHlo in
/-- The last ones leave the band of the rows. -/
theorem stageC (σ : Valuation τ sig (Elt Ideal)) :
    after ((hostOps0 (F := Ideal)).drop 144 ++ (hostOps0_1 ++ (hostOps0_2 ++ (hostOps0_3 ++ hostOps0_4)))) σ (Proc.devRef .tc main_v159)
      = both (scaled (σ (Proc.devRef .tc main_v143))) := by
  simp only [hostOps0, hostOps0_1, hostOps0_2, hostOps0_3, hostOps0_4, List.drop_succ_cons, List.drop_zero, List.cons_append, List.nil_append, TRef.unary, TRef.binary, TRef.toBuf, TRef.ofBuf, cast_eq]
  after_results_simp
  rfl

/-- Operations in two lines, one after the other. -/
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The band the kernel finds. -/
theorem band_read : V m c main_v159 = band (m ((c : Thread nD τ).loc main_arg3)) := by
  have h0 : (hostOps0 (F := Ideal)) = hostOps0.take 11 ++ ((hostOps0.drop 11).take 133 ++ hostOps0.drop 144) := rfl
  have h : List.flatten [hostOps0 (F := Ideal), hostOps0_1, hostOps0_2, hostOps0_3, hostOps0_4]
      = hostOps0.take 11 ++ ((hostOps0.drop 11).take 133 ++ (hostOps0.drop 144 ++ (hostOps0_1 ++ (hostOps0_2 ++ (hostOps0_3 ++ hostOps0_4))))) := by
    rw [List.flatten_cons]
    conv_lhs => rw [h0]
    simp only [List.flatten_cons, List.flatten_nil, List.append_nil, List.append_assoc]
  show StableHlo.after _ _ (Proc.devRef .tc main_v159) = _
  rw [h, after_append, after_append, stageC, stageB, stageA]
  rfl

end Cert.KernelIdeal.Table

end
-- ==== Proof.BandEntries.lean ====
/- The entries of the bias band and of the gains. -/
module

public import proofs.«01_k».proof.Proof.BiasTable

@[expose] public section

set_option maxRecDepth 16384

noncomputable section

namespace Cert.KernelIdeal.Table

open Cert.KernelIdeal Cert.KernelIdeal.Gen Idealize.ShloMosaic Idealize.ShloMosaic.TcCoe Idealize.SL.Sem

/-- Entry `s` of the extended biases of head `h`. -/
def entry (x : FVec Ideal S1x16x257 .f32) (h : Fin 16) (s : Nat) : EReal :=
  if hs : 447 ≤ s ∧ s < 704 then x (ix3 0 h ⟨s - 447, by omega⟩) else x (ix3 0 h 0)

theorem ext_apply (x : FVec Ideal S1x16x257 .f32) (h : Fin 16) (s : Fin 704) : ext x (ix2 h s) = entry x h s.val := by
  unfold ext entry
  pointwise
  by_cases hs : s.val < 447
  · rw [dif_pos hs, dif_neg (by omega)]
  · rw [dif_neg hs, dif_pos (by omega), dif_pos (by omega)]

theorem row_apply (y : FVec Ideal S16x704 .f32) (i : Fin 64) (h : Fin 16) (t : Fin 576) :
    row y i (ix3 h 0 t) = y (ix2 h ⟨63 - i.val + t.val, by omega⟩) := by
  unfold row
  pointwise

theorem sixteen_apply (f : Fin 16 → FVec Ideal S16x1x576 .f32) (h : Fin 16) (i : Fin 16) (t : Fin 576) :
    sixteen f (ix3 h i t) = f i (ix3 h 0 t) := by
  unfold sixteen
  fin_cases i <;> pointwise

theorem rows_apply (y : FVec Ideal S16x704 .f32) (i : Fin 64) (h : Fin 16) (t : Fin 576) :
    rows y (ix3 h i t) = y (ix2 h ⟨63 - i.val + t.val, by omega⟩) := by
  have hy : ∀ a b : Fin 704, a.val = b.val → y (ix2 h a) = y (ix2 h b) := fun a b hab => by rw [Fin.ext hab]
  unfold rows
  pointwise
  simp only [sixteen_apply, row_apply]
  split
  · exact hy _ _ (by dsimp only)
  · split
    · exact hy _ _ (by dsimp only; omega)
    · split
      · exact hy _ _ (by dsimp only; omega)
      · exact hy _ _ (by dsimp only; omega)

/-- The scale of the biases: one over log 2. -/
def unit2 : EReal := Ideal.div 1 (Ideal.log (Ideal.ofBits .f32 0x40000000#32))

theorem scaled_apply (z : FVec Ideal S16x64x576 .f32) (i : Fin 64) (h : Fin 16) (t : Fin 576) :
    scaled z (ix3 h t i) = (z (ix3 h i t) - z (ix3 h 0 0)) * unit2 := by
  unfold scaled unit2
  pointwise

set_option maxHeartbeats 4000000 in
theorem both_apply (w : FVec Ideal S16x576x64 .f32) (i : Fin 8) (t : Fin 640) (p : Fin 2) (c : Fin 2) (j : Fin 64) :
    both w (ix3 i t ⟨128 * p.val + (64 * c.val + j.val), by omega⟩)
      = if h : 64 * c.val ≤ t.val ∧ t.val < 64 * c.val + 576 then w (ix3 ⟨2 * i.val + p.val, by omega⟩ ⟨t.val - 64 * c.val, by omega⟩ j) else ⊥ := by
  have hbot : Ideal.ofBits FTy.f32 4286578688#32 = ⊥ := rfl
  have hw : ∀ (a b : Fin 16) (s s' : Fin 576), a.val = b.val → s.val = s'.val → w (ix3 a s j) = w (ix3 b s' j) := fun a b s s' ha hs => by
    rw [Fin.ext ha, Fin.ext hs]
  unfold both
  pointwise
  fin_cases c
  · simp only [Fin.zero_eta, Fin.val_zero, Nat.zero_lt_one, dif_pos, mul_zero, Nat.zero_le, true_and, zero_add]
    split
    · rw [dif_pos (by omega)]
      exact hw _ _ _ _ (by dsimp only; omega) (by dsimp only; omega)
    · rw [dif_neg (by omega)]
      exact hbot
  · simp only [Fin.mk_one, Fin.val_one, lt_irrefl, dif_neg, not_false_eq_true, mul_one]
    split
    · rw [dif_pos (by omega)]
      exact hw _ _ _ _ (by dsimp only; omega) rfl
    · rw [dif_neg (by omega)]
      exact hbot

theorem gain_apply (x : FVec Ideal S1x1024 .f32) (n : Fin 1024) (j : Fin 128) : gain x (ix2 n j) = x (ix2 0 n) := by
  unfold gain
  pointwise

/-- The bias of query `64 c + j` of a tile at window position `t`: the relative bias of its distance less the first bias, in
    units of log 2; −∞ where the query's chunk does not reach. -/
theorem band_apply (x : FVec Ideal S1x16x257 .f32) (i : Fin 8) (t : Fin 640) (p : Fin 2) (c : Fin 2) (j : Fin 64) :
    band x (ix3 i t ⟨128 * p.val + (64 * c.val + j.val), by omega⟩)
      = if 64 * c.val ≤ t.val ∧ t.val < 64 * c.val + 576
        then (entry x ⟨2 * i.val + p.val, by omega⟩ (63 - j.val + (t.val - 64 * c.val)) - x (ix3 0 ⟨2 * i.val + p.val, by omega⟩ 0)) * unit2 else ⊥ := by
  unfold band
  rw [both_apply]
  split
  · rw [scaled_apply, rows_apply, rows_apply, ext_apply, ext_apply]
    congr 2
  · rfl

end Cert.KernelIdeal.Table

end
-- ==== Proof.ArrayValue.lean ====
/- The attention's result array, entry by entry, from the arguments. -/
module

public import proofs.«01_k».proof.Proof.BlockValue
public import proofs.«01_k».proof.Proof.BandEntries
public import proofs.«01_k».proof.Proof.Gen.KernelIdeal.Value
public import Idealize.ShloMosaic.Lib.Pipeline.ValueKit.Geometry

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The queries of sequence `b`. -/
def queries (a : FVec Ideal S32768x1024 .bf16) (b : Nat) (hb : b < 16) : FVec Ideal S2048x1024 .bf16 :=
  fun y => a (ix2 ⟨b * 2048 + (y 0).val, by have := (y 0).isLt; simp at this; omega⟩ (y 1))

/-- The keys of sequence `b`. -/
def keys (a : FVec Ideal S16x2560x1024 .bf16) (b : Nat) (hb : b < 16) : FVec Ideal S1x2560x1024 .bf16 :=
  fun y => a (ix3 ⟨b, hb⟩ (y 1) (y 2))

/-- The values of sequence `b`, channels first. -/
def values (a : FVec Ideal S16x1024x2560 .bf16) (b : Nat) (hb : b < 16) : FVec Ideal S1x1024x2560 .bf16 :=
  fun y => a (ix3 ⟨b, hb⟩ (y 1) (y 2))

theorem point_lt (t : Fin cfg0.N) : t.val < 16 := by have := t.isLt; have h : cfg0.N = 16 := N_0; omega

theorem index0 : ∀ t : Fin cfg0.N, win0_0.index t 0 = t.val ∧ win0_0.index t 1 = 0 := by
  intro t; rcases fin_N0 t with h | h | h | h | h | h | h | h | h | h | h | h | h | h | h | h <;> subst h <;> decide +kernel
theorem index1 : ∀ t : Fin cfg0.N, win0_1.index t 0 = t.val ∧ win0_1.index t 1 = 0 ∧ win0_1.index t 2 = 0 := by
  intro t; rcases fin_N0 t with h | h | h | h | h | h | h | h | h | h | h | h | h | h | h | h <;> subst h <;> decide +kernel
theorem index2 : ∀ t : Fin cfg0.N, win0_2.index t 0 = t.val ∧ win0_2.index t 1 = 0 ∧ win0_2.index t 2 = 0 := by
  intro t; rcases fin_N0 t with h | h | h | h | h | h | h | h | h | h | h | h | h | h | h | h <;> subst h <;> decide +kernel
theorem index3 : ∀ t : Fin cfg0.N, win0_3.index t 0 = 0 ∧ win0_3.index t 1 = 0 ∧ win0_3.index t 2 = 0 := by
  intro t; rcases fin_N0 t with h | h | h | h | h | h | h | h | h | h | h | h | h | h | h | h <;> subst h <;> decide +kernel
theorem index4 : ∀ t : Fin cfg0.N, win0_4.index t 0 = 0 ∧ win0_4.index t 1 = 0 := by
  intro t; rcases fin_N0 t with h | h | h | h | h | h | h | h | h | h | h | h | h | h | h | h <;> subst h <;> decide +kernel
theorem index5 : ∀ t : Fin cfg0.N, win0_5.index t 0 = t.val ∧ win0_5.index t 1 = 0 ∧ win0_5.index t 2 = 0 := by
  intro t; rcases fin_N0 t with h | h | h | h | h | h | h | h | h | h | h | h | h | h | h | h <;> subst h <;> decide +kernel

theorem block0 (t : Fin cfg0.N) : iblk m c 0 t = queries (m ((c : Thread nD τ).loc main_arg0)) t.val (point_lt t) := by
  funext y
  obtain ⟨e0, e1⟩ := index0 t
  blk_simp [iblk, V_main_arg0]
  refine congrArg _ (funext fun a => Fin.ext ?_)
  match a with
  | ⟨0, _⟩ => blk_simp [e0]; rfl
  | ⟨1, _⟩ => blk_simp [e1]; rfl

theorem block1 (t : Fin cfg0.N) : iblk m c 1 t = keys (m ((c : Thread nD τ).loc main_arg1)) t.val (point_lt t) := by
  funext y
  obtain ⟨e0, e1, e2⟩ := index1 t
  blk_simp [iblk, V_main_arg1]
  refine congrArg _ (funext fun a => Fin.ext ?_)
  match a with
  | ⟨0, _⟩ => blk_simp [e0]
  | ⟨1, _⟩ => blk_simp [e1]; rfl
  | ⟨2, _⟩ => blk_simp [e2]; rfl

theorem block2 (t : Fin cfg0.N) : iblk m c 2 t = values (m ((c : Thread nD τ).loc main_arg2)) t.val (point_lt t) := by
  funext y
  obtain ⟨e0, e1, e2⟩ := index2 t
  blk_simp [iblk, V_main_arg2]
  refine congrArg _ (funext fun a => Fin.ext ?_)
  match a with
  | ⟨0, _⟩ => blk_simp [e0]
  | ⟨1, _⟩ => blk_simp [e1]; rfl
  | ⟨2, _⟩ => blk_simp [e2]; rfl

theorem block3 (t : Fin cfg0.N) : iblk m c 3 t = Table.band (m ((c : Thread nD τ).loc main_arg3)) := by
  rw [← Table.band_read]
  funext y
  obtain ⟨e0, e1, e2⟩ := index3 t
  blk_simp [iblk]
  refine congrArg _ (funext fun a => Fin.ext ?_)
  match a with
  | ⟨0, _⟩ => blk_simp [e0]
  | ⟨1, _⟩ => blk_simp [e1]
  | ⟨2, _⟩ => blk_simp [e2]

theorem block4 (t : Fin cfg0.N) : iblk m c 4 t = Table.gain (m ((c : Thread nD τ).loc main_arg4)) := by
  rw [← Table.gain_read]
  funext y
  obtain ⟨e0, e1⟩ := index4 t
  blk_simp [iblk]
  refine congrArg _ (funext fun a => Fin.ext ?_)
  match a with
  | ⟨0, _⟩ => blk_simp [e0]
  | ⟨1, _⟩ => blk_simp [e1]

/-- The attention of the arguments: what the result array ends with. -/
def whole (a0 : FVec Ideal S32768x1024 .bf16) (a1 : FVec Ideal S16x2560x1024 .bf16) (a2 : FVec Ideal S16x1024x2560 .bf16) (a3 : FVec Ideal S1x16x257 .f32) (a4 : FVec Ideal S1x1024 .f32) :
    FVec Ideal S16x1024x2048 .bf16 := fun i =>
  Block.result (queries a0 (i 0).val (i 0).isLt) (keys a1 (i 0).val (i 0).isLt) (values a2 (i 0).val (i 0).isLt) (Table.band a3) (Table.gain a4) (i 1) (i 2)

theorem whole_at (a0 : FVec Ideal S32768x1024 .bf16) (a1 : FVec Ideal S16x2560x1024 .bf16) (a2 : FVec Ideal S16x1024x2560 .bf16) (a3 : FVec Ideal S1x16x257 .f32) (a4 : FVec Ideal S1x1024 .f32)
    (i : S16x1024x2048.Idx) (b : Nat) (hb : b < 16) (n : Fin 1024) (r : Fin 2048) (h0 : (i 0).val = b) (h1 : i 1 = n) (h2 : i 2 = r) :
    whole a0 a1 a2 a3 a4 i = Block.result (queries a0 b hb) (keys a1 b hb) (values a2 b hb) (Table.band a3) (Table.gain a4) n r := by
  subst h0 h1 h2
  rfl

theorem flushed_eq (t : Fin cfg0.N) : (dats m 0 c).flushed 5 t = (win0_5.blk t).view.read (Elt Ideal)
    (whole (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨e0, e1, e2⟩ := index5 t
  rw [Value.flushed5_A, Block.out_block, block0, block1, block2, block3, block4]
  funext y
  have k0 : ((win0_5.blk t).view.emb y 0).val = t.val := by blk_simp [e0]
  have k1 : (win0_5.blk t).view.emb y 1 = (cfg0.win 5).xinj (grid0.coords t) y 1 := Fin.ext (by blk_simp [e1])
  have k2 : (win0_5.blk t).view.emb y 2 = (cfg0.win 5).xinj (grid0.coords t) y 2 := Fin.ext (by blk_simp [e2])
  exact (whole_at _ _ _ _ _ _ _ (point_lt t) _ _ k0 k1 k2).symm

theorem mem_blk (t : Fin cfg0.N) (i : S16x1024x2048.Idx) :
    i ∈ ((cfg0.win 5).blk t).view.set ↔ t.val = (i 0 : Nat) := by
  show i ∈ ((View.whole main_v160).slice (win0_5.rect t)).set ↔ _
  rw [View.set_slice_whole, Rect.mem_set_unit]
  have h1 : (i 1 : Nat) < 1024 := (i 1).isLt
  have h2 : (i 2 : Nat) < 2048 := (i 2).isLt
  obtain ⟨e0, e1, e2⟩ := index5 t
  have x0 : win0_5.xsize (grid0.coords t) 0 = 1 ∧ win0_5.xsize (grid0.coords t) 1 = 1024 ∧ win0_5.xsize (grid0.coords t) 2 = 2048 := by
    rcases fin_N0 t with h | h | h | h | h | h | h | h | h | h | h | h | h | h | h | h <;> subst h <;> decide +kernel
  refine ⟨fun h => ?_, fun h a => ?_⟩
  · have : win0_5.index t 0 * 1 ≤ (i 0 : Nat) ∧ (i 0 : Nat) < win0_5.index t 0 * 1 + win0_5.xsize (grid0.coords t) 0 := h 0
    rw [e0, x0.1] at this; omega
  · match a with
    | ⟨0, _⟩ => show win0_5.index t 0 * 1 ≤ (i 0 : Nat) ∧ (i 0 : Nat) < win0_5.index t 0 * 1 + win0_5.xsize (grid0.coords t) 0
                rw [e0, x0.1]; omega
    | ⟨1, _⟩ => show win0_5.index t 1 * 1024 ≤ (i 1 : Nat) ∧ (i 1 : Nat) < win0_5.index t 1 * 1024 + win0_5.xsize (grid0.coords t) 1
                rw [e1, x0.2.1]; omega
    | ⟨2, _⟩ => show win0_5.index t 2 * 2048 ≤ (i 2 : Nat) ∧ (i 2 : Nat) < win0_5.index t 2 * 2048 + win0_5.xsize (grid0.coords t) 2
                rw [e2, x0.2.2]; omega

theorem cover (i : S16x1024x2048.Idx) : ∃ t : Fin cfg0.N, (cfg0.win 5).flush t = true ∧ i ∈ ((cfg0.win 5).blk t).view.set :=
  ⟨⟨(i 0).val, by have h : cfg0.N = 16 := N_0; have := (i 0).isLt; rw [h]; exact this⟩, flush0_5 _, (mem_blk _ i).2 rfl⟩

/-- The result array after the run is the attention of the arguments. -/
theorem final : (dats m 0 c).arrAt 5 cfg0.N
    = whole (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) cover

end Cert.KernelIdeal.Array
-- ==== Proof.RefScore.lean ====
/- What the reference computes, entry by entry: its scores. -/
module

public import proofs.«01_k».proof.Proof.Gen.ReferenceIdeal.Read
public import Idealize.ShloMosaic.Lib.Pointwise

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

variable (x0 : FVec Ideal S32768x1024 .bf16) (x1 : FVec Ideal S16x2560x1024 .bf16) (x2 : FVec Ideal S16x1024x2560 .bf16) (x3 : FVec Ideal S1x16x257 .f32) (x4 : FVec Ideal S1x1024 .f32)

theorem query (b : Fin 16) (r : Fin 2048) (h : Fin 16) (d : Fin 64) :
    val_main_v1 (F := Ideal) x0 (ix4 b r h d) = x0 (ix2 ⟨b.val * 2048 + r.val, by omega⟩ ⟨h.val * 64 + d.val, by omega⟩) := by
  unfold val_main_v1 val_main_v0
  pointwise

theorem key (b : Fin 16) (r : Fin 2048) (h : Fin 16) (d : Fin 64) :
    val_main_v4 (F := Ideal) x1 (ix4 b r h d) = x1 (ix3 b ⟨512 + r.val, by omega⟩ ⟨h.val * 64 + d.val, by omega⟩) := by
  unfold val_main_v4 val_main_v3 val_main_v2
  pointwise

theorem value (b : Fin 16) (r : Fin 2048) (h : Fin 16) (d : Fin 64) :
    val_main_v8 (F := Ideal) x2 (ix4 b r h d) = x2 (ix3 b ⟨h.val * 64 + d.val, by omega⟩ ⟨512 + r.val, by omega⟩) := by
  unfold val_main_v8 val_main_v7 val_main_v6 val_main_v5
  pointwise

/-- The distance of two positions, clipped: over every difference of two positions. -/
theorem clipped : ∀ e : Fin 4096, Scalar.select (IntOp.cmpi .slt (IntOp.addi (IntOp.minsi 128#32 (IntOp.maxsi 4294967168#32 (BitVec.ofNat 32 e.val - 2047#32))) 128#32) 0#32)
    (IntOp.addi (IntOp.addi (IntOp.minsi 128#32 (IntOp.maxsi 4294967168#32 (BitVec.ofNat 32 e.val - 2047#32))) 128#32) 257#32)
    (IntOp.addi (IntOp.minsi 128#32 (IntOp.maxsi 4294967168#32 (BitVec.ofNat 32 e.val - 2047#32))) 128#32)
    = BitVec.ofNat 32 (min (e.val + 128 - 2047) 256) := by decide +kernel

theorem distance (q k : Fin 2048) : IntOp.subi (BitVec.ofNat 32 k.val) (BitVec.ofNat 32 q.val) = BitVec.ofNat 32 (k.val + 2047 - q.val) - 2047#32 := by
  apply BitVec.eq_of_toNat_eq
  show (BitVec.ofNat 32 k.val - BitVec.ofNat 32 q.val).toNat = _
  simp only [BitVec.toNat_sub, BitVec.toNat_ofNat]
  omega

theorem position (q k : Fin 2048) : val_main_v23 (F := Ideal) (ix2 q k) = BitVec.ofNat 32 (min (k.val + 128 - q.val) 256) := by
  have hid : ∀ w : BitVec 32, id (constantI S_ 32 w) ix0 = w := fun _ => rfl
  unfold val_main_v23 val_main_v22 val_main_v21 val_main_c_3 val_main_v20 val_main_v19 val_main_c_2 val_main_v17 val_main_v16 val_main_c_1 val_main_v15 val_main_call0_v4 val_main_call0_v3 val_main_call0_v2 val_main_call0_v1 val_main_call0_v0 val_main_c_0 val_main_c val_main_v14 val_main_v13 val_main_v12 val_main_v11 val_main_v10 val_main_v9
  pointwise
  rw [hid, hid, distance, clipped ⟨k.val + 2047 - q.val, by omega⟩]
  congr 2
  dsimp only
  omega

theorem chunks : ∀ q : Fin 2048, Scalar.select
      (IntOp.andi
        (IntOp.cmpi .ne (if BitVec.ofNat 32 q.val = 0 then (0 : BitVec 32) else if (BitVec.ofNat 32 q.val).msb = true then -1 else 1)
          (if (64#32 : BitVec 32) = 0 then 0 else if BitVec.msb (64#32) = true then -1 else 1))
        (IntOp.cmpi .ne (IntOp.remsi .host (BitVec.ofNat 32 q.val) 64#32) 0#32))
      (IntOp.subi (IntOp.divsi .host (BitVec.ofNat 32 q.val) 64#32) 1#32)
      (IntOp.divsi .host (BitVec.ofNat 32 q.val) 64#32) = BitVec.ofNat 32 (q.val / 64) := by decide +kernel

theorem chunk (q : Fin 2048) : val_main_v26 (F := Ideal) (ix1 q) = BitVec.ofNat 32 (q.val / 64) := by
  have hid : ∀ w : BitVec 32, id (constantI S_ 32 w) ix0 = w := fun _ => rfl
  unfold val_main_v26 val_main_call1_v13 val_main_call1_v12 val_main_call1_c_0 val_main_call1_v11 val_main_call1_v10 val_main_call1_v9 val_main_call1_c val_main_call1_v8 val_main_call1_v7 val_main_call1_v6 val_main_call1_v5 val_main_call1_v4 val_main_call1_v3 val_main_call1_v2 val_main_call1_v1 val_main_call1_v0 val_main_c_4 val_main_v9
  pointwise
  rw [hid]
  exact chunks q

theorem dots (b h : Fin 16) (q k : Fin 2048) : val_main_v40 (F := Ideal) x0 x1 (ix4 b h q k)
    = ∑ d : Fin 64, val_main_v1 (F := Ideal) x0 (ix4 b q h d) * val_main_v4 (F := Ideal) x1 (ix4 b k h d) := by
  unfold val_main_v40
  generalize val_main_v1 (F := Ideal) x0 = a
  generalize val_main_v4 (F := Ideal) x1 = z
  pointwise

theorem reach : ∀ a c : Fin 32, IntOp.andi (IntOp.cmpi .sle (BitVec.ofNat 32 a.val) (BitVec.ofNat 32 c.val))
    (IntOp.cmpi .sge (BitVec.ofNat 32 a.val) (IntOp.subi (BitVec.ofNat 32 c.val) 8#32)) = if a.val ≤ c.val ∧ c.val ≤ a.val + 8 then 1#1 else 0#1 := by
  decide +kernel

theorem validity (q k : Fin 2048) : val_main_v39 (F := Ideal) (ix2 q k) = if k.val / 64 ≤ q.val / 64 ∧ q.val / 64 ≤ k.val / 64 + 8 then 1#1 else 0#1 := by
  rw [← reach ⟨k.val / 64, by omega⟩ ⟨q.val / 64, by omega⟩, ← chunk, ← chunk]
  unfold val_main_v39 val_main_v38 val_main_v37 val_main_v36 val_main_v35 val_main_v34 val_main_c_5 val_main_v33 val_main_v32 val_main_v31 val_main_v30 val_main_v29 val_main_v28 val_main_v27
  generalize val_main_v26 (F := Ideal) = a
  pointwise

theorem narrow : ∀ n : Fin 257, (BitVec.ofNat 32 n.val).toInt.toNat = n.val := by decide +kernel

/-- The bias of a query and a key: the entry of their clipped distance. -/
theorem bias (h : Fin 16) (q k : Fin 2048) : val_main_v25 (F := Ideal) x3 (ix3 h q k) = x3 (ix3 0 h ⟨min (k.val + 128 - q.val) 256, by omega⟩) := by
  have hx : ∀ j : Fin 257, val_main_v18 (F := Ideal) x3 (ix2 h j) = x3 (ix3 0 h j) := fun j => by
    unfold val_main_v18
    pointwise
  have hp : val_main_v24 (F := Ideal) (ix3 q k 0) = BitVec.ofNat 32 (min (k.val + 128 - q.val) 256) := by
    rw [← position]
    unfold val_main_v24
    generalize val_main_v23 (F := Ideal) = a
    pointwise
  rw [← hx]
  unfold val_main_v25 Host.gather
  generalize hd : gather_S16x257_S2048x2048x1_S16x2048x2048_0_1_n_n_1_2_161 = d
  refine congrArg _ (funext fun a => Fin.ext ?_)
  show d.start _ _ a + d.batchCoord _ a + d.offCoord _ a = _
  have hb : d.batchCoord (ix3 h q k) a = 0 := GatherDims.batchCoord_eq_zero _ _ _ (by subst hd; exact List.not_mem_nil)
  rw [hb]
  match a with
  | ⟨0, _⟩ =>
    have hst : d.start (ix3 h q k) (val_main_v24 (F := Ideal)) 0 = 0 := by
      unfold GatherDims.start
      exact dif_neg (by subst hd; exact fun e => absurd (List.mem_singleton.1 e) (by decide))
    show d.start _ _ 0 + 0 + d.offCoord _ 0 = _
    rw [hst]
    subst hd
    unfold GatherDims.offCoord
    rw [dif_pos ((GatherDims.mem_sKept _ _).2 ⟨fun e => absurd (List.mem_singleton.1 e) (by decide), List.not_mem_nil⟩)]
    show 0 + 0 + h.val = h.val
    omega
  | ⟨1, _⟩ =>
    have ho : d.offCoord (ix3 h q k) 1 = 0 := GatherDims.offCoord_eq_zero _ _ _ (fun e => ((GatherDims.mem_sKept _ _).mp e).1 (by subst hd; exact List.mem_singleton.mpr rfl))
    show d.start _ _ 1 + 0 + d.offCoord _ 1 = _
    rw [ho]
    unfold GatherDims.start
    rw [dif_pos (by subst hd; exact List.mem_singleton.mpr rfl)]
    have hs : ∀ hh, d.siIdx (ix3 h q k) ⟨List.idxOf (1 : Fin 2) d.startIndexMap, hh⟩ = ix3 q k 0 := by
      subst hd
      intro hh
      funext b; refine Fin.ext ?_
      match b with
      | ⟨0, _⟩ => rfl
      | ⟨1, _⟩ => rfl
      | ⟨2, _⟩ => rfl
    rw [hs, hp]
    subst hd
    show min (BitVec.ofNat 32 (min (k.val + 128 - q.val) 256)).toInt.toNat 256 + 0 + 0 = min (k.val + 128 - q.val) 256
    have hn := narrow ⟨min (k.val + 128 - q.val) 256, by omega⟩
    dsimp only at hn
    rw [hn]
    omega

theorem scores (b h : Fin 16) (q k : Fin 2048) : val_main_v48 (F := Ideal) x0 x1 x3 (ix4 b h q k) =
    if k.val / 64 ≤ q.val / 64 ∧ q.val / 64 ≤ k.val / 64 + 8
    then (∑ d : Fin 64, x0 (ix2 ⟨b.val * 2048 + q.val, by omega⟩ ⟨h.val * 64 + d.val, by omega⟩) * x1 (ix3 b ⟨512 + k.val, by omega⟩ ⟨h.val * 64 + d.val, by omega⟩))
      * Ideal.log (Ideal.ofBits .f32 0x40000000#32) + x3 (ix3 0 h ⟨min (k.val + 128 - q.val) 256, by omega⟩)
    else ⊥ := by
  have hs : val_main_v48 (F := Ideal) x0 x1 x3 (ix4 b h q k) = Scalar.select (val_main_v39 (F := Ideal) (ix2 q k))
      (val_main_v40 (F := Ideal) x0 x1 (ix4 b h q k) * Ideal.log (Ideal.ofBits .f32 0x40000000#32) + val_main_v25 (F := Ideal) x3 (ix3 h q k))
      (id (constant (F := Ideal) S_ .f32 0xFF800000#32) ix0) := by
    unfold val_main_v48 val_main_call2_v2 val_main_call2_v1 val_main_call2_v0 val_main_v47 val_main_v46 val_main_v45 val_main_v44 val_main_v43 val_main_v42 val_main_v41 val_main_cst val_main_cst_6
    generalize val_main_v39 (F := Ideal) = a
    generalize val_main_v25 (F := Ideal) x3 = e
    generalize val_main_v40 (F := Ideal) x0 x1 = z
    pointwise
  rw [hs, validity, dots, bias]
  simp only [query, key]
  split
  · rfl
  · rfl

end Cert.ReferenceIdeal.Att
-- ==== Proof.RefAtt.lean ====
/- What the reference computes, entry by entry: its weights, its attention, and the normalised result. -/
module

public import proofs.«01_k».proof.Proof.RefScore

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

variable (x0 : FVec Ideal S32768x1024 .bf16) (x1 : FVec Ideal S16x2560x1024 .bf16) (x2 : FVec Ideal S16x1024x2560 .bf16) (x3 : FVec Ideal S1x16x257 .f32) (x4 : FVec Ideal S1x1024 .f32)

/-- The scores of a query over its keys. -/
def row (b h : Fin 16) (q : Fin 2048) (k : Fin 2048) : EReal := val_main_v48 (F := Ideal) x0 x1 x3 (ix4 b h q k)

theorem reduced (x : FVec Ideal S16x16x2048x2048 .f32) (z : FVec Ideal S_ .f32) (b h : Fin 16) (q : Fin 2048) :
    Host.reduce (FloatOps.maximumf (F := Ideal) (φ := .f32)) x z reducesTo_S16x16x2048x2048_S16x16x2048_d3 h_S_ (ix3 b h q)
      = Finset.univ.fold max (z ix0) (fun k : Fin 2048 => x (ix4 b h q k)) := by
  pointwise
  rw [show Shape.Idx.first h_S_ = ix0 from funext fun a => a.elim0]

theorem top (b h : Fin 16) (q : Fin 2048) : val_main_v51 (F := Ideal) x0 x1 x3 (ix3 b h q) = Finset.univ.sup (row x0 x1 x3 b h q) := by
  have h50 : val_main_v50 (F := Ideal) (ix3 b h q) = (⊥ : EReal) := by
    unfold val_main_v50 val_main_cst_8
    pointwise
    rfl
  have h49 : val_main_v49 (F := Ideal) x0 x1 x3 (ix3 b h q) = Finset.univ.sup (row x0 x1 x3 b h q) := by
    unfold row val_main_v49
    generalize val_main_v48 (F := Ideal) x0 x1 x3 = a
    exact reduced a _ b h q
  rw [val_main_v51_apply, h50, h49]
  exact max_eq_right bot_le

theorem power (b h : Fin 16) (q k : Fin 2048) : val_main_v55 (F := Ideal) x0 x1 x3 (ix4 b h q k)
    = Ideal.exp (row x0 x1 x3 b h q k - Finset.univ.sup (row x0 x1 x3 b h q)) := by
  rw [← top]
  unfold row val_main_v55 val_main_v54 val_main_v53 val_main_v52
  generalize val_main_v51 (F := Ideal) x0 x1 x3 = t
  generalize val_main_v48 (F := Ideal) x0 x1 x3 = a
  pointwise

theorem share (b h : Fin 16) (q k : Fin 2048) : val_main_v59 (F := Ideal) x0 x1 x3 (ix4 b h q k)
    = Ideal.div (Ideal.exp (row x0 x1 x3 b h q k - Finset.univ.sup (row x0 x1 x3 b h q)))
      (∑ k', Ideal.exp (row x0 x1 x3 b h q k' - Finset.univ.sup (row x0 x1 x3 b h q))) := by
  simp only [← power]
  unfold val_main_v59 val_main_v58 val_main_v57 val_main_v56 val_main_cst_9
  generalize val_main_v55 (F := Ideal) x0 x1 x3 = a
  pointwise

/-- Channel `d` of head `h` of a query's attention. -/
def attended (b h : Fin 16) (d : Fin 64) (q : Fin 2048) : EReal :=
  ∑ k, Ideal.div (Ideal.exp (row x0 x1 x3 b h q k - Finset.univ.sup (row x0 x1 x3 b h q)))
      (∑ k', Ideal.exp (row x0 x1 x3 b h q k' - Finset.univ.sup (row x0 x1 x3 b h q)))
    * x2 (ix3 b ⟨h.val * 64 + d.val, by omega⟩ ⟨512 + k.val, by omega⟩)

theorem mix (b h : Fin 16) (d : Fin 64) (q : Fin 2048) : val_main_v60 (F := Ideal) x0 x1 x2 x3 (ix4 b h d q) = attended x0 x1 x2 x3 b h d q := by
  have hs : val_main_v60 (F := Ideal) x0 x1 x2 x3 (ix4 b h d q)
      = ∑ k, val_main_v8 (F := Ideal) x2 (ix4 b k h d) * val_main_v59 (F := Ideal) x0 x1 x3 (ix4 b h q k) := by
    unfold val_main_v60
    generalize val_main_v59 (F := Ideal) x0 x1 x3 = a
    generalize val_main_v8 (F := Ideal) x2 = z
    pointwise
  rw [hs]
  simp only [value, share]
  exact Finset.sum_congr rfl fun k _ => mul_comm _ _

theorem joined (b : Fin 16) (q : Fin 2048) (n : Fin 1024) : val_main_v62 (F := Ideal) x0 x1 x2 x3 (ix3 b q n)
    = attended x0 x1 x2 x3 b ⟨n.val / 64, by omega⟩ ⟨n.val % 64, by omega⟩ q := by
  rw [← mix]
  unfold val_main_v62 val_main_v61
  generalize val_main_v60 (F := Ideal) x0 x1 x2 x3 = a
  pointwise

theorem result (b : Fin 16) (n : Fin 1024) (q : Fin 2048) : val_main_v78 (F := Ideal) x0 x1 x2 x3 x4 (ix3 b n q)
    = val_main_v62 (F := Ideal) x0 x1 x2 x3 (ix3 b q n)
      * Ideal.rsqrt (Ideal.div (∑ n', val_main_v62 (F := Ideal) x0 x1 x2 x3 (ix3 b q n') * val_main_v62 (F := Ideal) x0 x1 x2 x3 (ix3 b q n')) (Ideal.ofBits .f32 0x44800000#32)
        + Ideal.ofBits .f32 0x358637BD#32) * x4 (ix2 0 n) := by
  unfold val_main_v78 val_main_v77 val_main_v76 val_main_v75 val_main_v74 val_main_v73 val_main_v72 val_main_v71 val_main_v70 val_main_v69 val_main_v68 val_main_cst_12 val_main_v67 val_main_v66 val_main_cst_11 val_main_v65 val_main_v64 val_main_cst_10 val_main_v63
  generalize val_main_v62 (F := Ideal) x0 x1 x2 x3 = a
  pointwise

end Cert.ReferenceIdeal.Att
-- ==== Proof.Softmax.lean ====
/- Softmax over the extended reals, in base two and in base e.

   The kernel takes, for each query, a softmax of the scores of the keys around it in units of log 2, less a
   constant; it multiplies with the values first and with the reciprocal of the sum afterwards.  The reference
   takes the usual softmax of the scores of all keys, most of them masked.  `attend_eq` says that both give the
   same weighted sum of the values, which may be infinite. -/
module

public import Idealize.ShloMosaic.Lib.Pointwise

@[expose] public section

noncomputable section

namespace Cert.Softmax

open Idealize.ShloMosaic

/-- A real factor that is not negative distributes over a finite sum of extended reals. -/
theorem sum_mul_real {ι : Type} (A : Finset ι) (f : ι → EReal) (c : ℝ) (hc : 0 ≤ c) :
    (∑ k ∈ A, f k) * (c : EReal) = ∑ k ∈ A, f k * (c : EReal) := by
  classical
  induction A using Finset.induction_on with
  | empty => simp
  | insert a A ha ih =>
    rw [Finset.sum_insert ha, Finset.sum_insert ha,
      EReal.right_distrib_of_nonneg_of_ne_top (EReal.coe_nonneg.2 hc) (EReal.coe_ne_top c), ih]

/-- A finite sum of real numbers is the same sum over the extended reals. -/
theorem coe_sum {ι : Type} (A : Finset ι) (f : ι → ℝ) : ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

/-- Two to the power of `x / log 2` is the exponential. -/
theorem exp2_coe_div (x : ℝ) : Ideal.exp2 ((x * (Real.log 2)⁻¹ : ℝ) : EReal) = ((Real.exp x : ℝ) : EReal) := by
  show ((Real.rpow 2 (x * (Real.log 2)⁻¹) : ℝ) : EReal) = _
  congr 1
  show (2 : ℝ) ^ (x * (Real.log 2)⁻¹) = _
  rw [Real.rpow_def_of_pos (by norm_num)]
  congr 1
  have h : Real.log 2 ≠ 0 := (Real.log_pos (by norm_num)).ne'
  field_simp

/-- Dividing by a real number that is not zero is multiplying with its inverse. -/
theorem div_real (x : EReal) (c : ℝ) (hc : c ≠ 0) : Ideal.div x (c : EReal) = x * ((c⁻¹ : ℝ) : EReal) := by
  unfold Ideal.div
  rw [if_neg (by exact_mod_cast hc), EReal.coe_inv]

/-- The greatest of masked real scores is attained at a key that is not masked. -/
theorem sup_masked {κ : Type} [Fintype κ] (V : κ → Prop) [DecidablePred V] (u : κ → ℝ) (S : κ → EReal)
    (hS : ∀ k, S k = if V k then ((u k : ℝ) : EReal) else ⊥) (k₀ : κ) (h₀ : V k₀) (hmax : ∀ k, V k → u k ≤ u k₀) :
    Finset.univ.sup S = ((u k₀ : ℝ) : EReal) := by
  apply le_antisymm
  · refine Finset.sup_le fun k _ => ?_
    rw [hS k]
    split
    · next h => exact EReal.coe_le_coe_iff.2 (hmax k h)
    · exact bot_le
  · have := Finset.le_sup (f := S) (Finset.mem_univ k₀)
    rwa [hS k₀, if_pos h₀] at this

/-- Folding the maximum from minus infinity is the supremum. -/
theorem fold_max_eq_sup {κ : Type} [Fintype κ] (S : κ → EReal) :
    Finset.univ.fold max ⊥ S = Finset.univ.sup S := rfl

section Window

variable {ι κ : Type} [Fintype ι] [Fintype κ] (V : κ → Prop) [DecidablePred V] (W : ι → Prop) [DecidablePred W] (pos : ι → κ)

/-- A sum over the places of a window is the sum over the keys that stand there. -/
theorem sum_window (f : κ → EReal) (hmap : ∀ t, W t → V (pos t)) (honto : ∀ k, V k → ∃ t, W t ∧ pos t = k)
    (hinj : ∀ t t', W t → W t' → pos t = pos t' → t = t') :
    ∑ t, (if W t then f (pos t) else 0) = ∑ k, if V k then f k else 0 := by
  rw [← Finset.sum_filter, ← Finset.sum_filter]
  refine Finset.sum_nbij pos ?_ ?_ ?_ ?_
  · intro t ht
    simp only [Finset.mem_filter, Finset.mem_univ, true_and] at ht ⊢
    exact hmap t ht
  · intro t ht t' ht' h
    simp only [Finset.coe_filter, Finset.mem_univ, true_and, Set.mem_setOf_eq] at ht ht'
    exact hinj t t' ht ht' h
  · intro k hk
    simp only [Finset.coe_filter, Finset.mem_univ, true_and, Set.mem_setOf_eq] at hk
    obtain ⟨t, ht, rfl⟩ := honto k hk
    exact ⟨t, by simpa using ht, rfl⟩
  · intro t _; rfl

/-- THE SOFTMAX: the base-two softmax over a window, its scores `(u - b) / log 2` where a key stands and minus
    infinity elsewhere, times the values, is the softmax of the scores `u` over all keys, times the values. -/
theorem attend_eq (u : κ → ℝ) (S : κ → EReal) (hS : ∀ k, S k = if V k then ((u k : ℝ) : EReal) else ⊥) (v : κ → EReal)
    (hV : ∃ k, V k) (hmap : ∀ t, W t → V (pos t)) (honto : ∀ k, V k → ∃ t, W t ∧ pos t = k)
    (hinj : ∀ t t', W t → W t' → pos t = pos t' → t = t') (b : ℝ) (s : ι → EReal)
    (hs : ∀ t, s t = if W t then (((u (pos t) - b) * (Real.log 2)⁻¹ : ℝ) : EReal) else ⊥)
    (v' : ι → EReal) (hv : ∀ t, W t → v' t = v (pos t)) :
    (∑ t, v' t * Ideal.exp2 (s t - Finset.univ.sup s)) * Ideal.div 1 (∑ t, Ideal.exp2 (s t - Finset.univ.sup s))
      = ∑ k, Ideal.div (Ideal.exp (S k - Finset.univ.sup S)) (∑ k', Ideal.exp (S k' - Finset.univ.sup S)) * v k := by
  classical
  obtain ⟨k₁, hk₁⟩ := hV
  obtain ⟨k₀, hk₀, hmax⟩ := Finset.exists_max_image (Finset.univ.filter V) u ⟨k₁, by simpa using hk₁⟩
  simp only [Finset.mem_filter, Finset.mem_univ, true_and] at hk₀ hmax
  obtain ⟨t₀, ht₀, hpos⟩ := honto k₀ hk₀
  have hlog : 0 < (Real.log 2)⁻¹ := inv_pos.2 (Real.log_pos (by norm_num))
  have hsupS : Finset.univ.sup S = ((u k₀ : ℝ) : EReal) := sup_masked V u S hS k₀ hk₀ hmax
  have hsups : Finset.univ.sup s = (((u k₀ - b) * (Real.log 2)⁻¹ : ℝ) : EReal) := by
    rw [← hpos]
    refine sup_masked W (fun t => (u (pos t) - b) * (Real.log 2)⁻¹) s hs t₀ ht₀ fun t ht => ?_
    have := hmax (pos t) (hmap t ht)
    rw [hpos]
    exact mul_le_mul_of_nonneg_right (by linarith) hlog.le
  have hE : ∀ k, Ideal.exp (S k - Finset.univ.sup S) = if V k then ((Real.exp (u k - u k₀) : ℝ) : EReal) else 0 := by
    intro k
    rw [hsupS, hS k]
    split
    · rw [← EReal.coe_sub]; rfl
    · rw [EReal.bot_sub]; rfl
  have he : ∀ t, Ideal.exp2 (s t - Finset.univ.sup s) = if W t then ((Real.exp (u (pos t) - u k₀) : ℝ) : EReal) else 0 := by
    intro t
    rw [hsups, hs t]
    split
    · rw [← EReal.coe_sub, ← exp2_coe_div]
      congr 2
      ring
    · rw [EReal.bot_sub]; rfl
  simp only [hE, he]
  rw [sum_window V W pos (fun k => ((Real.exp (u k - u k₀) : ℝ) : EReal)) hmap honto hinj]
  have hL : (∑ k, if V k then ((Real.exp (u k - u k₀) : ℝ) : EReal) else 0)
      = ((∑ k, if V k then Real.exp (u k - u k₀) else 0 : ℝ) : EReal) := by
    rw [coe_sum]
    refine Finset.sum_congr rfl fun k _ => ?_
    split <;> simp
  have hpos' : 0 < (∑ k, if V k then Real.exp (u k - u k₀) else 0 : ℝ) := by
    refine Finset.sum_pos' (fun k _ => ?_) ⟨k₀, Finset.mem_univ _, ?_⟩
    · split
      · exact (Real.exp_pos _).le
      · exact le_refl _
    · rw [if_pos hk₀]; exact Real.exp_pos _
  rw [hL]
  generalize (∑ k, if V k then Real.exp (u k - u k₀) else 0 : ℝ) = L at hpos'
  have hnum : ∀ t, v' t * (if W t then ((Real.exp (u (pos t) - u k₀) : ℝ) : EReal) else 0)
      = if W t then (fun k => v k * ((Real.exp (u k - u k₀) : ℝ) : EReal)) (pos t) else 0 := by
    intro t
    split
    · next h => rw [hv t h]
    · rw [mul_zero]
  rw [Finset.sum_congr rfl fun t _ => hnum t,
    sum_window V W pos (fun k => v k * ((Real.exp (u k - u k₀) : ℝ) : EReal)) hmap honto hinj,
    div_real _ _ hpos'.ne', one_mul, sum_mul_real _ _ _ (inv_nonneg.2 hpos'.le)]
  refine Finset.sum_congr rfl fun k _ => ?_
  rw [div_real _ _ hpos'.ne']
  split
  · rw [mul_assoc, mul_comm]
  · simp only [zero_mul]

end Window

end Cert.Softmax

end
-- ==== Proof.Scores.lean ====
/- The kernel's attention is the reference's, entry by entry: the window's scores are the scores of the keys within reach, less
   the head's first bias and in units of log 2. -/
module

public import proofs.«01_k».proof.Proof.ArrayValue
public import proofs.«01_k».proof.Proof.RefAtt
public import proofs.«01_k».proof.Proof.Softmax
public import Idealize.ShloMosaic.Lib.IdealHost

@[expose] public section

set_option maxRecDepth 16384

noncomputable section

namespace Cert.Scores

open Idealize.ShloMosaic Idealize.ShloMosaic.TcCoe Cert.KernelIdeal

theorem two : Ideal.ofBits .f32 0x40000000#32 = ((2 : ℝ) : EReal) := by
  simp [Ideal.ofBits, Ideal.ieee, -EReal.coe_mul]
  norm_num

theorem log_two : Ideal.log (Ideal.ofBits .f32 0x40000000#32) = ((Real.log 2 : ℝ) : EReal) := by
  rw [two, Ideal.log_coe, if_neg (by norm_num)]

theorem unit2_eq : Table.unit2 = (((Real.log 2)⁻¹ : ℝ) : EReal) := by
  unfold Table.unit2
  rw [log_two, Softmax.div_real _ _ (Real.log_pos (by norm_num)).ne', one_mul]

section
variable (a0 : S32768x1024.Idx → EReal) (a1 : S16x2560x1024.Idx → EReal) (a2 : S16x1024x2560.Idx → EReal) (a3 : S1x16x257.Idx → EReal)

/-- What the scores are made of is real: the queries, the keys after the padding, the biases that a key can meet. -/
structure Real3 : Prop where
  q : ∀ i j, ∃ x : ℝ, a0 (ix2 i j) = x
  k : ∀ b (s : Fin 2048) l, ∃ x : ℝ, a1 (ix3 b ⟨512 + s.val, by omega⟩ l) = x
  b : ∀ h (j : Fin 192), ∃ x : ℝ, a3 (ix3 0 h ⟨j.val, by omega⟩) = x

/-- Key `k` is within reach of query `r`. -/
def Reach (r k : Fin 2048) : Prop := k.val / 64 ≤ r.val / 64 ∧ r.val / 64 ≤ k.val / 64 + 8

/-- Window position `t` of query `r` holds a key within reach. -/
def Held (r : Fin 2048) (t : Fin 640) : Prop :=
  512 ≤ 128 * (r.val / 128) + t.val ∧ 64 * (r.val % 128 / 64) ≤ t.val ∧ t.val < 64 * (r.val % 128 / 64) + 576

/-- The key of window position `t`. -/
def keyAt (r : Fin 2048) (t : Fin 640) : Fin 2048 := ⟨(128 * (r.val / 128) + t.val - 512) % 2048, by omega⟩

theorem keyAt_val (r : Fin 2048) (t : Fin 640) (h : Held r t) : (keyAt r t).val + 512 = 128 * (r.val / 128) + t.val := by
  unfold Held at h
  unfold keyAt
  dsimp only
  omega

/-- The bias of a query and a key in head `h`. -/
def biasOf (h : Fin 16) (r k : Fin 2048) : EReal := a3 (ix3 0 h ⟨min (k.val + 128 - r.val) 256, by omega⟩)

theorem entry_eq (h : Fin 16) (r : Fin 2048) (t : Fin 640) (ht : Held r t) :
    Table.entry a3 h (63 - r.val % 64 + (t.val - 64 * (r.val % 128 / 64))) = biasOf a3 h r (keyAt r t) := by
  have hk := keyAt_val r t ht
  unfold Held at ht
  unfold Table.entry biasOf
  split
  · refine congrArg a3 ?_
    congr 1
    apply Fin.ext
    dsimp only
    omega
  · refine congrArg a3 ?_
    congr 1
    apply Fin.ext
    dsimp only [Fin.val_zero]
    show 0 = min _ _
    omega

/-- The window's bias: the bias of the position's key less the head's first bias, in units of log 2. -/
theorem band_eq (hb : ∀ h (j : Fin 192), ∃ x : ℝ, a3 (ix3 0 h ⟨j.val, by omega⟩) = x) (n : Fin 1024) (r : Fin 2048) (t : Fin 640)
    (hm : 512 ≤ 128 * (r.val / 128) + t.val) [Decidable (Held r t)] :
    Block.band (Table.band a3) n r t = if Held r t
      then (biasOf a3 ⟨n.val / 64, by omega⟩ r (keyAt r t) - a3 (ix3 0 ⟨n.val / 64, by omega⟩ 0)) * Table.unit2 else ⊥ := by
  have hr : Table.band a3 (ix3 ⟨n.val / 128, by omega⟩ t ⟨128 * (n.val / 64 % 2) + r.val % 128, by omega⟩)
      = if Held r t then (biasOf a3 ⟨n.val / 64, by omega⟩ r (keyAt r t) - a3 (ix3 0 ⟨n.val / 64, by omega⟩ 0)) * Table.unit2 else ⊥ := by
    have h := Table.band_apply a3 ⟨n.val / 128, by omega⟩ t ⟨n.val / 64 % 2, by omega⟩ ⟨r.val % 128 / 64, by omega⟩ ⟨r.val % 64, by omega⟩
    have hc : (⟨128 * (n.val / 64 % 2) + (64 * (r.val % 128 / 64) + r.val % 64), by omega⟩ : Fin 256) = ⟨128 * (n.val / 64 % 2) + r.val % 128, by omega⟩ := by
      apply Fin.ext; dsimp only; omega
    have hn : (⟨2 * (n.val / 128) + n.val / 64 % 2, by omega⟩ : Fin 16) = ⟨n.val / 64, by omega⟩ := by
      apply Fin.ext; dsimp only; omega
    dsimp only at h
    rw [hc, hn] at h
    rw [h]
    by_cases ht : Held r t
    · rw [if_pos ht, if_pos ht.2, entry_eq a3 _ r t ht]
    · rw [if_neg ht, if_neg (fun e => ht ⟨hm, e⟩)]
  unfold Block.band
  split
  · exact hr
  · rename_i hmid
    have ht : Held r t := ⟨hm, by omega, by omega⟩
    have hk := keyAt_val r t ht
    rw [if_pos ht]
    have he : biasOf a3 ⟨n.val / 64, by omega⟩ r (keyAt r t) = a3 (ix3 0 ⟨n.val / 64, by omega⟩ 0) := by
      unfold biasOf
      refine congrArg a3 ?_
      congr 1
      apply Fin.ext
      dsimp only [Fin.val_zero]
      show min _ _ = 0
      omega
    obtain ⟨x, hx⟩ := hb ⟨n.val / 64, by omega⟩ 0
    have hx' : a3 (ix3 0 ⟨n.val / 64, by omega⟩ 0) = x := hx
    rw [he, hx', ← EReal.coe_sub, sub_self, EReal.coe_zero, zero_mul]

end

end Cert.Scores
-- ==== Proof.Agree.lean ====
/- The kernel's attention is the reference's, entry by entry. -/
module

public import proofs.«01_k».proof.Proof.Scores

@[expose] public section

set_option maxRecDepth 16384

noncomputable section

namespace Cert.Scores

open Idealize.ShloMosaic Idealize.ShloMosaic.TcCoe Cert.KernelIdeal
open scoped Classical

variable (a0 : S32768x1024.Idx → EReal) (a1 : S16x2560x1024.Idx → EReal) (a2 : S16x1024x2560.Idx → EReal) (a3 : S1x16x257.Idx → EReal) (a4 : S1x1024.Idx → EReal)

/-- The product of a query and a key, as a real number. -/
def product (b : Fin 16) (n : Fin 1024) (r k : Fin 2048) : ℝ :=
  ∑ d : Fin 64, (a0 (ix2 ⟨b.val * 2048 + r.val, by omega⟩ ⟨n.val / 64 * 64 + d.val, by omega⟩)).toReal
    * (a1 (ix3 b ⟨512 + k.val, by omega⟩ ⟨n.val / 64 * 64 + d.val, by omega⟩)).toReal

variable (hreal : Real3 a0 a1 a3)
include hreal

theorem product_eq (b : Fin 16) (n : Fin 1024) (r k : Fin 2048) :
    (∑ d : Fin 64, a0 (ix2 ⟨b.val * 2048 + r.val, by omega⟩ ⟨n.val / 64 * 64 + d.val, by omega⟩)
      * a1 (ix3 b ⟨512 + k.val, by omega⟩ ⟨n.val / 64 * 64 + d.val, by omega⟩)) = ((product a0 a1 b n r k : ℝ) : EReal) := by
  unfold product
  rw [Softmax.coe_sum]
  refine Finset.sum_congr rfl fun d _ => ?_
  obtain ⟨x, hx⟩ := hreal.q ⟨b.val * 2048 + r.val, by omega⟩ ⟨n.val / 64 * 64 + d.val, by omega⟩
  obtain ⟨y, hy⟩ := hreal.k b k ⟨n.val / 64 * 64 + d.val, by omega⟩
  rw [hx, hy, EReal.toReal_coe, EReal.toReal_coe, EReal.coe_mul]

theorem bias_eq (h : Fin 16) (r k : Fin 2048) (hk : Reach r k) : biasOf a3 h r k = (((biasOf a3 h r k).toReal : ℝ) : EReal) := by
  obtain ⟨x, hx⟩ := hreal.b h ⟨min (k.val + 128 - r.val) 256, by unfold Reach at hk; omega⟩
  have hx' : biasOf a3 h r k = x := hx
  rw [hx', EReal.toReal_coe]

/-- A score within reach, as a real number. -/
def scoreOf (b : Fin 16) (n : Fin 1024) (r k : Fin 2048) : ℝ :=
  product a0 a1 b n r k * Real.log 2 + (biasOf a3 ⟨n.val / 64, by omega⟩ r k).toReal

theorem row_eq (b : Fin 16) (n : Fin 1024) (r k : Fin 2048) :
    Cert.ReferenceIdeal.Att.row a0 a1 a3 b ⟨n.val / 64, by omega⟩ r k = if Reach r k then ((scoreOf a0 a1 a3 b n r k : ℝ) : EReal) else ⊥ := by
  unfold Cert.ReferenceIdeal.Att.row
  rw [Cert.ReferenceIdeal.Att.scores]
  by_cases hk : Reach r k
  · rw [if_pos (show k.val / 64 ≤ r.val / 64 ∧ r.val / 64 ≤ k.val / 64 + 8 from hk), if_pos hk, log_two]
    dsimp only
    have hb := bias_eq a0 a1 a3 hreal ⟨n.val / 64, by omega⟩ r k hk
    unfold biasOf at hb
    rw [product_eq a0 a1 a3 hreal, hb, ← EReal.coe_mul, ← EReal.coe_add]
    rfl
  · rw [if_neg (show ¬(k.val / 64 ≤ r.val / 64 ∧ r.val / 64 ≤ k.val / 64 + 8) from hk), if_neg hk]

theorem window_eq (b : Fin 16) (n : Fin 1024) (r : Fin 2048) (t : Fin 640) :
    Block.score (Array.queries a0 b.val b.isLt) (Array.keys a1 b.val b.isLt) (Table.band a3) n r t
      = if Held r t then (((scoreOf a0 a1 a3 b n r (keyAt r t) - (a3 (ix3 0 ⟨n.val / 64, by omega⟩ 0)).toReal) * (Real.log 2)⁻¹ : ℝ) : EReal) else ⊥ := by
  unfold Block.score
  by_cases hm : 512 ≤ 128 * (r.val / 128) + t.val
  · rw [if_pos hm, band_eq a3 hreal.b n r t hm]
    by_cases ht : Held r t
    · have hk := keyAt_val r t ht
      have hreach : Reach r (keyAt r t) := by unfold Held at ht; unfold Reach; omega
      rw [if_pos ht, if_pos ht]
      have hd : Block.dot (Array.queries a0 b.val b.isLt) (Array.keys a1 b.val b.isLt) n r t = ((product a0 a1 b n r (keyAt r t) : ℝ) : EReal) := by
        rw [← product_eq a0 a1 a3 hreal]
        unfold Block.dot
        refine Finset.sum_congr rfl fun d _ => ?_
        rw [mul_comm]
        have e1 : (⟨64 * (n.val / 64) + d.val, by omega⟩ : Fin 1024) = ⟨n.val / 64 * 64 + d.val, by omega⟩ := Fin.ext (by dsimp only; omega)
        have e2 : (⟨128 * (r.val / 128) + t.val, by omega⟩ : Fin 2560) = ⟨512 + (keyAt r t).val, by omega⟩ := Fin.ext (by dsimp only; omega)
        rw [e1, e2]
        rfl
      obtain ⟨x, hx⟩ := hreal.b ⟨n.val / 64, by omega⟩ 0
      have hx' : a3 (ix3 0 ⟨n.val / 64, by omega⟩ 0) = x := hx
      rw [hd, bias_eq a0 a1 a3 hreal _ r _ hreach, hx', EReal.toReal_coe, unit2_eq, ← EReal.coe_sub, ← EReal.coe_mul, ← EReal.coe_add]
      refine congrArg _ ?_
      unfold scoreOf
      have hl : Real.log 2 ≠ 0 := (Real.log_pos (by norm_num)).ne'
      field_simp
      ring
    · rw [if_neg ht, if_neg ht]
      exact EReal.add_bot _
  · rw [if_neg hm, if_neg (fun h => hm h.1)]

/-- The attention of channel `n` at query `r` of sequence `b`. -/
theorem attention_eq (b : Fin 16) (n : Fin 1024) (r : Fin 2048) :
    Block.attn (Array.queries a0 b.val b.isLt) (Array.keys a1 b.val b.isLt) (Array.values a2 b.val b.isLt) (Table.band a3) n r
      = Cert.ReferenceIdeal.Att.attended a0 a1 a2 a3 b ⟨n.val / 64, by omega⟩ ⟨n.val % 64, by omega⟩ r := by
  have h := Softmax.attend_eq (Reach r) (Held r) (keyAt r) (scoreOf a0 a1 a3 b n r)
    (Cert.ReferenceIdeal.Att.row a0 a1 a3 b ⟨n.val / 64, by omega⟩ r) (row_eq a0 a1 a3 hreal b n r)
    (fun k => a2 (ix3 b ⟨n.val / 64 * 64 + n.val % 64, by omega⟩ ⟨512 + k.val, by omega⟩))
    ⟨r, by unfold Reach; omega⟩
    (fun t ht => by have hk := keyAt_val r t ht; unfold Held at ht; unfold Reach; omega)
    (fun k hk => by
      unfold Reach at hk
      have ht : Held r ⟨512 + k.val - 128 * (r.val / 128), by omega⟩ := by unfold Held; dsimp only; omega
      refine ⟨_, ht, Fin.ext ?_⟩
      have := keyAt_val r _ ht
      dsimp only at this
      omega)
    (fun t t' ht ht' e => by
      have hk := keyAt_val r t ht
      have hk' := keyAt_val r t' ht'
      rw [e] at hk
      exact Fin.ext (by omega))
    (a3 (ix3 0 ⟨n.val / 64, by omega⟩ 0)).toReal
    (Block.score (Array.queries a0 b.val b.isLt) (Array.keys a1 b.val b.isLt) (Table.band a3) n r) (window_eq a0 a1 a3 hreal b n r)
    (fun t => Array.values a2 b.val b.isLt (ix3 0 n ⟨128 * (r.val / 128) + t.val, by omega⟩))
    (fun t ht => by
      have hk := keyAt_val r t ht
      have e1 : (⟨n.val / 64 * 64 + n.val % 64, by omega⟩ : Fin 1024) = n := Fin.ext (by dsimp only; omega)
      have e2 : (⟨128 * (r.val / 128) + t.val, by omega⟩ : Fin 2560) = ⟨512 + (keyAt r t).val, by omega⟩ := Fin.ext (by dsimp only; omega)
      rw [e1, e2]
      rfl)
  exact h

/-- The kernel's result array is the reference's result. -/
theorem whole_eq : Array.whole a0 a1 a2 a3 a4 = Cert.ReferenceIdeal.Read.val_main_v78 (F := Ideal) a0 a1 a2 a3 a4 := by
  funext i
  obtain ⟨b, n, r, rfl⟩ : ∃ b n r, i = ix3 b n r := ⟨i 0, i 1, i 2, by funext a; match a with | ⟨0, _⟩ => rfl | ⟨1, _⟩ => rfl | ⟨2, _⟩ => rfl⟩
  rw [Array.whole_at a0 a1 a2 a3 a4 (ix3 b n r) b.val b.isLt n r rfl rfl rfl, Cert.ReferenceIdeal.Att.result]
  unfold Block.result
  simp only [attention_eq a0 a1 a2 a3 hreal, Cert.ReferenceIdeal.Att.joined, Table.gain_apply]

end Cert.Scores
-- ==== Proof.Precondition.lean ====
/- What the precondition says of the arguments. -/
module

public import proofs.«01_k».proof.Pre_finite_scores
public import proofs.«01_k».proof.Proof.Scores
public import Idealize.ShloMosaic.Lib.ReduceAll

@[expose] public section

set_option maxRecDepth 16384

noncomputable section

namespace Cert.Scores

open Idealize.ShloMosaic Idealize.ShloMosaic.TcCoe Cert.Pre_finite_scores

/-- An extended real whose absolute value is less than +∞ is a real number. -/
theorem real_of_abs (x : EReal) (h : FloatOps.cmpf (F := Ideal) (φ := .f32) .olt (FloatOps.absf x) (FloatOps.ofBits .f32 0x7F800000#32) = 1#1) :
    ∃ y : ℝ, x = y := by
  have ht : Ideal.ofBits .f32 0x7F800000#32 = (⊤ : EReal) := rfl
  have hc : Ideal.cmp .olt (max x (-x)) ⊤ = 1#1 := by rw [← ht]; exact h
  have hl : max x (-x) < ⊤ := by
    by_contra hn
    simp [Ideal.cmp, hn] at hc
  induction x using EReal.rec with
  | bot => simp at hl
  | coe y => exact ⟨y, rfl⟩
  | top => simp at hl

variable [Cert.Pre_finite_scores.Facts]

instance : Subsingleton S_.Idx := ⟨fun a b => funext fun i => i.elim0⟩

theorem real3 (a0 : FVec Ideal S32768x1024 .bf16) (a1 : FVec Ideal S16x2560x1024 .bf16) (a2 : FVec Ideal S16x1024x2560 .bf16) (a3 : FVec Ideal S1x16x257 .f32) (a4 : FVec Ideal S1x1024 .f32)
    (h : fn (F := Ideal) a0 a1 a2 a3 a4 = fun _ => 1#1) : Real3 a0 a1 a3 := by
  have h' := congrFun h ix0
  dsimp only [fn] at h'
  obtain ⟨h12, h3⟩ := IntOp.andi_eq_one.1 h'
  obtain ⟨h1, h2⟩ := IntOp.andi_eq_one.1 h12
  refine ⟨fun i j => ?_, fun b s l => ?_, fun hh j => ?_⟩
  · have e := Host.reduce_andi_all _ _ _ _ _ h1 (ix2 i j)
    exact real_of_abs _ e
  · have e := Host.reduce_andi_all _ _ _ _ _ h2 (ix3 b s l)
    have e' : extractStridedSlice S16x2048x1024 ![0, 512, 0] a1 Facts.slices_S16x2560x1024_S16x2048x1024_0_512_0 (ix3 b s l) = a1 (ix3 b ⟨512 + s.val, by omega⟩ l) := by
      pointwise
    obtain ⟨y, hy⟩ := real_of_abs _ e
    exact ⟨y, e'.symm.trans hy⟩
  · have e := Host.reduce_andi_all _ _ _ _ _ h3 (ix3 0 hh j)
    have e' : extractStridedSlice S1x16x192 ![0, 0, 0] a3 Facts.slices_S1x16x257_S1x16x192_0_0_0 (ix3 0 hh j) = a3 (ix3 0 hh ⟨j.val, by omega⟩) := by
      pointwise
    obtain ⟨y, hy⟩ := real_of_abs _ e
    exact ⟨y, e'.symm.trans hy⟩

end Cert.Scores
-- ==== Proof.ProjValue.lean ====
/- What the prompt's projection leaves in its six result arrays, entry by entry, from the arguments. -/
module

public import proofs.«01_k».proof.Proof.Gen.ProjIdeal.Value
public import Idealize.ShloMosaic.Lib.Pipeline.ValueKit
public import Idealize.ShloMosaic.Lib.Pipeline.ValueKit.Geometry
public import Idealize.ShloMosaic.Lib.Pointwise

@[expose] public section

set_option maxRecDepth 16384

noncomputable section

namespace Cert.ProjIdeal.Projected

open Cert.ProjIdeal Cert.ProjIdeal.Gen Idealize.ShloMosaic Idealize.ShloMosaic.TcCoe Idealize.SL.Sem
open Idealize.ShloMosaic.Pipeline (Dat)
open scoped BigOperators

/-- Feature `e` of the projection of token `l` of sequence `b`. -/
def feature (x : FVec Ideal S16x2048x2048 .f32) (w : FVec Ideal S1x2048x4096 .f32) (b : Fin 16) (l : Fin 2048) (e : Fin 4096) : EReal :=
  ∑ k : Fin 2048, x (ix3 b l k) * w (ix3 0 k e)

/-- The queries: the first 1024 features, scaled, the tokens of all sequences one below the other. -/
def queries (x : FVec Ideal S16x2048x2048 .f32) (w : FVec Ideal S1x2048x4096 .f32) : FVec Ideal S32768x1024 .bf16 := fun i =>
  feature x w ⟨(i 0).val / 2048, by have := (i 0).isLt; simp at this; omega⟩ ⟨(i 0).val % 2048, by omega⟩
    ⟨(i 1).val, by have := (i 1).isLt; simp at this; omega⟩ * (((8 * Real.log 2)⁻¹ : ℝ) : EReal)

/-- The keys the attention reads: the second 1024 features, below 512 rows of zeros in each sequence. -/
def keys (x : FVec Ideal S16x2048x2048 .f32) (w : FVec Ideal S1x2048x4096 .f32) : FVec Ideal S16x2560x1024 .bf16 := fun i =>
  if h : 512 ≤ (i 1).val then feature x w (i 0) ⟨(i 1).val - 512, by have := (i 1).isLt; simp at this; omega⟩
    ⟨1024 + (i 2).val, by have := (i 2).isLt; simp at this; omega⟩ else 0

/-- The values the attention reads: the third 1024 features, channels first, right of 512 columns of zeros in each sequence. -/
def values (x : FVec Ideal S16x2048x2048 .f32) (w : FVec Ideal S1x2048x4096 .f32) : FVec Ideal S16x1024x2560 .bf16 := fun i =>
  if h : 512 ≤ (i 2).val then feature x w (i 0) ⟨(i 2).val - 512, by have := (i 2).isLt; simp at this; omega⟩
    ⟨2048 + (i 1).val, by have := (i 1).isLt; simp at this; omega⟩ else 0

/-- 1024 features of the last 512 tokens of each sequence, from feature `o` on. -/
def tail (o : Nat) (ho : o + 1024 ≤ 4096) (x : FVec Ideal S16x2048x2048 .f32) (w : FVec Ideal S1x2048x4096 .f32) : FVec Ideal S16x512x1024 .f32 := fun i =>
  feature x w (i 0) ⟨1536 + (i 1).val, by have := (i 1).isLt; simp at this; omega⟩ ⟨o + (i 2).val, by have := (i 2).isLt; simp at this; omega⟩

/-- The inputs of the state space model: the last 1024 features, the sequences side by side. -/
def inputs (x : FVec Ideal S16x2048x2048 .f32) (w : FVec Ideal S1x2048x4096 .f32) : FVec Ideal S2048x16384 .f32 := fun i =>
  feature x w ⟨(i 1).val / 1024, by have := (i 1).isLt; simp at this; omega⟩ (i 0) ⟨3072 + (i 1).val % 1024, by omega⟩

theorem keys_low (x : FVec Ideal S16x2048x2048 .f32) (w : FVec Ideal S1x2048x4096 .f32) (i : S16x2560x1024.Idx) (h : ¬512 ≤ (i 1).val) :
    keys x w i = (0 : EReal) := dif_neg h
theorem values_low (x : FVec Ideal S16x2048x2048 .f32) (w : FVec Ideal S1x2048x4096 .f32) (i : S16x1024x2560.Idx) (h : ¬512 ≤ (i 2).val) :
    values x w i = (0 : EReal) := dif_neg h

variable (m : (ℓ : Loc nD τ sig) → Buf (Elt Ideal) ℓ) (c : Dev nD)

/-- The blocks of point `t`: 256 tokens of sequence `t / 8`, from token `256 (t % 8)` on. -/
theorem index : ∀ t : Fin cfg0.N, (win0_0.index t 0 = t.val ∧ win0_0.index t 1 = 0) ∧ (win0_1.index t 0 = 0 ∧ win0_1.index t 1 = 0) :=
  (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val / 8 ∧ win0_3.index t 1 = t.val % 8 + 2 ∧ win0_3.index t 2 = 0 :=
  (by decide +kernel : ∀ t : Fin grid0.N, _)
theorem index4 : ∀ t : Fin cfg0.N, win0_4.index t 0 = t.val / 8 ∧ win0_4.index t 1 = 0 ∧ win0_4.index t 2 = t.val % 8 + 2 :=
  (by decide +kernel : ∀ t : Fin grid0.N, _)
theorem index5 : ∀ t : Fin cfg0.N, win0_5.index t 0 = t.val / 8 ∧ win0_5.index t 1 = t.val % 8 - 6 ∧ win0_5.index t 2 = 0 :=
  (by decide +kernel : ∀ t : Fin grid0.N, _)
theorem index6 : ∀ t : Fin cfg0.N, win0_6.index t 0 = t.val / 8 ∧ win0_6.index t 1 = t.val % 8 - 6 ∧ win0_6.index t 2 = 0 :=
  (by decide +kernel : ∀ t : Fin grid0.N, _)
theorem index7 : ∀ t : Fin cfg0.N, win0_7.index t 0 = t.val % 8 ∧ win0_7.index t 1 = t.val / 8 := (by decide +kernel : ∀ t : Fin grid0.N, _)

/-- Only the last two points of a sequence write the tails back. -/
theorem late5 : ∀ t : Fin cfg0.N, win0_5.flush t = true → 6 ≤ t.val % 8 := (by decide +kernel : ∀ t : Fin grid0.N, _)
theorem late6 : ∀ t : Fin cfg0.N, win0_6.flush t = true → 6 ≤ t.val % 8 := (by decide +kernel : ∀ t : Fin grid0.N, _)

theorem point_lt (t : Fin cfg0.N) : t.val < 128 := by have := t.isLt; have h : cfg0.N = 128 := N_0; omega

/-- The tokens of all sequences, one below the other. -/
theorem tokens (r : Fin 32768) (k : Fin 2048) : V m c main_v3 (ix2 r k)
    = m ((c : Thread nD τ).loc main_arg0) (ix3 ⟨r.val / 2048, by omega⟩ ⟨r.val % 2048, by omega⟩ k) := by
  entry_read
  pointwise

/-- The weight. -/
theorem weight (k : Fin 2048) (e : Fin 4096) : V m c main_v5 (ix2 k e) = m ((c : Thread nD τ).loc main_arg1) (ix3 0 k e) := by
  entry_read
  pointwise

theorem zero : Ideal.ofBits .bf16 0x0000#16 = (0 : EReal) := by simp [Ideal.ofBits, Ideal.ieee]

/-- The rows and columns that no point writes are zeros. -/
theorem pad_keys (i : S16x2560x1024.Idx) : V m c main_v6_1 i = (0 : EReal) := by
  entry_read
  exact zero
theorem pad_values (i : S16x1024x2560.Idx) : V m c main_v6_2 i = (0 : EReal) := by
  entry_read
  exact zero

/-- The tokens of point `t`. -/
theorem block0 (t : Fin cfg0.N) (r : Fin 256) (k : Fin 2048) : iblk m c 0 t (ix2 r k)
    = m ((c : Thread nD τ).loc main_arg0) (ix3 ⟨t.val / 8, by have := point_lt t; omega⟩ ⟨t.val % 8 * 256 + r.val, by omega⟩ k) := by
  have h : iblk m c 0 t (ix2 r k) = V m c main_v3 (ix2 ⟨t.val * 256 + r.val, by have := point_lt t; omega⟩ k) := by
    blk_simp [iblk]
    refine congrArg _ (funext fun a => Fin.ext ?_)
    match a with
    | ⟨0, _⟩ => blk_simp [(index t).1.1]
    | ⟨1, _⟩ => blk_simp [(index t).1.2]
  rw [h, tokens]
  refine congrArg _ ?_
  congr 1 <;> exact Fin.ext (by simp; try omega)

/-- The weight's block is the weight. -/
theorem block1 (t : Fin cfg0.N) (k : Fin 2048) (e : Fin 4096) : iblk m c 1 t (ix2 k e)
    = m ((c : Thread nD τ).loc main_arg1) (ix3 0 k e) := by
  have h : iblk m c 1 t (ix2 k e) = V m c main_v5 (ix2 k e) := by
    blk_simp [iblk]
    refine congrArg _ (funext fun a => Fin.ext ?_)
    match a with
    | ⟨0, _⟩ => blk_simp [(index t).2.1]
    | ⟨1, _⟩ => blk_simp [(index t).2.2]
  rw [h, weight]

/-- The products of a block, as they are stored. -/
theorem pay6 (x : FVec Ideal S256x2048 .f32) (w : FVec Ideal S2048x1024 .bf16) (r : Fin 256) (e : Fin 1024) :
    k0_pay6 (F := Ideal) x w (ix2 r e) = (∑ k : Fin 2048, x (ix2 r k) * w (ix2 k e)) * (((8 * Real.log 2)⁻¹ : ℝ) : EReal) := by
  pointwise [k0_pay6, k0_pay2]
  exact congrArg _ rfl
theorem pay8 (x : FVec Ideal S256x2048 .f32) (w : FVec Ideal S2048x1024 .bf16) (g : Fin 1) (r : Fin 256) (e : Fin 1024) :
    k0_pay8 (F := Ideal) x w (ix3 g r e) = ∑ k : Fin 2048, x (ix2 r k) * w (ix2 k e) := by
  pointwise [k0_pay8, k0_pay3, k0_pay2]
theorem pay7 (x : FVec Ideal S256x2048 .f32) (w : FVec Ideal S2048x1024 .bf16) (g : Fin 1) (r : Fin 256) (e : Fin 1024) :
    k0_pay7 (F := Ideal) x w (ix3 g r e) = ∑ k : Fin 2048, x (ix2 r k) * w (ix2 k e) := by
  pointwise [k0_pay7, k0_pay3, k0_pay2]
theorem pay9 (x : FVec Ideal S256x2048 .f32) (w : FVec Ideal S2048x1024 .bf16) (g : Fin 1) (r : Fin 256) (e : Fin 1024) :
    k0_pay9 (F := Ideal) x w (ix3 g r e) = ∑ k : Fin 2048, x (ix2 r k) * w (ix2 k e) := by
  pointwise [k0_pay9, k0_pay4, k0_pay2]
theorem pay1 (x : FVec Ideal S256x2048 .f32) (w : FVec Ideal S2048x1024 .bf16) (g : Fin 1) (e : Fin 1024) (r : Fin 256) :
    k0_pay1 (F := Ideal) (k0_pay4 x w) (ix3 g e r) = ∑ k : Fin 2048, x (ix2 r k) * w (ix2 k e) := by
  pointwise [k0_pay1, k0_pay4, k0_pay2]
theorem pay5 (x : FVec Ideal S256x2048 .f32) (w : FVec Ideal S2048x1024 .bf16) (r : Fin 256) (e : Fin 1024) :
    k0_pay5 (F := Ideal) x w (ix2 r e) = ∑ k : Fin 2048, x (ix2 r k) * w (ix2 k e) := by
  pointwise [k0_pay5, k0_pay2]

/-- The block of tokens of point `t`. -/
def block (t : Fin cfg0.N) : FVec Ideal S256x2048 .f32 := iblk m c 0 t

/-- 1024 columns of the weight's block, from column `o` on. -/
def part (t : Fin cfg0.N) (o : Nat) (inb : ∀ a, ![0, o] a + S2048x1024.size a ≤ S2048x4096.size a) : FVec Ideal S2048x1024 .bf16 :=
  View.ld (iblk m c 1 t) (Rect.unit (s := S2048x4096) ![0, o] S2048x1024.size inb)

/-- Their product, in the arguments: whatever has that value is the feature of the token that the row stands for. -/
theorem features (t : Fin cfg0.N) (o : Nat) (inb) (v : EReal) (r : Fin 256) (e : Fin 1024)
    (hv : v = ∑ k : Fin 2048, block m c t (ix2 r k) * part m c t o inb (ix2 k e))
    (b : Fin 16) (l : Fin 2048) (f : Fin 4096) (hb : b.val = t.val / 8) (hl : l.val = t.val % 8 * 256 + r.val) (hf : f.val = o + e.val) :
    v = feature (m ((c : Thread nD τ).loc main_arg0)) (m ((c : Thread nD τ).loc main_arg1)) b l f := by
  rw [hv]
  refine Finset.sum_congr rfl fun k _ => congrArg₂ (· * ·) ((block0 m c t r k).trans (congrArg _ ?_))
    ((congrArg (iblk m c 1 t) (funext fun a => Fin.ext ?_)).trans (block1 m c t k f))
  · congr 1 <;> exact Fin.ext (by first | exact hb.symm | exact hl.symm)
  · match a with
    | ⟨0, _⟩ => simp
    | ⟨1, _⟩ => simp [hf]

/-- The queries' array. -/
theorem queries_eq : (dats m 0 c).arrAt 2 (cfgs 0).N = queries (m ((c : Thread nD τ).loc main_arg0)) (m ((c : Thread nD τ).loc main_arg1)) := by
  refine (dats m 0 c).arrAt_eq_of_covers 2 _ (by decide +kernel) fun t hf y => ?_
  have h0 : ((win0_2.blk t).view.emb y 0).val = t.val * 256 + (y 0).val := by blk_simp [(index2 t).1]
  have h1 : ((win0_2.blk t).view.emb y 1).val = (y 1).val := by blk_simp [(index2 t).2]
  blk_simp; rw [after0_2]; unfold outsAt0; dsimp only; frame_out
  have hy : (y 0).val < 256 := (y 0).isLt
  refine (pay6 (block m c t) (part m c t 0 inb_S2048x4096_S2048x1024_0_0) (y 0) (y 1)).trans (congrArg (· * _) ?_)
  exact features m c t 0 _ _ (y 0) (y 1) rfl _ _ _ (by show ((win0_2.blk t).view.emb y 0).val / 2048 = _; rw [h0]; omega)
    (by show ((win0_2.blk t).view.emb y 0).val % 2048 = _; rw [h0]; omega) (by show ((win0_2.blk t).view.emb y 1).val = _; rw [h1]; omega)

/-- The keys' array. -/
theorem keys_eq : (dats m 0 c).arrAt 3 (cfgs 0).N = keys (m ((c : Thread nD τ).loc main_arg0)) (m ((c : Thread nD τ).loc main_arg1)) := by
  refine (dats m 0 c).arrAt_eq_of_coversWhere_of_agree 3 _ (fun β => 2 ≤ β 1) (by decide +kernel) (fun t hf y => ?_) (fun j hj => ?_)
  · have h0 : ((win0_3.blk t).view.emb y 0).val = t.val / 8 := by blk_simp [(index3 t).1]
    have h1 : ((win0_3.blk t).view.emb y 1).val = (t.val % 8 + 2) * 256 + (y 1).val := by blk_simp [(index3 t).2.1]
    have h2 : ((win0_3.blk t).view.emb y 2).val = (y 2).val := by blk_simp [(index3 t).2.2]
    blk_simp; rw [after0_3]; frame_out
    have hy : (y 1).val < 256 := (y 1).isLt
    have hc : 512 ≤ ((win0_3.blk t).view.emb y 1).val := by rw [h1]; omega
    refine Eq.trans ?_ (dif_pos hc).symm
    exact features m c t 1024 _ _ (y 1) (y 2) (pay8 (block m c t) (part m c t 1024 inb_S2048x4096_S2048x1024_0_1024) (y 0) (y 1) (y 2)) _ _ _ h0
      (by show ((win0_3.blk t).view.emb y 1).val - 512 = _; rw [h1]; omega) (by show 1024 + ((win0_3.blk t).view.emb y 2).val = _; rw [h2])
  · blk_simp [Pipeline.Window.cell_apply] at hj
    have hc : ¬512 ≤ (((cfg0.win 3).arr.view.emb j : (cfg0.win 3).shape.Idx) 1).val := by
      show ¬512 ≤ (j 1).val
      omega
    exact (pad_keys m c _).trans (keys_low _ _ _ hc).symm

/-- The values' array. -/
theorem values_eq : (dats m 0 c).arrAt 4 (cfgs 0).N = values (m ((c : Thread nD τ).loc main_arg0)) (m ((c : Thread nD τ).loc main_arg1)) := by
  refine (dats m 0 c).arrAt_eq_of_coversWhere_of_agree 4 _ (fun β => 2 ≤ β 2) (by decide +kernel) (fun t hf y => ?_) (fun j hj => ?_)
  · have h0 : ((win0_4.blk t).view.emb y 0).val = t.val / 8 := by blk_simp [(index4 t).1]
    have h1 : ((win0_4.blk t).view.emb y 1).val = (y 1).val := by blk_simp [(index4 t).2.1]
    have h2 : ((win0_4.blk t).view.emb y 2).val = (t.val % 8 + 2) * 256 + (y 2).val := by blk_simp [(index4 t).2.2]
    blk_simp; rw [after0_4]; frame_out
    have hy : (y 2).val < 256 := (y 2).isLt
    have hc : 512 ≤ ((win0_4.blk t).view.emb y 2).val := by rw [h2]; omega
    refine Eq.trans ?_ (dif_pos hc).symm
    exact features m c t 2048 _ _ (y 2) (y 1) (pay1 (block m c t) (part m c t 2048 inb_S2048x4096_S2048x1024_0_2048) (y 0) (y 1) (y 2)) _ _ _ h0
      (by show ((win0_4.blk t).view.emb y 2).val - 512 = _; rw [h2]; omega) (by show 2048 + ((win0_4.blk t).view.emb y 1).val = _; rw [h1])
  · blk_simp [Pipeline.Window.cell_apply] at hj
    have hc : ¬512 ≤ (((cfg0.win 4).arr.view.emb j : (cfg0.win 4).shape.Idx) 2).val := by
      show ¬512 ≤ (j 2).val
      omega
    exact (pad_values m c _).trans (values_low _ _ _ hc).symm

/-- The keys that are kept. -/
theorem tail_keys_eq : (dats m 0 c).arrAt 5 (cfgs 0).N = tail 1024 (by decide) (m ((c : Thread nD τ).loc main_arg0)) (m ((c : Thread nD τ).loc main_arg1)) := by
  refine (dats m 0 c).arrAt_eq_of_covers 5 _ (by decide +kernel) fun t hf y => ?_
  have h0 : ((win0_5.blk t).view.emb y 0).val = t.val / 8 := by blk_simp [(index5 t).1]
  have h1 : ((win0_5.blk t).view.emb y 1).val = (t.val % 8 - 6) * 256 + (y 1).val := by blk_simp [(index5 t).2.1]
  have h2 : ((win0_5.blk t).view.emb y 2).val = (y 2).val := by blk_simp [(index5 t).2.2]
  have h3 := late5 t hf
  blk_simp; rw [after0_5]; frame_out
  exact features m c t 1024 _ _ (y 1) (y 2) (pay7 (block m c t) (part m c t 1024 inb_S2048x4096_S2048x1024_0_1024) (y 0) (y 1) (y 2)) _ _ _ h0
    (by show 1536 + ((win0_5.blk t).view.emb y 1).val = _; rw [h1]; omega) (by show 1024 + ((win0_5.blk t).view.emb y 2).val = _; rw [h2])

/-- The values that are kept. -/
theorem tail_values_eq : (dats m 0 c).arrAt 6 (cfgs 0).N = tail 2048 (by decide) (m ((c : Thread nD τ).loc main_arg0)) (m ((c : Thread nD τ).loc main_arg1)) := by
  refine (dats m 0 c).arrAt_eq_of_covers 6 _ (by decide +kernel) fun t hf y => ?_
  have h0 : ((win0_6.blk t).view.emb y 0).val = t.val / 8 := by blk_simp [(index6 t).1]
  have h1 : ((win0_6.blk t).view.emb y 1).val = (t.val % 8 - 6) * 256 + (y 1).val := by blk_simp [(index6 t).2.1]
  have h2 : ((win0_6.blk t).view.emb y 2).val = (y 2).val := by blk_simp [(index6 t).2.2]
  have h3 := late6 t hf
  blk_simp; rw [after0_6]; frame_out
  exact features m c t 2048 _ _ (y 1) (y 2) (pay9 (block m c t) (part m c t 2048 inb_S2048x4096_S2048x1024_0_2048) (y 0) (y 1) (y 2)) _ _ _ h0
    (by show 1536 + ((win0_6.blk t).view.emb y 1).val = _; rw [h1]; omega) (by show 2048 + ((win0_6.blk t).view.emb y 2).val = _; rw [h2])

/-- The inputs of the state space model. -/
theorem inputs_eq : (dats m 0 c).arrAt 7 (cfgs 0).N = inputs (m ((c : Thread nD τ).loc main_arg0)) (m ((c : Thread nD τ).loc main_arg1)) := by
  refine (dats m 0 c).arrAt_eq_of_covers 7 _ (by decide +kernel) fun t hf y => ?_
  have h0 : ((win0_7.blk t).view.emb y 0).val = t.val % 8 * 256 + (y 0).val := by blk_simp [(index7 t).1]
  have h1 : ((win0_7.blk t).view.emb y 1).val = t.val / 8 * 1024 + (y 1).val := by blk_simp [(index7 t).2]
  blk_simp; rw [after0_7]; unfold outsAt0; dsimp only; frame_out
  have hy : (y 1).val < 1024 := (y 1).isLt
  exact features m c t 3072 _ _ (y 0) (y 1) (pay5 (block m c t) (part m c t 3072 inb_S2048x4096_S2048x1024_0_3072) (y 0) (y 1)) _ _ _
    (by show ((win0_7.blk t).view.emb y 1).val / 1024 = _; rw [h1]; omega) h0
    (by show 3072 + ((win0_7.blk t).view.emb y 1).val % 1024 = _; rw [h1]; omega)
end Cert.ProjIdeal.Projected

end
-- ==== Proof.Scale.lean ====
/- The factor of the queries: an eighth, in units of the logarithm of two. -/
module

public import Idealize.ShloMosaic.PureOps.Ideal

@[expose] public section

noncomputable section

namespace Cert.Scale

open Idealize.ShloMosaic

/-- An eighth, over the logarithm of two. -/
theorem scale_eq (y : EReal) : Ideal.div (y * Ideal.ofBits .f32 0x3E000000#32) (Ideal.log (Ideal.ofBits .f32 0x40000000#32))
    = y * (((8 * Real.log 2)⁻¹ : ℝ) : EReal) := by
  have h8 : Ideal.ofBits .f32 0x3E000000#32 = ((1 / 8 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have hl : Ideal.log ((2 : ℝ) : EReal) = ((Real.log 2 : ℝ) : EReal) := by
    rw [Ideal.log_coe, if_neg (by norm_num)]
  rw [h8, h2, hl, Ideal.div_coe (Real.log_pos (by norm_num)).ne', mul_assoc, ← EReal.coe_mul]
  congr 3
  rw [mul_inv]
  ring

end Cert.Scale

end
-- ==== Proof.ProjRef.lean ====
/- The plain projection of the prompt, entry by entry. -/
module

public import proofs.«01_k».proof.Proof.ProjValue
public import proofs.«01_k».proof.Proof.Scale
public import proofs.«01_k».proof.Proof.Gen.ProjRefIdeal.Read
public import Idealize.ShloMosaic.Lib.KernelVsHost

@[expose] public section

set_option maxRecDepth 16384

noncomputable section

namespace Cert.ProjRefIdeal.Projected

open Cert.ProjRefIdeal Cert.ProjRefIdeal.Gen Cert.ProjRefIdeal.Read Idealize.ShloMosaic Idealize.ShloMosaic.TcCoe Idealize.SL.Sem
open Cert.ProjIdeal.Projected (feature queries keys values tail inputs)
open scoped BigOperators

variable (x : FVec Ideal S16x2048x2048 .f32) (w : FVec Ideal S1x2048x4096 .f32)

/-- The product of the tokens with the weight, at an index with coordinates `b`, `l` and `e`. -/
theorem product_at (j : S16x2048x4096.Idx) (b : Fin 16) (l : Fin 2048) (e : Fin 4096) (h0 : (j 0).val = b.val) (h1 : (j 1).val = l.val) (h2 : (j 2).val = e.val) :
    val_main_v1 (F := Ideal) x w j = feature x w b l e := by
  rw [val_main_v1_apply]
  unfold feature
  refine Finset.sum_congr rfl fun k _ => congrArg₂ (· * ·) (congrArg x (funext fun a => Fin.ext ?_)) ?_
  · match a with
    | ⟨0, _⟩ => exact h0
    | ⟨1, _⟩ => exact h1
    | ⟨2, _⟩ => rfl
  · rw [val_main_v0_apply]
    refine congrArg w (funext fun a => Fin.ext ?_)
    have he : (j 2).val < 4096 := (j 2).isLt
    match a with
    | ⟨0, _⟩ => rfl
    | ⟨1, _⟩ => show (k.val * 4096 + (j 2).val) / 4096 % 2048 = k.val; omega
    | ⟨2, _⟩ => show (k.val * 4096 + (j 2).val) % 4096 = e.val; omega

/-- Rows of zeros above: from row 512 on the operand's rows. -/
theorem padded_in (y : FVec Ideal S16x2048x1024 .f32) (v : FVec Ideal S_ .f32) (j : S16x2560x1024.Idx) (h : 512 ≤ (j 1).val) (k : S16x2048x1024.Idx)
    (h0 : (j 0).val = (k 0).val) (h1 : (j 1).val = 512 + (k 1).val) (h2 : (j 2).val = (k 2).val) :
    pad S16x2560x1024 ![0, 512, 0] ![0, 0, 0] ![0, 0, 0] y v pads_S16x2048x1024_S16x2560x1024_000_51200_000 h_S_ j = y k := by
  refine pad_apply_of_inside _ _ _ y v _ _ j k fun a => ?_
  match a with
  | ⟨0, _⟩ => show (j 0).val = 0 + (k 0).val * (0 + 1); omega
  | ⟨1, _⟩ => show (j 1).val = 512 + (k 1).val * (0 + 1); omega
  | ⟨2, _⟩ => show (j 2).val = 0 + (k 2).val * (0 + 1); omega
theorem padded_out (y : FVec Ideal S16x2048x1024 .f32) (j : S16x2560x1024.Idx) (h : ¬512 ≤ (j 1).val) :
    pad S16x2560x1024 ![0, 512, 0] ![0, 0, 0] ![0, 0, 0] y (sitofp .f32 (constantI S_ 32 0#32) : FVec Ideal S_ .f32) pads_S16x2048x1024_S16x2560x1024_000_51200_000 h_S_ j = (0 : EReal) := by
  refine (pad_apply_of_not_inside _ _ _ y _ _ _ j 1 fun hh => h hh.1).trans ?_
  show ((((0#32 : BitVec 32).toInt : ℤ) : ℝ) : EReal) = 0
  simp

/-- The keys the attention reads. -/
theorem keys_eq : val_main_v14 (F := Ideal) x w = keys x w := by
  funext i
  have hi : (i 1).val < 2560 := (i 1).isLt
  have hi' : (i 2).val < 1024 := (i 2).isLt
  refine Eq.trans (b := val_main_v13 (F := Ideal) x w i) rfl ?_
  unfold val_main_v13 keys
  split
  next h =>
    refine (padded_in _ _ _ h (ix3 (i 0) ⟨(i 1).val - 512, by omega⟩ (i 2)) rfl (by show (i 1).val = 512 + ((i 1).val - 512); omega) rfl).trans ?_
    rw [val_main_v3_apply]
    exact product_at x w _ _ _ _ rfl rfl rfl
  next h => exact padded_out _ _ h

/-- The values the attention reads. -/
theorem values_eq : val_main_v17 (F := Ideal) x w = values x w := by
  funext i
  have hi : (i 2).val < 2560 := (i 2).isLt
  have hi' : (i 1).val < 1024 := (i 1).isLt
  refine Eq.trans (b := val_main_v16 (F := Ideal) x w i) rfl ?_
  rw [val_main_v16_apply]
  unfold val_main_v15 values
  split
  next h =>
    refine (padded_in _ _ _ h (ix3 (i 0) ⟨(i 2).val - 512, by omega⟩ (i 1)) rfl (by show (i 2).val = 512 + ((i 2).val - 512); omega) rfl).trans ?_
    rw [val_main_v4_apply]
    exact product_at x w _ _ _ _ rfl rfl rfl
  next h => exact padded_out _ _ h

/-- The keys that are kept. -/
theorem tail_keys_eq : val_main_v18 (F := Ideal) x w = tail 1024 (by decide) x w := by
  funext i
  refine Eq.trans (b := val_main_v18 (F := Ideal) x w i) rfl ?_
  rw [val_main_v18_apply, val_main_v3_apply]
  exact product_at x w _ _ _ _ rfl rfl rfl

/-- The values that are kept. -/
theorem tail_values_eq : val_main_v19 (F := Ideal) x w = tail 2048 (by decide) x w := by
  funext i
  refine Eq.trans (b := val_main_v19 (F := Ideal) x w i) rfl ?_
  rw [val_main_v19_apply, val_main_v4_apply]
  exact product_at x w _ _ _ _ rfl rfl rfl

/-- The inputs of the state space model. -/
theorem inputs_eq : val_main_v21 (F := Ideal) x w = inputs x w := by
  funext i
  have hi0 : (i 0).val < 2048 := (i 0).isLt
  have hi1 : (i 1).val < 16384 := (i 1).isLt
  refine Eq.trans (b := val_main_v21 (F := Ideal) x w i) rfl ?_
  rw [val_main_v21_apply, val_main_v20_apply, val_main_v5_apply]
  exact product_at x w _ _ _ _ (by show ((i 0).val * 16384 + (i 1).val) / 1024 % 16 = (i 1).val / 1024; omega)
    (by show ((i 0).val * 16384 + (i 1).val) / 16384 = (i 0).val; omega)
    (by show 3072 + ((i 0).val * 16384 + (i 1).val) % 1024 = 3072 + (i 1).val % 1024; omega)

/-- The queries. -/
theorem queries_eq : val_main_v12 (F := Ideal) x w = queries x w := by
  funext i
  have hi0 : (i 0).val < 32768 := (i 0).isLt
  have hi1 : (i 1).val < 1024 := (i 1).isLt
  refine Eq.trans (b := val_main_v11 (F := Ideal) x w i) rfl ?_
  rw [val_main_v11_apply]
  refine (Scale.scale_eq (val_main_v2 (F := Ideal) x w (idx_main_v11 i))).trans ?_
  rw [val_main_v2_apply]
  exact congrArg (· * _) (product_at x w _ _ _ _ (by show ((i 0).val * 1024 + (i 1).val) / 2097152 = (i 0).val / 2048; omega)
    (by show ((i 0).val * 1024 + (i 1).val) / 1024 % 2048 = (i 0).val % 2048; omega)
    (by show ((i 0).val * 1024 + (i 1).val) % 1024 = (i 1).val; omega))
end Cert.ProjRefIdeal.Projected

end
-- ==== Proof.ProjClaim.lean ====
/- The claims about the prompt's projection. -/
module

public import proofs.«01_k».proof.Defs
public import proofs.«01_k».proof.Proof.ProjValue
public import proofs.«01_k».proof.Proof.ProjRef
public import proofs.«01_k».proof.Proof.Gen.ProjRefIdeal.Run
public import Idealize.ShloMosaic.Lib.Quiescent

@[expose] public section

noncomputable section

namespace Cert.Proof

open Idealize.ShloMosaic Idealize.SL.Sem

/-- The reference leaves its arguments as they were; it has no semaphores. -/
theorem frameProjRef : Cert.quiescent_ProjRefIdeal (hProjRefIdeal := Cert.ProjRefIdeal.Gen.facts) := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

/-- The six results of the prompt's projection are the reference's. -/
theorem agreeProj : Cert.algebraic_ProjIdeal_ProjRefIdeal (hProjIdeal := Cert.ProjIdeal.Gen.facts)
    (hProjRefIdeal := Cert.ProjRefIdeal.Gen.facts) := by
  intro m ρ m' ρ' _ hargs
  have same0 := fun c => (Cert.ProjRefIdeal.Read.val_main_v12_eq _ _).trans ((congrArg₂ (Cert.ProjRefIdeal.Read.val_main_v12 (F := Ideal)) (hargs c).1 (hargs c).2).trans
    ((Cert.ProjRefIdeal.Projected.queries_eq _ _).trans (Cert.ProjIdeal.Projected.queries_eq m c).symm))
  have same1 := fun c => (Cert.ProjRefIdeal.Read.val_main_v14_eq _ _).trans ((congrArg₂ (Cert.ProjRefIdeal.Read.val_main_v14 (F := Ideal)) (hargs c).1 (hargs c).2).trans
    ((Cert.ProjRefIdeal.Projected.keys_eq _ _).trans (Cert.ProjIdeal.Projected.keys_eq m c).symm))
  have same2 := fun c => (Cert.ProjRefIdeal.Read.val_main_v17_eq _ _).trans ((congrArg₂ (Cert.ProjRefIdeal.Read.val_main_v17 (F := Ideal)) (hargs c).1 (hargs c).2).trans
    ((Cert.ProjRefIdeal.Projected.values_eq _ _).trans (Cert.ProjIdeal.Projected.values_eq m c).symm))
  have same3 := fun c => (Cert.ProjRefIdeal.Read.val_main_v18_eq _ _).trans ((congrArg₂ (Cert.ProjRefIdeal.Read.val_main_v18 (F := Ideal)) (hargs c).1 (hargs c).2).trans
    ((Cert.ProjRefIdeal.Projected.tail_keys_eq _ _).trans (Cert.ProjIdeal.Projected.tail_keys_eq m c).symm))
  have same4 := fun c => (Cert.ProjRefIdeal.Read.val_main_v19_eq _ _).trans ((congrArg₂ (Cert.ProjRefIdeal.Read.val_main_v19 (F := Ideal)) (hargs c).1 (hargs c).2).trans
    ((Cert.ProjRefIdeal.Projected.tail_values_eq _ _).trans (Cert.ProjIdeal.Projected.tail_values_eq m c).symm))
  have same5 := fun c => (Cert.ProjRefIdeal.Read.val_main_v21_eq _ _).trans ((congrArg₂ (Cert.ProjRefIdeal.Read.val_main_v21 (F := Ideal)) (hargs c).1 (hargs c).2).trans
    ((Cert.ProjRefIdeal.Projected.inputs_eq _ _).trans (Cert.ProjIdeal.Projected.inputs_eq m c).symm))
  exact ⟨fun c => (Cert.ProjIdeal.Gen.dats m 0 c).arrAt 2 Cert.ProjIdeal.cfg0.N,
    fun c => (Cert.ProjIdeal.Gen.dats m 0 c).arrAt 3 Cert.ProjIdeal.cfg0.N,
    fun c => (Cert.ProjIdeal.Gen.dats m 0 c).arrAt 4 Cert.ProjIdeal.cfg0.N,
    fun c => (Cert.ProjIdeal.Gen.dats m 0 c).arrAt 5 Cert.ProjIdeal.cfg0.N,
    fun c => (Cert.ProjIdeal.Gen.dats m 0 c).arrAt 6 Cert.ProjIdeal.cfg0.N,
    fun c => (Cert.ProjIdeal.Gen.dats m 0 c).arrAt 7 Cert.ProjIdeal.cfg0.N, Cert.ProjIdeal.Value.run_blocks m ρ,
    (θ_run Cert.ProjRefIdeal.defs _ _).mono (fun r h c => ⟨(h c).1.trans (same0 c),
      (h c).2.1.trans (same1 c),
      (h c).2.2.1.trans (same2 c),
      (h c).2.2.2.1.trans (same3 c),
      (h c).2.2.2.2.1.trans (same4 c),
      (h c).2.2.2.2.2.1.trans (same5 c), (h c).2.2.2.2.2.2⟩)
      (Cert.ProjRefIdeal.Value.run (F := Ideal) m' ρ')⟩

end Cert.Proof

end
-- ==== Proof.ShortValue.lean ====
/- What the sample's projection leaves in its six result arrays, entry by entry, from the arguments. -/
module

public import proofs.«01_k».proof.Proof.Gen.ShortIdeal.Value
public import Idealize.ShloMosaic.Lib.Pipeline.ValueKit
public import Idealize.ShloMosaic.Lib.Pipeline.ValueKit.Geometry
public import Idealize.ShloMosaic.Lib.Pointwise

@[expose] public section

set_option maxRecDepth 16384

noncomputable section

namespace Cert.ShortIdeal.Projected

open Cert.ShortIdeal Cert.ShortIdeal.Gen Idealize.ShloMosaic Idealize.ShloMosaic.TcCoe Idealize.SL.Sem
open Idealize.ShloMosaic.Pipeline (Dat)
open scoped BigOperators

/-- Feature `e` of the projection of token `l` of sequence `b`. -/
def feature (x : FVec Ideal S16x64x2048 .f32) (w : FVec Ideal S1x2048x4096 .f32) (b : Fin 16) (l : Fin 64) (e : Fin 4096) : EReal :=
  ∑ k : Fin 2048, x (ix3 b l k) * w (ix3 0 k e)

/-- 1024 features of every token, from feature `o` on: the tokens of all sequences one below the other. -/
def rows (o : Nat) (ho : o + 1024 ≤ 4096) (x : FVec Ideal S16x64x2048 .f32) (w : FVec Ideal S1x2048x4096 .f32) (i : S1024x1024.Idx) : EReal :=
  feature x w ⟨(i 0).val / 64, by have := (i 0).isLt; simp at this; omega⟩ ⟨(i 0).val % 64, by omega⟩
    ⟨o + (i 1).val, by have := (i 1).isLt; simp at this; omega⟩

/-- The queries: the first 1024 features, scaled. -/
def queries (x : FVec Ideal S16x64x2048 .f32) (w : FVec Ideal S1x2048x4096 .f32) : FVec Ideal S1024x1024 .bf16 :=
  fun i => rows 0 (by decide) x w i * (((8 * Real.log 2)⁻¹ : ℝ) : EReal)

/-- The inputs of the state space model: the last 1024 features, the sequences side by side. -/
def inputs (x : FVec Ideal S16x64x2048 .f32) (w : FVec Ideal S1x2048x4096 .f32) : FVec Ideal S64x16384 .f32 :=
  fun i => feature x w ⟨(i 1).val / 1024, by have := (i 1).isLt; simp at this; omega⟩ (i 0) ⟨3072 + (i 1).val % 1024, by omega⟩

variable (m : (ℓ : Loc nD τ sig) → Buf (Elt Ideal) ℓ)

variable (m : (ℓ : Loc nD τ sig) → Buf (Elt Ideal) ℓ) (c : Dev nD)

/-- Point `t` of the grid works on sequence `t`. -/
theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = t.val) :=
  (by decide +kernel : ∀ t : Fin grid0.N, _)

theorem point_lt (t : Fin cfg0.N) : t.val < 16 := by have := t.isLt; have h : cfg0.N = 16 := N_0; omega

/-- The tokens of all sequences, one below the other. -/
theorem tokens (r : Fin 1024) (k : Fin 2048) : V m c main_v0 (ix2 r k)
    = m ((c : Thread nD τ).loc main_arg0) (ix3 ⟨r.val / 64, by omega⟩ ⟨r.val % 64, by omega⟩ k) := by
  entry_read
  pointwise

/-- The weight. -/
theorem weight (k : Fin 2048) (e : Fin 4096) : V m c main_v2 (ix2 k e) = m ((c : Thread nD τ).loc main_arg1) (ix3 0 k e) := by
  entry_read
  pointwise

/-- The tokens of point `t`. -/
theorem block0 (t : Fin cfg0.N) (r : Fin 64) (k : Fin 2048) : iblk m c 0 t (ix2 r k)
    = m ((c : Thread nD τ).loc main_arg0) (ix3 ⟨t.val, point_lt t⟩ r k) := by
  have h : iblk m c 0 t (ix2 r k) = V m c main_v0 (ix2 ⟨t.val * 64 + r.val, by have := point_lt t; omega⟩ k) := by
    blk_simp [iblk]
    refine congrArg _ (funext fun a => Fin.ext ?_)
    match a with
    | ⟨0, _⟩ => blk_simp [(index t).1.1]
    | ⟨1, _⟩ => blk_simp [(index t).1.2]
  rw [h, tokens]
  refine congrArg _ ?_
  congr 1 <;> exact Fin.ext (by simp; try omega)

/-- The weight's block is the weight. -/
theorem block1 (t : Fin cfg0.N) (k : Fin 2048) (e : Fin 4096) : iblk m c 1 t (ix2 k e)
    = m ((c : Thread nD τ).loc main_arg1) (ix3 0 k e) := by
  have h : iblk m c 1 t (ix2 k e) = V m c main_v2 (ix2 k e) := by
    blk_simp [iblk]
    refine congrArg _ (funext fun a => Fin.ext ?_)
    match a with
    | ⟨0, _⟩ => blk_simp [(index t).2.1.1]
    | ⟨1, _⟩ => blk_simp [(index t).2.1.2]
  rw [h, weight]

/-- The four products of a block. -/
theorem pay5 (x : FVec Ideal S64x2048 .f32) (w : FVec Ideal S2048x1024 .bf16) (r : Fin 64) (e : Fin 1024) :
    k0_pay5 (F := Ideal) x w (ix2 r e) = (∑ k : Fin 2048, x (ix2 r k) * w (ix2 k e)) * (((8 * Real.log 2)⁻¹ : ℝ) : EReal) := by
  pointwise [k0_pay5, k0_pay1]
  exact congrArg _ rfl
theorem pay2 (x : FVec Ideal S64x2048 .f32) (w : FVec Ideal S2048x1024 .bf16) (r : Fin 64) (e : Fin 1024) :
    k0_pay2 (F := Ideal) x w (ix2 r e) = ∑ k : Fin 2048, x (ix2 r k) * w (ix2 k e) := by
  pointwise [k0_pay2, k0_pay1]
theorem pay3 (x : FVec Ideal S64x2048 .f32) (w : FVec Ideal S2048x1024 .bf16) (r : Fin 64) (e : Fin 1024) :
    k0_pay3 (F := Ideal) x w (ix2 r e) = ∑ k : Fin 2048, x (ix2 r k) * w (ix2 k e) := by
  pointwise [k0_pay3, k0_pay1]
theorem pay4 (x : FVec Ideal S64x2048 .f32) (w : FVec Ideal S2048x1024 .bf16) (r : Fin 64) (e : Fin 1024) :
    k0_pay4 (F := Ideal) x w (ix2 r e) = ∑ k : Fin 2048, x (ix2 r k) * w (ix2 k e) := by
  pointwise [k0_pay4, k0_pay1]

/-- The block of tokens of point `t`. -/
def block (t : Fin cfg0.N) : FVec Ideal S64x2048 .f32 := iblk m c 0 t

/-- 1024 columns of the weight's block, from column `o` on. -/
def part (t : Fin cfg0.N) (o : Nat) (inb : ∀ a, ![0, o] a + S2048x1024.size a ≤ S2048x4096.size a) : FVec Ideal S2048x1024 .bf16 :=
  View.ld (iblk m c 1 t) (Rect.unit (s := S2048x4096) ![0, o] S2048x1024.size inb)

/-- Their product, in the arguments. -/
theorem features (t : Fin cfg0.N) (o : Nat) (ho : o + 1024 ≤ 4096) (inb) (r : Fin 64) (e : Fin 1024) :
    ∑ k : Fin 2048, block m c t (ix2 r k) * part m c t o inb (ix2 k e)
      = feature (m ((c : Thread nD τ).loc main_arg0)) (m ((c : Thread nD τ).loc main_arg1)) ⟨t.val, point_lt t⟩ r ⟨o + e.val, by omega⟩ := by
  refine Finset.sum_congr rfl fun k _ => ?_
  refine congrArg₂ (· * ·) (block0 m c t r k) ((congrArg (iblk m c 1 t) (funext fun a => Fin.ext ?_)).trans (block1 m c t k ⟨o + e.val, by omega⟩))
  match a with
  | ⟨0, _⟩ => simp
  | ⟨1, _⟩ => simp

/-- `rows` at an entry of point `t`'s block. -/
theorem rows_at (o : Nat) (ho : o + 1024 ≤ 4096) (x : FVec Ideal S16x64x2048 .f32) (w : FVec Ideal S1x2048x4096 .f32) (i : S1024x1024.Idx)
    (b : Fin 16) (r : Fin 64) (e : Fin 1024) (h0 : (i 0).val = b.val * 64 + r.val) (h1 : (i 1).val = e.val) :
    rows o ho x w i = feature x w b r ⟨o + e.val, by omega⟩ := by
  unfold rows
  congr 1 <;> exact Fin.ext (by simp; omega)

/-- The scaled product is the queries' entry. -/
theorem scaled (t : Fin cfg0.N) (r : Fin 64) (e : Fin 1024) (i : S1024x1024.Idx) (h0 : (i 0).val = t.val * 64 + r.val) (h1 : (i 1).val = e.val) :
    k0_pay5 (F := Ideal) (block m c t) (part m c t 0 inb_S2048x4096_S2048x1024_0_0) (ix2 r e) = queries (m ((c : Thread nD τ).loc main_arg0)) (m ((c : Thread nD τ).loc main_arg1)) i := by
  rw [pay5, features m c t 0 (by decide)]
  exact congrArg (· * _) (rows_at 0 (by decide) _ _ i ⟨t.val, point_lt t⟩ r e h0 h1).symm

/-- A product of a block with 1024 columns of the weight is an entry of the features from that column on. -/
theorem plain (t : Fin cfg0.N) (o : Nat) (ho : o + 1024 ≤ 4096) (inb) (v : EReal) (r : Fin 64) (e : Fin 1024) (i : S1024x1024.Idx)
    (hv : v = ∑ k : Fin 2048, block m c t (ix2 r k) * part m c t o inb (ix2 k e))
    (h0 : (i 0).val = t.val * 64 + r.val) (h1 : (i 1).val = e.val) :
    v = rows o ho (m ((c : Thread nD τ).loc main_arg0)) (m ((c : Thread nD τ).loc main_arg1)) i := by
  rw [hv, features m c t o ho]
  exact (rows_at o ho _ _ i ⟨t.val, point_lt t⟩ r e h0 h1).symm

/-- The product with the last columns is an entry of the inputs. -/
theorem beside (t : Fin cfg0.N) (inb) (v : EReal) (r : Fin 64) (e : Fin 1024) (i : S64x16384.Idx)
    (hv : v = ∑ k : Fin 2048, block m c t (ix2 r k) * part m c t 3072 inb (ix2 k e))
    (h0 : (i 0).val = r.val) (h1 : (i 1).val = t.val * 1024 + e.val) :
    v = inputs (m ((c : Thread nD τ).loc main_arg0)) (m ((c : Thread nD τ).loc main_arg1)) i := by
  rw [hv, features m c t 3072 (by decide)]
  unfold inputs
  congr 1 <;> exact Fin.ext (by first | omega | (simp; omega))

/-- The queries' array. -/
theorem queries_eq : (dats m 0 c).arrAt 2 (cfgs 0).N = queries (m ((c : Thread nD τ).loc main_arg0)) (m ((c : Thread nD τ).loc main_arg1)) := by
  refine (dats m 0 c).arrAt_eq_of_covers 2 _ (by decide +kernel) fun t hf y => ?_
  have h0 : ((win0_2.blk t).view.emb y 0).val = t.val * 64 + (y 0).val := by blk_simp [(index t).2.2.1.1]
  have h1 : ((win0_2.blk t).view.emb y 1).val = (y 1).val := by blk_simp [(index t).2.2.1.2]
  blk_simp; rw [after0_2]; frame_out
  exact scaled m c t (y 0) (y 1) _ h0 h1

/-- The keys the attention reads. -/
theorem keys_eq : (dats m 0 c).arrAt 3 (cfgs 0).N = (rows 1024 (by decide) (m ((c : Thread nD τ).loc main_arg0)) (m ((c : Thread nD τ).loc main_arg1)) : FVec Ideal S1024x1024 .bf16) := by
  refine (dats m 0 c).arrAt_eq_of_covers 3 _ (by decide +kernel) fun t hf y => ?_
  have h0 : ((win0_3.blk t).view.emb y 0).val = t.val * 64 + (y 0).val := by blk_simp [(index t).2.2.2.1.1]
  have h1 : ((win0_3.blk t).view.emb y 1).val = (y 1).val := by blk_simp [(index t).2.2.2.1.2]
  blk_simp; rw [after0_3]; frame_out
  exact plain m c t 1024 (by decide) _ _ (y 0) (y 1) _ (pay2 (block m c t) (part m c t 1024 inb_S2048x4096_S2048x1024_0_1024) (y 0) (y 1)) h0 h1

/-- The values the attention reads. -/
theorem values_eq : (dats m 0 c).arrAt 4 (cfgs 0).N = (rows 2048 (by decide) (m ((c : Thread nD τ).loc main_arg0)) (m ((c : Thread nD τ).loc main_arg1)) : FVec Ideal S1024x1024 .bf16) := by
  refine (dats m 0 c).arrAt_eq_of_covers 4 _ (by decide +kernel) fun t hf y => ?_
  have h0 : ((win0_4.blk t).view.emb y 0).val = t.val * 64 + (y 0).val := by blk_simp [(index t).2.2.2.2.1.1]
  have h1 : ((win0_4.blk t).view.emb y 1).val = (y 1).val := by blk_simp [(index t).2.2.2.2.1.2]
  blk_simp; rw [after0_4]; frame_out
  exact plain m c t 2048 (by decide) _ _ (y 0) (y 1) _ (pay3 (block m c t) (part m c t 2048 inb_S2048x4096_S2048x1024_0_2048) (y 0) (y 1)) h0 h1

/-- The keys that are kept. -/
theorem kept_keys_eq : (dats m 0 c).arrAt 5 (cfgs 0).N = (rows 1024 (by decide) (m ((c : Thread nD τ).loc main_arg0)) (m ((c : Thread nD τ).loc main_arg1)) : FVec Ideal S1024x1024 .f32) := by
  refine (dats m 0 c).arrAt_eq_of_covers 5 _ (by decide +kernel) fun t hf y => ?_
  have h0 : ((win0_5.blk t).view.emb y 0).val = t.val * 64 + (y 0).val := by blk_simp [(index t).2.2.2.2.2.1.1]
  have h1 : ((win0_5.blk t).view.emb y 1).val = (y 1).val := by blk_simp [(index t).2.2.2.2.2.1.2]
  blk_simp; rw [after0_5]; frame_out
  exact plain m c t 1024 (by decide) _ _ (y 0) (y 1) _ (pay2 (block m c t) (part m c t 1024 inb_S2048x4096_S2048x1024_0_1024) (y 0) (y 1)) h0 h1

/-- The values that are kept. -/
theorem kept_values_eq : (dats m 0 c).arrAt 6 (cfgs 0).N = (rows 2048 (by decide) (m ((c : Thread nD τ).loc main_arg0)) (m ((c : Thread nD τ).loc main_arg1)) : FVec Ideal S1024x1024 .f32) := by
  refine (dats m 0 c).arrAt_eq_of_covers 6 _ (by decide +kernel) fun t hf y => ?_
  have h0 : ((win0_6.blk t).view.emb y 0).val = t.val * 64 + (y 0).val := by blk_simp [(index t).2.2.2.2.2.2.1.1]
  have h1 : ((win0_6.blk t).view.emb y 1).val = (y 1).val := by blk_simp [(index t).2.2.2.2.2.2.1.2]
  blk_simp; rw [after0_6]; frame_out
  exact plain m c t 2048 (by decide) _ _ (y 0) (y 1) _ (pay3 (block m c t) (part m c t 2048 inb_S2048x4096_S2048x1024_0_2048) (y 0) (y 1)) h0 h1

/-- The inputs of the state space model. -/
theorem inputs_eq : (dats m 0 c).arrAt 7 (cfgs 0).N = inputs (m ((c : Thread nD τ).loc main_arg0)) (m ((c : Thread nD τ).loc main_arg1)) := by
  refine (dats m 0 c).arrAt_eq_of_covers 7 _ (by decide +kernel) fun t hf y => ?_
  have h0 : ((win0_7.blk t).view.emb y 0).val = (y 0).val := by blk_simp [(index t).2.2.2.2.2.2.2.1]
  have h1 : ((win0_7.blk t).view.emb y 1).val = t.val * 1024 + (y 1).val := by blk_simp [(index t).2.2.2.2.2.2.2.2]
  blk_simp; rw [after0_7]; frame_out
  exact beside m c t _ _ (y 0) (y 1) _ (pay4 (block m c t) (part m c t 3072 inb_S2048x4096_S2048x1024_0_3072) (y 0) (y 1)) h0 h1
end Cert.ShortIdeal.Projected

end
-- ==== Proof.ShortRef.lean ====
/- The plain projection of the sample, entry by entry. -/
module

public import proofs.«01_k».proof.Proof.ShortValue
public import proofs.«01_k».proof.Proof.Scale
public import proofs.«01_k».proof.Proof.Gen.ShortRefIdeal.Read
public import Idealize.ShloMosaic.Lib.Pointwise

@[expose] public section

set_option maxRecDepth 16384

noncomputable section

namespace Cert.ShortRefIdeal.Projected

open Cert.ShortRefIdeal Cert.ShortRefIdeal.Gen Cert.ShortRefIdeal.Read Idealize.ShloMosaic Idealize.ShloMosaic.TcCoe Idealize.SL.Sem
open Cert.ShortIdeal.Projected (feature rows queries inputs)
open scoped BigOperators

variable (x : FVec Ideal S16x64x2048 .f32) (w : FVec Ideal S1x2048x4096 .f32)

/-- The product of the tokens with the weight, at an index with coordinates `b`, `l` and `e`. -/
theorem product_at (j : S16x64x4096.Idx) (b : Fin 16) (l : Fin 64) (e : Fin 4096) (h0 : (j 0).val = b.val) (h1 : (j 1).val = l.val) (h2 : (j 2).val = e.val) :
    val_main_v1 (F := Ideal) x w j = feature x w b l e := by
  rw [val_main_v1_apply]
  unfold feature
  refine Finset.sum_congr rfl fun k _ => congrArg₂ (· * ·) (congrArg x (funext fun a => Fin.ext ?_)) ?_
  · match a with
    | ⟨0, _⟩ => exact h0
    | ⟨1, _⟩ => exact h1
    | ⟨2, _⟩ => rfl
  · rw [val_main_v0_apply]
    refine congrArg w (funext fun a => Fin.ext ?_)
    have he : (j 2).val < 4096 := (j 2).isLt
    match a with
    | ⟨0, _⟩ => rfl
    | ⟨1, _⟩ => show (k.val * 4096 + (j 2).val) / 4096 % 2048 = k.val; omega
    | ⟨2, _⟩ => show (k.val * 4096 + (j 2).val) % 4096 = e.val; omega

/-- The keys the attention reads. -/
theorem keys_eq : val_main_v14 (F := Ideal) x w = (rows 1024 (by decide) x w : FVec Ideal S1024x1024 .bf16) := by
  funext i
  have hi0 : (i 0).val < 1024 := (i 0).isLt
  have hi1 : (i 1).val < 1024 := (i 1).isLt
  refine Eq.trans (b := val_main_v13 (F := Ideal) x w i) rfl ?_
  rw [val_main_v13_apply, val_main_v3_apply]
  exact product_at x w _ _ _ _ (by show ((i 0).val * 1024 + (i 1).val) / 65536 = (i 0).val / 64; omega)
    (by show ((i 0).val * 1024 + (i 1).val) / 1024 % 64 = (i 0).val % 64; omega)
    (by show 1024 + ((i 0).val * 1024 + (i 1).val) % 1024 = 1024 + (i 1).val; omega)

/-- The values the attention reads. -/
theorem values_eq : val_main_v16 (F := Ideal) x w = (rows 2048 (by decide) x w : FVec Ideal S1024x1024 .bf16) := by
  funext i
  have hi0 : (i 0).val < 1024 := (i 0).isLt
  have hi1 : (i 1).val < 1024 := (i 1).isLt
  refine Eq.trans (b := val_main_v15 (F := Ideal) x w i) rfl ?_
  rw [val_main_v15_apply, val_main_v4_apply]
  exact product_at x w _ _ _ _ (by show ((i 0).val * 1024 + (i 1).val) / 65536 = (i 0).val / 64; omega)
    (by show ((i 0).val * 1024 + (i 1).val) / 1024 % 64 = (i 0).val % 64; omega)
    (by show 2048 + ((i 0).val * 1024 + (i 1).val) % 1024 = 2048 + (i 1).val; omega)

/-- The keys that are kept. -/
theorem kept_keys_eq : val_main_v17 (F := Ideal) x w = (rows 1024 (by decide) x w : FVec Ideal S1024x1024 .f32) := by
  funext i
  have hi0 : (i 0).val < 1024 := (i 0).isLt
  have hi1 : (i 1).val < 1024 := (i 1).isLt
  refine Eq.trans (b := val_main_v17 (F := Ideal) x w i) rfl ?_
  rw [val_main_v17_apply, val_main_v3_apply]
  exact product_at x w _ _ _ _ (by show ((i 0).val * 1024 + (i 1).val) / 65536 = (i 0).val / 64; omega)
    (by show ((i 0).val * 1024 + (i 1).val) / 1024 % 64 = (i 0).val % 64; omega)
    (by show 1024 + ((i 0).val * 1024 + (i 1).val) % 1024 = 1024 + (i 1).val; omega)

/-- The values that are kept. -/
theorem kept_values_eq : val_main_v18 (F := Ideal) x w = (rows 2048 (by decide) x w : FVec Ideal S1024x1024 .f32) := by
  funext i
  have hi0 : (i 0).val < 1024 := (i 0).isLt
  have hi1 : (i 1).val < 1024 := (i 1).isLt
  refine Eq.trans (b := val_main_v18 (F := Ideal) x w i) rfl ?_
  rw [val_main_v18_apply, val_main_v4_apply]
  exact product_at x w _ _ _ _ (by show ((i 0).val * 1024 + (i 1).val) / 65536 = (i 0).val / 64; omega)
    (by show ((i 0).val * 1024 + (i 1).val) / 1024 % 64 = (i 0).val % 64; omega)
    (by show 2048 + ((i 0).val * 1024 + (i 1).val) % 1024 = 2048 + (i 1).val; omega)

/-- The inputs of the state space model. -/
theorem inputs_eq : val_main_v20 (F := Ideal) x w = inputs x w := by
  funext i
  have hi0 : (i 0).val < 64 := (i 0).isLt
  have hi1 : (i 1).val < 16384 := (i 1).isLt
  refine Eq.trans (b := val_main_v20 (F := Ideal) x w i) rfl ?_
  rw [val_main_v20_apply, val_main_v19_apply, val_main_v5_apply]
  exact product_at x w _ _ _ _ (by show ((i 0).val * 16384 + (i 1).val) / 1024 % 16 = (i 1).val / 1024; omega)
    (by show ((i 0).val * 16384 + (i 1).val) / 16384 = (i 0).val; omega)
    (by show 3072 + ((i 0).val * 16384 + (i 1).val) % 1024 = 3072 + (i 1).val % 1024; omega)

/-- The queries. -/
theorem queries_eq : val_main_v12 (F := Ideal) x w = queries x w := by
  funext i
  have hi0 : (i 0).val < 1024 := (i 0).isLt
  have hi1 : (i 1).val < 1024 := (i 1).isLt
  refine Eq.trans (b := val_main_v11 (F := Ideal) x w i) rfl ?_
  rw [val_main_v11_apply]
  refine (Scale.scale_eq (val_main_v2 (F := Ideal) x w (idx_main_v11 i))).trans ?_
  rw [val_main_v2_apply]
  exact congrArg (· * _) (product_at x w _ _ _ _ (by show ((i 0).val * 1024 + (i 1).val) / 65536 = (i 0).val / 64; omega)
    (by show ((i 0).val * 1024 + (i 1).val) / 1024 % 64 = (i 0).val % 64; omega)
    (by show ((i 0).val * 1024 + (i 1).val) % 1024 = 0 + (i 1).val; omega))
end Cert.ShortRefIdeal.Projected

end
-- ==== Proof.ShortClaim.lean ====
/- The claims about the sample's projection. -/
module

public import proofs.«01_k».proof.Defs
public import proofs.«01_k».proof.Proof.ShortValue
public import proofs.«01_k».proof.Proof.ShortRef
public import proofs.«01_k».proof.Proof.Gen.ShortRefIdeal.Run
public import Idealize.ShloMosaic.Lib.Quiescent

@[expose] public section

noncomputable section

namespace Cert.Proof

open Idealize.ShloMosaic Idealize.SL.Sem

/-- The reference leaves its arguments as they were; it has no semaphores. -/
theorem frameShortRef : Cert.quiescent_ShortRefIdeal (hShortRefIdeal := Cert.ShortRefIdeal.Gen.facts) := fun m ρ _ =>
  (θ_run Cert.ShortRefIdeal.defs _ _).mono (fun r h => ⟨fun c => (h c).2.2.2.2.2.2, sem_eq_zero_of_no_sems (by decide) r.2⟩)
    (Cert.ShortRefIdeal.Value.run (F := Ideal) m ρ)

/-- The six results of the sample's projection are the reference's. -/
theorem agreeShort : Cert.algebraic_ShortIdeal_ShortRefIdeal (hShortIdeal := Cert.ShortIdeal.Gen.facts)
    (hShortRefIdeal := Cert.ShortRefIdeal.Gen.facts) := by
  intro m ρ m' ρ' _ hargs
  have same0 := fun c => (Cert.ShortRefIdeal.Read.val_main_v12_eq _ _).trans ((congrArg₂ (Cert.ShortRefIdeal.Read.val_main_v12 (F := Ideal)) (hargs c).1 (hargs c).2).trans
    ((Cert.ShortRefIdeal.Projected.queries_eq _ _).trans (Cert.ShortIdeal.Projected.queries_eq m c).symm))
  have same1 := fun c => (Cert.ShortRefIdeal.Read.val_main_v14_eq _ _).trans ((congrArg₂ (Cert.ShortRefIdeal.Read.val_main_v14 (F := Ideal)) (hargs c).1 (hargs c).2).trans
    ((Cert.ShortRefIdeal.Projected.keys_eq _ _).trans (Cert.ShortIdeal.Projected.keys_eq m c).symm))
  have same2 := fun c => (Cert.ShortRefIdeal.Read.val_main_v16_eq _ _).trans ((congrArg₂ (Cert.ShortRefIdeal.Read.val_main_v16 (F := Ideal)) (hargs c).1 (hargs c).2).trans
    ((Cert.ShortRefIdeal.Projected.values_eq _ _).trans (Cert.ShortIdeal.Projected.values_eq m c).symm))
  have same3 := fun c => (Cert.ShortRefIdeal.Read.val_main_v17_eq _ _).trans ((congrArg₂ (Cert.ShortRefIdeal.Read.val_main_v17 (F := Ideal)) (hargs c).1 (hargs c).2).trans
    ((Cert.ShortRefIdeal.Projected.kept_keys_eq _ _).trans (Cert.ShortIdeal.Projected.kept_keys_eq m c).symm))
  have same4 := fun c => (Cert.ShortRefIdeal.Read.val_main_v18_eq _ _).trans ((congrArg₂ (Cert.ShortRefIdeal.Read.val_main_v18 (F := Ideal)) (hargs c).1 (hargs c).2).trans
    ((Cert.ShortRefIdeal.Projected.kept_values_eq _ _).trans (Cert.ShortIdeal.Projected.kept_values_eq m c).symm))
  have same5 := fun c => (Cert.ShortRefIdeal.Read.val_main_v20_eq _ _).trans ((congrArg₂ (Cert.ShortRefIdeal.Read.val_main_v20 (F := Ideal)) (hargs c).1 (hargs c).2).trans
    ((Cert.ShortRefIdeal.Projected.inputs_eq _ _).trans (Cert.ShortIdeal.Projected.inputs_eq m c).symm))
  exact ⟨fun c => (Cert.ShortIdeal.Gen.dats m 0 c).arrAt 2 Cert.ShortIdeal.cfg0.N,
    fun c => (Cert.ShortIdeal.Gen.dats m 0 c).arrAt 3 Cert.ShortIdeal.cfg0.N,
    fun c => (Cert.ShortIdeal.Gen.dats m 0 c).arrAt 4 Cert.ShortIdeal.cfg0.N,
    fun c => (Cert.ShortIdeal.Gen.dats m 0 c).arrAt 5 Cert.ShortIdeal.cfg0.N,
    fun c => (Cert.ShortIdeal.Gen.dats m 0 c).arrAt 6 Cert.ShortIdeal.cfg0.N,
    fun c => (Cert.ShortIdeal.Gen.dats m 0 c).arrAt 7 Cert.ShortIdeal.cfg0.N, Cert.ShortIdeal.Value.run_blocks m ρ,
    (θ_run Cert.ShortRefIdeal.defs _ _).mono (fun r h c => ⟨(h c).1.trans (same0 c),
      (h c).2.1.trans (same1 c),
      (h c).2.2.1.trans (same2 c),
      (h c).2.2.2.1.trans (same3 c),
      (h c).2.2.2.2.1.trans (same4 c),
      (h c).2.2.2.2.2.1.trans (same5 c), (h c).2.2.2.2.2.2⟩)
      (Cert.ShortRefIdeal.Value.run (F := Ideal) m' ρ')⟩

end Cert.Proof

end
-- ==== Proof.MixValue.lean ====
/- What the mixing call leaves in its three result arrays, entry by entry, from the arguments. -/
module

public import proofs.«01_k».proof.Proof.Gen.MixIdeal.Value
public import Idealize.ShloMosaic.Lib.Pipeline.ValueKit
public import Idealize.ShloMosaic.Lib.Pipeline.ValueKit.Geometry
public import Idealize.ShloMosaic.Lib.Pointwise

@[expose] public section

set_option maxRecDepth 16384

noncomputable section

namespace Cert.MixIdeal.Mixed

open Cert.MixIdeal Cert.MixIdeal.Gen Idealize.ShloMosaic Idealize.ShloMosaic.TcCoe Idealize.SL.Sem
open Idealize.ShloMosaic.Pipeline (Dat)
open scoped BigOperators

/-- The layer norm of a row, before the gain and the bias: the deviation from the mean, over the root of the mean square deviation. -/
def mean (f : Fin 2048 → EReal) : EReal := Ideal.div (∑ k : Fin 2048, f k) (Ideal.ofBits .f32 0x45000000#32)
def normed (f : Fin 2048 → EReal) (e : Fin 2048) : EReal :=
  (f e - mean f) * Ideal.rsqrt (mean (fun k => (f k - mean f) * (f k - mean f)) + Ideal.ofBits .f32 0x3727C5AC#32)

/-- A row of a half block: the scaled input plus the projected attention and state space outputs. -/
def mixedHalf (a : FVec Ideal S1x1024x256 .bf16) (wa : FVec Ideal S1024x2048 .bf16) (s : FVec Ideal S256x1024 .bf16) (ws : FVec Ideal S1024x2048 .bf16)
    (x : FVec Ideal S256x2048 .f32) (r : Fin 256) (e : Fin 2048) : EReal :=
  ((Real.sqrt (Real.sqrt 2) : ℝ) : EReal) * x (ix2 r e)
    + ((∑ k : Fin 1024, a (ix3 0 k r) * wa (ix2 k e)) + ∑ k : Fin 1024, s (ix2 r k) * ws (ix2 k e))

/-- A row of a half block's result. -/
def layerHalf (a : FVec Ideal S1x1024x256 .bf16) (wa : FVec Ideal S1024x2048 .bf16) (s : FVec Ideal S256x1024 .bf16) (ws : FVec Ideal S1024x2048 .bf16)
    (x : FVec Ideal S256x2048 .f32) (g b : FVec Ideal S1x2048 .f32) (r : Fin 256) (e : Fin 2048) : EReal :=
  normed (mixedHalf a wa s ws x r) e * g (ix2 0 e) + b (ix2 0 e)

section Payloads

variable (a : FVec Ideal S1x1024x256 .bf16) (wa : FVec Ideal S1024x2048 .bf16) (s : FVec Ideal S256x1024 .bf16) (ws : FVec Ideal S1024x2048 .bf16)
    (x : FVec Ideal S256x2048 .f32) (g b : FVec Ideal S1x2048 .f32) (r : Fin 256) (e : Fin 2048)

theorem first : k0_pay7 (F := Ideal) (k0_pay4 b) (k0_pay5 a wa s ws x) (k0_pay6 g) (ix2 r e) = layerHalf a wa s ws x g b r e := by
  pointwise [k0_pay7, k0_pay4, k0_pay5, k0_pay6]
  rfl
theorem first_transposed : k0_pay9 (F := Ideal) (k0_pay4 b) (k0_pay5 a wa s ws x) (k0_pay6 g) (ix2 e r) = layerHalf a wa s ws x g b r e := by
  rw [← first]
  unfold k0_pay9
  generalize k0_pay7 (F := Ideal) (k0_pay4 b) (k0_pay5 a wa s ws x) (k0_pay6 g) = y
  pointwise
theorem second : k0_pay1 (F := Ideal) (k0_pay10 a wa s ws x) (k0_pay11 g) (k0_pay12 b) (k0_pay13 a wa s ws x) k0_pay14 (ix2 r e)
    = layerHalf a wa s ws x g b r e := by
  pointwise [k0_pay1, k0_pay10, k0_pay11, k0_pay12, k0_pay13, k0_pay14]
  rfl
theorem second_transposed : k0_pay3 (F := Ideal) (k0_pay10 a wa s ws x) (k0_pay11 g) (k0_pay12 b) (k0_pay13 a wa s ws x) k0_pay14 (ix2 e r)
    = layerHalf a wa s ws x g b r e := by
  rw [← second]
  unfold k0_pay3
  generalize k0_pay1 (F := Ideal) (k0_pay10 a wa s ws x) (k0_pay11 g) (k0_pay12 b) (k0_pay13 a wa s ws x) k0_pay14 = y
  pointwise

end Payloads

variable (m : (ℓ : Loc nD τ sig) → Buf (Elt Ideal) ℓ) (c : Dev nD)

/-- The blocks of point `t`: 512 tokens of sequence `t / 4`, from token `512 (t % 4)` on. -/
theorem index0 : ∀ t : Fin cfg0.N, win0_0.index t 0 = t.val / 4 ∧ win0_0.index t 1 = 0 ∧ win0_0.index t 2 = t.val % 4 :=
  (by decide +kernel : ∀ t : Fin grid0.N, _)
theorem index1 : ∀ t : Fin cfg0.N, win0_1.index t 0 = t.val % 4 ∧ win0_1.index t 1 = t.val / 4 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = t.val ∧ win0_7.index t 1 = 0 := (by decide +kernel : ∀ t : Fin grid0.N, _)
theorem index8 : ∀ t : Fin cfg0.N, win0_8.index t 0 = 0 ∧ win0_8.index t 1 = t.val := (by decide +kernel : ∀ t : Fin grid0.N, _)

theorem point_lt (t : Fin cfg0.N) : t.val < 64 := by have := t.isLt; have h : cfg0.N = 64 := N_0; omega

/-- The operands that the host prepares: the input row by row, the weight, the gain and the bias. -/
theorem input (r : Fin 32768) (e : Fin 2048) : V m c main_v0 (ix2 r e)
    = m ((c : Thread nD τ).loc main_arg2) (ix3 ⟨r.val / 2048, by omega⟩ ⟨r.val % 2048, by omega⟩ e) := by
  entry_read
  pointwise
theorem weight (k e : Fin 2048) : V m c main_v2 (ix2 k e) = m ((c : Thread nD τ).loc main_arg3) (ix3 0 k e) := by
  entry_read
  pointwise
theorem gain (e : Fin 2048) : V m c main_v5 (ix2 0 e) = m ((c : Thread nD τ).loc main_arg4) (ix2 0 e) := by
  entry_read
  pointwise
theorem bias (e : Fin 2048) : V m c main_v6 (ix2 0 e) = m ((c : Thread nD τ).loc main_arg5) (ix2 0 e) := by
  entry_read
  pointwise

/-- The loads of a half block: the tokens from `o` on (`o` is 0 or 256) of the blocks of point `t`. -/
def attention (t : Fin cfg0.N) (o : ℕ) (inb : ∀ a, ![0, 0, o] a + S1x1024x256.size a ≤ S1x1024x512.size a) : FVec Ideal S1x1024x256 .bf16 :=
  View.ld (iblk m c 0 t) (Rect.unit (s := S1x1024x512) ![0, 0, o] S1x1024x256.size inb)
def states (t : Fin cfg0.N) (o : ℕ) (inb : ∀ a, ![o, 0] a + S256x1024.size a ≤ S512x1024.size a) : FVec Ideal S256x1024 .bf16 :=
  View.ld (iblk m c 1 t) (Rect.unit (s := S512x1024) ![o, 0] S256x1024.size inb)
def residual (t : Fin cfg0.N) (o : ℕ) (inb : ∀ a, ![o, 0] a + S256x2048.size a ≤ S512x2048.size a) : FVec Ideal S256x2048 .f32 :=
  View.ld (iblk m c 2 t) (Rect.unit (s := S512x2048) ![o, 0] S256x2048.size inb)
def weights (t : Fin cfg0.N) (o : ℕ) (inb : ∀ a, ![o, 0] a + S1024x2048.size a ≤ S2048x2048.size a) : FVec Ideal S1024x2048 .bf16 :=
  View.ld (iblk m c 3 t) (Rect.unit (s := S2048x2048) ![o, 0] S1024x2048.size inb)
def gains (t : Fin cfg0.N) : FVec Ideal S1x2048 .f32 := View.ld (iblk m c 4 t) r0_5
def biases (t : Fin cfg0.N) : FVec Ideal S1x2048 .f32 := View.ld (iblk m c 5 t) r0_5

theorem attention_at (t : Fin cfg0.N) (o : ℕ) (inb) (k : Fin 1024) (r : Fin 256) (R : Fin 32768) (hR : R.val = 512 * t.val + o + r.val)
    (ho : o ≤ 256) : attention m c t o inb (ix3 0 k r)
    = m ((c : Thread nD τ).loc main_arg0) (ix3 ⟨R.val / 2048, by omega⟩ k ⟨R.val % 2048, by omega⟩) := by
  obtain ⟨i0, i1, i2⟩ := index0 t
  unfold attention
  blk_simp [iblk]
  refine congrArg (m ((c : Thread nD τ).loc main_arg0)) (funext fun a => Fin.ext ?_)
  match a with
  | 0 => blk_simp [i0]; simp; omega
  | 1 => blk_simp [i1]; simp
  | 2 => blk_simp [i2]; simp; omega
theorem states_at (t : Fin cfg0.N) (o : ℕ) (inb) (k : Fin 1024) (r : Fin 256) (R : Fin 32768) (hR : R.val = 512 * t.val + o + r.val)
    (ho : o ≤ 256) : states m c t o inb (ix2 r k)
    = m ((c : Thread nD τ).loc main_arg1) (ix2 ⟨R.val % 2048, by omega⟩ ⟨R.val / 2048 * 1024 + k.val, by omega⟩) := by
  obtain ⟨i0, i1⟩ := index1 t
  unfold states
  blk_simp [iblk]
  refine congrArg (m ((c : Thread nD τ).loc main_arg1)) (funext fun a => Fin.ext ?_)
  match a with
  | 0 => blk_simp [i0]; simp; omega
  | 1 => blk_simp [i1]; simp; omega
theorem residual_at (t : Fin cfg0.N) (o : ℕ) (inb) (r : Fin 256) (e : Fin 2048) (R : Fin 32768) (hR : R.val = 512 * t.val + o + r.val) :
    residual m c t o inb (ix2 r e)
    = m ((c : Thread nD τ).loc main_arg2) (ix3 ⟨R.val / 2048, by omega⟩ ⟨R.val % 2048, by omega⟩ e) := by
  obtain ⟨i0, i1⟩ := index2 t
  rw [← input m c]
  unfold residual
  blk_simp [iblk]
  refine congrArg (V m c main_v0) (funext fun a => Fin.ext ?_)
  match a with
  | 0 => blk_simp [i0]; simp; omega
  | 1 => blk_simp [i1]; simp
theorem weights_at (t : Fin cfg0.N) (o : ℕ) (inb) (k : Fin 1024) (e : Fin 2048) (ho : o ≤ 1024) : weights m c t o inb (ix2 k e)
    = m ((c : Thread nD τ).loc main_arg3) (ix3 0 ⟨o + k.val, by omega⟩ e) := by
  obtain ⟨i0, i1⟩ := index3 t
  rw [← weight m c]
  unfold weights
  blk_simp [iblk]
  refine congrArg (V m c main_v2) (funext fun a => Fin.ext ?_)
  match a with
  | 0 => blk_simp [i0]; simp
  | 1 => blk_simp [i1]; simp
theorem gains_at (t : Fin cfg0.N) (e : Fin 2048) : gains m c t (ix2 0 e) = m ((c : Thread nD τ).loc main_arg4) (ix2 0 e) := by
  obtain ⟨i0, i1⟩ := index4 t
  rw [← gain m c]
  unfold gains
  blk_simp [iblk]
  refine congrArg (V m c main_v5) (funext fun a => Fin.ext ?_)
  match a with
  | 0 => blk_simp [i0]; simp
  | 1 => blk_simp [i1]; simp
theorem biases_at (t : Fin cfg0.N) (e : Fin 2048) : biases m c t (ix2 0 e) = m ((c : Thread nD τ).loc main_arg5) (ix2 0 e) := by
  obtain ⟨i0, i1⟩ := index5 t
  rw [← bias m c]
  unfold biases
  blk_simp [iblk]
  refine congrArg (V m c main_v6) (funext fun a => Fin.ext ?_)
  match a with
  | 0 => blk_simp [i0]; simp
  | 1 => blk_simp [i1]; simp

section Layer

variable (a : FVec Ideal S16x1024x2048 .bf16) (s : FVec Ideal S2048x16384 .bf16) (x : FVec Ideal S16x2048x2048 .f32) (w : FVec Ideal S1x2048x2048 .f32)
  (g b : FVec Ideal S1x2048 .f32)

/-- Entry `e` of the mixed token `R` (counted over all sequences). -/
def mixed (R : Fin 32768) (e : Fin 2048) : EReal :=
  ((Real.sqrt (Real.sqrt 2) : ℝ) : EReal) * x (ix3 ⟨R.val / 2048, by omega⟩ ⟨R.val % 2048, by omega⟩ e)
    + ((∑ k : Fin 1024, a (ix3 ⟨R.val / 2048, by omega⟩ k ⟨R.val % 2048, by omega⟩) * w (ix3 0 ⟨0 + k.val, by omega⟩ e))
      + ∑ k : Fin 1024, s (ix2 ⟨R.val % 2048, by omega⟩ ⟨R.val / 2048 * 1024 + k.val, by omega⟩) * w (ix3 0 ⟨1024 + k.val, by omega⟩ e))

/-- Entry `e` of the layer's token `R`: the mixed token normed, with gain and bias. -/
def layer (R : Fin 32768) (e : Fin 2048) : EReal := normed (mixed a s x w R) e * g (ix2 0 e) + b (ix2 0 e)

/-- The results: the layer in two precisions, and transposed. -/
def rows : FVec Ideal S32768x2048 .f32 := fun j => layer a s x w g b (j 0) (j 1)
def rowsHalf : FVec Ideal S32768x2048 .bf16 := fun j => layer a s x w g b (j 0) (j 1)
def columns : FVec Ideal S2048x32768 .bf16 := fun j => layer a s x w g b (j 1) (j 0)

end Layer

theorem half_eq (t : Fin cfg0.N) (o : ℕ) (ia is ix i0 i1) (ho : o ≤ 256) (r : Fin 256) (e : Fin 2048) (R : Fin 32768) (E : Fin 2048)
    (hR : R.val = 512 * t.val + o + r.val) (hE : E.val = e.val) :
    layerHalf (attention m c t o ia) (weights m c t 0 i0) (states m c t o is) (weights m c t 1024 i1) (residual m c t o ix)
      (gains m c t) (biases m c t) r e = layer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R E := by
  obtain rfl : E = e := Fin.ext hE
  have hm : mixedHalf (attention m c t o ia) (weights m c t 0 i0) (states m c t o is) (weights m c t 1024 i1) (residual m c t o ix) r
      = mixed (m ((c : Thread nD τ).loc main_arg0)) (m ((c : Thread nD τ).loc main_arg1)) (m ((c : Thread nD τ).loc main_arg2))
      (m ((c : Thread nD τ).loc main_arg3)) R := by
    funext e
    exact congrArg₂ (· + ·) (congrArg _ (residual_at m c t o ix r e R hR))
      (congrArg₂ (· + ·)
        (Finset.sum_congr rfl fun k _ => congrArg₂ (· * ·) (attention_at m c t o ia k r R hR ho) (weights_at m c t 0 i0 k e (by omega)))
        (Finset.sum_congr rfl fun k _ => congrArg₂ (· * ·) (states_at m c t o is k r R hR ho) (weights_at m c t 1024 i1 k e le_rfl)))
  unfold layerHalf layer
  rw [hm, gains_at, biases_at]

/-- The three results. -/
theorem rows_eq : (dats m 0 c).arrAt 6 (cfgs 0).N = rows (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have h0 : ((win0_6.blk t).view.emb y 0).val = t.val * 512 + (y 0).val := by blk_simp [(index6 t)]
  have h1 : ((win0_6.blk t).view.emb y 1).val = (y 1).val := by blk_simp [(index6 t)]
  blk_simp; rw [after0_6]
  canon_tiles x h
  · exact (congrArg _ (eq_ix2 x)).trans ((second _ _ _ _ _ _ _ (x 0) (x 1)).trans
      (half_eq m c t 256 _ _ _ _ _ (by omega) (x 0) (x 1) _ _ (by omega) (by omega)))
  · exact (congrArg _ (eq_ix2 x)).trans ((first _ _ _ _ _ _ _ (x 0) (x 1)).trans
      (half_eq m c t 0 _ _ _ _ _ (by omega) (x 0) (x 1) _ _ (by omega) (by omega)))
theorem rowsHalf_eq : (dats m 0 c).arrAt 7 (cfgs 0).N = rowsHalf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  have h0 : ((win0_7.blk t).view.emb y 0).val = t.val * 512 + (y 0).val := by blk_simp [(index7 t)]
  have h1 : ((win0_7.blk t).view.emb y 1).val = (y 1).val := by blk_simp [(index7 t)]
  blk_simp; rw [after0_7]
  canon_tiles x h
  · exact (congrArg _ (eq_ix2 x)).trans ((second _ _ _ _ _ _ _ (x 0) (x 1)).trans
      (half_eq m c t 256 _ _ _ _ _ (by omega) (x 0) (x 1) _ _ (by omega) (by omega)))
  · exact (congrArg _ (eq_ix2 x)).trans ((first _ _ _ _ _ _ _ (x 0) (x 1)).trans
      (half_eq m c t 0 _ _ _ _ _ (by omega) (x 0) (x 1) _ _ (by omega) (by omega)))
theorem columns_eq : (dats m 0 c).arrAt 8 (cfgs 0).N = columns (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 8 _ (by decide +kernel) fun t hf y => ?_
  have h0 : ((win0_8.blk t).view.emb y 0).val = (y 0).val := by blk_simp [(index8 t)]
  have h1 : ((win0_8.blk t).view.emb y 1).val = t.val * 512 + (y 1).val := by blk_simp [(index8 t)]
  blk_simp; rw [after0_8]
  canon_tiles x h
  · exact (congrArg _ (eq_ix2 x)).trans ((second_transposed _ _ _ _ _ _ _ (x 1) (x 0)).trans
      (half_eq m c t 256 _ _ _ _ _ (by omega) (x 1) (x 0) _ _ (by omega) (by omega)))
  · exact (congrArg _ (eq_ix2 x)).trans ((first_transposed _ _ _ _ _ _ _ (x 1) (x 0)).trans
      (half_eq m c t 0 _ _ _ _ _ (by omega) (x 1) (x 0) _ _ (by omega) (by omega)))

end Cert.MixIdeal.Mixed

end
-- ==== Proof.MixRef.lean ====
/- The plain mix and norm of the prompt, entry by entry. -/
module

public import proofs.«01_k».proof.Proof.MixValue
public import proofs.«01_k».proof.Proof.Gen.MixRefIdeal.Read
public import Idealize.ShloMosaic.Lib.KernelVsHost

@[expose] public section

set_option maxRecDepth 16384

noncomputable section

namespace Cert.MixRefIdeal.Mixed

open Cert.MixRefIdeal Cert.MixRefIdeal.Gen Cert.MixRefIdeal.Read Idealize.ShloMosaic Idealize.ShloMosaic.TcCoe Idealize.SL.Sem
open Cert.MixIdeal.Mixed (mean normed mixed layer rows rowsHalf columns)
open scoped BigOperators

variable (a : FVec Ideal S16x1024x2048 .bf16) (s : FVec Ideal S2048x16384 .bf16) (x : FVec Ideal S16x2048x2048 .f32) (w : FVec Ideal S1x2048x2048 .f32)
  (g b : FVec Ideal S1x2048 .f32)

theorem zero_bits : (Ideal.ofBits .f32 0x00000000#32 : EReal) = 0 := by simp [Ideal.ofBits, Ideal.ieee]
theorem two_bits : (Ideal.ofBits .f32 0x40000000#32 : EReal) = ((2 : ℝ) : EReal) := by
  simp [Ideal.ofBits, Ideal.ieee, -EReal.coe_mul]; norm_num

/-- The residual's factor, the fourth root of two. -/
theorem factor (j : S16x2048x2048.Idx) : val_main_v10 (F := Ideal) j = ((Real.sqrt (Real.sqrt 2) : ℝ) : EReal) := by
  rw [val_main_v10_apply, val_main_v9_apply, val_main_v8_apply, val_main_cst_apply]
  show Ideal.sqrt (Ideal.sqrt (Ideal.ofBits .f32 0x40000000#32)) = _
  rw [two_bits, Ideal.sqrt_coe, if_neg (by norm_num), Ideal.sqrt_coe, if_neg (not_lt.2 (Real.sqrt_nonneg 2))]

/-- The concatenated features: the attention's first, then the state space model's. -/
theorem features_low (j : S16x2048x2048.Idx) (bb : Fin 16) (l : Fin 2048) (k : Fin 1024) (h0 : (j 0).val = bb.val) (h1 : (j 1).val = l.val)
    (h2 : (j 2).val = k.val) : val_main_v5 (F := Ideal) a s j = a (ix3 bb k l) := by
  unfold val_main_v5
  refine (concatenate_pair_apply_left (s₁ := S16x2048x1024) (s₂ := S16x2048x1024) 2 _ _ _ j rfl (ix3 bb l k) fun c => ?_).trans ?_
  · match c with
    | ⟨0, _⟩ => exact h0.symm
    | ⟨1, _⟩ => exact h1.symm
    | ⟨2, _⟩ => exact h2.symm
  · rw [val_main_v1_apply, val_main_v0_apply]
    refine congrArg a (funext fun c => Fin.ext ?_)
    match c with
    | ⟨0, _⟩ => rfl
    | ⟨1, _⟩ => rfl
    | ⟨2, _⟩ => rfl
theorem features_high (j : S16x2048x2048.Idx) (bb : Fin 16) (l : Fin 2048) (k : Fin 1024) (h0 : (j 0).val = bb.val) (h1 : (j 1).val = l.val)
    (h2 : (j 2).val = 1024 + k.val) : val_main_v5 (F := Ideal) a s j = s (ix2 l ⟨bb.val * 1024 + k.val, by omega⟩) := by
  unfold val_main_v5
  refine (concatenate_pair_apply_right (s₁ := S16x2048x1024) (s₂ := S16x2048x1024) 2 _ _ _ j rfl rfl (ix3 bb l k) (fun c hc => ?_) (by show k.val + 1024 = (j 2).val; omega)).trans ?_
  · match c with
    | ⟨0, _⟩ => exact h0.symm
    | ⟨1, _⟩ => exact h1.symm
    | ⟨2, _⟩ => exact absurd rfl hc
  · rw [val_main_v4_apply, val_main_v3_apply, val_main_v2_apply]
    refine congrArg s (funext fun c => Fin.ext ?_)
    match c with
    | ⟨0, _⟩ => show ((l.val * 16 + bb.val) * 1024 + k.val) / 16384 = l.val; omega
    | ⟨1, _⟩ => show ((l.val * 16 + bb.val) * 1024 + k.val) % 16384 = bb.val * 1024 + k.val; omega

theorem weight (k e : Fin 2048) (j : S2048x2048.Idx) (h0 : (j 0).val = k.val) (h1 : (j 1).val = e.val) :
    val_main_v6 (F := Ideal) w j = w (ix3 0 k e) := by
  rw [val_main_v6_apply]
  refine congrArg w (funext fun c => Fin.ext ?_)
  match c with
  | ⟨0, _⟩ => rfl
  | ⟨1, _⟩ => show ((j 0).val * 2048 + (j 1).val) / 2048 % 2048 = k.val; omega
  | ⟨2, _⟩ => show ((j 0).val * 2048 + (j 1).val) % 2048 = e.val; omega

/-- A sum over all features is a sum over the two halves. -/
theorem halves (f : Fin 2048 → EReal) : ∑ k, f k = (∑ k : Fin 1024, f ⟨0 + k.val, by omega⟩) + ∑ k : Fin 1024, f ⟨1024 + k.val, by omega⟩ :=
  (Fin.sum_univ_add (a := 1024) (b := 1024) f).trans
    (congrArg₂ (· + ·) (Finset.sum_congr rfl fun k _ => congrArg f (Fin.ext (Nat.zero_add _).symm)) rfl)

/-- The product of the features with the weight. -/
theorem product_at (j : S16x2048x2048.Idx) (bb : Fin 16) (l e : Fin 2048) (h0 : (j 0).val = bb.val) (h1 : (j 1).val = l.val)
    (h2 : (j 2).val = e.val) : val_main_v7 (F := Ideal) a s w j
    = (∑ k : Fin 1024, a (ix3 bb k l) * w (ix3 0 ⟨0 + k.val, by omega⟩ e))
      + ∑ k : Fin 1024, s (ix2 l ⟨bb.val * 1024 + k.val, by omega⟩) * w (ix3 0 ⟨1024 + k.val, by omega⟩ e) := by
  rw [val_main_v7_apply, halves]
  refine congrArg₂ (· + ·) (Finset.sum_congr rfl fun k _ => ?_) (Finset.sum_congr rfl fun k _ => ?_)
  · exact congrArg₂ (· * ·) (features_low a s (lidx_main_v7 j ⟨0 + k.val, by omega⟩) bb l k h0 h1 (Nat.zero_add _)) (weight w ⟨0 + k.val, by omega⟩ e _ rfl h2)
  · exact congrArg₂ (· * ·) (features_high a s (lidx_main_v7 j ⟨1024 + k.val, by omega⟩) bb l k h0 h1 rfl) (weight w ⟨1024 + k.val, by omega⟩ e _ rfl h2)

/-- The mixed token. -/
theorem mixed_at (j : S16x2048x2048.Idx) (R : Fin 32768) (e : Fin 2048) (h0 : (j 0).val = R.val / 2048) (h1 : (j 1).val = R.val % 2048)
    (h2 : (j 2).val = e.val) : val_main_v12 (F := Ideal) a s x w j = mixed a s x w R e := by
  have hx : x j = x (ix3 ⟨R.val / 2048, by omega⟩ ⟨R.val % 2048, by omega⟩ e) := by
    refine congrArg x (funext fun c => Fin.ext ?_)
    match c with
    | ⟨0, _⟩ => exact h0
    | ⟨1, _⟩ => exact h1
    | ⟨2, _⟩ => exact h2
  rw [val_main_v12_apply, val_main_v11_apply, factor, hx,
    product_at a s w j ⟨R.val / 2048, by omega⟩ ⟨R.val % 2048, by omega⟩ e h0 h1 h2]
  rfl

/-- The mean and the variance of a token. -/
theorem mean_at (j : S16x2048x1.Idx) (R : Fin 32768) (h0 : (j 0).val = R.val / 2048) (h1 : (j 1).val = R.val % 2048) :
    val_main_v16 (F := Ideal) a s x w j = mean (mixed a s x w R) := by
  rw [val_main_v16_apply, val_main_v14_apply, val_main_v15_apply, val_main_v13_apply, val_main_cst_0_apply, val_main_cst_1_apply]
  refine congrArg₂ Ideal.div ((congrArg₂ (· + ·) zero_bits (Finset.sum_congr rfl fun k _ => ?_)).trans (zero_add _)) rfl
  exact mixed_at a s x w _ R k h0 h1 rfl
theorem variance_at (j : S16x2048x1.Idx) (R : Fin 32768) (h0 : (j 0).val = R.val / 2048) (h1 : (j 1).val = R.val % 2048) :
    val_main_v23 (F := Ideal) a s x w j = mean (fun k => (mixed a s x w R k - mean (mixed a s x w R)) * (mixed a s x w R k - mean (mixed a s x w R))) := by
  rw [val_main_v23_apply, val_main_v21_apply, val_main_v22_apply, val_main_v20_apply, val_main_cst_2_apply, val_main_cst_3_apply]
  refine congrArg₂ Ideal.div ((congrArg₂ (· + ·) zero_bits (Finset.sum_congr rfl fun k _ => ?_)).trans (zero_add _)) rfl
  rw [val_main_v19_apply, val_main_v18_apply, val_main_v17_apply]
  have hd := congrArg₂ (fun p q : EReal => p - q) (mixed_at a s x w (idx_main_v20 (idx_main_v21 j) k) R k h0 h1 rfl)
    (mean_at a s x w (idx_main_v17 (idx_main_v20 (idx_main_v21 j) k)) R h0 h1)
  exact congrArg₂ (fun p q : EReal => p * q) hd hd

/-- The token of the layer. -/
theorem layer_at (j : S16x2048x2048.Idx) (R : Fin 32768) (e : Fin 2048) (h0 : (j 0).val = R.val / 2048) (h1 : (j 1).val = R.val % 2048)
    (h2 : (j 2).val = e.val) : val_main_v38 (F := Ideal) a s x w g b j = layer a s x w g b R e := by
  have hg : val_main_v33 (F := Ideal) g j = g (ix2 0 e) := by
    rw [val_main_v33_apply, val_main_v32_apply, val_main_v31_apply]
    refine congrArg g (funext fun c => Fin.ext ?_)
    match c with
    | ⟨0, _⟩ => rfl
    | ⟨1, _⟩ => show (j 2).val % 2048 = e.val; omega
  have hb : val_main_v37 (F := Ideal) b j = b (ix2 0 e) := by
    rw [val_main_v37_apply, val_main_v36_apply, val_main_v35_apply]
    refine congrArg b (funext fun c => Fin.ext ?_)
    match c with
    | ⟨0, _⟩ => rfl
    | ⟨1, _⟩ => show (j 2).val % 2048 = e.val; omega
  have hd := congrArg₂ (fun p q : EReal => p - q) (mixed_at a s x w j R e h0 h1 h2) (mean_at a s x w (idx_main_v24 j) R h0 h1)
  have hv := congrArg (fun v : EReal => Ideal.rsqrt (v + Ideal.ofBits .f32 0x3727C5AC#32)) (variance_at a s x w (idx_main_v29 j) R h0 h1)
  rw [val_main_v38_apply, val_main_v34_apply, val_main_v30_apply, val_main_v25_apply, val_main_v24_apply, val_main_v29_apply, val_main_v28_apply,
    val_main_v27_apply, val_main_v26_apply, val_main_cst_4_apply, hg, hb]
  exact congrArg (fun v : EReal => v * g (ix2 0 e) + b (ix2 0 e)) (congrArg₂ (fun p q : EReal => p * q) hd hv)

/-- Token by token. -/
theorem token_at (i : S32768x2048.Idx) : val_main_v39 (F := Ideal) a s x w g b i = layer a s x w g b (i 0) (i 1) := by
  have hi0 : (i 0).val < 32768 := (i 0).isLt
  have hi1 : (i 1).val < 2048 := (i 1).isLt
  rw [val_main_v39_apply]
  exact layer_at a s x w g b (idx_main_v39 i) (i 0) (i 1) (by show ((i 0).val * 2048 + (i 1).val) / 4194304 = (i 0).val / 2048; omega)
    (by show ((i 0).val * 2048 + (i 1).val) / 2048 % 2048 = (i 0).val % 2048; omega) (by show ((i 0).val * 2048 + (i 1).val) % 2048 = (i 1).val; omega)

/-- The three results. -/
theorem rows_eq : val_main_v39 (F := Ideal) a s x w g b = rows a s x w g b := funext (token_at a s x w g b)
theorem rowsHalf_eq : val_main_v40 (F := Ideal) a s x w g b = rowsHalf a s x w g b := by
  funext i
  refine Eq.trans (b := val_main_v39 (F := Ideal) a s x w g b i) rfl ?_
  exact token_at a s x w g b i
theorem columns_eq : val_main_v42 (F := Ideal) a s x w g b = columns a s x w g b := by
  funext i
  refine Eq.trans (b := val_main_v41 (F := Ideal) a s x w g b i) rfl ?_
  rw [val_main_v41_apply]
  exact token_at a s x w g b (idx_main_v41 i)
end Cert.MixRefIdeal.Mixed

end
-- ==== Proof.MixClaim.lean ====
/- The claims about the prompt's mix and norm. -/
module

public import proofs.«01_k».proof.Defs
public import proofs.«01_k».proof.Proof.MixValue
public import proofs.«01_k».proof.Proof.MixRef
public import proofs.«01_k».proof.Proof.Gen.MixRefIdeal.Run
public import Idealize.ShloMosaic.Lib.Quiescent

@[expose] public section

noncomputable section

namespace Cert.Proof

open Idealize.ShloMosaic Idealize.SL.Sem

/-- The reference leaves its arguments as they were; it has no semaphores. -/
theorem frameMixRef : Cert.quiescent_MixRefIdeal (hMixRefIdeal := Cert.MixRefIdeal.Gen.facts) := fun m ρ _ =>
  (θ_run Cert.MixRefIdeal.defs _ _).mono (fun r h => ⟨fun c => (h c).2.2.2, sem_eq_zero_of_no_sems (by decide) r.2⟩)
    (Cert.MixRefIdeal.Value.run (F := Ideal) m ρ)

/-- The three results of the mix are the reference's. -/
theorem agreeMix : Cert.algebraic_MixIdeal_MixRefIdeal (hMixIdeal := Cert.MixIdeal.Gen.facts)
    (hMixRefIdeal := Cert.MixRefIdeal.Gen.facts) := by
  intro m ρ m' ρ' _ hargs
  have same0 : ∀ c, Cert.MixRefIdeal.Value.res_main_v39 m' c = (Cert.MixIdeal.Gen.dats m 0 c).arrAt 6 Cert.MixIdeal.cfg0.N := by
    intro c
    obtain ⟨e0, e1, e2, e3, e4, e5⟩ := hargs c
    refine (Cert.MixRefIdeal.Read.val_main_v39_eq m' c).trans ?_
    rw [e0, e1, e2, e3, e4, e5]
    exact (Cert.MixRefIdeal.Mixed.rows_eq _ _ _ _ _ _).trans (Cert.MixIdeal.Mixed.rows_eq m c).symm
  have same1 : ∀ c, Cert.MixRefIdeal.Value.res_main_v40 m' c = (Cert.MixIdeal.Gen.dats m 0 c).arrAt 7 Cert.MixIdeal.cfg0.N := by
    intro c
    obtain ⟨e0, e1, e2, e3, e4, e5⟩ := hargs c
    refine (Cert.MixRefIdeal.Read.val_main_v40_eq m' c).trans ?_
    rw [e0, e1, e2, e3, e4, e5]
    exact (Cert.MixRefIdeal.Mixed.rowsHalf_eq _ _ _ _ _ _).trans (Cert.MixIdeal.Mixed.rowsHalf_eq m c).symm
  have same2 : ∀ c, Cert.MixRefIdeal.Value.res_main_v42 m' c = (Cert.MixIdeal.Gen.dats m 0 c).arrAt 8 Cert.MixIdeal.cfg0.N := by
    intro c
    obtain ⟨e0, e1, e2, e3, e4, e5⟩ := hargs c
    refine (Cert.MixRefIdeal.Read.val_main_v42_eq m' c).trans ?_
    rw [e0, e1, e2, e3, e4, e5]
    exact (Cert.MixRefIdeal.Mixed.columns_eq _ _ _ _ _ _).trans (Cert.MixIdeal.Mixed.columns_eq m c).symm
  exact ⟨fun c => (Cert.MixIdeal.Gen.dats m 0 c).arrAt 6 Cert.MixIdeal.cfg0.N,
    fun c => (Cert.MixIdeal.Gen.dats m 0 c).arrAt 7 Cert.MixIdeal.cfg0.N,
    fun c => (Cert.MixIdeal.Gen.dats m 0 c).arrAt 8 Cert.MixIdeal.cfg0.N, Cert.MixIdeal.Value.run_blocks m ρ,
    (θ_run Cert.MixRefIdeal.defs _ _).mono (fun r h c => ⟨(h c).1.trans (same0 c),
      (h c).2.1.trans (same1 c),
      (h c).2.2.1.trans (same2 c), (h c).2.2.2⟩)
      (Cert.MixRefIdeal.Value.run (F := Ideal) m' ρ')⟩

end Cert.Proof

end
-- ==== Proof.NormValue.lean ====
/- What the norm after the experts leaves in its result array, entry by entry, from the arguments. -/
module

public import proofs.«01_k».proof.Proof.MixValue
public import proofs.«01_k».proof.Proof.Gen.NormIdeal.Value
public import Idealize.ShloMosaic.Lib.Pipeline.ValueKit
public import Idealize.ShloMosaic.Lib.Pipeline.ValueKit.Geometry
public import Idealize.ShloMosaic.Lib.Pointwise

@[expose] public section

set_option maxRecDepth 16384

noncomputable section

namespace Cert.NormIdeal.Second

open Cert.NormIdeal Cert.NormIdeal.Gen Idealize.ShloMosaic Idealize.ShloMosaic.TcCoe Idealize.SL.Sem
open Cert.MixIdeal.Mixed (normed)
open Idealize.ShloMosaic.Pipeline (Dat)

/-- Row `r` of a block's residual sum: the scaled first norm plus the experts' output. -/
def blockSum (x : FVec Ideal S512x2048 .f32) (y : FVec Ideal S2048x512 .f32) (r : Fin 512) (e : Fin 2048) : EReal :=
  ((Real.sqrt (Real.sqrt 2) : ℝ) : EReal) * x (ix2 r e) + y (ix2 e r)

/-- The body writes the norm of each row of the sum, with gain and bias. -/
theorem payload (x : FVec Ideal S512x2048 .f32) (y : FVec Ideal S2048x512 .f32) (g b : FVec Ideal S1x2048 .f32) (r : Fin 512) (e : Fin 2048) :
    k0_pay1 (F := Ideal) x y g b (ix2 r e) = normed (blockSum x y r) e * g (ix2 0 e) + b (ix2 0 e) := by
  pointwise [k0_pay1]
  rfl

variable (m : (ℓ : Loc nD τ sig) → Buf (Elt Ideal) ℓ) (c : Dev nD)

/-- The blocks of point `t`: the tokens from `512 t` on. -/
theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = t.val := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)

/-- The gain and the bias as the host hands them over. -/
theorem gain (e : Fin 2048) : V m c main_v2 (ix2 0 e) = m ((c : Thread nD τ).loc main_arg2) (ix2 0 e) := by
  entry_read
  pointwise
theorem bias (e : Fin 2048) : V m c main_v3 (ix2 0 e) = m ((c : Thread nD τ).loc main_arg3) (ix2 0 e) := by
  entry_read
  pointwise

/-- The loads at point `t`. -/
def firsts (t : Fin cfg0.N) : FVec Ideal S512x2048 .f32 := View.ld (iblk m c 0 t) r0_0
def experts (t : Fin cfg0.N) : FVec Ideal S2048x512 .f32 := View.ld (iblk m c 1 t) r0_1
def gains (t : Fin cfg0.N) : FVec Ideal S1x2048 .f32 := View.ld (iblk m c 2 t) r0_2
def biases (t : Fin cfg0.N) : FVec Ideal S1x2048 .f32 := View.ld (iblk m c 3 t) r0_2

theorem firsts_at (t : Fin cfg0.N) (r : Fin 512) (e : Fin 2048) (R : Fin 32768) (hR : R.val = t.val * 512 + r.val) :
    firsts m c t (ix2 r e) = m ((c : Thread nD τ).loc main_arg0) (ix2 R e) := by
  obtain ⟨i0, i1⟩ := index0 t
  unfold firsts
  blk_simp [iblk]
  refine congrArg (m ((c : Thread nD τ).loc main_arg0)) (funext fun a => Fin.ext ?_)
  match a with
  | 0 => blk_simp [i0]; simp; omega
  | 1 => blk_simp [i1]; simp
theorem experts_at (t : Fin cfg0.N) (r : Fin 512) (e : Fin 2048) (R : Fin 32768) (hR : R.val = t.val * 512 + r.val) :
    experts m c t (ix2 e r) = m ((c : Thread nD τ).loc main_arg1) (ix2 e R) := by
  obtain ⟨i0, i1⟩ := index1 t
  unfold experts
  blk_simp [iblk]
  refine congrArg (m ((c : Thread nD τ).loc main_arg1)) (funext fun a => Fin.ext ?_)
  match a with
  | 0 => blk_simp [i0]; simp
  | 1 => blk_simp [i1]; simp; omega
theorem gains_at (t : Fin cfg0.N) (e : Fin 2048) : gains m c t (ix2 0 e) = m ((c : Thread nD τ).loc main_arg2) (ix2 0 e) := by
  obtain ⟨i0, i1⟩ := index2 t
  rw [← gain m c]
  unfold gains
  blk_simp [iblk]
  refine congrArg (V m c main_v2) (funext fun a => Fin.ext ?_)
  match a with
  | 0 => blk_simp [i0]; simp
  | 1 => blk_simp [i1]; simp
theorem biases_at (t : Fin cfg0.N) (e : Fin 2048) : biases m c t (ix2 0 e) = m ((c : Thread nD τ).loc main_arg3) (ix2 0 e) := by
  obtain ⟨i0, i1⟩ := index3 t
  rw [← bias m c]
  unfold biases
  blk_simp [iblk]
  refine congrArg (V m c main_v3) (funext fun a => Fin.ext ?_)
  match a with
  | 0 => blk_simp [i0]; simp
  | 1 => blk_simp [i1]; simp

section Token

variable (x : FVec Ideal S32768x2048 .f32) (y : FVec Ideal S2048x32768 .f32) (g b : FVec Ideal S1x2048 .f32)

/-- Entry `e` of token `R`'s residual sum, and of its norm with gain and bias. -/
def residual (R : Fin 32768) (e : Fin 2048) : EReal := ((Real.sqrt (Real.sqrt 2) : ℝ) : EReal) * x (ix2 R e) + y (ix2 e R)
def token (R : Fin 32768) (e : Fin 2048) : EReal := normed (residual x y R) e * g (ix2 0 e) + b (ix2 0 e)

/-- The result. -/
def tokens : FVec Ideal S32768x2048 .f32 := fun j => token x y g b (j 0) (j 1)

end Token

theorem block_eq (t : Fin cfg0.N) (r : Fin 512) (e : Fin 2048) (R : Fin 32768) (E : Fin 2048) (hR : R.val = t.val * 512 + r.val) (hE : E.val = e.val) :
    normed (blockSum (firsts m c t) (experts m c t) r) e * gains m c t (ix2 0 e) + biases m c t (ix2 0 e)
      = token (m ((c : Thread nD τ).loc main_arg0)) (m ((c : Thread nD τ).loc main_arg1)) (m ((c : Thread nD τ).loc main_arg2))
        (m ((c : Thread nD τ).loc main_arg3)) R E := by
  obtain rfl : E = e := Fin.ext hE
  have hs : blockSum (firsts m c t) (experts m c t) r = residual (m ((c : Thread nD τ).loc main_arg0)) (m ((c : Thread nD τ).loc main_arg1)) R := by
    funext e
    exact congrArg₂ (· + ·) (congrArg _ (firsts_at m c t r e R hR)) (experts_at m c t r e R hR)
  unfold token
  rw [hs, gains_at, biases_at]

/-- The result array at the end. -/
theorem tokens_eq : (dats m 0 c).arrAt 4 (cfgs 0).N = tokens (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have h0 : ((win0_4.blk t).view.emb y 0).val = t.val * 512 + (y 0).val := by blk_simp [(index4 t)]
  have h1 : ((win0_4.blk t).view.emb y 1).val = (y 1).val := by blk_simp [(index4 t)]
  blk_simp; rw [after0_4]
  canon_tiles x h
  · exact (congrArg _ (eq_ix2 x)).trans ((payload _ _ _ _ (x 0) (x 1)).trans (block_eq m c t (x 0) (x 1) _ _ (by omega) (by omega)))

end Cert.NormIdeal.Second

end
-- ==== Proof.NormRef.lean ====
/- The plain norm after the experts, entry by entry. -/
module

public import proofs.«01_k».proof.Proof.NormValue
public import proofs.«01_k».proof.Proof.MixRef
public import proofs.«01_k».proof.Proof.Gen.NormRefIdeal.Read
public import Idealize.ShloMosaic.Lib.KernelVsHost

@[expose] public section

set_option maxRecDepth 16384

noncomputable section

namespace Cert.NormRefIdeal.Second

open Cert.NormRefIdeal Cert.NormRefIdeal.Gen Cert.NormRefIdeal.Read Idealize.ShloMosaic Idealize.ShloMosaic.TcCoe Idealize.SL.Sem
open Cert.MixIdeal.Mixed (mean normed)
open Cert.MixRefIdeal.Mixed (zero_bits two_bits)
open Cert.NormIdeal.Second (residual token tokens)
open scoped BigOperators

variable (x : FVec Ideal S32768x2048 .f32) (y : FVec Ideal S2048x32768 .f32) (g b : FVec Ideal S1x2048 .f32)

/-- The residual's factor, the fourth root of two. -/
theorem factor (j : S32768x2048.Idx) : val_main_v2 (F := Ideal) j = ((Real.sqrt (Real.sqrt 2) : ℝ) : EReal) := by
  rw [val_main_v2_apply, val_main_v1_apply, val_main_v0_apply, val_main_cst_apply]
  show Ideal.sqrt (Ideal.sqrt (Ideal.ofBits .f32 0x40000000#32)) = _
  rw [two_bits, Ideal.sqrt_coe, if_neg (by norm_num), Ideal.sqrt_coe, if_neg (not_lt.2 (Real.sqrt_nonneg 2))]

/-- The residual sum. -/
theorem sum_at (j : S32768x2048.Idx) (R : Fin 32768) (e : Fin 2048) (h0 : (j 0).val = R.val) (h1 : (j 1).val = e.val) :
    val_main_v5 (F := Ideal) x y j = residual x y R e := by
  have hx : x j = x (ix2 R e) := by
    refine congrArg x (funext fun c => Fin.ext ?_)
    match c with
    | ⟨0, _⟩ => exact h0
    | ⟨1, _⟩ => exact h1
  have hy : val_main_v4 (F := Ideal) y j = y (ix2 e R) := by
    rw [val_main_v4_apply]
    refine congrArg y (funext fun c => Fin.ext ?_)
    match c with
    | ⟨0, _⟩ => exact h1
    | ⟨1, _⟩ => exact h0
  rw [val_main_v5_apply, val_main_v3_apply, factor, hx, hy]
  rfl

/-- The mean and the variance of a token. -/
theorem mean_at (j : S32768x1.Idx) (R : Fin 32768) (h0 : (j 0).val = R.val) : val_main_v9 (F := Ideal) x y j = mean (residual x y R) := by
  rw [val_main_v9_apply, val_main_v7_apply, val_main_v8_apply, val_main_v6_apply, val_main_cst_0_apply, val_main_cst_1_apply]
  refine congrArg₂ Ideal.div ((congrArg₂ (· + ·) zero_bits (Finset.sum_congr rfl fun k _ => ?_)).trans (zero_add _)) rfl
  exact sum_at x y _ R k h0 rfl
theorem variance_at (j : S32768x1.Idx) (R : Fin 32768) (h0 : (j 0).val = R.val) : val_main_v16 (F := Ideal) x y j
    = mean (fun k => (residual x y R k - mean (residual x y R)) * (residual x y R k - mean (residual x y R))) := by
  rw [val_main_v16_apply, val_main_v14_apply, val_main_v15_apply, val_main_v13_apply, val_main_cst_2_apply, val_main_cst_3_apply]
  refine congrArg₂ Ideal.div ((congrArg₂ (· + ·) zero_bits (Finset.sum_congr rfl fun k _ => ?_)).trans (zero_add _)) rfl
  rw [val_main_v12_apply, val_main_v11_apply, val_main_v10_apply]
  have hd := congrArg₂ (fun p q : EReal => p - q) (sum_at x y (idx_main_v13 (idx_main_v14 j) k) R k h0 rfl)
    (mean_at x y (idx_main_v10 (idx_main_v13 (idx_main_v14 j) k)) R h0)
  exact congrArg₂ (fun p q : EReal => p * q) hd hd

/-- A token of the result. -/
theorem token_at (j : S32768x2048.Idx) : val_main_v31 (F := Ideal) x y g b j = token x y g b (j 0) (j 1) := by
  have hg : val_main_v26 (F := Ideal) g j = g (ix2 0 (j 1)) := by
    rw [val_main_v26_apply, val_main_v25_apply, val_main_v24_apply]
    refine congrArg g (funext fun c => Fin.ext ?_)
    match c with
    | ⟨0, _⟩ => rfl
    | ⟨1, _⟩ => exact Nat.mod_eq_of_lt (j 1).isLt
  have hb : val_main_v30 (F := Ideal) b j = b (ix2 0 (j 1)) := by
    rw [val_main_v30_apply, val_main_v29_apply, val_main_v28_apply]
    refine congrArg b (funext fun c => Fin.ext ?_)
    match c with
    | ⟨0, _⟩ => rfl
    | ⟨1, _⟩ => exact Nat.mod_eq_of_lt (j 1).isLt
  have hd := congrArg₂ (fun p q : EReal => p - q) (sum_at x y j (j 0) (j 1) rfl rfl) (mean_at x y (idx_main_v17 j) (j 0) rfl)
  have hv := congrArg (fun v : EReal => Ideal.rsqrt (v + Ideal.ofBits .f32 0x3727C5AC#32)) (variance_at x y (idx_main_v22 j) (j 0) rfl)
  rw [val_main_v31_apply, val_main_v27_apply, val_main_v23_apply, val_main_v18_apply, val_main_v17_apply, val_main_v22_apply, val_main_v21_apply,
    val_main_v20_apply, val_main_v19_apply, val_main_cst_4_apply, hg, hb]
  exact congrArg (fun v : EReal => v * g (ix2 0 (j 1)) + b (ix2 0 (j 1))) (congrArg₂ (fun p q : EReal => p * q) hd hv)

/-- The result. -/
theorem tokens_eq : val_main_v31 (F := Ideal) x y g b = tokens x y g b := funext (token_at x y g b)

end Cert.NormRefIdeal.Second

end
-- ==== Proof.NormClaim.lean ====
/- The claims about the prompt's norm after the experts. -/
module

public import proofs.«01_k».proof.Defs
public import proofs.«01_k».proof.Proof.NormValue
public import proofs.«01_k».proof.Proof.NormRef
public import proofs.«01_k».proof.Proof.Gen.NormRefIdeal.Run
public import Idealize.ShloMosaic.Lib.Quiescent

@[expose] public section

noncomputable section

namespace Cert.Proof

open Idealize.ShloMosaic Idealize.SL.Sem

/-- The reference leaves its arguments as they were; it has no semaphores. -/
theorem frameNormRef : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run (F := Ideal) m ρ)

/-- The norm is the reference's. -/
theorem agreeNorm : Cert.algebraic_NormIdeal_NormRefIdeal (hNormIdeal := Cert.NormIdeal.Gen.facts)
    (hNormRefIdeal := Cert.NormRefIdeal.Gen.facts) := by
  intro m ρ m' ρ' _ hargs
  refine ⟨fun c => (Cert.NormIdeal.Gen.dats m 0 c).arrAt 4 Cert.NormIdeal.cfg0.N, Cert.NormIdeal.Value.run_blocks m ρ,
    (θ_run Cert.NormRefIdeal.defs _ _).mono (fun r h c => ⟨(h c).1.trans ?_, (h c).2⟩) (Cert.NormRefIdeal.Value.run (F := Ideal) m' ρ')⟩
  obtain ⟨e0, e1, e2, e3⟩ := hargs c
  rw [e0, e1, e2, e3]
  exact (Cert.NormRefIdeal.Read.val_main_v31_eq _ _ _ _).trans
    ((Cert.NormRefIdeal.Second.tokens_eq _ _ _ _).trans (Cert.NormIdeal.Second.tokens_eq m c).symm)

end Cert.Proof

end
-- ==== Proof.LastValue.lean ====
/- What the sample's norm after the experts leaves in its result array, entry by entry, from the arguments. -/
module

public import proofs.«01_k».proof.Proof.MixValue
public import proofs.«01_k».proof.Proof.Gen.LastIdeal.Value
public import Idealize.ShloMosaic.Lib.Pipeline.ValueKit
public import Idealize.ShloMosaic.Lib.Pipeline.ValueKit.Geometry
public import Idealize.ShloMosaic.Lib.Pointwise

@[expose] public section

set_option maxRecDepth 16384

noncomputable section

namespace Cert.LastIdeal.Second

open Cert.LastIdeal Cert.LastIdeal.Gen Idealize.ShloMosaic Idealize.ShloMosaic.TcCoe Idealize.SL.Sem
open Cert.MixIdeal.Mixed (normed)
open Idealize.ShloMosaic.Pipeline (Dat)

/-- Row `r` of a block's residual sum: the scaled first norm plus the experts' output. -/
def blockSum (x : FVec Ideal S512x2048 .f32) (y : FVec Ideal S2048x512 .f32) (r : Fin 512) (e : Fin 2048) : EReal :=
  ((Real.sqrt (Real.sqrt 2) : ℝ) : EReal) * x (ix2 r e) + y (ix2 e r)

/-- The body writes the norm of each row of the sum, with gain and bias. -/
theorem payload (x : FVec Ideal S512x2048 .f32) (y : FVec Ideal S2048x512 .f32) (g b : FVec Ideal S1x2048 .f32) (r : Fin 512) (e : Fin 2048) :
    k0_pay1 (F := Ideal) x y g b (ix2 r e) = normed (blockSum x y r) e * g (ix2 0 e) + b (ix2 0 e) := by
  pointwise [k0_pay1]
  rfl

variable (m : (ℓ : Loc nD τ sig) → Buf (Elt Ideal) ℓ) (c : Dev nD)

/-- The blocks of point `t`: the tokens from `512 t` on. -/
theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = t.val := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)

/-- The gain and the bias as the host hands them over. -/
theorem gain (e : Fin 2048) : V m c main_v2 (ix2 0 e) = m ((c : Thread nD τ).loc main_arg2) (ix2 0 e) := by
  entry_read
  pointwise
theorem bias (e : Fin 2048) : V m c main_v3 (ix2 0 e) = m ((c : Thread nD τ).loc main_arg3) (ix2 0 e) := by
  entry_read
  pointwise

/-- The loads at point `t`. -/
def firsts (t : Fin cfg0.N) : FVec Ideal S512x2048 .f32 := View.ld (iblk m c 0 t) r0_0
def experts (t : Fin cfg0.N) : FVec Ideal S2048x512 .f32 := View.ld (iblk m c 1 t) r0_1
def gains (t : Fin cfg0.N) : FVec Ideal S1x2048 .f32 := View.ld (iblk m c 2 t) r0_2
def biases (t : Fin cfg0.N) : FVec Ideal S1x2048 .f32 := View.ld (iblk m c 3 t) r0_2

theorem firsts_at (t : Fin cfg0.N) (r : Fin 512) (e : Fin 2048) (R : Fin 1024) (hR : R.val = t.val * 512 + r.val) :
    firsts m c t (ix2 r e) = m ((c : Thread nD τ).loc main_arg0) (ix2 R e) := by
  obtain ⟨i0, i1⟩ := index0 t
  unfold firsts
  blk_simp [iblk]
  refine congrArg (m ((c : Thread nD τ).loc main_arg0)) (funext fun a => Fin.ext ?_)
  match a with
  | 0 => blk_simp [i0]; simp; omega
  | 1 => blk_simp [i1]; simp
theorem experts_at (t : Fin cfg0.N) (r : Fin 512) (e : Fin 2048) (R : Fin 1024) (hR : R.val = t.val * 512 + r.val) :
    experts m c t (ix2 e r) = m ((c : Thread nD τ).loc main_arg1) (ix2 e R) := by
  obtain ⟨i0, i1⟩ := index1 t
  unfold experts
  blk_simp [iblk]
  refine congrArg (m ((c : Thread nD τ).loc main_arg1)) (funext fun a => Fin.ext ?_)
  match a with
  | 0 => blk_simp [i0]; simp
  | 1 => blk_simp [i1]; simp; omega
theorem gains_at (t : Fin cfg0.N) (e : Fin 2048) : gains m c t (ix2 0 e) = m ((c : Thread nD τ).loc main_arg2) (ix2 0 e) := by
  obtain ⟨i0, i1⟩ := index2 t
  rw [← gain m c]
  unfold gains
  blk_simp [iblk]
  refine congrArg (V m c main_v2) (funext fun a => Fin.ext ?_)
  match a with
  | 0 => blk_simp [i0]; simp
  | 1 => blk_simp [i1]; simp
theorem biases_at (t : Fin cfg0.N) (e : Fin 2048) : biases m c t (ix2 0 e) = m ((c : Thread nD τ).loc main_arg3) (ix2 0 e) := by
  obtain ⟨i0, i1⟩ := index3 t
  rw [← bias m c]
  unfold biases
  blk_simp [iblk]
  refine congrArg (V m c main_v3) (funext fun a => Fin.ext ?_)
  match a with
  | 0 => blk_simp [i0]; simp
  | 1 => blk_simp [i1]; simp

section Token

variable (x : FVec Ideal S1024x2048 .f32) (y : FVec Ideal S2048x1024 .f32) (g b : FVec Ideal S1x2048 .f32)

/-- Entry `e` of token `R`'s residual sum, and of its norm with gain and bias. -/
def residual (R : Fin 1024) (e : Fin 2048) : EReal := ((Real.sqrt (Real.sqrt 2) : ℝ) : EReal) * x (ix2 R e) + y (ix2 e R)
def token (R : Fin 1024) (e : Fin 2048) : EReal := normed (residual x y R) e * g (ix2 0 e) + b (ix2 0 e)

/-- The result. -/
def tokens : FVec Ideal S1024x2048 .f32 := fun j => token x y g b (j 0) (j 1)

end Token

theorem block_eq (t : Fin cfg0.N) (r : Fin 512) (e : Fin 2048) (R : Fin 1024) (E : Fin 2048) (hR : R.val = t.val * 512 + r.val) (hE : E.val = e.val) :
    normed (blockSum (firsts m c t) (experts m c t) r) e * gains m c t (ix2 0 e) + biases m c t (ix2 0 e)
      = token (m ((c : Thread nD τ).loc main_arg0)) (m ((c : Thread nD τ).loc main_arg1)) (m ((c : Thread nD τ).loc main_arg2))
        (m ((c : Thread nD τ).loc main_arg3)) R E := by
  obtain rfl : E = e := Fin.ext hE
  have hs : blockSum (firsts m c t) (experts m c t) r = residual (m ((c : Thread nD τ).loc main_arg0)) (m ((c : Thread nD τ).loc main_arg1)) R := by
    funext e
    exact congrArg₂ (· + ·) (congrArg _ (firsts_at m c t r e R hR)) (experts_at m c t r e R hR)
  unfold token
  rw [hs, gains_at, biases_at]

/-- The result array at the end. -/
theorem tokens_eq : (dats m 0 c).arrAt 4 (cfgs 0).N = tokens (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have h0 : ((win0_4.blk t).view.emb y 0).val = t.val * 512 + (y 0).val := by blk_simp [(index4 t)]
  have h1 : ((win0_4.blk t).view.emb y 1).val = (y 1).val := by blk_simp [(index4 t)]
  blk_simp; rw [after0_4]
  canon_tiles x h
  · exact (congrArg _ (eq_ix2 x)).trans ((payload _ _ _ _ (x 0) (x 1)).trans (block_eq m c t (x 0) (x 1) _ _ (by omega) (by omega)))

end Cert.LastIdeal.Second

end
-- ==== Proof.LastRef.lean ====
/- The plain norm of the sample after the experts, entry by entry. -/
module

public import proofs.«01_k».proof.Proof.LastValue
public import proofs.«01_k».proof.Proof.MixRef
public import proofs.«01_k».proof.Proof.Gen.LastRefIdeal.Read
public import Idealize.ShloMosaic.Lib.KernelVsHost

@[expose] public section

set_option maxRecDepth 16384

noncomputable section

namespace Cert.LastRefIdeal.Second

open Cert.LastRefIdeal Cert.LastRefIdeal.Gen Cert.LastRefIdeal.Read Idealize.ShloMosaic Idealize.ShloMosaic.TcCoe Idealize.SL.Sem
open Cert.MixIdeal.Mixed (mean normed)
open Cert.MixRefIdeal.Mixed (zero_bits two_bits)
open Cert.LastIdeal.Second (residual token tokens)
open scoped BigOperators

variable (x : FVec Ideal S1024x2048 .f32) (y : FVec Ideal S2048x1024 .f32) (g b : FVec Ideal S1x2048 .f32)

/-- The residual's factor, the fourth root of two. -/
theorem factor (j : S1024x2048.Idx) : val_main_v2 (F := Ideal) j = ((Real.sqrt (Real.sqrt 2) : ℝ) : EReal) := by
  rw [val_main_v2_apply, val_main_v1_apply, val_main_v0_apply, val_main_cst_apply]
  show Ideal.sqrt (Ideal.sqrt (Ideal.ofBits .f32 0x40000000#32)) = _
  rw [two_bits, Ideal.sqrt_coe, if_neg (by norm_num), Ideal.sqrt_coe, if_neg (not_lt.2 (Real.sqrt_nonneg 2))]

/-- The residual sum. -/
theorem sum_at (j : S1024x2048.Idx) (R : Fin 1024) (e : Fin 2048) (h0 : (j 0).val = R.val) (h1 : (j 1).val = e.val) :
    val_main_v5 (F := Ideal) x y j = residual x y R e := by
  have hx : x j = x (ix2 R e) := by
    refine congrArg x (funext fun c => Fin.ext ?_)
    match c with
    | ⟨0, _⟩ => exact h0
    | ⟨1, _⟩ => exact h1
  have hy : val_main_v4 (F := Ideal) y j = y (ix2 e R) := by
    rw [val_main_v4_apply]
    refine congrArg y (funext fun c => Fin.ext ?_)
    match c with
    | ⟨0, _⟩ => exact h1
    | ⟨1, _⟩ => exact h0
  rw [val_main_v5_apply, val_main_v3_apply, factor, hx, hy]
  rfl

/-- The mean and the variance of a token. -/
theorem mean_at (j : S1024x1.Idx) (R : Fin 1024) (h0 : (j 0).val = R.val) : val_main_v9 (F := Ideal) x y j = mean (residual x y R) := by
  rw [val_main_v9_apply, val_main_v7_apply, val_main_v8_apply, val_main_v6_apply, val_main_cst_0_apply, val_main_cst_1_apply]
  refine congrArg₂ Ideal.div ((congrArg₂ (· + ·) zero_bits (Finset.sum_congr rfl fun k _ => ?_)).trans (zero_add _)) rfl
  exact sum_at x y _ R k h0 rfl
theorem variance_at (j : S1024x1.Idx) (R : Fin 1024) (h0 : (j 0).val = R.val) : val_main_v16 (F := Ideal) x y j
    = mean (fun k => (residual x y R k - mean (residual x y R)) * (residual x y R k - mean (residual x y R))) := by
  rw [val_main_v16_apply, val_main_v14_apply, val_main_v15_apply, val_main_v13_apply, val_main_cst_2_apply, val_main_cst_3_apply]
  refine congrArg₂ Ideal.div ((congrArg₂ (· + ·) zero_bits (Finset.sum_congr rfl fun k _ => ?_)).trans (zero_add _)) rfl
  rw [val_main_v12_apply, val_main_v11_apply, val_main_v10_apply]
  have hd := congrArg₂ (fun p q : EReal => p - q) (sum_at x y (idx_main_v13 (idx_main_v14 j) k) R k h0 rfl)
    (mean_at x y (idx_main_v10 (idx_main_v13 (idx_main_v14 j) k)) R h0)
  exact congrArg₂ (fun p q : EReal => p * q) hd hd

/-- A token of the result. -/
theorem token_at (j : S1024x2048.Idx) : val_main_v31 (F := Ideal) x y g b j = token x y g b (j 0) (j 1) := by
  have hg : val_main_v26 (F := Ideal) g j = g (ix2 0 (j 1)) := by
    rw [val_main_v26_apply, val_main_v25_apply, val_main_v24_apply]
    refine congrArg g (funext fun c => Fin.ext ?_)
    match c with
    | ⟨0, _⟩ => rfl
    | ⟨1, _⟩ => exact Nat.mod_eq_of_lt (j 1).isLt
  have hb : val_main_v30 (F := Ideal) b j = b (ix2 0 (j 1)) := by
    rw [val_main_v30_apply, val_main_v29_apply, val_main_v28_apply]
    refine congrArg b (funext fun c => Fin.ext ?_)
    match c with
    | ⟨0, _⟩ => rfl
    | ⟨1, _⟩ => exact Nat.mod_eq_of_lt (j 1).isLt
  have hd := congrArg₂ (fun p q : EReal => p - q) (sum_at x y j (j 0) (j 1) rfl rfl) (mean_at x y (idx_main_v17 j) (j 0) rfl)
  have hv := congrArg (fun v : EReal => Ideal.rsqrt (v + Ideal.ofBits .f32 0x3727C5AC#32)) (variance_at x y (idx_main_v22 j) (j 0) rfl)
  rw [val_main_v31_apply, val_main_v27_apply, val_main_v23_apply, val_main_v18_apply, val_main_v17_apply, val_main_v22_apply, val_main_v21_apply,
    val_main_v20_apply, val_main_v19_apply, val_main_cst_4_apply, hg, hb]
  exact congrArg (fun v : EReal => v * g (ix2 0 (j 1)) + b (ix2 0 (j 1))) (congrArg₂ (fun p q : EReal => p * q) hd hv)

/-- The result. -/
theorem tokens_eq : val_main_v31 (F := Ideal) x y g b = tokens x y g b := funext (token_at x y g b)

end Cert.LastRefIdeal.Second

end
-- ==== Proof.LastClaim.lean ====
/- The claims about the sample's norm after the experts. -/
module

public import proofs.«01_k».proof.Defs
public import proofs.«01_k».proof.Proof.LastValue
public import proofs.«01_k».proof.Proof.LastRef
public import proofs.«01_k».proof.Proof.Gen.LastRefIdeal.Run
public import Idealize.ShloMosaic.Lib.Quiescent

@[expose] public section

noncomputable section

namespace Cert.Proof

open Idealize.ShloMosaic Idealize.SL.Sem

/-- The reference leaves its arguments as they were; it has no semaphores. -/
theorem frameLastRef : Cert.quiescent_LastRefIdeal (hLastRefIdeal := Cert.LastRefIdeal.Gen.facts) := fun m ρ _ =>
  (θ_run Cert.LastRefIdeal.defs _ _).mono (fun r h => ⟨fun c => (h c).2, sem_eq_zero_of_no_sems (by decide) r.2⟩)
    (Cert.LastRefIdeal.Value.run (F := Ideal) m ρ)

/-- The norm is the reference's. -/
theorem agreeLast : Cert.algebraic_LastIdeal_LastRefIdeal (hLastIdeal := Cert.LastIdeal.Gen.facts)
    (hLastRefIdeal := Cert.LastRefIdeal.Gen.facts) := by
  intro m ρ m' ρ' _ hargs
  refine ⟨fun c => (Cert.LastIdeal.Gen.dats m 0 c).arrAt 4 Cert.LastIdeal.cfg0.N, Cert.LastIdeal.Value.run_blocks m ρ,
    (θ_run Cert.LastRefIdeal.defs _ _).mono (fun r h c => ⟨(h c).1.trans ?_, (h c).2⟩) (Cert.LastRefIdeal.Value.run (F := Ideal) m' ρ')⟩
  obtain ⟨e0, e1, e2, e3⟩ := hargs c
  rw [e0, e1, e2, e3]
  exact (Cert.LastRefIdeal.Read.val_main_v31_eq _ _ _ _).trans
    ((Cert.LastRefIdeal.Second.tokens_eq _ _ _ _).trans (Cert.LastIdeal.Second.tokens_eq m c).symm)

end Cert.Proof

end
-- ==== Proof.PrepValue.lean ====
/- What the call that prepares the state-space step leaves in its four result arrays, entry by entry, from the arguments. -/
module

public import proofs.«01_k».proof.Proof.Gen.PrepIdeal.Value
public import Idealize.ShloMosaic.Lib.Pipeline.ValueKit
public import Idealize.ShloMosaic.Lib.Pipeline.ValueKit.Geometry
public import Idealize.ShloMosaic.Lib.Pointwise

@[expose] public section

set_option maxRecDepth 16384

noncomputable section

namespace Cert.PrepIdeal.Step

open Cert.PrepIdeal Cert.PrepIdeal.Gen Idealize.ShloMosaic Idealize.ShloMosaic.TcCoe Idealize.SL.Sem
open Idealize.ShloMosaic.Pipeline (Dat)

/-- Of a rate `p + i q` and the logarithm `d` of a step: real and imaginary part of the transition, the exponential of rate times step. -/
def transRe (p q d : EReal) : EReal := Ideal.exp (p * Ideal.exp d) * Ideal.cos (q * Ideal.exp d)
def transIm (p q d : EReal) : EReal := Ideal.exp (p * Ideal.exp d) * Ideal.sin (q * Ideal.exp d)

/-- Real and imaginary part of the input's factor, the transition less one over the rate. -/
def factorRe (p q d : EReal) : EReal := Ideal.div ((transRe p q d - 1) * p + transIm p q d * q) (p * p + q * q)
def factorIm (p q d : EReal) : EReal := Ideal.div (transIm p q d * p - (transRe p q d - 1) * q) (p * p + q * q)

section Payloads

variable (p q : FVec Ideal S64x64 .f32) (d : FVec Ideal S64x1 .f32) (b b' : FVec Ideal S64x16x64 .f32) (g s : Fin 64) (h : Fin 16)

theorem payload_transRe : k0_pay8 (F := Ideal) p q d (ix2 g s) = transRe (p (ix2 g s)) (q (ix2 g s)) (d (ix2 g 0)) := by
  pointwise [k0_pay8, k0_pay7, k0_pay6, k0_pay5, k0_pay4, k0_pay3]
  rfl
theorem payload_transIm : k0_pay9 (F := Ideal) p q d (ix2 g s) = transIm (p (ix2 g s)) (q (ix2 g s)) (d (ix2 g 0)) := by
  pointwise [k0_pay9, k0_pay7, k0_pay6, k0_pay5, k0_pay4, k0_pay3]
  rfl
theorem payload_factorRe : k0_pay12 (F := Ideal) p q d (ix2 g s) = factorRe (p (ix2 g s)) (q (ix2 g s)) (d (ix2 g 0)) := by
  unfold factorRe
  rw [← payload_transRe p q d g s, ← payload_transIm p q d g s]
  pointwise [k0_pay12, k0_pay11, k0_pay10, k0_pay4, k0_pay3]
theorem payload_factorIm : k0_pay13 (F := Ideal) p q d (ix2 g s) = factorIm (p (ix2 g s)) (q (ix2 g s)) (d (ix2 g 0)) := by
  unfold factorIm
  rw [← payload_transRe p q d g s, ← payload_transIm p q d g s]
  pointwise [k0_pay13, k0_pay11, k0_pay10, k0_pay4, k0_pay3]
theorem payload_inRe : k0_pay1 (F := Ideal) (k0_pay16 p q d b) (k0_pay17 p q d b') (ix3 g h s)
    = factorRe (p (ix2 g s)) (q (ix2 g s)) (d (ix2 g 0)) * b (ix3 g h s) - factorIm (p (ix2 g s)) (q (ix2 g s)) (d (ix2 g 0)) * b' (ix3 g h s) := by
  rw [← payload_factorRe p q d g s, ← payload_factorIm p q d g s]
  unfold k0_pay1 k0_pay16 k0_pay17 k0_pay14 k0_pay15
  generalize k0_pay12 (F := Ideal) p q d = u
  generalize k0_pay13 (F := Ideal) p q d = v
  pointwise
theorem payload_inIm : k0_pay2 (F := Ideal) (k0_pay12 p q d) (k0_pay13 p q d) (k0_pay14 b) (k0_pay15 b') (ix3 g h s)
    = factorRe (p (ix2 g s)) (q (ix2 g s)) (d (ix2 g 0)) * b' (ix3 g h s) + factorIm (p (ix2 g s)) (q (ix2 g s)) (d (ix2 g 0)) * b (ix3 g h s) := by
  rw [← payload_factorRe p q d g s, ← payload_factorIm p q d g s]
  unfold k0_pay2 k0_pay14 k0_pay15
  generalize k0_pay12 (F := Ideal) p q d = u
  generalize k0_pay13 (F := Ideal) p q d = v
  pointwise

end Payloads

variable (m : (ℓ : Loc nD τ sig) → Buf (Elt Ideal) ℓ) (c : Dev nD)

/-- The operands as the host hands them over: the rates, the steps' logarithms and the input matrices with their states last. -/
theorem rateRe (g s : Fin 64) : V m c main_v0 (ix2 g s) = m ((c : Thread nD τ).loc main_arg0) (ix3 0 g s) := by
  entry_read
  pointwise
theorem rateIm (g s : Fin 64) : V m c main_v1 (ix2 g s) = m ((c : Thread nD τ).loc main_arg1) (ix3 0 g s) := by
  entry_read
  pointwise
theorem logStep (g : Fin 64) : V m c main_v7 (ix2 g 0) = m ((c : Thread nD τ).loc main_arg2) (ix2 0 g) := by
  entry_read
  pointwise
theorem matrixRe (g s : Fin 64) (h : Fin 16) : V m c main_v4 (ix3 g h s) = m ((c : Thread nD τ).loc main_arg3) (ix4 0 g s h) := by
  entry_read
  pointwise
theorem matrixIm (g s : Fin 64) (h : Fin 16) : V m c main_v6 (ix3 g h s) = m ((c : Thread nD τ).loc main_arg4) (ix4 0 g s h) := by
  entry_read
  pointwise

/-- Every block is the first, and only, one of its array. -/
theorem index0 : ∀ t : Fin cfg0.N, win0_0.index t 0 = 0 ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = 0 ∧ win0_3.index t 1 = 0 ∧ win0_3.index t 2 = 0 := (by decide +kernel : ∀ t : Fin grid0.N, _)
theorem index4 : ∀ t : Fin cfg0.N, win0_4.index t 0 = 0 ∧ win0_4.index t 1 = 0 ∧ win0_4.index t 2 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = 0 ∧ win0_6.index t 1 = 0 := (by decide +kernel : ∀ t : Fin grid0.N, _)
theorem index7 : ∀ t : Fin cfg0.N, win0_7.index t 0 = 0 ∧ win0_7.index t 1 = 0 ∧ win0_7.index t 2 = 0 := (by decide +kernel : ∀ t : Fin grid0.N, _)
theorem index8 : ∀ t : Fin cfg0.N, win0_8.index t 0 = 0 ∧ win0_8.index t 1 = 0 ∧ win0_8.index t 2 = 0 := (by decide +kernel : ∀ t : Fin grid0.N, _)

/-- The loads: each block is the whole array. -/
def ratesRe (t : Fin cfg0.N) : FVec Ideal S64x64 .f32 := View.ld (iblk m c 0 t) r0_0
def ratesIm (t : Fin cfg0.N) : FVec Ideal S64x64 .f32 := View.ld (iblk m c 1 t) r0_0
def logSteps (t : Fin cfg0.N) : FVec Ideal S64x1 .f32 := View.ld (iblk m c 2 t) r0_1
def matricesRe (t : Fin cfg0.N) : FVec Ideal S64x16x64 .f32 := View.ld (iblk m c 3 t) r0_2
def matricesIm (t : Fin cfg0.N) : FVec Ideal S64x16x64 .f32 := View.ld (iblk m c 4 t) r0_2

theorem ratesRe_at (t : Fin cfg0.N) (g s : Fin 64) : ratesRe m c t (ix2 g s) = m ((c : Thread nD τ).loc main_arg0) (ix3 0 g s) := by
  obtain ⟨i0, i1⟩ := index0 t
  rw [← rateRe m c]
  unfold ratesRe
  blk_simp [iblk]
  refine congrArg (V m c main_v0) (funext fun a => Fin.ext ?_)
  match a with
  | 0 => blk_simp [i0]; simp
  | 1 => blk_simp [i1]; simp
theorem ratesIm_at (t : Fin cfg0.N) (g s : Fin 64) : ratesIm m c t (ix2 g s) = m ((c : Thread nD τ).loc main_arg1) (ix3 0 g s) := by
  obtain ⟨i0, i1⟩ := index1 t
  rw [← rateIm m c]
  unfold ratesIm
  blk_simp [iblk]
  refine congrArg (V m c main_v1) (funext fun a => Fin.ext ?_)
  match a with
  | 0 => blk_simp [i0]; simp
  | 1 => blk_simp [i1]; simp
theorem logSteps_at (t : Fin cfg0.N) (g : Fin 64) : logSteps m c t (ix2 g 0) = m ((c : Thread nD τ).loc main_arg2) (ix2 0 g) := by
  obtain ⟨i0, i1⟩ := index2 t
  rw [← logStep m c]
  unfold logSteps
  blk_simp [iblk]
  refine congrArg (V m c main_v7) (funext fun a => Fin.ext ?_)
  match a with
  | 0 => blk_simp [i0]; simp
  | 1 => blk_simp [i1]; simp
theorem matricesRe_at (t : Fin cfg0.N) (g s : Fin 64) (h : Fin 16) : matricesRe m c t (ix3 g h s) = m ((c : Thread nD τ).loc main_arg3) (ix4 0 g s h) := by
  obtain ⟨i0, i1, i2⟩ := index3 t
  rw [← matrixRe m c]
  unfold matricesRe
  blk_simp [iblk]
  refine congrArg (V m c main_v4) (funext fun a => Fin.ext ?_)
  match a with
  | 0 => blk_simp [i0]; simp
  | 1 => blk_simp [i1]; simp
  | 2 => blk_simp [i2]; simp
theorem matricesIm_at (t : Fin cfg0.N) (g s : Fin 64) (h : Fin 16) : matricesIm m c t (ix3 g h s) = m ((c : Thread nD τ).loc main_arg4) (ix4 0 g s h) := by
  obtain ⟨i0, i1, i2⟩ := index4 t
  rw [← matrixIm m c]
  unfold matricesIm
  blk_simp [iblk]
  refine congrArg (V m c main_v6) (funext fun a => Fin.ext ?_)
  match a with
  | 0 => blk_simp [i0]; simp
  | 1 => blk_simp [i1]; simp
  | 2 => blk_simp [i2]; simp

section Results

variable (p q : FVec Ideal S1x64x64 .f32) (d : FVec Ideal S1x64 .f32) (b b' : FVec Ideal S1x64x64x16 .f32)

/-- Group `g`'s transition and factor at state `s`. -/
def stateRe (g s : Fin 64) : EReal := transRe (p (ix3 0 g s)) (q (ix3 0 g s)) (d (ix2 0 g))
def stateIm (g s : Fin 64) : EReal := transIm (p (ix3 0 g s)) (q (ix3 0 g s)) (d (ix2 0 g))
def scaleRe (g s : Fin 64) : EReal := factorRe (p (ix3 0 g s)) (q (ix3 0 g s)) (d (ix2 0 g))
def scaleIm (g s : Fin 64) : EReal := factorIm (p (ix3 0 g s)) (q (ix3 0 g s)) (d (ix2 0 g))

/-- Entry of the input matrix of group `g` from channel `h` to state `s`: the complex product of factor and given matrix. -/
def inputRe (g s : Fin 64) (h : Fin 16) : EReal := scaleRe p q d g s * b (ix4 0 g s h) - scaleIm p q d g s * b' (ix4 0 g s h)
def inputIm (g s : Fin 64) (h : Fin 16) : EReal := scaleRe p q d g s * b' (ix4 0 g s h) + scaleIm p q d g s * b (ix4 0 g s h)

/-- The four results. -/
def statesRe : FVec Ideal S64x64 .f32 := fun j => stateRe p q d (j 0) (j 1)
def statesIm : FVec Ideal S64x64 .f32 := fun j => stateIm p q d (j 0) (j 1)
def inputsRe : FVec Ideal S64x16x64 .f32 := fun j => inputRe p q d b b' (j 0) (j 2) (j 1)
def inputsIm : FVec Ideal S64x16x64 .f32 := fun j => inputIm p q d b b' (j 0) (j 2) (j 1)

end Results

/-- What the call computes from its blocks. -/
theorem stateRe_block (t : Fin cfg0.N) (g s G S : Fin 64) (hG : G.val = g.val) (hS : S.val = s.val) :
    transRe (ratesRe m c t (ix2 g s)) (ratesIm m c t (ix2 g s)) (logSteps m c t (ix2 g 0)) = stateRe (m ((c : Thread nD τ).loc main_arg0)) (m ((c : Thread nD τ).loc main_arg1)) (m ((c : Thread nD τ).loc main_arg2)) G S := by
  obtain rfl : G = g := Fin.ext hG
  obtain rfl : S = s := Fin.ext hS
  rw [ratesRe_at, ratesIm_at, logSteps_at]
  rfl
theorem stateIm_block (t : Fin cfg0.N) (g s G S : Fin 64) (hG : G.val = g.val) (hS : S.val = s.val) :
    transIm (ratesRe m c t (ix2 g s)) (ratesIm m c t (ix2 g s)) (logSteps m c t (ix2 g 0)) = stateIm (m ((c : Thread nD τ).loc main_arg0)) (m ((c : Thread nD τ).loc main_arg1)) (m ((c : Thread nD τ).loc main_arg2)) G S := by
  obtain rfl : G = g := Fin.ext hG
  obtain rfl : S = s := Fin.ext hS
  rw [ratesRe_at, ratesIm_at, logSteps_at]
  rfl
theorem scaleRe_block (t : Fin cfg0.N) (g s G S : Fin 64) (hG : G.val = g.val) (hS : S.val = s.val) :
    factorRe (ratesRe m c t (ix2 g s)) (ratesIm m c t (ix2 g s)) (logSteps m c t (ix2 g 0)) = scaleRe (m ((c : Thread nD τ).loc main_arg0)) (m ((c : Thread nD τ).loc main_arg1)) (m ((c : Thread nD τ).loc main_arg2)) G S := by
  obtain rfl : G = g := Fin.ext hG
  obtain rfl : S = s := Fin.ext hS
  rw [ratesRe_at, ratesIm_at, logSteps_at]
  rfl
theorem scaleIm_block (t : Fin cfg0.N) (g s G S : Fin 64) (hG : G.val = g.val) (hS : S.val = s.val) :
    factorIm (ratesRe m c t (ix2 g s)) (ratesIm m c t (ix2 g s)) (logSteps m c t (ix2 g 0)) = scaleIm (m ((c : Thread nD τ).loc main_arg0)) (m ((c : Thread nD τ).loc main_arg1)) (m ((c : Thread nD τ).loc main_arg2)) G S := by
  obtain rfl : G = g := Fin.ext hG
  obtain rfl : S = s := Fin.ext hS
  rw [ratesRe_at, ratesIm_at, logSteps_at]
  rfl
theorem inputRe_block (t : Fin cfg0.N) (g s G S : Fin 64) (h H : Fin 16) (hG : G.val = g.val) (hS : S.val = s.val) (hH : H.val = h.val) :
    factorRe (ratesRe m c t (ix2 g s)) (ratesIm m c t (ix2 g s)) (logSteps m c t (ix2 g 0)) * matricesRe m c t (ix3 g h s)
      - factorIm (ratesRe m c t (ix2 g s)) (ratesIm m c t (ix2 g s)) (logSteps m c t (ix2 g 0)) * matricesIm m c t (ix3 g h s)
    = inputRe (m ((c : Thread nD τ).loc main_arg0)) (m ((c : Thread nD τ).loc main_arg1)) (m ((c : Thread nD τ).loc main_arg2)) (m ((c : Thread nD τ).loc main_arg3)) (m ((c : Thread nD τ).loc main_arg4)) G S H := by
  obtain rfl : G = g := Fin.ext hG
  obtain rfl : S = s := Fin.ext hS
  obtain rfl : H = h := Fin.ext hH
  rw [scaleRe_block m c t G S G S rfl rfl, scaleIm_block m c t G S G S rfl rfl, matricesRe_at, matricesIm_at]
  rfl
theorem inputIm_block (t : Fin cfg0.N) (g s G S : Fin 64) (h H : Fin 16) (hG : G.val = g.val) (hS : S.val = s.val) (hH : H.val = h.val) :
    factorRe (ratesRe m c t (ix2 g s)) (ratesIm m c t (ix2 g s)) (logSteps m c t (ix2 g 0)) * matricesIm m c t (ix3 g h s)
      + factorIm (ratesRe m c t (ix2 g s)) (ratesIm m c t (ix2 g s)) (logSteps m c t (ix2 g 0)) * matricesRe m c t (ix3 g h s)
    = inputIm (m ((c : Thread nD τ).loc main_arg0)) (m ((c : Thread nD τ).loc main_arg1)) (m ((c : Thread nD τ).loc main_arg2)) (m ((c : Thread nD τ).loc main_arg3)) (m ((c : Thread nD τ).loc main_arg4)) G S H := by
  obtain rfl : G = g := Fin.ext hG
  obtain rfl : S = s := Fin.ext hS
  obtain rfl : H = h := Fin.ext hH
  rw [scaleRe_block m c t G S G S rfl rfl, scaleIm_block m c t G S G S rfl rfl, matricesRe_at, matricesIm_at]
  rfl

/-- The four result arrays. -/
theorem statesRe_eq : (dats m 0 c).arrAt 5 (cfgs 0).N = statesRe (m ((c : Thread nD τ).loc main_arg0)) (m ((c : Thread nD τ).loc main_arg1)) (m ((c : Thread nD τ).loc main_arg2)) := by
  refine (dats m 0 c).arrAt_eq_of_covers 5 _ (by decide +kernel) fun t hf y => ?_
  have h0 : ((win0_5.blk t).view.emb y 0).val = (y 0).val := by blk_simp [(index5 t)]
  have h1 : ((win0_5.blk t).view.emb y 1).val = (y 1).val := by blk_simp [(index5 t)]
  blk_simp; rw [after0_5]
  canon_tiles x h
  · exact (congrArg _ (eq_ix2 x)).trans ((payload_transRe (ratesRe m c t) (ratesIm m c t) (logSteps m c t) (x 0) (x 1)).trans
      (stateRe_block m c t (x 0) (x 1) _ _ (by omega) (by omega)))
theorem statesIm_eq : (dats m 0 c).arrAt 6 (cfgs 0).N = statesIm (m ((c : Thread nD τ).loc main_arg0)) (m ((c : Thread nD τ).loc main_arg1)) (m ((c : Thread nD τ).loc main_arg2)) := by
  refine (dats m 0 c).arrAt_eq_of_covers 6 _ (by decide +kernel) fun t hf y => ?_
  have h0 : ((win0_6.blk t).view.emb y 0).val = (y 0).val := by blk_simp [(index6 t)]
  have h1 : ((win0_6.blk t).view.emb y 1).val = (y 1).val := by blk_simp [(index6 t)]
  blk_simp; rw [after0_6]
  canon_tiles x h
  · exact (congrArg _ (eq_ix2 x)).trans ((payload_transIm (ratesRe m c t) (ratesIm m c t) (logSteps m c t) (x 0) (x 1)).trans
      (stateIm_block m c t (x 0) (x 1) _ _ (by omega) (by omega)))
theorem inputsRe_eq : (dats m 0 c).arrAt 7 (cfgs 0).N = inputsRe (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h0 : ((win0_7.blk t).view.emb y 0).val = (y 0).val := by blk_simp [(index7 t)]
  have h1 : ((win0_7.blk t).view.emb y 1).val = (y 1).val := by blk_simp [(index7 t)]
  have h2 : ((win0_7.blk t).view.emb y 2).val = (y 2).val := by blk_simp [(index7 t)]
  blk_simp; rw [after0_7]
  canon_tiles x h
  · exact (congrArg _ (eq_ix3 x)).trans ((payload_inRe (ratesRe m c t) (ratesIm m c t) (logSteps m c t) (matricesRe m c t)
      (matricesIm m c t) (x 0) (x 2) (x 1)).trans (inputRe_block m c t (x 0) (x 2) _ _ (x 1) _ (by omega) (by omega) (by omega)))
theorem inputsIm_eq : (dats m 0 c).arrAt 8 (cfgs 0).N = inputsIm (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have h0 : ((win0_8.blk t).view.emb y 0).val = (y 0).val := by blk_simp [(index8 t)]
  have h1 : ((win0_8.blk t).view.emb y 1).val = (y 1).val := by blk_simp [(index8 t)]
  have h2 : ((win0_8.blk t).view.emb y 2).val = (y 2).val := by blk_simp [(index8 t)]
  blk_simp; rw [after0_8]
  canon_tiles x h
  · exact (congrArg _ (eq_ix3 x)).trans ((payload_inIm (ratesRe m c t) (ratesIm m c t) (logSteps m c t) (matricesRe m c t)
      (matricesIm m c t) (x 0) (x 2) (x 1)).trans (inputIm_block m c t (x 0) (x 2) _ _ (x 1) _ (by omega) (by omega) (by omega)))

end Cert.PrepIdeal.Step

end
-- ==== Proof.PrepRef.lean ====
/- The plain preparation of the state-space step, entry by entry. -/
module

public import proofs.«01_k».proof.Proof.PrepValue
public import proofs.«01_k».proof.Proof.Gen.PrepRefIdeal.Read
public import Idealize.ShloMosaic.Lib.KernelVsHost

@[expose] public section

set_option maxRecDepth 16384

noncomputable section

namespace Cert.PrepRefIdeal.Step

open Cert.PrepRefIdeal Cert.PrepRefIdeal.Gen Cert.PrepRefIdeal.Read Idealize.ShloMosaic Idealize.ShloMosaic.TcCoe Idealize.SL.Sem
open Cert.PrepIdeal.Step (stateRe stateIm scaleRe scaleIm inputRe inputIm statesRe statesIm inputsRe inputsIm)

variable (p q : FVec Ideal S1x64x64 .f32) (d : FVec Ideal S1x64 .f32) (b b' : FVec Ideal S1x64x64x16 .f32) (g s : Fin 64) (h : Fin 16)

/-- The transition. -/
theorem stateRe_at : val_main_v11 (F := Ideal) p q d (ix2 g s) = stateRe p q d g s := by
  pointwise [val_main_v11, val_main_v10, val_main_v9, val_main_v8, val_main_v7, val_main_v6, val_main_v5, val_main_v4, val_main_v3, val_main_v2,
    val_main_v1, val_main_v0]
  rfl
theorem stateIm_at : val_main_v13 (F := Ideal) p q d (ix2 g s) = stateIm p q d g s := by
  pointwise [val_main_v13, val_main_v12, val_main_v9, val_main_v8, val_main_v7, val_main_v6, val_main_v5, val_main_v4, val_main_v3, val_main_v2,
    val_main_v1, val_main_v0]
  rfl

/-- The input's factor. -/
theorem scaleRe_at : val_main_v26 (F := Ideal) p q d (ix2 g s) = scaleRe p q d g s := by
  have e := stateRe_at p q d g s
  have e' := stateIm_at p q d g s
  unfold val_main_v26 val_main_v25 val_main_v24 val_main_v22 val_main_v20
  generalize val_main_v11 (F := Ideal) p q d = u at *
  generalize val_main_v13 (F := Ideal) p q d = v at *
  pointwise [val_main_v23, val_main_v21, val_main_v19, val_main_v18, val_main_v17, val_main_v16, val_main_v15, val_main_v14, val_main_cst]
  rw [e, e']
  rfl
theorem scaleIm_at : val_main_v35 (F := Ideal) p q d (ix2 g s) = scaleIm p q d g s := by
  have e := stateRe_at p q d g s
  have e' := stateIm_at p q d g s
  unfold val_main_v35 val_main_v34 val_main_v33 val_main_v31 val_main_v29
  generalize val_main_v11 (F := Ideal) p q d = u at *
  generalize val_main_v13 (F := Ideal) p q d = v at *
  pointwise [val_main_v32, val_main_v30, val_main_v28, val_main_v18, val_main_v17, val_main_v16, val_main_v15, val_main_v14, val_main_cst_0]
  rw [e, e']
  rfl

/-- The input matrix. -/
theorem inputRe_at : val_main_v51 (F := Ideal) p q d b b' (ix3 g h s) = inputRe p q d b b' g s h := by
  have e := scaleRe_at p q d g s
  have e' := scaleIm_at p q d g s
  unfold val_main_v51 val_main_v43 val_main_v42 val_main_v41 val_main_v39 val_main_v38 val_main_v36 val_main_v27
  generalize val_main_v26 (F := Ideal) p q d = u at *
  generalize val_main_v35 (F := Ideal) p q d = v at *
  pointwise [val_main_v40, val_main_v37]
  rw [e, e']
  rfl
theorem inputIm_at : val_main_v52 (F := Ideal) p q d b b' (ix3 g h s) = inputIm p q d b b' g s h := by
  have e := scaleRe_at p q d g s
  have e' := scaleIm_at p q d g s
  unfold val_main_v52 val_main_v50 val_main_v49 val_main_v48 val_main_v46 val_main_v45 val_main_v36 val_main_v27
  generalize val_main_v26 (F := Ideal) p q d = u at *
  generalize val_main_v35 (F := Ideal) p q d = v at *
  pointwise [val_main_v47, val_main_v44]
  rw [e, e']
  rfl

/-- The four results. -/
theorem statesRe_eq : val_main_v11 (F := Ideal) p q d = statesRe p q d :=
  funext fun j => (congrArg _ (eq_ix2 j)).trans (stateRe_at p q d (j 0) (j 1))
theorem statesIm_eq : val_main_v13 (F := Ideal) p q d = statesIm p q d :=
  funext fun j => (congrArg _ (eq_ix2 j)).trans (stateIm_at p q d (j 0) (j 1))
theorem inputsRe_eq : val_main_v51 (F := Ideal) p q d b b' = inputsRe p q d b b' :=
  funext fun j => (congrArg _ (eq_ix3 j)).trans (inputRe_at p q d b b' (j 0) (j 2) (j 1))
theorem inputsIm_eq : val_main_v52 (F := Ideal) p q d b b' = inputsIm p q d b b' :=
  funext fun j => (congrArg _ (eq_ix3 j)).trans (inputIm_at p q d b b' (j 0) (j 2) (j 1))

end Cert.PrepRefIdeal.Step

end
-- ==== Proof.PrepClaim.lean ====
/- The claims about the preparation of the state-space step. -/
module

public import proofs.«01_k».proof.Defs
public import proofs.«01_k».proof.Proof.PrepValue
public import proofs.«01_k».proof.Proof.PrepRef
public import proofs.«01_k».proof.Proof.Gen.PrepRefIdeal.Run
public import Idealize.ShloMosaic.Lib.Quiescent

@[expose] public section

noncomputable section

namespace Cert.Proof

open Idealize.ShloMosaic Idealize.SL.Sem

/-- The reference leaves its arguments as they were; it has no semaphores. -/
theorem framePrepRef : Cert.quiescent_PrepRefIdeal (hPrepRefIdeal := Cert.PrepRefIdeal.Gen.facts) := fun m ρ _ =>
  (θ_run Cert.PrepRefIdeal.defs _ _).mono (fun r h => ⟨fun c => (h c).2.2.2.2, sem_eq_zero_of_no_sems (by decide) r.2⟩)
    (Cert.PrepRefIdeal.Value.run (F := Ideal) m ρ)

/-- The four results of the preparation are the reference's. -/
theorem agreePrep : Cert.algebraic_PrepIdeal_PrepRefIdeal (hPrepIdeal := Cert.PrepIdeal.Gen.facts)
    (hPrepRefIdeal := Cert.PrepRefIdeal.Gen.facts) := by
  intro m ρ m' ρ' _ hargs
  have same2 : ∀ c, Cert.PrepRefIdeal.Value.res_main_v51 m' c = (Cert.PrepIdeal.Gen.dats m 0 c).arrAt 7 Cert.PrepIdeal.cfg0.N := by
    intro c
    obtain ⟨e0, e1, e2, e3, e4⟩ := hargs c
    refine (Cert.PrepRefIdeal.Read.val_main_v51_eq m' c).trans ?_
    rw [e0, e1, e2, e3, e4]
    exact (Cert.PrepRefIdeal.Step.inputsRe_eq _ _ _ _ _).trans (Cert.PrepIdeal.Step.inputsRe_eq m c).symm
  have same3 : ∀ c, Cert.PrepRefIdeal.Value.res_main_v52 m' c = (Cert.PrepIdeal.Gen.dats m 0 c).arrAt 8 Cert.PrepIdeal.cfg0.N := by
    intro c
    obtain ⟨e0, e1, e2, e3, e4⟩ := hargs c
    refine (Cert.PrepRefIdeal.Read.val_main_v52_eq m' c).trans ?_
    rw [e0, e1, e2, e3, e4]
    exact (Cert.PrepRefIdeal.Step.inputsIm_eq _ _ _ _ _).trans (Cert.PrepIdeal.Step.inputsIm_eq m c).symm
  refine ⟨fun c => (Cert.PrepIdeal.Gen.dats m 0 c).arrAt 5 Cert.PrepIdeal.cfg0.N,
    fun c => (Cert.PrepIdeal.Gen.dats m 0 c).arrAt 6 Cert.PrepIdeal.cfg0.N,
    fun c => (Cert.PrepIdeal.Gen.dats m 0 c).arrAt 7 Cert.PrepIdeal.cfg0.N,
    fun c => (Cert.PrepIdeal.Gen.dats m 0 c).arrAt 8 Cert.PrepIdeal.cfg0.N, Cert.PrepIdeal.Value.run_blocks m ρ,
    (θ_run Cert.PrepRefIdeal.defs _ _).mono (fun r h c => ⟨(h c).1.trans ?_, (h c).2.1.trans ?_,
      (h c).2.2.1.trans (same2 c), (h c).2.2.2.1.trans (same3 c), (h c).2.2.2.2⟩)
      (Cert.PrepRefIdeal.Value.run (F := Ideal) m' ρ')⟩
  · obtain ⟨e0, e1, e2, e3, e4⟩ := hargs c
    rw [e0, e1, e2]
    exact (Cert.PrepRefIdeal.Read.val_main_v11_eq _ _ _).trans
      ((Cert.PrepRefIdeal.Step.statesRe_eq _ _ _).trans (Cert.PrepIdeal.Step.statesRe_eq m c).symm)
  · obtain ⟨e0, e1, e2, e3, e4⟩ := hargs c
    rw [e0, e1, e2]
    exact (Cert.PrepRefIdeal.Read.val_main_v13_eq _ _ _).trans
      ((Cert.PrepRefIdeal.Step.statesIm_eq _ _ _).trans (Cert.PrepIdeal.Step.statesIm_eq m c).symm)

end Cert.Proof

end
-- ==== Proof.MixShortValue.lean ====
/- What the mixing call of the sample leaves in its two result arrays, entry by entry, from the arguments. -/
module

public import proofs.«01_k».proof.Proof.MixValue
public import proofs.«01_k».proof.Proof.Gen.MixShortIdeal.Value
public import Idealize.ShloMosaic.Lib.Pipeline.ValueKit
public import Idealize.ShloMosaic.Lib.Pipeline.ValueKit.Geometry
public import Idealize.ShloMosaic.Lib.Pointwise

@[expose] public section

set_option maxRecDepth 16384

noncomputable section

namespace Cert.MixShortIdeal.Mixed

open Cert.MixShortIdeal Cert.MixShortIdeal.Gen Idealize.ShloMosaic Idealize.ShloMosaic.TcCoe Idealize.SL.Sem
open Idealize.ShloMosaic.Pipeline (Dat)
open Cert.MixIdeal.Mixed (mean normed)
open scoped BigOperators

/-- A row of a block: the scaled input plus the projected attention and state space outputs. -/
def mixedBlock (a : FVec Ideal S1x1024x64 .bf16) (wa : FVec Ideal S1024x2048 .bf16) (s : FVec Ideal S64x1024 .bf16) (ws : FVec Ideal S1024x2048 .bf16)
    (x : FVec Ideal S64x2048 .f32) (r : Fin 64) (e : Fin 2048) : EReal :=
  ((Real.sqrt (Real.sqrt 2) : ℝ) : EReal) * x (ix2 r e)
    + ((∑ k : Fin 1024, a (ix3 0 k r) * wa (ix2 k e)) + ∑ k : Fin 1024, s (ix2 r k) * ws (ix2 k e))

/-- A row of a block's result. -/
def layerBlock (a : FVec Ideal S1x1024x64 .bf16) (wa : FVec Ideal S1024x2048 .bf16) (s : FVec Ideal S64x1024 .bf16) (ws : FVec Ideal S1024x2048 .bf16)
    (x : FVec Ideal S64x2048 .f32) (g b : FVec Ideal S1x2048 .f32) (r : Fin 64) (e : Fin 2048) : EReal :=
  normed (mixedBlock a wa s ws x r) e * g (ix2 0 e) + b (ix2 0 e)

section Payloads

variable (a : FVec Ideal S1x1024x64 .bf16) (wa : FVec Ideal S1024x2048 .bf16) (s : FVec Ideal S64x1024 .bf16) (ws : FVec Ideal S1024x2048 .bf16)
    (x : FVec Ideal S64x2048 .f32) (g b : FVec Ideal S1x2048 .f32) (r : Fin 64) (e : Fin 2048)

theorem first : k0_pay1 (F := Ideal) (k0_pay3 b) (k0_pay4 a wa s ws x) (k0_pay5 g) (ix2 r e) = layerBlock a wa s ws x g b r e := by
  pointwise [k0_pay1, k0_pay3, k0_pay4, k0_pay5]
  rfl
theorem narrow : k0_pay2 (F := Ideal) (k0_pay3 b) (k0_pay4 a wa s ws x) (k0_pay5 g) (ix2 r e) = layerBlock a wa s ws x g b r e :=
  first a wa s ws x g b r e

end Payloads

variable (m : (ℓ : Loc nD τ sig) → Buf (Elt Ideal) ℓ) (c : Dev nD)

/-- The blocks of point `t`: the 64 tokens of sequence `t`. -/
theorem index0 : ∀ t : Fin cfg0.N, win0_0.index t 0 = t.val ∧ win0_0.index t 1 = 0 ∧ win0_0.index t 2 = 0 :=
  (by decide +kernel : ∀ t : Fin grid0.N, _)
theorem index1 : ∀ t : Fin cfg0.N, win0_1.index t 0 = 0 ∧ win0_1.index t 1 = t.val := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = t.val ∧ win0_7.index t 1 = 0 := (by decide +kernel : ∀ t : Fin grid0.N, _)
theorem point_lt (t : Fin cfg0.N) : t.val < 16 := by have := t.isLt; have h : cfg0.N = 16 := N_0; omega

/-- The operands that the host prepares: the input row by row, the weight, the gain and the bias. -/
theorem input (r : Fin 1024) (e : Fin 2048) : V m c main_v0 (ix2 r e)
    = m ((c : Thread nD τ).loc main_arg2) (ix3 ⟨r.val / 64, by omega⟩ ⟨r.val % 64, by omega⟩ e) := by
  entry_read
  pointwise
theorem weight (k e : Fin 2048) : V m c main_v2 (ix2 k e) = m ((c : Thread nD τ).loc main_arg3) (ix3 0 k e) := by
  entry_read
  pointwise
theorem gain (e : Fin 2048) : V m c main_v5 (ix2 0 e) = m ((c : Thread nD τ).loc main_arg4) (ix2 0 e) := by
  entry_read
  pointwise
theorem bias (e : Fin 2048) : V m c main_v6 (ix2 0 e) = m ((c : Thread nD τ).loc main_arg5) (ix2 0 e) := by
  entry_read
  pointwise

/-- The loads of the blocks of point `t`. -/
def attention (t : Fin cfg0.N) (inb : ∀ a, ![0, 0, 0] a + S1x1024x64.size a ≤ S1x1024x64.size a) : FVec Ideal S1x1024x64 .bf16 :=
  View.ld (iblk m c 0 t) (Rect.unit (s := S1x1024x64) ![0, 0, 0] S1x1024x64.size inb)
def states (t : Fin cfg0.N) (inb : ∀ a, ![0, 0] a + S64x1024.size a ≤ S64x1024.size a) : FVec Ideal S64x1024 .bf16 :=
  View.ld (iblk m c 1 t) (Rect.unit (s := S64x1024) ![0, 0] S64x1024.size inb)
def residual (t : Fin cfg0.N) (inb : ∀ a, ![0, 0] a + S64x2048.size a ≤ S64x2048.size a) : FVec Ideal S64x2048 .f32 :=
  View.ld (iblk m c 2 t) (Rect.unit (s := S64x2048) ![0, 0] S64x2048.size inb)
def weights (t : Fin cfg0.N) (o : ℕ) (inb : ∀ a, ![o, 0] a + S1024x2048.size a ≤ S2048x2048.size a) : FVec Ideal S1024x2048 .bf16 :=
  View.ld (iblk m c 3 t) (Rect.unit (s := S2048x2048) ![o, 0] S1024x2048.size inb)
def gains (t : Fin cfg0.N) (inb : ∀ a, ![0, 0] a + S1x2048.size a ≤ S1x2048.size a) : FVec Ideal S1x2048 .f32 := View.ld (iblk m c 4 t) (Rect.unit (s := S1x2048) ![0, 0] S1x2048.size inb)
def biases (t : Fin cfg0.N) (inb : ∀ a, ![0, 0] a + S1x2048.size a ≤ S1x2048.size a) : FVec Ideal S1x2048 .f32 := View.ld (iblk m c 5 t) (Rect.unit (s := S1x2048) ![0, 0] S1x2048.size inb)

theorem attention_at (t : Fin cfg0.N) (inb) (k : Fin 1024) (r : Fin 64) (R : Fin 1024) (hR : R.val = 64 * t.val + r.val) : attention m c t inb (ix3 0 k r)
    = m ((c : Thread nD τ).loc main_arg0) (ix3 ⟨R.val / 64, by omega⟩ k ⟨R.val % 64, by omega⟩) := by
  obtain ⟨i0, i1, i2⟩ := index0 t
  unfold attention
  blk_simp [iblk]
  refine congrArg (m ((c : Thread nD τ).loc main_arg0)) (funext fun a => Fin.ext ?_)
  match a with
  | 0 => blk_simp [i0]; simp; omega
  | 1 => blk_simp [i1]; simp
  | 2 => blk_simp [i2]; simp; omega
theorem states_at (t : Fin cfg0.N) (inb) (k : Fin 1024) (r : Fin 64) (R : Fin 1024) (hR : R.val = 64 * t.val + r.val) : states m c t inb (ix2 r k)
    = m ((c : Thread nD τ).loc main_arg1) (ix2 ⟨R.val % 64, by omega⟩ ⟨R.val / 64 * 1024 + k.val, by omega⟩) := by
  obtain ⟨i0, i1⟩ := index1 t
  unfold states
  blk_simp [iblk]
  refine congrArg (m ((c : Thread nD τ).loc main_arg1)) (funext fun a => Fin.ext ?_)
  match a with
  | 0 => blk_simp [i0]; simp; omega
  | 1 => blk_simp [i1]; simp; omega
theorem residual_at (t : Fin cfg0.N) (inb) (r : Fin 64) (e : Fin 2048) (R : Fin 1024) (hR : R.val = 64 * t.val + r.val) :
    residual m c t inb (ix2 r e)
    = m ((c : Thread nD τ).loc main_arg2) (ix3 ⟨R.val / 64, by omega⟩ ⟨R.val % 64, by omega⟩ e) := by
  obtain ⟨i0, i1⟩ := index2 t
  rw [← input m c]
  unfold residual
  blk_simp [iblk]
  refine congrArg (V m c main_v0) (funext fun a => Fin.ext ?_)
  match a with
  | 0 => blk_simp [i0]; simp; omega
  | 1 => blk_simp [i1]; simp
theorem weights_at (t : Fin cfg0.N) (o : ℕ) (inb) (k : Fin 1024) (e : Fin 2048) (ho : o ≤ 1024) : weights m c t o inb (ix2 k e)
    = m ((c : Thread nD τ).loc main_arg3) (ix3 0 ⟨o + k.val, by omega⟩ e) := by
  obtain ⟨i0, i1⟩ := index3 t
  rw [← weight m c]
  unfold weights
  blk_simp [iblk]
  refine congrArg (V m c main_v2) (funext fun a => Fin.ext ?_)
  match a with
  | 0 => blk_simp [i0]; simp
  | 1 => blk_simp [i1]; simp
theorem gains_at (t : Fin cfg0.N) (inb) (e : Fin 2048) : gains m c t inb (ix2 0 e) = m ((c : Thread nD τ).loc main_arg4) (ix2 0 e) := by
  obtain ⟨i0, i1⟩ := index4 t
  rw [← gain m c]
  unfold gains
  blk_simp [iblk]
  refine congrArg (V m c main_v5) (funext fun a => Fin.ext ?_)
  match a with
  | 0 => blk_simp [i0]; simp
  | 1 => blk_simp [i1]; simp
theorem biases_at (t : Fin cfg0.N) (inb) (e : Fin 2048) : biases m c t inb (ix2 0 e) = m ((c : Thread nD τ).loc main_arg5) (ix2 0 e) := by
  obtain ⟨i0, i1⟩ := index5 t
  rw [← bias m c]
  unfold biases
  blk_simp [iblk]
  refine congrArg (V m c main_v6) (funext fun a => Fin.ext ?_)
  match a with
  | 0 => blk_simp [i0]; simp
  | 1 => blk_simp [i1]; simp

section Layer

variable (a : FVec Ideal S16x1024x64 .bf16) (s : FVec Ideal S64x16384 .bf16) (x : FVec Ideal S16x64x2048 .f32) (w : FVec Ideal S1x2048x2048 .f32)
  (g b : FVec Ideal S1x2048 .f32)

/-- Entry `e` of the mixed token `R` (counted over all sequences). -/
def mixed (R : Fin 1024) (e : Fin 2048) : EReal :=
  ((Real.sqrt (Real.sqrt 2) : ℝ) : EReal) * x (ix3 ⟨R.val / 64, by omega⟩ ⟨R.val % 64, by omega⟩ e)
    + ((∑ k : Fin 1024, a (ix3 ⟨R.val / 64, by omega⟩ k ⟨R.val % 64, by omega⟩) * w (ix3 0 ⟨0 + k.val, by omega⟩ e))
      + ∑ k : Fin 1024, s (ix2 ⟨R.val % 64, by omega⟩ ⟨R.val / 64 * 1024 + k.val, by omega⟩) * w (ix3 0 ⟨1024 + k.val, by omega⟩ e))

/-- Entry `e` of the layer's token `R`: the mixed token normed, with gain and bias. -/
def layer (R : Fin 1024) (e : Fin 2048) : EReal := normed (mixed a s x w R) e * g (ix2 0 e) + b (ix2 0 e)

/-- The results: the layer in two precisions. -/
def rows : FVec Ideal S1024x2048 .f32 := fun j => layer a s x w g b (j 0) (j 1)
def rowsHalf : FVec Ideal S1024x2048 .bf16 := fun j => layer a s x w g b (j 0) (j 1)

end Layer

/-- A row of a block is a token of the layer. -/
theorem block_eq (t : Fin cfg0.N) (ia is ix i0 i1 ig ib) (r : Fin 64) (e : Fin 2048) (R : Fin 1024) (E : Fin 2048)
    (hR : R.val = 64 * t.val + r.val) (hE : E.val = e.val) :
    layerBlock (attention m c t ia) (weights m c t 0 i0) (states m c t is) (weights m c t 1024 i1) (residual m c t ix)
      (gains m c t ig) (biases m c t ib) r e = layer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R E := by
  obtain rfl : E = e := Fin.ext hE
  have hm : mixedBlock (attention m c t ia) (weights m c t 0 i0) (states m c t is) (weights m c t 1024 i1) (residual m c t ix) r
      = mixed (m ((c : Thread nD τ).loc main_arg0)) (m ((c : Thread nD τ).loc main_arg1)) (m ((c : Thread nD τ).loc main_arg2))
      (m ((c : Thread nD τ).loc main_arg3)) R := by
    funext e
    exact congrArg₂ (· + ·) (congrArg _ (residual_at m c t ix r e R hR))
      (congrArg₂ (· + ·)
        (Finset.sum_congr rfl fun k _ => congrArg₂ (· * ·) (attention_at m c t ia k r R hR) (weights_at m c t 0 i0 k e (by omega)))
        (Finset.sum_congr rfl fun k _ => congrArg₂ (· * ·) (states_at m c t is k r R hR) (weights_at m c t 1024 i1 k e le_rfl)))
  unfold layerBlock layer
  rw [hm, gains_at, biases_at]

/-- The two results. -/
theorem rows_eq : (dats m 0 c).arrAt 6 (cfgs 0).N = rows (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have h0 : ((win0_6.blk t).view.emb y 0).val = t.val * 64 + (y 0).val := by blk_simp [(index6 t)]
  have h1 : ((win0_6.blk t).view.emb y 1).val = (y 1).val := by blk_simp [(index6 t)]
  blk_simp; rw [after0_6]
  canon_tiles x h
  · exact (congrArg _ (eq_ix2 x)).trans ((first _ _ _ _ _ _ _ (x 0) (x 1)).trans
      (block_eq m c t _ _ _ _ _ _ _ (x 0) (x 1) _ _ (by omega) (by omega)))
theorem rowsHalf_eq : (dats m 0 c).arrAt 7 (cfgs 0).N = rowsHalf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  have h0 : ((win0_7.blk t).view.emb y 0).val = t.val * 64 + (y 0).val := by blk_simp [(index7 t)]
  have h1 : ((win0_7.blk t).view.emb y 1).val = (y 1).val := by blk_simp [(index7 t)]
  blk_simp; rw [after0_7]
  canon_tiles x h
  · exact (congrArg _ (eq_ix2 x)).trans ((narrow _ _ _ _ _ _ _ (x 0) (x 1)).trans
      (block_eq m c t _ _ _ _ _ _ _ (x 0) (x 1) _ _ (by omega) (by omega)))

end Cert.MixShortIdeal.Mixed

end
-- ==== Proof.MixShortRef.lean ====
/- The plain mix and norm of the sample, entry by entry. -/
module

public import proofs.«01_k».proof.Proof.MixShortValue
public import proofs.«01_k».proof.Proof.MixRef
public import proofs.«01_k».proof.Proof.Gen.MixShortRefIdeal.Read
public import Idealize.ShloMosaic.Lib.KernelVsHost

@[expose] public section

set_option maxRecDepth 16384

noncomputable section

namespace Cert.MixShortRefIdeal.Mixed

open Cert.MixShortRefIdeal Cert.MixShortRefIdeal.Gen Cert.MixShortRefIdeal.Read Idealize.ShloMosaic Idealize.ShloMosaic.TcCoe Idealize.SL.Sem
open Cert.MixIdeal.Mixed (mean normed)
open Cert.MixRefIdeal.Mixed (zero_bits two_bits halves)
open Cert.MixShortIdeal.Mixed (mixed layer rows rowsHalf)
open scoped BigOperators

variable (a : FVec Ideal S16x1024x64 .bf16) (s : FVec Ideal S64x16384 .bf16) (x : FVec Ideal S16x64x2048 .f32) (w : FVec Ideal S1x2048x2048 .f32)
  (g b : FVec Ideal S1x2048 .f32)

/-- The residual's factor, the fourth root of two. -/
theorem factor (j : S16x64x2048.Idx) : val_main_v10 (F := Ideal) j = ((Real.sqrt (Real.sqrt 2) : ℝ) : EReal) := by
  rw [val_main_v10_apply, val_main_v9_apply, val_main_v8_apply, val_main_cst_apply]
  show Ideal.sqrt (Ideal.sqrt (Ideal.ofBits .f32 0x40000000#32)) = _
  rw [two_bits, Ideal.sqrt_coe, if_neg (by norm_num), Ideal.sqrt_coe, if_neg (not_lt.2 (Real.sqrt_nonneg 2))]

/-- The concatenated features: the attention's first, then the state space model's. -/
theorem features_low (j : S16x64x2048.Idx) (bb : Fin 16) (l : Fin 64) (k : Fin 1024) (h0 : (j 0).val = bb.val) (h1 : (j 1).val = l.val)
    (h2 : (j 2).val = k.val) : val_main_v5 (F := Ideal) a s j = a (ix3 bb k l) := by
  unfold val_main_v5
  refine (concatenate_pair_apply_left (s₁ := S16x64x1024) (s₂ := S16x64x1024) 2 _ _ _ j rfl (ix3 bb l k) fun c => ?_).trans ?_
  · match c with
    | ⟨0, _⟩ => exact h0.symm
    | ⟨1, _⟩ => exact h1.symm
    | ⟨2, _⟩ => exact h2.symm
  · rw [val_main_v1_apply, val_main_v0_apply]
    refine congrArg a (funext fun c => Fin.ext ?_)
    match c with
    | ⟨0, _⟩ => rfl
    | ⟨1, _⟩ => rfl
    | ⟨2, _⟩ => rfl
theorem features_high (j : S16x64x2048.Idx) (bb : Fin 16) (l : Fin 64) (k : Fin 1024) (h0 : (j 0).val = bb.val) (h1 : (j 1).val = l.val)
    (h2 : (j 2).val = 1024 + k.val) : val_main_v5 (F := Ideal) a s j = s (ix2 l ⟨bb.val * 1024 + k.val, by omega⟩) := by
  unfold val_main_v5
  refine (concatenate_pair_apply_right (s₁ := S16x64x1024) (s₂ := S16x64x1024) 2 _ _ _ j rfl rfl (ix3 bb l k) (fun c hc => ?_) (by show k.val + 1024 = (j 2).val; omega)).trans ?_
  · match c with
    | ⟨0, _⟩ => exact h0.symm
    | ⟨1, _⟩ => exact h1.symm
    | ⟨2, _⟩ => exact absurd rfl hc
  · rw [val_main_v4_apply, val_main_v3_apply, val_main_v2_apply]
    refine congrArg s (funext fun c => Fin.ext ?_)
    match c with
    | ⟨0, _⟩ => show ((l.val * 16 + bb.val) * 1024 + k.val) / 16384 = l.val; omega
    | ⟨1, _⟩ => show ((l.val * 16 + bb.val) * 1024 + k.val) % 16384 = bb.val * 1024 + k.val; omega

theorem weight (k e : Fin 2048) (j : S2048x2048.Idx) (h0 : (j 0).val = k.val) (h1 : (j 1).val = e.val) :
    val_main_v6 (F := Ideal) w j = w (ix3 0 k e) := by
  rw [val_main_v6_apply]
  refine congrArg w (funext fun c => Fin.ext ?_)
  match c with
  | ⟨0, _⟩ => rfl
  | ⟨1, _⟩ => show ((j 0).val * 2048 + (j 1).val) / 2048 % 2048 = k.val; omega
  | ⟨2, _⟩ => show ((j 0).val * 2048 + (j 1).val) % 2048 = e.val; omega

/-- The product of the features with the weight. -/
theorem product_at (j : S16x64x2048.Idx) (bb : Fin 16) (l : Fin 64) (e : Fin 2048) (h0 : (j 0).val = bb.val) (h1 : (j 1).val = l.val)
    (h2 : (j 2).val = e.val) : val_main_v7 (F := Ideal) a s w j
    = (∑ k : Fin 1024, a (ix3 bb k l) * w (ix3 0 ⟨0 + k.val, by omega⟩ e))
      + ∑ k : Fin 1024, s (ix2 l ⟨bb.val * 1024 + k.val, by omega⟩) * w (ix3 0 ⟨1024 + k.val, by omega⟩ e) := by
  rw [val_main_v7_apply, halves]
  refine congrArg₂ (· + ·) (Finset.sum_congr rfl fun k _ => ?_) (Finset.sum_congr rfl fun k _ => ?_)
  · exact congrArg₂ (· * ·) (features_low a s (lidx_main_v7 j ⟨0 + k.val, by omega⟩) bb l k h0 h1 (Nat.zero_add _)) (weight w ⟨0 + k.val, by omega⟩ e _ rfl h2)
  · exact congrArg₂ (· * ·) (features_high a s (lidx_main_v7 j ⟨1024 + k.val, by omega⟩) bb l k h0 h1 rfl) (weight w ⟨1024 + k.val, by omega⟩ e _ rfl h2)

/-- The mixed token. -/
theorem mixed_at (j : S16x64x2048.Idx) (R : Fin 1024) (e : Fin 2048) (h0 : (j 0).val = R.val / 64) (h1 : (j 1).val = R.val % 64)
    (h2 : (j 2).val = e.val) : val_main_v12 (F := Ideal) a s x w j = mixed a s x w R e := by
  have hx : x j = x (ix3 ⟨R.val / 64, by omega⟩ ⟨R.val % 64, by omega⟩ e) := by
    refine congrArg x (funext fun c => Fin.ext ?_)
    match c with
    | ⟨0, _⟩ => exact h0
    | ⟨1, _⟩ => exact h1
    | ⟨2, _⟩ => exact h2
  rw [val_main_v12_apply, val_main_v11_apply, factor, hx,
    product_at a s w j ⟨R.val / 64, by omega⟩ ⟨R.val % 64, by omega⟩ e h0 h1 h2]
  rfl

/-- The mean and the variance of a token. -/
theorem mean_at (j : S16x64x1.Idx) (R : Fin 1024) (h0 : (j 0).val = R.val / 64) (h1 : (j 1).val = R.val % 64) :
    val_main_v16 (F := Ideal) a s x w j = mean (mixed a s x w R) := by
  rw [val_main_v16_apply, val_main_v14_apply, val_main_v15_apply, val_main_v13_apply, val_main_cst_0_apply, val_main_cst_1_apply]
  refine congrArg₂ Ideal.div ((congrArg₂ (· + ·) zero_bits (Finset.sum_congr rfl fun k _ => ?_)).trans (zero_add _)) rfl
  exact mixed_at a s x w _ R k h0 h1 rfl
theorem variance_at (j : S16x64x1.Idx) (R : Fin 1024) (h0 : (j 0).val = R.val / 64) (h1 : (j 1).val = R.val % 64) :
    val_main_v23 (F := Ideal) a s x w j = mean (fun k => (mixed a s x w R k - mean (mixed a s x w R)) * (mixed a s x w R k - mean (mixed a s x w R))) := by
  rw [val_main_v23_apply, val_main_v21_apply, val_main_v22_apply, val_main_v20_apply, val_main_cst_2_apply, val_main_cst_3_apply]
  refine congrArg₂ Ideal.div ((congrArg₂ (· + ·) zero_bits (Finset.sum_congr rfl fun k _ => ?_)).trans (zero_add _)) rfl
  rw [val_main_v19_apply, val_main_v18_apply, val_main_v17_apply]
  have hd := congrArg₂ (fun p q : EReal => p - q) (mixed_at a s x w (idx_main_v20 (idx_main_v21 j) k) R k h0 h1 rfl)
    (mean_at a s x w (idx_main_v17 (idx_main_v20 (idx_main_v21 j) k)) R h0 h1)
  exact congrArg₂ (fun p q : EReal => p * q) hd hd

/-- The token of the layer. -/
theorem layer_at (j : S16x64x2048.Idx) (R : Fin 1024) (e : Fin 2048) (h0 : (j 0).val = R.val / 64) (h1 : (j 1).val = R.val % 64)
    (h2 : (j 2).val = e.val) : val_main_v38 (F := Ideal) a s x w g b j = layer a s x w g b R e := by
  have hg : val_main_v33 (F := Ideal) g j = g (ix2 0 e) := by
    rw [val_main_v33_apply, val_main_v32_apply, val_main_v31_apply]
    refine congrArg g (funext fun c => Fin.ext ?_)
    match c with
    | ⟨0, _⟩ => rfl
    | ⟨1, _⟩ => show (j 2).val % 2048 = e.val; omega
  have hb : val_main_v37 (F := Ideal) b j = b (ix2 0 e) := by
    rw [val_main_v37_apply, val_main_v36_apply, val_main_v35_apply]
    refine congrArg b (funext fun c => Fin.ext ?_)
    match c with
    | ⟨0, _⟩ => rfl
    | ⟨1, _⟩ => show (j 2).val % 2048 = e.val; omega
  have hd := congrArg₂ (fun p q : EReal => p - q) (mixed_at a s x w j R e h0 h1 h2) (mean_at a s x w (idx_main_v24 j) R h0 h1)
  have hv := congrArg (fun v : EReal => Ideal.rsqrt (v + Ideal.ofBits .f32 0x3727C5AC#32)) (variance_at a s x w (idx_main_v29 j) R h0 h1)
  rw [val_main_v38_apply, val_main_v34_apply, val_main_v30_apply, val_main_v25_apply, val_main_v24_apply, val_main_v29_apply, val_main_v28_apply,
    val_main_v27_apply, val_main_v26_apply, val_main_cst_4_apply, hg, hb]
  exact congrArg (fun v : EReal => v * g (ix2 0 e) + b (ix2 0 e)) (congrArg₂ (fun p q : EReal => p * q) hd hv)

/-- Token by token. -/
theorem token_at (i : S1024x2048.Idx) : val_main_v39 (F := Ideal) a s x w g b i = layer a s x w g b (i 0) (i 1) := by
  have hi0 : (i 0).val < 1024 := (i 0).isLt
  have hi1 : (i 1).val < 2048 := (i 1).isLt
  rw [val_main_v39_apply]
  exact layer_at a s x w g b (idx_main_v39 i) (i 0) (i 1) (by show ((i 0).val * 2048 + (i 1).val) / 131072 = (i 0).val / 64; omega)
    (by show ((i 0).val * 2048 + (i 1).val) / 2048 % 64 = (i 0).val % 64; omega) (by show ((i 0).val * 2048 + (i 1).val) % 2048 = (i 1).val; omega)

/-- The two results. -/
theorem rows_eq : val_main_v39 (F := Ideal) a s x w g b = rows a s x w g b := funext (token_at a s x w g b)
theorem rowsHalf_eq : val_main_v40 (F := Ideal) a s x w g b = rowsHalf a s x w g b := by
  funext i
  refine Eq.trans (b := val_main_v39 (F := Ideal) a s x w g b i) rfl ?_
  exact token_at a s x w g b i

end Cert.MixShortRefIdeal.Mixed

end
-- ==== Proof.MixShortClaim.lean ====
/- The claims about the sample's mix and norm. -/
module

public import proofs.«01_k».proof.Defs
public import proofs.«01_k».proof.Proof.MixShortValue
public import proofs.«01_k».proof.Proof.MixShortRef
public import proofs.«01_k».proof.Proof.Gen.MixShortRefIdeal.Run
public import Idealize.ShloMosaic.Lib.Quiescent

@[expose] public section

noncomputable section

namespace Cert.Proof

open Idealize.ShloMosaic Idealize.SL.Sem

/-- The reference leaves its arguments as they were; it has no semaphores. -/
theorem frameMixShortRef : Cert.quiescent_MixShortRefIdeal (hMixShortRefIdeal := Cert.MixShortRefIdeal.Gen.facts) := fun m ρ _ =>
  (θ_run Cert.MixShortRefIdeal.defs _ _).mono (fun r h => ⟨fun c => (h c).2.2, sem_eq_zero_of_no_sems (by decide) r.2⟩)
    (Cert.MixShortRefIdeal.Value.run (F := Ideal) m ρ)

/-- The two results of the mix are the reference's. -/
theorem agreeMixShort : Cert.algebraic_MixShortIdeal_MixShortRefIdeal (hMixShortIdeal := Cert.MixShortIdeal.Gen.facts)
    (hMixShortRefIdeal := Cert.MixShortRefIdeal.Gen.facts) := by
  intro m ρ m' ρ' _ hargs
  have same0 : ∀ c, Cert.MixShortRefIdeal.Value.res_main_v39 m' c = (Cert.MixShortIdeal.Gen.dats m 0 c).arrAt 6 Cert.MixShortIdeal.cfg0.N := by
    intro c
    obtain ⟨e0, e1, e2, e3, e4, e5⟩ := hargs c
    refine (Cert.MixShortRefIdeal.Read.val_main_v39_eq m' c).trans ?_
    rw [e0, e1, e2, e3, e4, e5]
    exact (Cert.MixShortRefIdeal.Mixed.rows_eq _ _ _ _ _ _).trans (Cert.MixShortIdeal.Mixed.rows_eq m c).symm
  have same1 : ∀ c, Cert.MixShortRefIdeal.Value.res_main_v40 m' c = (Cert.MixShortIdeal.Gen.dats m 0 c).arrAt 7 Cert.MixShortIdeal.cfg0.N := by
    intro c
    obtain ⟨e0, e1, e2, e3, e4, e5⟩ := hargs c
    refine (Cert.MixShortRefIdeal.Read.val_main_v40_eq m' c).trans ?_
    rw [e0, e1, e2, e3, e4, e5]
    exact (Cert.MixShortRefIdeal.Mixed.rowsHalf_eq _ _ _ _ _ _).trans (Cert.MixShortIdeal.Mixed.rowsHalf_eq m c).symm
  exact ⟨fun c => (Cert.MixShortIdeal.Gen.dats m 0 c).arrAt 6 Cert.MixShortIdeal.cfg0.N,
    fun c => (Cert.MixShortIdeal.Gen.dats m 0 c).arrAt 7 Cert.MixShortIdeal.cfg0.N, Cert.MixShortIdeal.Value.run_blocks m ρ,
    (θ_run Cert.MixShortRefIdeal.defs _ _).mono (fun r h c => ⟨(h c).1.trans (same0 c),
      (h c).2.1.trans (same1 c), (h c).2.2⟩)
      (Cert.MixShortRefIdeal.Value.run (F := Ideal) m' ρ')⟩

end Cert.Proof

end
-- ==== Proof.ChunkTrip.lean ====
/- What the attention kernel computes at one grid point of the short call, in words of its own.

A grid point takes the 64 queries of one sequence. Its head pairs `i < 8` are treated alike: this module
names what is computed of one pair, joins the eight pairs, and says that the pieces stored are these. -/
module

public import proofs.«01_k».proof.Proof.Trip
public import proofs.«01_k».proof.Proof.Gen.ChunkIdeal.Value

@[expose] public section

set_option maxRecDepth 16384

noncomputable section

namespace Cert.ChunkIdeal.Trip

open Cert.ChunkIdeal Cert.ChunkIdeal.Gen Idealize.ShloMosaic Idealize.ShloMosaic.TcCoe Idealize.SL.Sem
open Cert.KernelIdeal.Trip (beside)

variable {F : FTy → Type} [FloatOps F] [Named F]

/-- What is loaded: per head pair, the queries, the key rows in two parts, the last rows of the bias
    band, the value columns in two parts, and the gains. -/
structure Loads (F : FTy → Type) where
  q : Fin 8 → Vec F S64x128 .bf16
  ka : Fin 8 → Vec F S1x384x128 .bf16
  kb : Fin 8 → Vec F S1x192x128 .bf16
  bias : Fin 8 → Vec F S1x192x128 .f32
  va : Fin 8 → Vec F S1x128x384 .bf16
  vb : Fin 8 → Vec F S1x128x192 .bf16
  g : Fin 8 → Vec F S128x64 .f32

/-- The scores of head pair `i`: 576 key rows against the queries of its two heads, side by side. -/
def pair (L : Loads F) (i : Fin 8) : FVec F S576x128 .f32 := k0_pay4 (L.q i) (L.ka i) (L.kb i)

/-- The scores of all eight pairs. -/
def scores (L : Loads F) : FVec F S576x1024 .f32 := beside S576x1024 1 (pair L) (by decide)

/-- The scores with the bias band added to the last 192 key rows. -/
def biased (L : Loads F) : FVec F S576x1024 .f32 :=
  concatenate S576x1024 0
    [⟨S384x1024, extractStridedSlice S384x1024 ![0, 0] (scores L) slices_S576x1024_o0_0_S384x1024⟩,
      ⟨S192x1024, addf (extractStridedSlice S192x1024 ![384, 0] (scores L) slices_S576x1024_o384_0_S192x1024)
        (beside S192x1024 1 (fun i => shapeCast S192x128 (L.bias i) shapeCasts_S1x192x128_S192x128) (by decide))⟩] concatenates_S384x1024_S192x1024_S576x1024_d0

/-- The exponentials of the scores, each column less its maximum. -/
def weights (x : FVec F S576x1024 .f32) : FVec F S576x1024 .f32 :=
  exp2 (subf x (broadcastTo S576x1024
    (shapeCast S1x1024 (multiReduction .maximumf [0] S1024 x 0xFF800000#32 reduces_S576x1024_S1024 (.inl rfl) rfl) shapeCasts_S1024_S1x1024) broadcasts_S1x1024_S576x1024))

/-- The reciprocals of the columns' sums. -/
def recips (e : FVec F S576x1024 .f32) : FVec F S1x1024 .f32 :=
  divf (broadcast S1x1024 (Scalar.ofBits .f32 0x3F800000#32))
    (shapeCast S1x1024 (multiReduction .add [0] S1024 e 0x00000000#32 reduces_S576x1024_S1024 (.inl rfl) rfl) shapeCasts_S1024_S1x1024)

/-- The attention of one head pair: values times weights, times the reciprocals, of the pair's
    columns from `o` on; the first head's channels are kept of its own columns, the second's of its own. -/
def tile (o : Nat) (ha : S576x1024.Slices ![0, o] S384x128) (hb : S576x1024.Slices ![384, o] S192x128)
    (hr : S1x1024.Slices ![0, o] S1x128) (w : FVec F S576x1024 .bf16) (r : FVec F S1x1024 .f32)
    (va : Vec F S1x128x384 .bf16) (vb : Vec F S1x128x192 .bf16) : FVec F S128x64 .f32 :=
  let y := mulf (addf (addf (broadcast S128x128 (Scalar.ofBits .f32 0x00000000#32))
      (matmul dot_S128x384_S384x128_S128x128_1_0_0_1_n_n none (shapeCast S128x384 va shapeCasts_S1x128x384_S128x384) (extractStridedSlice S384x128 ![0, o] w ha)
        (constant S128x128 .f32 0x00000000#32)))
      (matmul dot_S128x192_S192x128_S128x128_1_0_0_1_n_n none (shapeCast S128x192 vb shapeCasts_S1x128x192_S128x192) (extractStridedSlice S192x128 ![384, o] w hb)
        (constant S128x128 .f32 0x00000000#32)))
    (broadcastTo S128x128 (extractStridedSlice S1x128 ![0, o] r hr) broadcasts_S1x128_S128x128)
  concatenate S128x64 0 [⟨S64x64, extractStridedSlice S64x64 ![0, 0] y slices_S128x128_o0_0_S64x64⟩,
    ⟨S64x64, extractStridedSlice S64x64 ![64, 64] y slices_S128x128_o64_64_S64x64⟩] concatenates_S64x64_S64x64_S128x64_d0

theorem slicesA (i : Fin 8) : S576x1024.Slices ![0, 128 * i.val] S384x128 := by revert i; decide
theorem slicesB (i : Fin 8) : S576x1024.Slices ![384, 128 * i.val] S192x128 := by revert i; decide
theorem slicesR (i : Fin 8) : S1x1024.Slices ![0, 128 * i.val] S1x128 := by revert i; decide

/-- The attention of head pair `i`, from the scores `x` as the softmax takes them. -/
def att (x : FVec F S576x1024 .f32) (L : Loads F) (i : Fin 8) : FVec F S128x64 .f32 :=
  tile (128 * i.val) (slicesA i) (slicesB i) (slicesR i) (truncf .bf16 (weights x) bitsLt_bf16_f32) (recips (weights x)) (L.va i) (L.vb i)

/-- The sum of a pair's squares, per query. -/
def sq (y : FVec F S128x64 .f32) : FVec F S1x64 .f32 :=
  shapeCast S1x64 (multiReduction .add [0] S64 (mulf y y) 0x00000000#32 reduces_S128x64_S64 (.inl rfl) rfl) shapeCasts_S64_S1x64

/-- The reciprocal root of the mean square over the eight pairs' channels. -/
def rinv (y : Fin 8 → FVec F S128x64 .f32) : FVec F S1x64 .f32 :=
  rsqrt (addf (divf
    (addf (addf (addf (addf (addf (addf (addf (addf (broadcast S1x64 (Scalar.ofBits .f32 0x00000000#32))
      (sq (y 0))) (sq (y 1))) (sq (y 2))) (sq (y 3))) (sq (y 4))) (sq (y 5))) (sq (y 6))) (sq (y 7)))
    (broadcast S1x64 (Scalar.ofBits .f32 0x44800000#32))) (broadcast S1x64 (Scalar.ofBits .f32 0x358637BD#32)))

/-- What is stored of pair `i`: its attention, normalised, times the gains. -/
def out (x : FVec F S576x1024 .f32) (L : Loads F) (i : Fin 8) : FVec F S1x128x64 .bf16 :=
  shapeCast S1x128x64 (truncf .bf16 (mulf (mulf (att x L i) (broadcastTo S128x64 (rinv (att x L)) broadcasts_S1x64_S128x64))
    (shapeCast S128x64 (L.g i) shapeCasts_S128x64_S128x64)) bitsLt_bf16_f32) shapeCasts_S128x64_S1x128x64

theorem inbQ (i : Fin 8) : ∀ a, (![0, 128 * i.val] : Fin 2 → Nat) a + S64x128.size a ≤ S64x1024.size a := by revert i; decide
theorem inbKa (i : Fin 8) : ∀ a, (![0, 0, 128 * i.val] : Fin 3 → Nat) a + S1x384x128.size a ≤ S1x576x1024.size a := by revert i; decide
theorem inbKb (i : Fin 8) : ∀ a, (![0, 384, 128 * i.val] : Fin 3 → Nat) a + S1x192x128.size a ≤ S1x576x1024.size a := by revert i; decide
theorem inbBias (i : Fin 8) : ∀ a, (![i.val, 384, 0] : Fin 3 → Nat) a + S1x192x128.size a ≤ S8x576x128.size a := by revert i; decide
theorem inbVa (i : Fin 8) : ∀ a, (![0, 128 * i.val, 0] : Fin 3 → Nat) a + S1x128x384.size a ≤ S1x1024x576.size a := by revert i; decide
theorem inbVb (i : Fin 8) : ∀ a, (![0, 128 * i.val, 384] : Fin 3 → Nat) a + S1x128x192.size a ≤ S1x1024x576.size a := by revert i; decide
theorem inbGain (i : Fin 8) : ∀ a, (![128 * i.val, 0] : Fin 2 → Nat) a + S128x64.size a ≤ S1024x128.size a := by revert i; decide

variable (x0 : Vec F S64x1024 .bf16) (x1 : Vec F S1x576x1024 .bf16) (x2 : Vec F S1x1024x576 .bf16) (x3 : Vec F S8x576x128 .f32) (x4 : Vec F S1024x128 .f32)

/-- What a grid point loads of the blocks. -/
def loads : Loads F where
  q i := View.ld x0 (Rect.unit (s := S64x1024) ![0, 128 * i.val] S64x128.size (inbQ i))
  ka i := View.ld x1 (Rect.unit (s := S1x576x1024) ![0, 0, 128 * i.val] S1x384x128.size (inbKa i))
  kb i := View.ld x1 (Rect.unit (s := S1x576x1024) ![0, 384, 128 * i.val] S1x192x128.size (inbKb i))
  bias i := View.ld x3 (Rect.unit (s := S8x576x128) ![i.val, 384, 0] S1x192x128.size (inbBias i))
  va i := View.ld x2 (Rect.unit (s := S1x1024x576) ![0, 128 * i.val, 0] S1x128x384.size (inbVa i))
  vb i := View.ld x2 (Rect.unit (s := S1x1024x576) ![0, 128 * i.val, 384] S1x128x192.size (inbVb i))
  g i := View.ld x4 (Rect.unit (s := S1024x128) ![128 * i.val, 0] S128x64.size (inbGain i))

/-- The scores as the softmax takes them. -/
abbrev taken : FVec F S576x1024 .f32 := biased (loads x0 x1 x2 x3 x4)

/-- The scores of the first 384 key rows. -/
theorem scores_first : k0_pay62 x0 x1 x2 x3 x4
    = extractStridedSlice S384x1024 ![0, 0] (scores (loads x0 x1 x2 x3 x4)) slices_S576x1024_o0_0_S384x1024 := rfl

/-- The scores of the last 192 key rows. -/
theorem scores_last : k0_pay63 x0 x1 x2 x3 x4
    = extractStridedSlice S192x1024 ![384, 0] (scores (loads x0 x1 x2 x3 x4)) slices_S576x1024_o384_0_S192x1024 := rfl

/-- The exponentials. -/
theorem weights_eq : k0_pay68 x0 x1 x2 x3 x4 = truncf .bf16 (weights (taken x0 x1 x2 x3 x4)) bitsLt_bf16_f32 := by
  unfold k0_pay68 taken biased
  rw [scores_first, scores_last]
  rfl

/-- The reciprocals. -/
theorem recips_eq : k0_pay67 x0 x1 x2 x3 x4 = recips (weights (taken x0 x1 x2 x3 x4)) := by
  unfold k0_pay67 taken biased
  rw [scores_first, scores_last]
  rfl

/-- The first steps of the first pair, which read the exponentials before they are rounded as a whole. -/
theorem first_eq : k0_pay27 (k0_pay67 x0 x1 x2 x3 x4) (k0_pay69 x0 x1 x2 x3 x4) (k0_pay70 x0 x1 x2 x3 x4) (k0_pay71 x0 x1 x2 x3 x4) (k0_pay66 x0 x1 x2 x3 x4)
    = tile 0 (slicesA 0) (slicesB 0) (slicesR 0) (k0_pay68 x0 x1 x2 x3 x4) (k0_pay67 x0 x1 x2 x3 x4)
      ((loads x0 x1 x2 x3 x4).va 0) ((loads x0 x1 x2 x3 x4).vb 0) := rfl

set_option maxHeartbeats 2000000 in
/-- The attention of the eight pairs. -/
theorem att_eq : (fun i => ![k0_pay27 (k0_pay67 x0 x1 x2 x3 x4) (k0_pay69 x0 x1 x2 x3 x4) (k0_pay70 x0 x1 x2 x3 x4) (k0_pay71 x0 x1 x2 x3 x4) (k0_pay66 x0 x1 x2 x3 x4),
      k0_pay28 (k0_pay67 x0 x1 x2 x3 x4) (k0_pay68 x0 x1 x2 x3 x4) (View.ld x2 r0_34) (View.ld x2 r0_35),
      k0_pay32 (k0_pay67 x0 x1 x2 x3 x4) (k0_pay68 x0 x1 x2 x3 x4) (k0_pay72 x0 x1 x2 x3 x4) (k0_pay73 x0 x1 x2 x3 x4),
      k0_pay33 (k0_pay67 x0 x1 x2 x3 x4) (k0_pay68 x0 x1 x2 x3 x4) (View.ld x2 r0_38) (View.ld x2 r0_39),
      k0_pay36 (k0_pay67 x0 x1 x2 x3 x4) (k0_pay68 x0 x1 x2 x3 x4) (k0_pay74 x0 x1 x2 x3 x4) (View.ld x2 r0_41),
      k0_pay37 (k0_pay67 x0 x1 x2 x3 x4) (k0_pay68 x0 x1 x2 x3 x4) (View.ld x2 r0_42) (View.ld x2 r0_43),
      k0_pay40 (k0_pay67 x0 x1 x2 x3 x4) (k0_pay68 x0 x1 x2 x3 x4) (k0_pay76 x0 x1 x2 x3 x4) (View.ld x2 r0_45),
      k0_pay41 (k0_pay67 x0 x1 x2 x3 x4) (k0_pay68 x0 x1 x2 x3 x4) (View.ld x2 r0_46) (View.ld x2 r0_47)] i)
    = att (taken x0 x1 x2 x3 x4) (loads x0 x1 x2 x3 x4) := by
  funext i
  unfold att
  rw [← recips_eq, ← weights_eq]
  fin_cases i <;> rfl

/-- The reciprocal root of their mean square. -/
theorem rinv_eq : k0_pay77 x0 x1 x2 x3 x4 = rinv (att (taken x0 x1 x2 x3 x4) (loads x0 x1 x2 x3 x4)) := by
  rw [← att_eq]
  rfl

set_option maxHeartbeats 2000000 in
/-- The eight pieces a grid point stores. -/
theorem pieces : out0_5 x0 x1 x2 x3 x4
    = View.canon [⟨r0_63, out (taken x0 x1 x2 x3 x4) (loads x0 x1 x2 x3 x4) 7⟩,
        ⟨r0_61, out (taken x0 x1 x2 x3 x4) (loads x0 x1 x2 x3 x4) 6⟩,
        ⟨r0_59, out (taken x0 x1 x2 x3 x4) (loads x0 x1 x2 x3 x4) 5⟩,
        ⟨r0_57, out (taken x0 x1 x2 x3 x4) (loads x0 x1 x2 x3 x4) 4⟩,
        ⟨r0_55, out (taken x0 x1 x2 x3 x4) (loads x0 x1 x2 x3 x4) 3⟩,
        ⟨r0_53, out (taken x0 x1 x2 x3 x4) (loads x0 x1 x2 x3 x4) 2⟩,
        ⟨r0_51, out (taken x0 x1 x2 x3 x4) (loads x0 x1 x2 x3 x4) 1⟩,
        ⟨r0_49, out (taken x0 x1 x2 x3 x4) (loads x0 x1 x2 x3 x4) 0⟩] := by
  unfold out0_5 out
  rw [← rinv_eq, ← att_eq]
  rfl

end Cert.ChunkIdeal.Trip

end
-- ==== Proof.ChunkBlock.lean ====
/- What one grid point of the short attention computes, over the extended reals, of the blocks it is given.

The functions at the top say it in terms of one sequence: the queries `x0`, the keys `x1`, the values `x2`, the
bias band `x3`, the gains `x4`. Each of the 64 queries meets all 576 keys. -/
module

public import proofs.«01_k».proof.Proof.ChunkTrip
public import proofs.«01_k».proof.Proof.BlockAtt

@[expose] public section

set_option maxRecDepth 16384

noncomputable section

namespace Cert.ChunkIdeal.Block

open Cert.ChunkIdeal Cert.ChunkIdeal.Gen Cert.ChunkIdeal.Trip Idealize.ShloMosaic Idealize.ShloMosaic.TcCoe Idealize.SL.Sem
open Cert.KernelIdeal.Block (sum_first sum_second)
open Cert.KernelIdeal.Trip (beside)

section Functions

variable (x0 : S64x1024.Idx → EReal) (x1 : S1x576x1024.Idx → EReal) (x2 : S1x1024x576.Idx → EReal)
  (x3 : S8x576x128.Idx → EReal) (x4 : S1024x128.Idx → EReal)

/-- The product of query `r` with key `t`, in the head of channel `n`. -/
def dot (n : Fin 1024) (r : Fin 64) (t : Fin 576) : EReal :=
  ∑ d : Fin 64, x1 (ix3 0 t ⟨64 * (n.val / 64) + d.val, by omega⟩) * x0 (ix2 r ⟨64 * (n.val / 64) + d.val, by omega⟩)

/-- The bias of key `t`: none before 384. -/
def band (n : Fin 1024) (r : Fin 64) (t : Fin 576) : EReal :=
  if 384 ≤ t.val then x3 (ix3 ⟨n.val / 128, by omega⟩ t ⟨64 * (n.val / 64 % 2) + r.val, by omega⟩) else 0

/-- The score of key `t`. -/
def score (n : Fin 1024) (r : Fin 64) (t : Fin 576) : EReal := dot x0 x1 n r t + band x3 n r t

/-- The unnormalised weight of key `t`. -/
def weight (n : Fin 1024) (r : Fin 64) (t : Fin 576) : EReal :=
  Ideal.exp2 (score x0 x1 x3 n r t - Finset.univ.sup (score x0 x1 x3 n r))

/-- The attention of channel `n` at query `r`. -/
def attn (n : Fin 1024) (r : Fin 64) : EReal :=
  (∑ t : Fin 576, x2 (ix3 0 n t) * weight x0 x1 x3 n r t) * Ideal.div 1 (∑ t : Fin 576, weight x0 x1 x3 n r t)

/-- What the block ends holding: the attention over its root mean square, times the gain. -/
def result (n : Fin 1024) (r : Fin 64) : EReal :=
  attn x0 x1 x2 x3 n r
    * Ideal.rsqrt (Ideal.div (∑ n' : Fin 1024, attn x0 x1 x2 x3 n' r * attn x0 x1 x2 x3 n' r)
        (Ideal.ofBits .f32 0x44800000#32) + Ideal.ofBits .f32 0x358637BD#32)
    * x4 (ix2 n ⟨r.val, by omega⟩)

/-- The loads are windows of the blocks. -/
structure Holds (L : Loads Ideal) : Prop where
  q : ∀ i j l, L.q i (ix2 j l) = x0 (ix2 j ⟨128 * i.val + l.val, by omega⟩)
  ka : ∀ i t l, L.ka i (ix3 0 t l) = x1 (ix3 0 ⟨t.val, by omega⟩ ⟨128 * i.val + l.val, by omega⟩)
  kb : ∀ i t l, L.kb i (ix3 0 t l) = x1 (ix3 0 ⟨384 + t.val, by omega⟩ ⟨128 * i.val + l.val, by omega⟩)
  bias : ∀ i t c, L.bias i (ix3 0 t c) = x3 (ix3 i ⟨384 + t.val, by omega⟩ c)
  va : ∀ i n t, L.va i (ix3 0 n t) = x2 (ix3 0 ⟨128 * i.val + n.val, by omega⟩ ⟨t.val, by omega⟩)
  vb : ∀ i n t, L.vb i (ix3 0 n t) = x2 (ix3 0 ⟨128 * i.val + n.val, by omega⟩ ⟨384 + t.val, by omega⟩)
  g : ∀ i n j, L.g i (ix2 n j) = x4 (ix2 ⟨128 * i.val + n.val, by omega⟩ ⟨j.val, by omega⟩)

end Functions

/-! ## The steps read at an index -/

/-- The key entry of row `t`, of either part. -/
def key (L : Loads Ideal) (i : Fin 8) (t : Fin 576) (l : Fin 128) : EReal :=
  if h : t.val < 384 then L.ka i (ix3 0 ⟨t.val, h⟩ l) else L.kb i (ix3 0 ⟨t.val - 384, by omega⟩ l)

/-- The value entry of column `t`, of either part. -/
def val (L : Loads Ideal) (i : Fin 8) (n : Fin 128) (t : Fin 576) : EReal :=
  if h : t.val < 384 then L.va i (ix3 0 n ⟨t.val, h⟩) else L.vb i (ix3 0 n ⟨t.val - 384, by omega⟩)

theorem pair_apply (L : Loads Ideal) (i : Fin 8) (t : Fin 576) (p : Fin 2) (j : Fin 64) :
    pair L i (ix2 t ⟨64 * p.val + j.val, by omega⟩)
      = ∑ d : Fin 64, key L i t ⟨64 * p.val + d.val, by omega⟩ * L.q i (ix2 j ⟨64 * p.val + d.val, by omega⟩) := by
  have h64 : ∀ x : Fin 128, ∀ a b : EReal,
      Scalar.select (IntOp.cmpi .slt (BitVec.ofNat 32 x.val) 64#32) a b = if x.val < 64 then a else b := fun x a b => by
    have hx : IntOp.cmpi .slt (BitVec.ofNat 32 x.val) 64#32 = if x.val < 64 then 1#1 else 0#1 := by revert x; decide
    rw [hx]; split <;> rfl
  have h0 : (((0#32).toInt : ℝ) : EReal) = 0 := by norm_num
  unfold pair k0_pay4 k0_pay2
  pointwise
  simp only [h64, h0]
  have hk : ∀ f : Fin 128 → EReal, (if h : t.val < 384 then ∑ x, L.ka i (ix3 0 ⟨t.val, h⟩ x) * f x
      else ∑ x, L.kb i (ix3 0 ⟨t.val - 384, by omega⟩ x) * f x) = ∑ x, key L i t x * f x := fun f => by
    unfold key
    split <;> rfl
  refine (hk fun x => if h : 64 * p.val + j.val < 64 then (if x.val < 64 then L.q i (ix2 ⟨64 * p.val + j.val, h⟩ x) else 0)
    else if x.val < 64 then 0 else L.q i (ix2 ⟨64 * p.val + j.val - 64, by omega⟩ x)).trans ?_
  fin_cases p
  · refine (Finset.sum_congr rfl fun x _ => ?_).trans ((sum_first (key L i t) (fun x => L.q i (ix2 j x))).trans ?_)
    · dsimp only
      rw [dif_pos (by simp)]
      simp
    · simp
  · refine (Finset.sum_congr rfl fun x _ => ?_).trans ((sum_second (key L i t) (fun x => L.q i (ix2 j x))).trans ?_)
    · dsimp only
      rw [dif_neg (by simp)]
      simp
    · simp

theorem beside_apply {n : Nat} (x : Fin 8 → FVec Ideal ⟨2, ![n, 128]⟩ .f32) (h) (t : Fin n) (i : Fin 8) (c : Fin 128) :
    beside ⟨2, ![n, 1024]⟩ 1 x h (ix2 t ⟨128 * i.val + c.val, by omega⟩) = x i (ix2 t c) := by
  unfold beside
  fin_cases i <;> pointwise
  all_goals
    repeat (first | rw [dif_pos (by omega)] | rw [dif_neg (by omega)])
    refine congrArg _ (funext fun a => Fin.ext ?_)
    fin_cases a <;> simp [Shape.Idx.norm]
  all_goals omega

theorem biased_apply (L : Loads Ideal) (t : Fin 576) (i : Fin 8) (c : Fin 128) :
    biased L (ix2 t ⟨128 * i.val + c.val, by omega⟩) = pair L i (ix2 t c)
      + (if h' : 384 ≤ t.val then L.bias i (ix3 0 ⟨t.val - 384, by omega⟩ c) else 0) := by
  have hs : ∀ t' : Fin 576, scores L (ix2 t' ⟨128 * i.val + c.val, by omega⟩) = pair L i (ix2 t' c) := fun t' => by
    unfold scores
    exact beside_apply _ _ t' i c
  unfold biased
  pointwise
  split
  · rw [hs, dif_neg (by omega), add_zero]
  · rw [hs, beside_apply, dif_pos (by omega)]
    pointwise
    congr 3
    all_goals (apply Fin.ext; dsimp only; omega)

theorem weights_apply (x : FVec Ideal S576x1024 .f32) (t : Fin 576) (c : Fin 1024) :
    weights x (ix2 t c) = Ideal.exp2 (x (ix2 t c) - Finset.univ.sup (fun t' => x (ix2 t' c))) := by
  unfold weights
  pointwise
  rfl

theorem recips_apply (x : FVec Ideal S576x1024 .f32) (c : Fin 1024) :
    recips x (ix2 0 c) = Ideal.div 1 (∑ t, x (ix2 t c)) := by
  unfold recips
  pointwise

theorem att_apply (x : FVec Ideal S576x1024 .f32) (L : Loads Ideal) (i : Fin 8) (n : Fin 128) (j : Fin 64) :
    att x L i (ix2 n j)
      = (∑ t : Fin 576, val L i n t * weights x (ix2 t ⟨128 * i.val + (64 * (n.val / 64) + j.val), by omega⟩))
        * recips (weights x) (ix2 0 ⟨128 * i.val + (64 * (n.val / 64) + j.val), by omega⟩) := by
  rw [show (∑ t : Fin 576, val L i n t * weights x (ix2 t ⟨128 * i.val + (64 * (n.val / 64) + j.val), by omega⟩))
      = ∑ t : Fin (384 + 192), val L i n t * weights x (ix2 t ⟨128 * i.val + (64 * (n.val / 64) + j.val), by omega⟩) from rfl,
    Fin.sum_univ_add]
  unfold att tile
  pointwise
  have hv : ∀ (a : Fin 384), val L i n (Fin.castAdd 192 a) = L.va i (ix3 0 n a) := fun a => by
    simp [val]
  have hv' : ∀ (a : Fin 192), val L i n (Fin.natAdd 384 a) = L.vb i (ix3 0 n a) := fun a => by
    simp [val]
  split
  · rename_i h
    have ec : (⟨128 * i.val + (64 * (n.val / 64) + j.val), by omega⟩ : Fin 1024) = ⟨128 * i.val + j.val, by omega⟩ :=
      Fin.ext (by dsimp only; omega)
    simp only [hv, hv', ec]
    rfl
  · rename_i h
    have ec : (⟨128 * i.val + (64 * (n.val / 64) + j.val), by omega⟩ : Fin 1024) = ⟨128 * i.val + (64 + j.val), by omega⟩ :=
      Fin.ext (by dsimp only; omega)
    have en : (⟨64 + (n.val - 64), by omega⟩ : Fin 128) = n := Fin.ext (by dsimp only; omega)
    simp only [hv, hv', ec, en]
    rfl

theorem sq_apply (y : FVec Ideal S128x64 .f32) (j : Fin 64) : Trip.sq y (ix2 0 j) = ∑ n : Fin 128, y (ix2 n j) * y (ix2 n j) := by
  unfold Trip.sq
  pointwise

theorem rinv_apply (y : Fin 8 → FVec Ideal S128x64 .f32) (j : Fin 64) :
    rinv y (ix2 0 j) = Ideal.rsqrt (Ideal.div (∑ i : Fin 8, ∑ n : Fin 128, y i (ix2 n j) * y i (ix2 n j))
        (Ideal.ofBits .f32 0x44800000#32) + Ideal.ofBits .f32 0x358637BD#32) := by
  unfold rinv
  pointwise
  simp only [sq_apply, Fin.sum_univ_eight]

theorem out_apply (x : FVec Ideal S576x1024 .f32) (L : Loads Ideal) (i : Fin 8) (n : Fin 128) (j : Fin 64) :
    out x L i (ix3 0 n j) = att x L i (ix2 n j) * rinv (att x L) (ix2 0 j) * L.g i (ix2 n j) := by
  unfold out
  pointwise

/-! ## The grid point in terms of the blocks -/

section Block

variable {x0 : S64x1024.Idx → EReal} {x1 : S1x576x1024.Idx → EReal} {x2 : S1x1024x576.Idx → EReal}
  {x3 : S8x576x128.Idx → EReal} {x4 : S1024x128.Idx → EReal} {L : Loads Ideal}

/-- The channel's column of the score matrix holds the channel's scores. -/
theorem biased_eq (H : Holds x0 x1 x2 x3 x4 L) (i : Fin 8) (n : Fin 128) (j : Fin 64) (t : Fin 576) :
    biased L (ix2 t ⟨128 * i.val + (64 * (n.val / 64) + j.val), by omega⟩)
      = score x0 x1 x3 ⟨128 * i.val + n.val, by omega⟩ j t := by
  have hb := biased_apply L t i ⟨64 * (n.val / 64) + j.val, by omega⟩
  have hp := pair_apply L i t ⟨n.val / 64, by omega⟩ j
  dsimp only at hb hp
  rw [hb, hp]
  have e2 : (128 * i.val + n.val) / 128 = i.val := by omega
  have e3 : (128 * i.val + n.val) / 64 % 2 = n.val / 64 := by omega
  unfold score
  congr 1
  · unfold dot
    refine Finset.sum_congr rfl fun d _ => ?_
    congr 1
    · unfold key
      split
      · rw [H.ka]
        congr 2
        all_goals (apply Fin.ext; dsimp only; omega)
      · rw [H.kb]
        congr 2
        all_goals (apply Fin.ext; dsimp only; omega)
    · rw [H.q]
      congr 2
      apply Fin.ext; dsimp only; omega
  · unfold band
    split
    · rw [H.bias]
      congr 2
      all_goals (apply Fin.ext; dsimp only; omega)
    · rfl

/-- The value entries are the block's. -/
theorem val_eq (H : Holds x0 x1 x2 x3 x4 L) (i : Fin 8) (n : Fin 128) (t : Fin 576) :
    val L i n t = x2 (ix3 0 ⟨128 * i.val + n.val, by omega⟩ t) := by
  unfold val
  split
  · rw [H.va]
  · rw [H.vb]
    congr 2; apply Fin.ext; dsimp only; omega

/-- A channel's attention is the block's. -/
theorem att_eq (H : Holds x0 x1 x2 x3 x4 L) (i : Fin 8) (n : Fin 128) (j : Fin 64) :
    att (biased L) L i (ix2 n j) = attn x0 x1 x2 x3 ⟨128 * i.val + n.val, by omega⟩ j := by
  have hw : ∀ t, weights (biased L) (ix2 t ⟨128 * i.val + (64 * (n.val / 64) + j.val), by omega⟩)
      = weight x0 x1 x3 ⟨128 * i.val + n.val, by omega⟩ j t := fun t => by
    rw [weights_apply]
    simp only [biased_eq H]
    rfl
  rw [att_apply, recips_apply]
  unfold attn
  simp only [hw, val_eq H]

/-- The root mean square over the eight pairs' channels is the one over the block's. -/
theorem rinv_eq (H : Holds x0 x1 x2 x3 x4 L) (j : Fin 64) :
    rinv (att (biased L) L) (ix2 0 j) = Ideal.rsqrt (Ideal.div (∑ n' : Fin 1024, attn x0 x1 x2 x3 n' j * attn x0 x1 x2 x3 n' j)
        (Ideal.ofBits .f32 0x44800000#32) + Ideal.ofBits .f32 0x358637BD#32) := by
  rw [rinv_apply]
  simp only [att_eq H]
  congr 3
  rw [← Fintype.sum_prod_type' (f := fun (i : Fin 8) (n : Fin 128) => attn x0 x1 x2 x3 ⟨128 * i.val + n.val, by omega⟩ j
    * attn x0 x1 x2 x3 ⟨128 * i.val + n.val, by omega⟩ j)]
  refine Fintype.sum_equiv (finProdFinEquiv (m := 8) (n := 128)) _ _ fun p => ?_
  have : (⟨128 * p.1.val + p.2.val, by omega⟩ : Fin 1024) = finProdFinEquiv p := Fin.ext (by simp [finProdFinEquiv]; omega)
  simp only [this]

/-- What is stored is the block's result. -/
theorem out_eq (H : Holds x0 x1 x2 x3 x4 L) (i : Fin 8) (n : Fin 128) (j : Fin 64) :
    out (biased L) L i (ix3 0 n j) = result x0 x1 x2 x3 x4 ⟨128 * i.val + n.val, by omega⟩ j := by
  rw [out_apply, att_eq H, rinv_eq H, H.g]
  rfl

end Block

/-- The loads of a grid point are windows of its blocks. -/
theorem holds (x0 : Vec Ideal S64x1024 .bf16) (x1 : Vec Ideal S1x576x1024 .bf16) (x2 : Vec Ideal S1x1024x576 .bf16)
    (x3 : Vec Ideal S8x576x128 .f32) (x4 : Vec Ideal S1024x128 .f32) : Holds x0 x1 x2 x3 x4 (loads x0 x1 x2 x3 x4) where
  q i j l := congrArg x0 (funext fun a => Fin.ext (by
    match a with
    | ⟨0, _⟩ => show 0 + 1 * j.val = j.val; omega
    | ⟨1, _⟩ => show 128 * i.val + 1 * l.val = 128 * i.val + l.val; omega))
  ka i t l := congrArg x1 (funext fun a => Fin.ext (by
    match a with
    | ⟨0, _⟩ => rfl
    | ⟨1, _⟩ => show 0 + 1 * t.val = t.val; omega
    | ⟨2, _⟩ => show 128 * i.val + 1 * l.val = 128 * i.val + l.val; omega))
  kb i t l := congrArg x1 (funext fun a => Fin.ext (by
    match a with
    | ⟨0, _⟩ => rfl
    | ⟨1, _⟩ => show 384 + 1 * t.val = 384 + t.val; omega
    | ⟨2, _⟩ => show 128 * i.val + 1 * l.val = 128 * i.val + l.val; omega))
  bias i t c := congrArg x3 (funext fun a => Fin.ext (by
    match a with
    | ⟨0, _⟩ => show i.val + 1 * 0 = i.val; omega
    | ⟨1, _⟩ => show 384 + 1 * t.val = 384 + t.val; omega
    | ⟨2, _⟩ => show 0 + 1 * c.val = c.val; omega))
  va i n t := congrArg x2 (funext fun a => Fin.ext (by
    match a with
    | ⟨0, _⟩ => rfl
    | ⟨1, _⟩ => show 128 * i.val + 1 * n.val = 128 * i.val + n.val; omega
    | ⟨2, _⟩ => show 0 + 1 * t.val = t.val; omega))
  vb i n t := congrArg x2 (funext fun a => Fin.ext (by
    match a with
    | ⟨0, _⟩ => rfl
    | ⟨1, _⟩ => show 128 * i.val + 1 * n.val = 128 * i.val + n.val; omega
    | ⟨2, _⟩ => show 384 + 1 * t.val = 384 + t.val; omega))
  g i n j := congrArg x4 (funext fun a => Fin.ext (by
    match a with
    | ⟨0, _⟩ => show 128 * i.val + 1 * n.val = 128 * i.val + n.val; omega
    | ⟨1, _⟩ => show 0 + 1 * j.val = j.val; omega))

end Cert.ChunkIdeal.Block

end
-- ==== Proof.ChunkTable.lean ====
/- The bias band and the gains as the host code hands them to the kernel of the short call.

The rows of the extended biases are those of the long call (see BiasTable); they are turned into columns and two heads
are laid side by side, with no padding before or after. -/
module

public import proofs.«01_k».proof.Proof.BandEntries
public import proofs.«01_k».proof.Proof.Gen.ChunkIdeal.Value

@[expose] public section

set_option maxRecDepth 16384

noncomputable section

namespace Cert.ChunkIdeal.Table

open Cert.ChunkIdeal Cert.ChunkIdeal.Gen Idealize.ShloMosaic Idealize.ShloMosaic.TcCoe Idealize.SL.Sem
open Cert.KernelIdeal.Table (ext rows scaled entry unit2 after_append ext_apply rows_apply scaled_apply)

/-- The columns of the chunk, two heads side by side. -/
def both (w : FVec Ideal S16x576x64 .f32) : FVec Ideal S8x576x128 .f32 :=
  shapeCast S8x576x128 (transpose S8x576x2x64 [0, 2, 1, 3] (shapeCast S8x2x576x64
    (broadcastInDim S16x576x1x64 ![0, 1, 3] bcast_S16x576x64_S16x576x1x64_0_1_3
      (pad S16x576x64 ![0, 0, 0] ![0, 0, 0] ![0, 0, 0] w (constant S_ .f32 0xFF800000#32) pads_S16x576x64_S16x576x64_000_000_000 h_S_))
    shapeCasts_S16x576x1x64_S8x2x576x64) transposes_S8x2x576x64_S8x576x2x64_0_2_1_3) shapeCasts_S8x576x2x64_S8x576x128

/-- The bias band of the relative biases `x`. -/
def band (x : FVec Ideal S1x16x257 .f32) : FVec Ideal S8x576x128 .f32 := both (scaled (rows (ext x)))

/-- The gain of each channel, along 128 lanes. -/
def gain (x : FVec Ideal S1x1024 .f32) : FVec Ideal S1024x128 .f32 :=
  broadcastInDim S1024x128 ![0, 1] bcast_S1024x1_S1024x128_0_1 (broadcastInDim S1024x1 ![0] bcast_S1024_S1024x1_0
    (shapeCast S1024 x shapeCasts_S1x1024_S1024))

variable (m : (ℓ : Loc nD τ sig) → Buf (Elt Ideal) ℓ) (c : Dev nD)

/-- The gains the kernel finds. -/
theorem gain_read : V m c main_v2 = gain (m ((c : Thread nD τ).loc main_arg4)) := by
  entry_read
  rfl

open Idealize.ShloMosaic.StableHlo in
/-- The first host operations leave the extended biases. -/
theorem stageA (σ : Valuation τ sig (Elt Ideal)) :
    after ((hostOps0 (F := Ideal)).take 11) σ (Proc.devRef .tc main_v10) = ext (σ (Proc.devRef .tc main_arg3)) := by
  simp only [hostOps0, List.take_succ_cons, List.take_zero]
  after_results_simp
  rfl

set_option maxHeartbeats 2000000 in
open Idealize.ShloMosaic.StableHlo in
/-- The next ones leave the rows of the extended biases. -/
theorem stageB (σ : Valuation τ sig (Elt Ideal)) :
    after (((hostOps0 (F := Ideal)).drop 11).take 133) σ (Proc.devRef .tc main_v143) = rows (σ (Proc.devRef .tc main_v10)) := by
  simp only [hostOps0, List.take_succ_cons, List.take_zero, List.drop_succ_cons, List.drop_zero]
  after_results_simp
  rfl

open Idealize.ShloMosaic.StableHlo in
/-- The last ones leave the band of the rows. -/
theorem stageC (σ : Valuation τ sig (Elt Ideal)) :
    after ((hostOps0 (F := Ideal)).drop 144 ++ (hostOps0_1 ++ hostOps0_2)) σ (Proc.devRef .tc main_v156)
      = both (scaled (σ (Proc.devRef .tc main_v143))) := by
  simp only [hostOps0, hostOps0_1, hostOps0_2, List.drop_succ_cons, List.drop_zero, List.cons_append, List.nil_append, TRef.unary, TRef.binary, TRef.toBuf, TRef.ofBuf, cast_eq]
  after_results_simp
  rfl

/-- Operations in two lines, one after the other. -/
theorem after_both (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The band the kernel finds. -/
theorem band_read : V m c main_v156 = band (m ((c : Thread nD τ).loc main_arg3)) := by
  have h0 : (hostOps0 (F := Ideal)) = hostOps0.take 11 ++ ((hostOps0.drop 11).take 133 ++ hostOps0.drop 144) := rfl
  have h : List.flatten [hostOps0 (F := Ideal), hostOps0_1, hostOps0_2]
      = hostOps0.take 11 ++ ((hostOps0.drop 11).take 133 ++ (hostOps0.drop 144 ++ (hostOps0_1 ++ hostOps0_2))) := by
    rw [List.flatten_cons]
    conv_lhs => rw [h0]
    simp only [List.flatten_cons, List.flatten_nil, List.append_nil, List.append_assoc]
  show StableHlo.after _ _ (Proc.devRef .tc main_v156) = _
  rw [h, after_both, after_both, stageC, stageB, stageA]
  rfl

theorem both_apply (w : FVec Ideal S16x576x64 .f32) (i : Fin 8) (t : Fin 576) (p : Fin 2) (j : Fin 64) :
    both w (ix3 i t ⟨64 * p.val + j.val, by omega⟩) = w (ix3 ⟨2 * i.val + p.val, by omega⟩ t j) := by
  have hi : (⟨i.val * 2 + p.val, by omega⟩ : Fin 16) = ⟨2 * i.val + p.val, by omega⟩ := Fin.ext (by dsimp only; omega)
  unfold both
  pointwise
  rw [dif_pos (by omega), hi]

theorem gain_apply (x : FVec Ideal S1x1024 .f32) (n : Fin 1024) (j : Fin 128) : gain x (ix2 n j) = x (ix2 0 n) := by
  unfold gain
  pointwise

/-- The bias of query `j` at key `t`: the relative bias of its distance less the first bias, in units of log 2. -/
theorem band_apply (x : FVec Ideal S1x16x257 .f32) (i : Fin 8) (t : Fin 576) (p : Fin 2) (j : Fin 64) :
    band x (ix3 i t ⟨64 * p.val + j.val, by omega⟩)
      = (entry x ⟨2 * i.val + p.val, by omega⟩ (63 - j.val + t.val) - x (ix3 0 ⟨2 * i.val + p.val, by omega⟩ 0)) * unit2 := by
  unfold band
  rw [both_apply, scaled_apply, rows_apply, rows_apply, ext_apply, ext_apply]
  congr 2

end Cert.ChunkIdeal.Table

end
-- ==== Proof.ChunkValue.lean ====
/- The result array of the short attention, entry by entry, from the arguments. -/
module

public import proofs.«01_k».proof.Proof.ChunkBlock
public import proofs.«01_k».proof.Proof.ChunkTable
public import Idealize.ShloMosaic.Lib.Pipeline.ValueKit
public import Idealize.ShloMosaic.Lib.Pipeline.ValueKit.Geometry

@[expose] public section

set_option maxRecDepth 16384

noncomputable section

namespace Cert.ChunkIdeal.Array

open Cert.ChunkIdeal Cert.ChunkIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The queries of sequence `b`. -/
def queries (a : FVec Ideal S1024x1024 .bf16) (b : Nat) (hb : b < 16) : FVec Ideal S64x1024 .bf16 :=
  fun y => a (ix2 ⟨b * 64 + (y 0).val, by have := (y 0).isLt; simp at this; omega⟩ (y 1))

/-- The keys of sequence `b`. -/
def keys (a : FVec Ideal S16x576x1024 .bf16) (b : Nat) (hb : b < 16) : FVec Ideal S1x576x1024 .bf16 :=
  fun y => a (ix3 ⟨b, hb⟩ (y 1) (y 2))

/-- The values of sequence `b`, channels first. -/
def values (a : FVec Ideal S16x1024x576 .bf16) (b : Nat) (hb : b < 16) : FVec Ideal S1x1024x576 .bf16 :=
  fun y => a (ix3 ⟨b, hb⟩ (y 1) (y 2))

theorem point_lt (t : Fin cfg0.N) : t.val < 16 := by have := t.isLt; have h : cfg0.N = 16 := N_0; omega

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 ∧ win0_1.index t 2 = 0 :=
  (by decide +kernel : ∀ t : Fin grid0.N, _)
theorem index2 : ∀ t : Fin cfg0.N, win0_2.index t 0 = t.val ∧ win0_2.index t 1 = 0 ∧ win0_2.index t 2 = 0 :=
  (by decide +kernel : ∀ t : Fin grid0.N, _)
theorem index3 : ∀ t : Fin cfg0.N, win0_3.index t 0 = 0 ∧ win0_3.index t 1 = 0 ∧ win0_3.index t 2 = 0 :=
  (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = t.val ∧ win0_5.index t 1 = 0 ∧ win0_5.index t 2 = 0 :=
  (by decide +kernel : ∀ t : Fin grid0.N, _)

theorem block0 (t : Fin cfg0.N) : iblk m c 0 t = queries (m ((c : Thread nD τ).loc main_arg0)) t.val (point_lt t) := by
  funext y
  obtain ⟨e0, e1⟩ := index0 t
  blk_simp [iblk, V_main_arg0]
  refine congrArg _ (funext fun a => Fin.ext ?_)
  match a with
  | ⟨0, _⟩ => blk_simp [e0]; rfl
  | ⟨1, _⟩ => blk_simp [e1]; rfl

theorem block1 (t : Fin cfg0.N) : iblk m c 1 t = keys (m ((c : Thread nD τ).loc main_arg1)) t.val (point_lt t) := by
  funext y
  obtain ⟨e0, e1, e2⟩ := index1 t
  blk_simp [iblk, V_main_arg1]
  refine congrArg _ (funext fun a => Fin.ext ?_)
  match a with
  | ⟨0, _⟩ => blk_simp [e0]
  | ⟨1, _⟩ => blk_simp [e1]; rfl
  | ⟨2, _⟩ => blk_simp [e2]; rfl

theorem block2 (t : Fin cfg0.N) : iblk m c 2 t = values (m ((c : Thread nD τ).loc main_arg2)) t.val (point_lt t) := by
  funext y
  obtain ⟨e0, e1, e2⟩ := index2 t
  blk_simp [iblk, V_main_arg2]
  refine congrArg _ (funext fun a => Fin.ext ?_)
  match a with
  | ⟨0, _⟩ => blk_simp [e0]
  | ⟨1, _⟩ => blk_simp [e1]; rfl
  | ⟨2, _⟩ => blk_simp [e2]; rfl

theorem block3 (t : Fin cfg0.N) : iblk m c 3 t = Table.band (m ((c : Thread nD τ).loc main_arg3)) := by
  rw [← Table.band_read]
  funext y
  obtain ⟨e0, e1, e2⟩ := index3 t
  blk_simp [iblk]
  refine congrArg _ (funext fun a => Fin.ext ?_)
  match a with
  | ⟨0, _⟩ => blk_simp [e0]
  | ⟨1, _⟩ => blk_simp [e1]
  | ⟨2, _⟩ => blk_simp [e2]

theorem block4 (t : Fin cfg0.N) : iblk m c 4 t = Table.gain (m ((c : Thread nD τ).loc main_arg4)) := by
  rw [← Table.gain_read]
  funext y
  obtain ⟨e0, e1⟩ := index4 t
  blk_simp [iblk]
  refine congrArg _ (funext fun a => Fin.ext ?_)
  match a with
  | ⟨0, _⟩ => blk_simp [e0]
  | ⟨1, _⟩ => blk_simp [e1]

section Whole

variable (a0 : FVec Ideal S1024x1024 .bf16) (a1 : FVec Ideal S16x576x1024 .bf16) (a2 : FVec Ideal S16x1024x576 .bf16) (a3 : FVec Ideal S1x16x257 .f32)
  (a4 : FVec Ideal S1x1024 .f32)

/-- The attention of the arguments: what the result array ends with. -/
def whole : FVec Ideal S16x1024x64 .bf16 := fun i =>
  Block.result (queries a0 (i 0).val (i 0).isLt) (keys a1 (i 0).val (i 0).isLt) (values a2 (i 0).val (i 0).isLt) (Table.band a3) (Table.gain a4) (i 1) (i 2)

theorem whole_at (i : S16x1024x64.Idx) (b : Nat) (hb : b < 16) (n : Fin 1024) (r : Fin 64) (h0 : (i 0).val = b) (h1 : (i 1).val = n.val) (h2 : (i 2).val = r.val) :
    whole a0 a1 a2 a3 a4 i = Block.result (queries a0 b hb) (keys a1 b hb) (values a2 b hb) (Table.band a3) (Table.gain a4) n r := by
  obtain rfl : i 1 = n := Fin.ext h1
  obtain rfl : i 2 = r := Fin.ext h2
  subst h0
  rfl

end Whole

/-- An index into a piece. -/
theorem eq_ix3 (x : S1x128x64.Idx) : x = ix3 0 (x 1) (x 2) := by
  funext a
  match a with
  | ⟨0, _⟩ => exact Subsingleton.elim (α := Fin 1) _ _
  | ⟨1, _⟩ => rfl
  | ⟨2, _⟩ => rfl

/-- An entry of a piece is an entry of the attention. -/
theorem piece_eq (x0 : Vec Ideal S64x1024 .bf16) (x1 : Vec Ideal S1x576x1024 .bf16) (x2 : Vec Ideal S1x1024x576 .bf16) (x3 : Vec Ideal S8x576x128 .f32)
    (x4 : Vec Ideal S1024x128 .f32) (k : Fin 8) (x : S1x128x64.Idx) (n : Fin 1024) (r : Fin 64) (hn : n.val = 128 * k.val + (x 1).val) (hr : r.val = (x 2).val) :
    Trip.out (Trip.taken x0 x1 x2 x3 x4) (Trip.loads x0 x1 x2 x3 x4) k x = Block.result x0 x1 x2 x3 x4 n r := by
  have hlt : 128 * k.val + (x 1).val < 1024 := by rw [← hn]; exact n.isLt
  obtain rfl : n = ⟨128 * k.val + (x 1).val, hlt⟩ := Fin.ext hn
  obtain rfl : r = x 2 := Fin.ext hr
  exact (congrArg _ (eq_ix3 x)).trans (Block.out_eq (Block.holds x0 x1 x2 x3 x4) k (x 1) (x 2))

set_option maxHeartbeats 4000000 in
/-- What a grid point leaves in the output's buffer. -/
theorem out_block (x0 : Vec Ideal S64x1024 .bf16) (x1 : Vec Ideal S1x576x1024 .bf16) (x2 : Vec Ideal S1x1024x576 .bf16) (x3 : Vec Ideal S8x576x128 .f32)
    (x4 : Vec Ideal S1024x128 .f32) (y : S1x1024x64.Idx) : out0_5 x0 x1 x2 x3 x4 y = Block.result x0 x1 x2 x3 x4 (y 1) (y 2) := by
  rw [Trip.pieces]
  canon_tiles x h
  · exact piece_eq x0 x1 x2 x3 x4 7 x _ _ (by omega) (by omega)
  · exact piece_eq x0 x1 x2 x3 x4 6 x _ _ (by omega) (by omega)
  · exact piece_eq x0 x1 x2 x3 x4 5 x _ _ (by omega) (by omega)
  · exact piece_eq x0 x1 x2 x3 x4 4 x _ _ (by omega) (by omega)
  · exact piece_eq x0 x1 x2 x3 x4 3 x _ _ (by omega) (by omega)
  · exact piece_eq x0 x1 x2 x3 x4 2 x _ _ (by omega) (by omega)
  · exact piece_eq x0 x1 x2 x3 x4 1 x _ _ (by omega) (by omega)
  · exact piece_eq x0 x1 x2 x3 x4 0 x _ _ (by omega) (by omega)

/-- The result array after the run is the attention of the arguments. -/
theorem final : (dats m 0 c).arrAt 5 cfg0.N
    = whole (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨e0, e1, e2⟩ := index5 t
  have h0 : ((win0_5.blk t).view.emb y 0).val = t.val := by blk_simp [e0]
  have h1 : ((win0_5.blk t).view.emb y 1).val = (y 1).val := by blk_simp [e1]
  have h2 : ((win0_5.blk t).view.emb y 2).val = (y 2).val := by blk_simp [e2]
  blk_simp
  rw [after0_5, block0, block1, block2, block3, block4, out_block]
  exact (whole_at _ _ _ _ _ _ _ (point_lt t) _ _ h0 h1 h2).symm

end Cert.ChunkIdeal.Array

end
-- ==== Proof.ChunkRef.lean ====
/- What the reference of the short attention computes, entry by entry. -/
module

public import proofs.«01_k».proof.Proof.Gen.ChunkRefIdeal.Read
public import Idealize.ShloMosaic.Lib.Pointwise

@[expose] public section

set_option maxRecDepth 16384

noncomputable section

namespace Cert.ChunkRefIdeal.Att

open Cert.ChunkRefIdeal Cert.ChunkRefIdeal.Gen Cert.ChunkRefIdeal.Read Idealize.ShloMosaic Idealize.ShloMosaic.TcCoe Idealize.SL.Sem

variable (x0 : FVec Ideal S1024x1024 .bf16) (x1 : FVec Ideal S16x576x1024 .bf16) (x2 : FVec Ideal S16x1024x576 .bf16) (x3 : FVec Ideal S1x16x257 .f32) (x4 : FVec Ideal S1x1024 .f32)

theorem query (b : Fin 16) (r : Fin 64) (h : Fin 16) (d : Fin 64) :
    val_main_v1 (F := Ideal) x0 (ix4 b r h d) = x0 (ix2 ⟨b.val * 64 + r.val, by omega⟩ ⟨h.val * 64 + d.val, by omega⟩) := by
  unfold val_main_v1 val_main_v0
  pointwise

theorem key (b : Fin 16) (t : Fin 576) (h : Fin 16) (d : Fin 64) :
    val_main_v3 (F := Ideal) x1 (ix4 b t h d) = x1 (ix3 b t ⟨h.val * 64 + d.val, by omega⟩) := by
  unfold val_main_v3 val_main_v2
  pointwise

theorem value (b : Fin 16) (t : Fin 576) (h : Fin 16) (d : Fin 64) :
    val_main_v6 (F := Ideal) x2 (ix4 b t h d) = x2 (ix3 b ⟨h.val * 64 + d.val, by omega⟩ t) := by
  unfold val_main_v6 val_main_v5 val_main_v4
  pointwise

/-- The distance of two positions, clipped: over every difference of a key's and a query's position. -/
theorem clipped : ∀ e : Fin 640, Scalar.select (IntOp.cmpi .slt (IntOp.addi (IntOp.minsi 128#32 (IntOp.maxsi 4294967168#32 (BitVec.ofNat 32 e.val - 575#32))) 128#32) 0#32)
    (IntOp.addi (IntOp.addi (IntOp.minsi 128#32 (IntOp.maxsi 4294967168#32 (BitVec.ofNat 32 e.val - 575#32))) 128#32) 257#32)
    (IntOp.addi (IntOp.minsi 128#32 (IntOp.maxsi 4294967168#32 (BitVec.ofNat 32 e.val - 575#32))) 128#32)
    = BitVec.ofNat 32 (e.val - 447) := by decide +kernel

theorem distance (r : Fin 64) (t : Fin 576) : IntOp.subi (IntOp.subi (BitVec.ofNat 32 t.val) 512#32) (BitVec.ofNat 32 r.val)
    = BitVec.ofNat 32 (t.val + 63 - r.val) - 575#32 := by
  apply BitVec.eq_of_toNat_eq
  show (BitVec.ofNat 32 t.val - 512#32 - BitVec.ofNat 32 r.val).toNat = _
  simp only [BitVec.toNat_sub, BitVec.toNat_ofNat]
  omega

theorem position (r : Fin 64) (t : Fin 576) : val_main_v24 (F := Ideal) (ix2 r t) = BitVec.ofNat 32 (t.val - 384 - r.val) := by
  have hid : ∀ w : BitVec 32, id (constantI S_ 32 w) ix0 = w := fun _ => rfl
  unfold val_main_v24 val_main_v23 val_main_v22 val_main_c_4 val_main_v21 val_main_v20 val_main_c_3 val_main_v18 val_main_v17 val_main_c_2 val_main_v16 val_main_call0_v4 val_main_call0_v3 val_main_call0_v2 val_main_call0_v1 val_main_call0_v0 val_main_c_1 val_main_c_0 val_main_v15 val_main_v14 val_main_v13 val_main_v12 val_main_v11 val_main_v10 val_main_v9 val_main_c val_main_v8 val_main_v7
  pointwise
  rw [hid, hid, distance, clipped ⟨t.val + 63 - r.val, by omega⟩]
  congr 1
  dsimp only
  omega

theorem dots (b h : Fin 16) (r : Fin 64) (t : Fin 576) : val_main_v27 (F := Ideal) x0 x1 (ix4 b h r t)
    = ∑ d : Fin 64, val_main_v1 (F := Ideal) x0 (ix4 b r h d) * val_main_v3 (F := Ideal) x1 (ix4 b t h d) := by
  unfold val_main_v27
  generalize val_main_v1 (F := Ideal) x0 = a
  generalize val_main_v3 (F := Ideal) x1 = z
  pointwise

theorem narrow : ∀ n : Fin 257, (BitVec.ofNat 32 n.val).toInt.toNat = n.val := by decide +kernel

/-- The bias of a query and a key: the entry of their clipped distance. -/
theorem bias (h : Fin 16) (r : Fin 64) (t : Fin 576) : val_main_v26 (F := Ideal) x3 (ix3 h r t) = x3 (ix3 0 h ⟨t.val - 384 - r.val, by omega⟩) := by
  have hx : ∀ j : Fin 257, val_main_v19 (F := Ideal) x3 (ix2 h j) = x3 (ix3 0 h j) := fun j => by
    unfold val_main_v19
    pointwise
  have hp : val_main_v25 (F := Ideal) (ix3 r t 0) = BitVec.ofNat 32 (t.val - 384 - r.val) := by
    rw [← position]
    unfold val_main_v25
    generalize val_main_v24 (F := Ideal) = a
    pointwise
  rw [← hx]
  unfold val_main_v26 Host.gather
  generalize hd : gather_S16x257_S64x576x1_S16x64x576_0_1_n_n_1_2_161 = d
  refine congrArg _ (funext fun a => Fin.ext ?_)
  show d.start _ _ a + d.batchCoord _ a + d.offCoord _ a = _
  have hb : d.batchCoord (ix3 h r t) a = 0 := GatherDims.batchCoord_eq_zero _ _ _ (by subst hd; exact List.not_mem_nil)
  rw [hb]
  match a with
  | ⟨0, _⟩ =>
    have hst : d.start (ix3 h r t) (val_main_v25 (F := Ideal)) 0 = 0 := by
      unfold GatherDims.start
      exact dif_neg (by subst hd; exact fun e => absurd (List.mem_singleton.1 e) (by decide))
    show d.start _ _ 0 + 0 + d.offCoord _ 0 = _
    rw [hst]
    subst hd
    unfold GatherDims.offCoord
    rw [dif_pos ((GatherDims.mem_sKept _ _).2 ⟨fun e => absurd (List.mem_singleton.1 e) (by decide), List.not_mem_nil⟩)]
    show 0 + 0 + h.val = h.val
    omega
  | ⟨1, _⟩ =>
    have ho : d.offCoord (ix3 h r t) 1 = 0 := GatherDims.offCoord_eq_zero _ _ _ (fun e => ((GatherDims.mem_sKept _ _).mp e).1 (by subst hd; exact List.mem_singleton.mpr rfl))
    show d.start _ _ 1 + 0 + d.offCoord _ 1 = _
    rw [ho]
    unfold GatherDims.start
    rw [dif_pos (by subst hd; exact List.mem_singleton.mpr rfl)]
    have hs : ∀ hh, d.siIdx (ix3 h r t) ⟨List.idxOf (1 : Fin 2) d.startIndexMap, hh⟩ = ix3 r t 0 := by
      subst hd
      intro hh
      funext b; refine Fin.ext ?_
      match b with
      | ⟨0, _⟩ => rfl
      | ⟨1, _⟩ => rfl
      | ⟨2, _⟩ => rfl
    rw [hs, hp]
    subst hd
    show min (BitVec.ofNat 32 (t.val - 384 - r.val)).toInt.toNat 256 + 0 + 0 = t.val - 384 - r.val
    have hn := narrow ⟨t.val - 384 - r.val, by omega⟩
    dsimp only at hn
    rw [hn]
    omega

/-- The scores of a query over its keys. -/
def row (b h : Fin 16) (r : Fin 64) (t : Fin 576) : EReal := val_main_v33 (F := Ideal) x0 x1 x3 (ix4 b h r t)

theorem scores (b h : Fin 16) (r : Fin 64) (t : Fin 576) : row x0 x1 x3 b h r t =
    (∑ d : Fin 64, x0 (ix2 ⟨b.val * 64 + r.val, by omega⟩ ⟨h.val * 64 + d.val, by omega⟩) * x1 (ix3 b t ⟨h.val * 64 + d.val, by omega⟩))
      * Ideal.log (Ideal.ofBits .f32 0x40000000#32) + x3 (ix3 0 h ⟨t.val - 384 - r.val, by omega⟩) := by
  have hs : row x0 x1 x3 b h r t
      = val_main_v27 (F := Ideal) x0 x1 (ix4 b h r t) * Ideal.log (Ideal.ofBits .f32 0x40000000#32) + val_main_v26 (F := Ideal) x3 (ix3 h r t) := by
    unfold row val_main_v33 val_main_v32 val_main_v31 val_main_v30 val_main_v29 val_main_v28 val_main_cst
    generalize val_main_v26 (F := Ideal) x3 = e
    generalize val_main_v27 (F := Ideal) x0 x1 = z
    pointwise
  rw [hs, dots, bias]
  simp only [query, key]

theorem reduced (x : FVec Ideal S16x16x64x576 .f32) (z : FVec Ideal S_ .f32) (b h : Fin 16) (r : Fin 64) :
    Host.reduce (FloatOps.maximumf (F := Ideal) (φ := .f32)) x z reducesTo_S16x16x64x576_S16x16x64_d3 h_S_ (ix3 b h r)
      = Finset.univ.fold max (z ix0) (fun t : Fin 576 => x (ix4 b h r t)) := by
  pointwise
  rw [show Shape.Idx.first h_S_ = ix0 from funext fun a => a.elim0]

theorem top (b h : Fin 16) (r : Fin 64) : val_main_v36 (F := Ideal) x0 x1 x3 (ix3 b h r) = Finset.univ.sup (row x0 x1 x3 b h r) := by
  have h35 : val_main_v35 (F := Ideal) (ix3 b h r) = (⊥ : EReal) := by
    unfold val_main_v35 val_main_cst_6
    pointwise
    rfl
  have h34 : val_main_v34 (F := Ideal) x0 x1 x3 (ix3 b h r) = Finset.univ.sup (row x0 x1 x3 b h r) := by
    unfold row val_main_v34
    generalize val_main_v33 (F := Ideal) x0 x1 x3 = a
    exact reduced a _ b h r
  rw [val_main_v36_apply, h35, h34]
  exact max_eq_right bot_le

theorem power (b h : Fin 16) (r : Fin 64) (t : Fin 576) : val_main_v40 (F := Ideal) x0 x1 x3 (ix4 b h r t)
    = Ideal.exp (row x0 x1 x3 b h r t - Finset.univ.sup (row x0 x1 x3 b h r)) := by
  rw [← top]
  unfold row val_main_v40 val_main_v39 val_main_v38 val_main_v37
  generalize val_main_v36 (F := Ideal) x0 x1 x3 = p
  generalize val_main_v33 (F := Ideal) x0 x1 x3 = a
  pointwise

theorem share (b h : Fin 16) (r : Fin 64) (t : Fin 576) : val_main_v44 (F := Ideal) x0 x1 x3 (ix4 b h r t)
    = Ideal.div (Ideal.exp (row x0 x1 x3 b h r t - Finset.univ.sup (row x0 x1 x3 b h r)))
      (∑ t', Ideal.exp (row x0 x1 x3 b h r t' - Finset.univ.sup (row x0 x1 x3 b h r))) := by
  simp only [← power]
  unfold val_main_v44 val_main_v43 val_main_v42 val_main_v41 val_main_cst_7
  generalize val_main_v40 (F := Ideal) x0 x1 x3 = a
  pointwise

/-- Channel `d` of head `h` of a query's attention. -/
def attended (b h : Fin 16) (d : Fin 64) (r : Fin 64) : EReal :=
  ∑ t, Ideal.div (Ideal.exp (row x0 x1 x3 b h r t - Finset.univ.sup (row x0 x1 x3 b h r)))
      (∑ t', Ideal.exp (row x0 x1 x3 b h r t' - Finset.univ.sup (row x0 x1 x3 b h r)))
    * x2 (ix3 b ⟨h.val * 64 + d.val, by omega⟩ t)

theorem mix (b h : Fin 16) (d : Fin 64) (r : Fin 64) : val_main_v45 (F := Ideal) x0 x1 x2 x3 (ix4 b h d r) = attended x0 x1 x2 x3 b h d r := by
  have hs : val_main_v45 (F := Ideal) x0 x1 x2 x3 (ix4 b h d r)
      = ∑ t, val_main_v6 (F := Ideal) x2 (ix4 b t h d) * val_main_v44 (F := Ideal) x0 x1 x3 (ix4 b h r t) := by
    unfold val_main_v45
    generalize val_main_v44 (F := Ideal) x0 x1 x3 = a
    generalize val_main_v6 (F := Ideal) x2 = z
    pointwise
  rw [hs]
  simp only [value, share]
  exact Finset.sum_congr rfl fun t _ => mul_comm _ _

theorem joined (b : Fin 16) (r : Fin 64) (n : Fin 1024) : val_main_v47 (F := Ideal) x0 x1 x2 x3 (ix3 b r n)
    = attended x0 x1 x2 x3 b ⟨n.val / 64, by omega⟩ ⟨n.val % 64, by omega⟩ r := by
  rw [← mix]
  unfold val_main_v47 val_main_v46
  generalize val_main_v45 (F := Ideal) x0 x1 x2 x3 = a
  pointwise

theorem result (b : Fin 16) (n : Fin 1024) (r : Fin 64) : val_main_v63 (F := Ideal) x0 x1 x2 x3 x4 (ix3 b n r)
    = val_main_v47 (F := Ideal) x0 x1 x2 x3 (ix3 b r n)
      * Ideal.rsqrt (Ideal.div (∑ n', val_main_v47 (F := Ideal) x0 x1 x2 x3 (ix3 b r n') * val_main_v47 (F := Ideal) x0 x1 x2 x3 (ix3 b r n')) (Ideal.ofBits .f32 0x44800000#32)
        + Ideal.ofBits .f32 0x358637BD#32) * x4 (ix2 0 n) := by
  unfold val_main_v63 val_main_v62 val_main_v61 val_main_v60 val_main_v59 val_main_v58 val_main_v57 val_main_v56 val_main_v55 val_main_v54 val_main_v53 val_main_cst_10 val_main_v52 val_main_v51 val_main_cst_9 val_main_v50 val_main_v49 val_main_cst_8 val_main_v48
  generalize val_main_v47 (F := Ideal) x0 x1 x2 x3 = a
  pointwise

end Cert.ChunkRefIdeal.Att
-- ==== Proof.ChunkScores.lean ====
/- The short attention is the reference's, entry by entry: its scores are the reference's less the head's first bias and in
   units of log 2. -/
module

public import proofs.«01_k».proof.Pre_finite_short
public import proofs.«01_k».proof.Proof.ChunkValue
public import proofs.«01_k».proof.Proof.ChunkRef
public import proofs.«01_k».proof.Proof.Precondition

@[expose] public section

set_option maxRecDepth 16384

noncomputable section

namespace Cert.ChunkScores

open Idealize.ShloMosaic Idealize.ShloMosaic.TcCoe Cert.ChunkIdeal
open Cert.Scores (log_two unit2_eq real_of_abs)
open Cert.KernelIdeal.Table (entry unit2)
open scoped Classical

variable (a0 : S1024x1024.Idx → EReal) (a1 : S16x576x1024.Idx → EReal) (a2 : S16x1024x576.Idx → EReal) (a3 : S1x16x257.Idx → EReal) (a4 : S1x1024.Idx → EReal)

/-- What the scores are made of is real: the queries, the keys, the biases that a key can meet. -/
structure Real3 : Prop where
  q : ∀ i j, ∃ x : ℝ, a0 (ix2 i j) = x
  k : ∀ b s l, ∃ x : ℝ, a1 (ix3 b s l) = x
  b : ∀ h (j : Fin 192), ∃ x : ℝ, a3 (ix3 0 h ⟨j.val, by omega⟩) = x

/-- The bias of a query and a key in head `h`. -/
def biasOf (h : Fin 16) (r : Fin 64) (t : Fin 576) : EReal := a3 (ix3 0 h ⟨t.val - 384 - r.val, by omega⟩)

theorem entry_eq (h : Fin 16) (r : Fin 64) (t : Fin 576) : entry a3 h (63 - r.val + t.val) = biasOf a3 h r t := by
  unfold entry biasOf
  split
  · refine congrArg a3 ?_
    congr 1
    apply Fin.ext
    dsimp only
    omega
  · refine congrArg a3 ?_
    congr 1
    apply Fin.ext
    dsimp only [Fin.val_zero]
    show 0 = t.val - 384 - r.val
    omega

/-- The block's bias: the key's less the head's first bias, in units of log 2. -/
theorem band_eq (hb : ∀ h (j : Fin 192), ∃ x : ℝ, a3 (ix3 0 h ⟨j.val, by omega⟩) = x) (n : Fin 1024) (r : Fin 64) (t : Fin 576) :
    Block.band (Table.band a3) n r t = (biasOf a3 ⟨n.val / 64, by omega⟩ r t - a3 (ix3 0 ⟨n.val / 64, by omega⟩ 0)) * unit2 := by
  unfold Block.band
  split
  · have h := Table.band_apply a3 ⟨n.val / 128, by omega⟩ t ⟨n.val / 64 % 2, by omega⟩ r
    have hn : (⟨2 * (n.val / 128) + n.val / 64 % 2, by omega⟩ : Fin 16) = ⟨n.val / 64, by omega⟩ := by
      apply Fin.ext; dsimp only; omega
    dsimp only at h
    rw [hn, entry_eq] at h
    exact h
  · have he : biasOf a3 ⟨n.val / 64, by omega⟩ r t = a3 (ix3 0 ⟨n.val / 64, by omega⟩ 0) := by
      unfold biasOf
      refine congrArg a3 ?_
      congr 1
      apply Fin.ext
      dsimp only [Fin.val_zero]
      show t.val - 384 - r.val = 0
      omega
    obtain ⟨x, hx⟩ := hb ⟨n.val / 64, by omega⟩ 0
    have hx' : a3 (ix3 0 ⟨n.val / 64, by omega⟩ 0) = x := hx
    rw [he, hx', ← EReal.coe_sub, sub_self, EReal.coe_zero, zero_mul]

/-- The product of a query and a key, as a real number. -/
def product (b : Fin 16) (n : Fin 1024) (r : Fin 64) (t : Fin 576) : ℝ :=
  ∑ d : Fin 64, (a0 (ix2 ⟨b.val * 64 + r.val, by omega⟩ ⟨n.val / 64 * 64 + d.val, by omega⟩)).toReal
    * (a1 (ix3 b t ⟨n.val / 64 * 64 + d.val, by omega⟩)).toReal

variable (hreal : Real3 a0 a1 a3)
include hreal

theorem product_eq (b : Fin 16) (n : Fin 1024) (r : Fin 64) (t : Fin 576) :
    (∑ d : Fin 64, a0 (ix2 ⟨b.val * 64 + r.val, by omega⟩ ⟨n.val / 64 * 64 + d.val, by omega⟩)
      * a1 (ix3 b t ⟨n.val / 64 * 64 + d.val, by omega⟩)) = ((product a0 a1 b n r t : ℝ) : EReal) := by
  unfold product
  rw [Softmax.coe_sum]
  refine Finset.sum_congr rfl fun d _ => ?_
  obtain ⟨x, hx⟩ := hreal.q ⟨b.val * 64 + r.val, by omega⟩ ⟨n.val / 64 * 64 + d.val, by omega⟩
  obtain ⟨y, hy⟩ := hreal.k b t ⟨n.val / 64 * 64 + d.val, by omega⟩
  rw [hx, hy, EReal.toReal_coe, EReal.toReal_coe, EReal.coe_mul]

theorem bias_eq (h : Fin 16) (r : Fin 64) (t : Fin 576) : biasOf a3 h r t = (((biasOf a3 h r t).toReal : ℝ) : EReal) := by
  obtain ⟨x, hx⟩ := hreal.b h ⟨t.val - 384 - r.val, by omega⟩
  have hx' : biasOf a3 h r t = x := hx
  rw [hx', EReal.toReal_coe]

/-- A score, as a real number. -/
def scoreOf (b : Fin 16) (n : Fin 1024) (r : Fin 64) (t : Fin 576) : ℝ :=
  product a0 a1 b n r t * Real.log 2 + (biasOf a3 ⟨n.val / 64, by omega⟩ r t).toReal

theorem row_eq (b : Fin 16) (n : Fin 1024) (r : Fin 64) (t : Fin 576) :
    Cert.ChunkRefIdeal.Att.row a0 a1 a3 b ⟨n.val / 64, by omega⟩ r t = if True then ((scoreOf a0 a1 a3 b n r t : ℝ) : EReal) else ⊥ := by
  rw [if_pos trivial, Cert.ChunkRefIdeal.Att.scores, log_two]
  dsimp only
  have hb := bias_eq a0 a1 a3 hreal ⟨n.val / 64, by omega⟩ r t
  unfold biasOf at hb
  rw [product_eq a0 a1 a3 hreal, hb, ← EReal.coe_mul, ← EReal.coe_add]
  rfl

theorem block_eq (b : Fin 16) (n : Fin 1024) (r : Fin 64) (t : Fin 576) :
    Block.score (Array.queries a0 b.val b.isLt) (Array.keys a1 b.val b.isLt) (Table.band a3) n r t
      = if True then (((scoreOf a0 a1 a3 b n r t - (a3 (ix3 0 ⟨n.val / 64, by omega⟩ 0)).toReal) * (Real.log 2)⁻¹ : ℝ) : EReal) else ⊥ := by
  rw [if_pos trivial]
  unfold Block.score
  rw [band_eq a3 hreal.b n r t]
  have hd : Block.dot (Array.queries a0 b.val b.isLt) (Array.keys a1 b.val b.isLt) n r t = ((product a0 a1 b n r t : ℝ) : EReal) := by
    rw [← product_eq a0 a1 a3 hreal]
    unfold Block.dot
    refine Finset.sum_congr rfl fun d _ => ?_
    rw [mul_comm]
    have e1 : (⟨64 * (n.val / 64) + d.val, by omega⟩ : Fin 1024) = ⟨n.val / 64 * 64 + d.val, by omega⟩ := Fin.ext (by dsimp only; omega)
    rw [e1]
    rfl
  obtain ⟨x, hx⟩ := hreal.b ⟨n.val / 64, by omega⟩ 0
  have hx' : a3 (ix3 0 ⟨n.val / 64, by omega⟩ 0) = x := hx
  rw [hd, bias_eq a0 a1 a3 hreal, hx', EReal.toReal_coe, unit2_eq, ← EReal.coe_sub, ← EReal.coe_mul, ← EReal.coe_add]
  refine congrArg _ ?_
  unfold scoreOf
  have hl : Real.log 2 ≠ 0 := (Real.log_pos (by norm_num)).ne'
  field_simp
  ring

/-- The attention of channel `n` at query `r` of sequence `b`. -/
theorem attention_eq (b : Fin 16) (n : Fin 1024) (r : Fin 64) :
    Block.attn (Array.queries a0 b.val b.isLt) (Array.keys a1 b.val b.isLt) (Array.values a2 b.val b.isLt) (Table.band a3) n r
      = Cert.ChunkRefIdeal.Att.attended a0 a1 a2 a3 b ⟨n.val / 64, by omega⟩ ⟨n.val % 64, by omega⟩ r := by
  have h := Softmax.attend_eq (fun _ : Fin 576 => True) (fun _ : Fin 576 => True) (fun t => t) (scoreOf a0 a1 a3 b n r)
    (Cert.ChunkRefIdeal.Att.row a0 a1 a3 b ⟨n.val / 64, by omega⟩ r) (row_eq a0 a1 a3 hreal b n r)
    (fun t => a2 (ix3 b ⟨n.val / 64 * 64 + n.val % 64, by omega⟩ t))
    ⟨0, trivial⟩ (fun _ _ => trivial) (fun t _ => ⟨t, trivial, rfl⟩) (fun _ _ _ _ e => e)
    (a3 (ix3 0 ⟨n.val / 64, by omega⟩ 0)).toReal
    (Block.score (Array.queries a0 b.val b.isLt) (Array.keys a1 b.val b.isLt) (Table.band a3) n r) (block_eq a0 a1 a3 hreal b n r)
    (fun t => Array.values a2 b.val b.isLt (ix3 0 n t))
    (fun t _ => by
      have e1 : (⟨n.val / 64 * 64 + n.val % 64, by omega⟩ : Fin 1024) = n := Fin.ext (by dsimp only; omega)
      rw [e1]
      rfl)
  exact h

/-- The kernel's result array is the reference's result. -/
theorem whole_eq : Array.whole a0 a1 a2 a3 a4 = Cert.ChunkRefIdeal.Read.val_main_v63 (F := Ideal) a0 a1 a2 a3 a4 := by
  funext i
  obtain ⟨b, n, r, rfl⟩ : ∃ b n r, i = ix3 b n r := ⟨i 0, i 1, i 2, by funext a; match a with | ⟨0, _⟩ => rfl | ⟨1, _⟩ => rfl | ⟨2, _⟩ => rfl⟩
  rw [Array.whole_at a0 a1 a2 a3 a4 (ix3 b n r) b.val b.isLt n r rfl rfl rfl, Cert.ChunkRefIdeal.Att.result]
  unfold Block.result
  simp only [attention_eq a0 a1 a2 a3 hreal, Cert.ChunkRefIdeal.Att.joined, Table.gain_apply]

omit hreal

/-- What the precondition says of the arguments. -/
theorem real3 [Cert.Pre_finite_short.Facts] (a0 : FVec Ideal S1024x1024 .bf16) (a1 : FVec Ideal S16x576x1024 .bf16) (a2 : FVec Ideal S16x1024x576 .bf16)
    (a3 : FVec Ideal S1x16x257 .f32) (a4 : FVec Ideal S1x1024 .f32)
    (h : Cert.Pre_finite_short.fn (F := Ideal) a0 a1 a2 a3 a4 = fun _ => 1#1) : Real3 a0 a1 a3 := by
  have h' := congrFun h ix0
  dsimp only [Cert.Pre_finite_short.fn] at h'
  obtain ⟨h12, h3⟩ := IntOp.andi_eq_one.1 h'
  obtain ⟨h1, h2⟩ := IntOp.andi_eq_one.1 h12
  refine ⟨fun i j => ?_, fun b s l => ?_, fun hh j => ?_⟩
  · have e := Host.reduce_andi_all _ _ _ _ _ h1 (ix2 i j)
    exact real_of_abs _ e
  · have e := Host.reduce_andi_all _ _ _ _ _ h2 (ix3 b s l)
    exact real_of_abs _ e
  · have e := Host.reduce_andi_all _ _ _ _ _ h3 (ix3 0 hh j)
    have e' : extractStridedSlice Cert.Pre_finite_short.S1x16x192 ![0, 0, 0] a3 Cert.Pre_finite_short.Facts.slices_S1x16x257_S1x16x192_0_0_0 (ix3 0 hh j) = a3 (ix3 0 hh ⟨j.val, by omega⟩) := by
      pointwise
    obtain ⟨y, hy⟩ := real_of_abs _ e
    exact ⟨y, e'.symm.trans hy⟩

end Cert.ChunkScores

end
-- ==== Proof.ChunkClaim.lean ====
/- The claims about the attention of the sample. -/
module

public import proofs.«01_k».proof.Defs
public import proofs.«01_k».proof.Proof.ChunkScores
public import proofs.«01_k».proof.Proof.Gen.ChunkRefIdeal.Run
public import proofs.«01_k».proof.Proof.Gen.Pre_finite_short
public import Idealize.ShloMosaic.Lib.Quiescent

@[expose] public section

noncomputable section

namespace Cert.Proof

open Idealize.ShloMosaic Idealize.SL.Sem

/-- The reference leaves its arguments as they were; it has no semaphores. -/
theorem frameChunkRef : Cert.quiescent_ChunkRefIdeal (hChunkRefIdeal := Cert.ChunkRefIdeal.Gen.facts) := fun m ρ _ =>
  (θ_run Cert.ChunkRefIdeal.defs _ _).mono (fun r h => ⟨fun c => (h c).2, sem_eq_zero_of_no_sems (by decide) r.2⟩)
    (Cert.ChunkRefIdeal.Value.run (F := Ideal) m ρ)

/-- The kernel's result and the reference's are the same attention. -/
theorem agreeChunk : Cert.algebraic_ChunkIdeal_ChunkRefIdeal_pre_finite_short (hChunkIdeal := Cert.ChunkIdeal.Gen.facts)
    (hChunkRefIdeal := Cert.ChunkRefIdeal.Gen.facts) (hPre_finite_short := Cert.Pre_finite_short.Gen.facts) := by
  intro m ρ m' ρ' hpre hargs
  refine ⟨fun c => (Cert.ChunkIdeal.Gen.dats m 0 c).arrAt 5 Cert.ChunkIdeal.cfg0.N, Cert.ChunkIdeal.Value.run_blocks m ρ,
    (θ_run Cert.ChunkRefIdeal.defs _ _).mono (fun r h c => ⟨(h c).1.trans ?_, (h c).2⟩) (Cert.ChunkRefIdeal.Value.run (F := Ideal) m' ρ')⟩
  obtain ⟨e0, e1, e2, e3, e4⟩ := hargs c
  have hreal := Cert.ChunkScores.real3 _ _ _ _ _ (hpre c)
  refine (Cert.ChunkRefIdeal.Read.val_main_v63_eq m' c).trans ?_
  rw [e0, e1, e2, e3, e4]
  exact ((Cert.ChunkIdeal.Array.final m c).trans (Cert.ChunkScores.whole_eq _ _ _ _ _ hreal)).symm

end Cert.Proof

end
-- ==== Proof.lean ====
/- The claims, put together from the modules that prove them. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Short
public import proofs.«01_k».proof.Proof.Gen.Short.Skeleton
public import proofs.«01_k».proof.Proof.Gen.Short.Launch
public import proofs.«01_k».proof.Proof.Gen.Short.Points
public import proofs.«01_k».proof.Proof.Gen.Short.Frame
public import proofs.«01_k».proof.Proof.Gen.ShortIdeal
public import proofs.«01_k».proof.Proof.Gen.ShortIdeal.Skeleton
public import proofs.«01_k».proof.Proof.Gen.ShortIdeal.Launch
public import proofs.«01_k».proof.Proof.Gen.ShortIdeal.Points
public import proofs.«01_k».proof.Proof.Gen.ShortIdeal.Frame
public import proofs.«01_k».proof.Proof.Gen.ShortIdeal.Value
public import proofs.«01_k».proof.Proof.Gen.ShortRefIdeal
public import proofs.«01_k».proof.Proof.Gen.ShortRefIdeal.Run
public import proofs.«01_k».proof.Proof.Gen.ShortRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.MixShort
public import proofs.«01_k».proof.Proof.Gen.MixShort.Skeleton
public import proofs.«01_k».proof.Proof.Gen.MixShort.Launch
public import proofs.«01_k».proof.Proof.Gen.MixShort.Points
public import proofs.«01_k».proof.Proof.Gen.MixShort.Frame
public import proofs.«01_k».proof.Proof.Gen.MixShortIdeal
public import proofs.«01_k».proof.Proof.Gen.MixShortIdeal.Skeleton
public import proofs.«01_k».proof.Proof.Gen.MixShortIdeal.Launch
public import proofs.«01_k».proof.Proof.Gen.MixShortIdeal.Points
public import proofs.«01_k».proof.Proof.Gen.MixShortIdeal.Frame
public import proofs.«01_k».proof.Proof.Gen.MixShortIdeal.Value
public import proofs.«01_k».proof.Proof.Gen.MixShortRefIdeal
public import proofs.«01_k».proof.Proof.Gen.MixShortRefIdeal.Run
public import proofs.«01_k».proof.Proof.Gen.MixShortRefIdeal.Read
public import proofs.«01_k».proof.Proof.Gen.Chunk
public import proofs.«01_k».proof.Proof.Gen.Chunk.Skeleton
public import proofs.«01_k».proof.Proof.Gen.Chunk.Launch
public import proofs.«01_k».proof.Proof.Gen.Chunk.Points
public import proofs.«01_k».proof.Proof.Gen.Chunk.Frame
public import proofs.«01_k».proof.Proof.Gen.ChunkIdeal
public import proofs.«01_k».proof.Proof.Gen.ChunkIdeal.Skeleton
public import proofs.«01_k».proof.Proof.Gen.ChunkIdeal.Launch
public import proofs.«01_k».proof.Proof.Gen.ChunkIdeal.Points
public import proofs.«01_k».proof.Proof.Gen.ChunkIdeal.Frame
public import proofs.«01_k».proof.Proof.Gen.ChunkIdeal.Value
public import proofs.«01_k».proof.Proof.Gen.ChunkRefIdeal
public import proofs.«01_k».proof.Proof.Gen.ChunkRefIdeal.Run
public import proofs.«01_k».proof.Proof.Gen.ChunkRefIdeal.Read
public import proofs.«01_k».proof.Proof.Gen.Pre_finite_short
public import proofs.«01_k».proof.Proof.Agree
public import proofs.«01_k».proof.Proof.Precondition
public import proofs.«01_k».proof.Proof.ProjClaim
public import proofs.«01_k».proof.Proof.ShortClaim
public import proofs.«01_k».proof.Proof.MixClaim
public import proofs.«01_k».proof.Proof.NormClaim
public import proofs.«01_k».proof.Proof.LastClaim
public import proofs.«01_k».proof.Proof.PrepClaim
public import proofs.«01_k».proof.Proof.MixShortClaim
public import proofs.«01_k».proof.Proof.ChunkClaim
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference leaves its arguments as they were; it has no semaphores. -/
theorem frameR : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are the same attention. -/
theorem attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m ρ m' ρ' hpre hargs
  refine ⟨fun c => (Cert.KernelIdeal.Gen.dats m 0 c).arrAt 5 Cert.KernelIdeal.cfg0.N, Cert.KernelIdeal.Value.run_blocks m ρ,
    (θ_run Cert.ReferenceIdeal.defs _ _).mono (fun r h c => ⟨(h c).1.trans ?_, (h c).2⟩) (Cert.ReferenceIdeal.Value.run (F := Ideal) m' ρ')⟩
  obtain ⟨e0, e1, e2, e3, e4⟩ := hargs c
  have hreal := Cert.Scores.real3 _ _ _ _ _ (hpre c)
  refine (Cert.ReferenceIdeal.Read.val_main_v78_eq m' c).trans ?_
  rw [e0, e1, e2, e3, e4]
  exact ((Cert.KernelIdeal.Array.final m c).trans (Cert.Scores.whole_eq _ _ _ _ _ hreal)).symm

theorem claim : Cert.Claim := ⟨Cert.Kernel.Gen.facts, Cert.KernelIdeal.Gen.facts, Cert.ReferenceIdeal.Gen.facts, Cert.Proj.Gen.facts, Cert.ProjIdeal.Gen.facts, Cert.ProjRefIdeal.Gen.facts, Cert.Short.Gen.facts, Cert.ShortIdeal.Gen.facts, Cert.ShortRefIdeal.Gen.facts, Cert.Mix.Gen.facts, Cert.MixIdeal.Gen.facts, Cert.MixRefIdeal.Gen.facts, Cert.Norm.Gen.facts, Cert.NormIdeal.Gen.facts, Cert.NormRefIdeal.Gen.facts, Cert.Last.Gen.facts, Cert.LastIdeal.Gen.facts, Cert.LastRefIdeal.Gen.facts, Cert.Prep.Gen.facts, Cert.PrepIdeal.Gen.facts, Cert.PrepRefIdeal.Gen.facts, Cert.MixShort.Gen.facts, Cert.MixShortIdeal.Gen.facts, Cert.MixShortRefIdeal.Gen.facts, Cert.Chunk.Gen.facts, Cert.ChunkIdeal.Gen.facts, Cert.ChunkRefIdeal.Gen.facts, Cert.Pre_finite_scores.Gen.facts, Cert.Pre_finite_short.Gen.facts,
  fun m ρ _ => Cert.Kernel.Gen.frame m ρ, fun m ρ _ => Cert.KernelIdeal.Gen.frame m ρ, fun m ρ _ => Cert.KernelIdeal.Gen.frame m ρ,
  frameR, fun m ρ _ => frameR m ρ trivial,
  fun m ρ _ => Cert.Proj.Gen.frame m ρ, fun m ρ _ => Cert.ProjIdeal.Gen.frame m ρ, frameProjRef,
  fun m ρ _ => Cert.Short.Gen.frame m ρ, fun m ρ _ => Cert.ShortIdeal.Gen.frame m ρ, frameShortRef,
  fun m ρ _ => Cert.Mix.Gen.frame m ρ, fun m ρ _ => Cert.MixIdeal.Gen.frame m ρ, frameMixRef,
  fun m ρ _ => Cert.Norm.Gen.frame m ρ, fun m ρ _ => Cert.NormIdeal.Gen.frame m ρ, frameNormRef,
  fun m ρ _ => Cert.Last.Gen.frame m ρ, fun m ρ _ => Cert.LastIdeal.Gen.frame m ρ, frameLastRef,
  fun m ρ _ => Cert.Prep.Gen.frame m ρ, fun m ρ _ => Cert.PrepIdeal.Gen.frame m ρ, framePrepRef,
  fun m ρ _ => Cert.MixShort.Gen.frame m ρ, fun m ρ _ => Cert.MixShortIdeal.Gen.frame m ρ, frameMixShortRef,
  fun m ρ _ => Cert.Chunk.Gen.frame m ρ, fun m ρ _ => Cert.ChunkIdeal.Gen.frame m ρ, fun m ρ _ => Cert.ChunkIdeal.Gen.frame m ρ,
  frameChunkRef, fun m ρ _ => frameChunkRef m ρ trivial,
  IdealRules.named_const.statement Cert.KernelIdeal.κ "mask" .f32 0xF149F2CA#32 ⊥ rfl, attention,
  IdealRules.named_const.statement Cert.ProjIdeal.κ "q_scale" .f32 0x3E38AA3B#32 _ rfl, agreeProj,
  IdealRules.named_const.statement Cert.ShortIdeal.κ "q_scale" .f32 0x3E38AA3B#32 _ rfl, agreeShort,
  IdealRules.named_const.statement Cert.MixIdeal.κ "alpha" .f32 0x3F9837F0#32 _ rfl, agreeMix,
  IdealRules.named_const.statement Cert.NormIdeal.κ "alpha" .f32 0x3F9837F0#32 _ rfl, agreeNorm,
  IdealRules.named_const.statement Cert.LastIdeal.κ "alpha" .f32 0x3F9837F0#32 _ rfl, agreeLast,
  trivial, agreePrep,
  IdealRules.named_const.statement Cert.MixShortIdeal.κ "alpha" .f32 0x3F9837F0#32 _ rfl, agreeMixShort,
  trivial, agreeChunk⟩

end Cert.Proof

end
